-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![8192, 1024]⟩ ⟨2, ![32768, 1024]⟩ (Layout.meshBlock [2, 4, 4] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x1024 : Shape := ⟨2, ![8192, 1024]⟩
abbrev S1024x1024 : Shape := ⟨2, ![1024, 1024]⟩
abbrev S2x256x1024 : Shape := ⟨3, ![2, 256, 1024]⟩
abbrev S3x256x1024 : Shape := ⟨3, ![3, 256, 1024]⟩
abbrev S4x256x1024 : Shape := ⟨3, ![4, 256, 1024]⟩
abbrev S4x7x256x1024 : Shape := ⟨4, ![4, 7, 256, 1024]⟩
abbrev S_ : Shape := ⟨0, ![]⟩
abbrev S3 : Shape := ⟨1, ![3]⟩
abbrev S4x7 : Shape := ⟨2, ![4, 7]⟩
abbrev S256x1024 : Shape := ⟨2, ![256, 1024]⟩
abbrev S1x256x1024 : Shape := ⟨3, ![1, 256, 1024]⟩
abbrev S1 : Shape := ⟨1, ![1]⟩
abbrev S1x1 : Shape := ⟨2, ![1, 1]⟩
abbrev S1x1x256x1024 : Shape := ⟨4, ![1, 1, 256, 1024]⟩

abbrev nBuf : Space → Nat
  | .hbm => 2
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .local _ .vmem, ⟨0, _⟩ => ⟨S8192x1024, .bf16⟩
  | .local _ .vmem, ⟨1, _⟩ => ⟨S1024x1024, .f32⟩
  | .local _ .vmem, ⟨2, _⟩ => ⟨S2x256x1024, .bf16⟩
  | .local _ .vmem, ⟨3, _⟩ => ⟨S3x256x1024, .bf16⟩
  | .local _ .vmem, ⟨4, _⟩ => ⟨S3x256x1024, .bf16⟩
  | .local _ .vmem, ⟨5, _⟩ => ⟨S4x256x1024, .bf16⟩
  | .local _ .vmem, ⟨6, _⟩ => ⟨S4x7x256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  (ofTc nBuf bufTy 1 70 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_sem0_0 : DmaSem sig := 0
abbrev barrier0 : Sem sig := 0

abbrev nD : Nat := 32
abbrev τ : Topo := Topo.v7x

variable {F : FTy → Type} [FloatOps F]

abbrev grid0 : Pipeline.Grid := .none

def k0_off1 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_16 : BitVec 32 := 4#32
  let v32 : BitVec 32 := Scalar.muli v2 c4_i32_16
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v33 : BitVec 32 := Scalar.addi v32 v5
  let c1024_i32 : BitVec 32 := 1024#32
  let v37 : BitVec 32 := Scalar.muli v33 c1024_i32
  let c0_i32_38 : BitVec 32 := 0#32
  ![v37.toNat, 0]
def k0_dev1 (d0 : Dev nD) : Nat :=
  let c0_i32_41 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_40 : BitVec 32 := 16#32
  let v73 : BitVec 32 := Scalar.muli v2 c16_i32_40
  let v74 : BitVec 32 := Scalar.addi c0_i32_41 v73
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_42 : BitVec 32 := 4#32
  let v75 : BitVec 32 := Scalar.muli v5 c4_i32_42
  let v76 : BitVec 32 := Scalar.addi v74 v75
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_8 : BitVec 32 := 4#32
  let v20 : BitVec 32 := Scalar.addi v8 c4_i32_8
  let c1_i32_9 : BitVec 32 := 1#32
  let v21 : BitVec 32 := Scalar.subi v20 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c1_i32_43 : BitVec 32 := 1#32
  let v77 : BitVec 32 := Scalar.muli v31 c1_i32_43
  let v78 : BitVec 32 := Scalar.addi v76 v77
  v78.toNat
def k0_dev2 (d0 : Dev nD) : Nat :=
  let c0_i32_46 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_45 : BitVec 32 := 16#32
  let v79 : BitVec 32 := Scalar.muli v2 c16_i32_45
  let v80 : BitVec 32 := Scalar.addi c0_i32_46 v79
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_47 : BitVec 32 := 4#32
  let v81 : BitVec 32 := Scalar.muli v5 c4_i32_47
  let v82 : BitVec 32 := Scalar.addi v80 v81
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_48 : BitVec 32 := 1#32
  let v83 : BitVec 32 := Scalar.muli v19 c1_i32_48
  let v84 : BitVec 32 := Scalar.addi v82 v83
  v84.toNat
def k0_dev3 (d0 : Dev nD) : Nat :=
  let c0_i32_51 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_17 : BitVec 32 := 0#32
  let v34 : BitVec 1 := Scalar.cmpi .eq v2 c0_i32_17
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v35 : BitVec 32 := Scalar.subi c7_i32 v5
  let v36 : BitVec 32 := Scalar.select v34 v5 v35
  let c1_i32_18 : BitVec 32 := 1#32
  let v38 : BitVec 32 := Scalar.addi v36 c1_i32_18
  let c8_i32 : BitVec 32 := 8#32
  let c0_i32_19 : BitVec 32 := 0#32
  let v39 : BitVec 1 := Scalar.cmpi .eq c8_i32 c0_i32_19
  let c1_i32_20 : BitVec 32 := 1#32
  let v40 : BitVec 32 := Scalar.select v39 c1_i32_20 c8_i32
  let v41 : BitVec 32 := Scalar.remsi v38 v40
  let c0_i32_22 : BitVec 32 := 0#32
  let v43 : BitVec 1 := Scalar.cmpi .slt v41 c0_i32_22
  let c0_i32_23 : BitVec 32 := 0#32
  let v44 : BitVec 1 := Scalar.cmpi .slt v40 c0_i32_23
  let v45 : BitVec 1 := Scalar.xori v43 v44
  let c0_i32_21 : BitVec 32 := 0#32
  let v42 : BitVec 1 := Scalar.cmpi .ne v41 c0_i32_21
  let v46 : BitVec 1 := Scalar.andi v45 v42
  let v47 : BitVec 32 := Scalar.addi v41 v40
  let v48 : BitVec 32 := Scalar.select v46 v47 v41
  let c4_i32_24 : BitVec 32 := 4#32
  let v49 : BitVec 1 := Scalar.cmpi .sge v48 c4_i32_24
  let v50 : BitVec 32 := Scalar.extui v49
  let c16_i32_50 : BitVec 32 := 16#32
  let v85 : BitVec 32 := Scalar.muli v50 c16_i32_50
  let v86 : BitVec 32 := Scalar.addi c0_i32_51 v85
  let c4_i32_25 : BitVec 32 := 4#32
  let v51 : BitVec 1 := Scalar.cmpi .slt v48 c4_i32_25
  let c7_i32_26 : BitVec 32 := 7#32
  let v52 : BitVec 32 := Scalar.subi c7_i32_26 v48
  let v53 : BitVec 32 := Scalar.select v51 v48 v52
  let c4_i32_52 : BitVec 32 := 4#32
  let v87 : BitVec 32 := Scalar.muli v53 c4_i32_52
  let v88 : BitVec 32 := Scalar.addi v86 v87
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_53 : BitVec 32 := 1#32
  let v89 : BitVec 32 := Scalar.muli v8 c1_i32_53
  let v90 : BitVec 32 := Scalar.addi v88 v89
  v90.toNat
def k0_dev4 (d0 : Dev nD) : Nat :=
  let c0_i32_56 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_17 : BitVec 32 := 0#32
  let v34 : BitVec 1 := Scalar.cmpi .eq v2 c0_i32_17
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v35 : BitVec 32 := Scalar.subi c7_i32 v5
  let v36 : BitVec 32 := Scalar.select v34 v5 v35
  let c8_i32_27 : BitVec 32 := 8#32
  let v54 : BitVec 32 := Scalar.addi v36 c8_i32_27
  let c1_i32_28 : BitVec 32 := 1#32
  let v55 : BitVec 32 := Scalar.subi v54 c1_i32_28
  let c8_i32_29 : BitVec 32 := 8#32
  let c0_i32_30 : BitVec 32 := 0#32
  let v56 : BitVec 1 := Scalar.cmpi .eq c8_i32_29 c0_i32_30
  let c1_i32_31 : BitVec 32 := 1#32
  let v57 : BitVec 32 := Scalar.select v56 c1_i32_31 c8_i32_29
  let v58 : BitVec 32 := Scalar.remsi v55 v57
  let c0_i32_33 : BitVec 32 := 0#32
  let v60 : BitVec 1 := Scalar.cmpi .slt v58 c0_i32_33
  let c0_i32_34 : BitVec 32 := 0#32
  let v61 : BitVec 1 := Scalar.cmpi .slt v57 c0_i32_34
  let v62 : BitVec 1 := Scalar.xori v60 v61
  let c0_i32_32 : BitVec 32 := 0#32
  let v59 : BitVec 1 := Scalar.cmpi .ne v58 c0_i32_32
  let v63 : BitVec 1 := Scalar.andi v62 v59
  let v64 : BitVec 32 := Scalar.addi v58 v57
  let v65 : BitVec 32 := Scalar.select v63 v64 v58
  let c4_i32_35 : BitVec 32 := 4#32
  let v66 : BitVec 1 := Scalar.cmpi .sge v65 c4_i32_35
  let v67 : BitVec 32 := Scalar.extui v66
  let c16_i32_55 : BitVec 32 := 16#32
  let v91 : BitVec 32 := Scalar.muli v67 c16_i32_55
  let v92 : BitVec 32 := Scalar.addi c0_i32_56 v91
  let c4_i32_36 : BitVec 32 := 4#32
  let v68 : BitVec 1 := Scalar.cmpi .slt v65 c4_i32_36
  let c7_i32_37 : BitVec 32 := 7#32
  let v69 : BitVec 32 := Scalar.subi c7_i32_37 v65
  let v70 : BitVec 32 := Scalar.select v68 v65 v69
  let c4_i32_57 : BitVec 32 := 4#32
  let v93 : BitVec 32 := Scalar.muli v70 c4_i32_57
  let v94 : BitVec 32 := Scalar.addi v92 v93
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v95 : BitVec 32 := Scalar.muli v8 c1_i32_58
  let v96 : BitVec 32 := Scalar.addi v94 v95
  v96.toNat
def k0_off2 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c256_i32 : BitVec 32 := 256#32
  let v98 : BitVec 32 := Scalar.muli v8 c256_i32
  let v99 : Index := Scalar.indexCast v98
  let c0 : Index := 0#32
  ![v99.toNat, 0]
def k0_dev5 (d0 : Dev nD) : Nat :=
  let c0_i32_69 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_68 : BitVec 32 := 16#32
  let v105 : BitVec 32 := Scalar.muli v2 c16_i32_68
  let v106 : BitVec 32 := Scalar.addi c0_i32_69 v105
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_70 : BitVec 32 := 4#32
  let v107 : BitVec 32 := Scalar.muli v5 c4_i32_70
  let v108 : BitVec 32 := Scalar.addi v106 v107
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_71 : BitVec 32 := 1#32
  let v109 : BitVec 32 := Scalar.muli v19 c1_i32_71
  let v110 : BitVec 32 := Scalar.addi v108 v109
  v110.toNat
def k0_off3 (d0 : Dev nD) (c0_i32_90 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_88 : BitVec 32 := 4#32
  let v131 : BitVec 32 := Scalar.addi v8 c4_i32_88
  let c1_i32_89 : BitVec 32 := 1#32
  let v132 : BitVec 32 := Scalar.subi v131 c1_i32_89
  let v133 : BitVec 32 := Scalar.subi v132 c0_i32_90
  let c4_i32_91 : BitVec 32 := 4#32
  let c0_i32_92 : BitVec 32 := 0#32
  let v134 : BitVec 1 := Scalar.cmpi .eq c4_i32_91 c0_i32_92
  let c1_i32_93 : BitVec 32 := 1#32
  let v135 : BitVec 32 := Scalar.select v134 c1_i32_93 c4_i32_91
  let v136 : BitVec 32 := Scalar.remsi v133 v135
  let c0_i32_95 : BitVec 32 := 0#32
  let v138 : BitVec 1 := Scalar.cmpi .slt v136 c0_i32_95
  let c0_i32_96 : BitVec 32 := 0#32
  let v139 : BitVec 1 := Scalar.cmpi .slt v135 c0_i32_96
  let v140 : BitVec 1 := Scalar.xori v138 v139
  let c0_i32_94 : BitVec 32 := 0#32
  let v137 : BitVec 1 := Scalar.cmpi .ne v136 c0_i32_94
  let v141 : BitVec 1 := Scalar.andi v140 v137
  let v142 : BitVec 32 := Scalar.addi v136 v135
  let v143 : BitVec 32 := Scalar.select v141 v142 v136
  let c256_i32_97 : BitVec 32 := 256#32
  let v144 : BitVec 32 := Scalar.muli v143 c256_i32_97
  let v145 : Index := Scalar.indexCast v144
  let c0_98 : Index := 0#32
  ![v145.toNat, 0]
def k0_dev6 (d0 : Dev nD) : Nat :=
  let c0_i32_109 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_108 : BitVec 32 := 16#32
  let v154 : BitVec 32 := Scalar.muli v2 c16_i32_108
  let v155 : BitVec 32 := Scalar.addi c0_i32_109 v154
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_110 : BitVec 32 := 4#32
  let v156 : BitVec 32 := Scalar.muli v5 c4_i32_110
  let v157 : BitVec 32 := Scalar.addi v155 v156
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_111 : BitVec 32 := 1#32
  let v158 : BitVec 32 := Scalar.muli v19 c1_i32_111
  let v159 : BitVec 32 := Scalar.addi v157 v158
  v159.toNat
def k0_dev7 (d0 : Dev nD) : Nat :=
  let c0_i32_159 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_158 : BitVec 32 := 16#32
  let v209 : BitVec 32 := Scalar.muli v2 c16_i32_158
  let v210 : BitVec 32 := Scalar.addi c0_i32_159 v209
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_160 : BitVec 32 := 4#32
  let v211 : BitVec 32 := Scalar.muli v5 c4_i32_160
  let v212 : BitVec 32 := Scalar.addi v210 v211
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_161 : BitVec 32 := 1#32
  let v213 : BitVec 32 := Scalar.muli v19 c1_i32_161
  let v214 : BitVec 32 := Scalar.addi v212 v213
  v214.toNat
def k0_dev8 (d0 : Dev nD) : Nat :=
  let c0_i32_208 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_207 : BitVec 32 := 16#32
  let v264 : BitVec 32 := Scalar.muli v2 c16_i32_207
  let v265 : BitVec 32 := Scalar.addi c0_i32_208 v264
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_209 : BitVec 32 := 4#32
  let v266 : BitVec 32 := Scalar.muli v5 c4_i32_209
  let v267 : BitVec 32 := Scalar.addi v265 v266
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_210 : BitVec 32 := 1#32
  let v268 : BitVec 32 := Scalar.muli v19 c1_i32_210
  let v269 : BitVec 32 := Scalar.addi v267 v268
  v269.toNat
def k0_off4 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_16 : BitVec 32 := 4#32
  let v32 : BitVec 32 := Scalar.muli v2 c4_i32_16
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v33 : BitVec 32 := Scalar.addi v32 v5
  let c1024_i32 : BitVec 32 := 1024#32
  let v37 : BitVec 32 := Scalar.muli v33 c1024_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_215 : BitVec 32 := 1#32
  let v278 : BitVec 32 := Scalar.addi v8 c1_i32_215
  let c4_i32_216 : BitVec 32 := 4#32
  let c0_i32_217 : BitVec 32 := 0#32
  let v279 : BitVec 1 := Scalar.cmpi .eq c4_i32_216 c0_i32_217
  let c1_i32_218 : BitVec 32 := 1#32
  let v280 : BitVec 32 := Scalar.select v279 c1_i32_218 c4_i32_216
  let v281 : BitVec 32 := Scalar.remsi v278 v280
  let c0_i32_220 : BitVec 32 := 0#32
  let v283 : BitVec 1 := Scalar.cmpi .slt v281 c0_i32_220
  let c0_i32_221 : BitVec 32 := 0#32
  let v284 : BitVec 1 := Scalar.cmpi .slt v280 c0_i32_221
  let v285 : BitVec 1 := Scalar.xori v283 v284
  let c0_i32_219 : BitVec 32 := 0#32
  let v282 : BitVec 1 := Scalar.cmpi .ne v281 c0_i32_219
  let v286 : BitVec 1 := Scalar.andi v285 v282
  let v287 : BitVec 32 := Scalar.addi v281 v280
  let v288 : BitVec 32 := Scalar.select v286 v287 v281
  let c256_i32_225 : BitVec 32 := 256#32
  let v291 : BitVec 32 := Scalar.muli v288 c256_i32_225
  let v292 : BitVec 32 := Scalar.addi v37 v291
  let v293 : Index := Scalar.indexCast v292
  let c0_226 : Index := 0#32
  ![v293.toNat, 0]
def k0_cond1 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_215 : BitVec 32 := 1#32
  let v278 : BitVec 32 := Scalar.addi v8 c1_i32_215
  let c4_i32_216 : BitVec 32 := 4#32
  let c0_i32_217 : BitVec 32 := 0#32
  let v279 : BitVec 1 := Scalar.cmpi .eq c4_i32_216 c0_i32_217
  let c1_i32_218 : BitVec 32 := 1#32
  let v280 : BitVec 32 := Scalar.select v279 c1_i32_218 c4_i32_216
  let v281 : BitVec 32 := Scalar.remsi v278 v280
  let c0_i32_220 : BitVec 32 := 0#32
  let v283 : BitVec 1 := Scalar.cmpi .slt v281 c0_i32_220
  let c0_i32_221 : BitVec 32 := 0#32
  let v284 : BitVec 1 := Scalar.cmpi .slt v280 c0_i32_221
  let v285 : BitVec 1 := Scalar.xori v283 v284
  let c0_i32_219 : BitVec 32 := 0#32
  let v282 : BitVec 1 := Scalar.cmpi .ne v281 c0_i32_219
  let v286 : BitVec 1 := Scalar.andi v285 v282
  let v287 : BitVec 32 := Scalar.addi v281 v280
  let v288 : BitVec 32 := Scalar.select v286 v287 v281
  let c0_i32_227 : BitVec 32 := 0#32
  let v295 : BitVec 1 := Scalar.cmpi .eq v288 c0_i32_227
  let v296 : BitVec 32 := Scalar.extui v295
  let c0_i32_229 : BitVec 32 := 0#32
  let v297 : BitVec 1 := Scalar.cmpi .ne v296 c0_i32_229
  v297

def k0_dev9 (d0 : Dev nD) : Nat :=
  let c0_i32_2148 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_17 : BitVec 32 := 0#32
  let v34 : BitVec 1 := Scalar.cmpi .eq v2 c0_i32_17
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v35 : BitVec 32 := Scalar.subi c7_i32 v5
  let v36 : BitVec 32 := Scalar.select v34 v5 v35
  let c1_i32_18 : BitVec 32 := 1#32
  let v38 : BitVec 32 := Scalar.addi v36 c1_i32_18
  let c8_i32 : BitVec 32 := 8#32
  let c0_i32_19 : BitVec 32 := 0#32
  let v39 : BitVec 1 := Scalar.cmpi .eq c8_i32 c0_i32_19
  let c1_i32_20 : BitVec 32 := 1#32
  let v40 : BitVec 32 := Scalar.select v39 c1_i32_20 c8_i32
  let v41 : BitVec 32 := Scalar.remsi v38 v40
  let c0_i32_22 : BitVec 32 := 0#32
  let v43 : BitVec 1 := Scalar.cmpi .slt v41 c0_i32_22
  let c0_i32_23 : BitVec 32 := 0#32
  let v44 : BitVec 1 := Scalar.cmpi .slt v40 c0_i32_23
  let v45 : BitVec 1 := Scalar.xori v43 v44
  let c0_i32_21 : BitVec 32 := 0#32
  let v42 : BitVec 1 := Scalar.cmpi .ne v41 c0_i32_21
  let v46 : BitVec 1 := Scalar.andi v45 v42
  let v47 : BitVec 32 := Scalar.addi v41 v40
  let v48 : BitVec 32 := Scalar.select v46 v47 v41
  let c4_i32_24 : BitVec 32 := 4#32
  let v49 : BitVec 1 := Scalar.cmpi .sge v48 c4_i32_24
  let v50 : BitVec 32 := Scalar.extui v49
  let c16_i32_2147 : BitVec 32 := 16#32
  let v2045 : BitVec 32 := Scalar.muli v50 c16_i32_2147
  let v2046 : BitVec 32 := Scalar.addi c0_i32_2148 v2045
  let c4_i32_25 : BitVec 32 := 4#32
  let v51 : BitVec 1 := Scalar.cmpi .slt v48 c4_i32_25
  let c7_i32_26 : BitVec 32 := 7#32
  let v52 : BitVec 32 := Scalar.subi c7_i32_26 v48
  let v53 : BitVec 32 := Scalar.select v51 v48 v52
  let c4_i32_2149 : BitVec 32 := 4#32
  let v2047 : BitVec 32 := Scalar.muli v53 c4_i32_2149
  let v2048 : BitVec 32 := Scalar.addi v2046 v2047
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2150 : BitVec 32 := 1#32
  let v2049 : BitVec 32 := Scalar.muli v8 c1_i32_2150
  let v2050 : BitVec 32 := Scalar.addi v2048 v2049
  v2050.toNat
def k0_cond2 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_215 : BitVec 32 := 1#32
  let v278 : BitVec 32 := Scalar.addi v8 c1_i32_215
  let c4_i32_216 : BitVec 32 := 4#32
  let c0_i32_217 : BitVec 32 := 0#32
  let v279 : BitVec 1 := Scalar.cmpi .eq c4_i32_216 c0_i32_217
  let c1_i32_218 : BitVec 32 := 1#32
  let v280 : BitVec 32 := Scalar.select v279 c1_i32_218 c4_i32_216
  let v281 : BitVec 32 := Scalar.remsi v278 v280
  let c0_i32_220 : BitVec 32 := 0#32
  let v283 : BitVec 1 := Scalar.cmpi .slt v281 c0_i32_220
  let c0_i32_221 : BitVec 32 := 0#32
  let v284 : BitVec 1 := Scalar.cmpi .slt v280 c0_i32_221
  let v285 : BitVec 1 := Scalar.xori v283 v284
  let c0_i32_219 : BitVec 32 := 0#32
  let v282 : BitVec 1 := Scalar.cmpi .ne v281 c0_i32_219
  let v286 : BitVec 1 := Scalar.andi v285 v282
  let v287 : BitVec 32 := Scalar.addi v281 v280
  let v288 : BitVec 32 := Scalar.select v286 v287 v281
  let c1_i32_230 : BitVec 32 := 1#32
  let v298 : BitVec 1 := Scalar.cmpi .eq v288 c1_i32_230
  let v299 : BitVec 32 := Scalar.extui v298
  let c0_i32_232 : BitVec 32 := 0#32
  let v300 : BitVec 1 := Scalar.cmpi .ne v299 c0_i32_232
  v300

def k0_dev10 (d0 : Dev nD) : Nat :=
  let c0_i32_2148 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_17 : BitVec 32 := 0#32
  let v34 : BitVec 1 := Scalar.cmpi .eq v2 c0_i32_17
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v35 : BitVec 32 := Scalar.subi c7_i32 v5
  let v36 : BitVec 32 := Scalar.select v34 v5 v35
  let c1_i32_18 : BitVec 32 := 1#32
  let v38 : BitVec 32 := Scalar.addi v36 c1_i32_18
  let c8_i32 : BitVec 32 := 8#32
  let c0_i32_19 : BitVec 32 := 0#32
  let v39 : BitVec 1 := Scalar.cmpi .eq c8_i32 c0_i32_19
  let c1_i32_20 : BitVec 32 := 1#32
  let v40 : BitVec 32 := Scalar.select v39 c1_i32_20 c8_i32
  let v41 : BitVec 32 := Scalar.remsi v38 v40
  let c0_i32_22 : BitVec 32 := 0#32
  let v43 : BitVec 1 := Scalar.cmpi .slt v41 c0_i32_22
  let c0_i32_23 : BitVec 32 := 0#32
  let v44 : BitVec 1 := Scalar.cmpi .slt v40 c0_i32_23
  let v45 : BitVec 1 := Scalar.xori v43 v44
  let c0_i32_21 : BitVec 32 := 0#32
  let v42 : BitVec 1 := Scalar.cmpi .ne v41 c0_i32_21
  let v46 : BitVec 1 := Scalar.andi v45 v42
  let v47 : BitVec 32 := Scalar.addi v41 v40
  let v48 : BitVec 32 := Scalar.select v46 v47 v41
  let c4_i32_24 : BitVec 32 := 4#32
  let v49 : BitVec 1 := Scalar.cmpi .sge v48 c4_i32_24
  let v50 : BitVec 32 := Scalar.extui v49
  let c16_i32_2147 : BitVec 32 := 16#32
  let v2045 : BitVec 32 := Scalar.muli v50 c16_i32_2147
  let v2046 : BitVec 32 := Scalar.addi c0_i32_2148 v2045
  let c4_i32_25 : BitVec 32 := 4#32
  let v51 : BitVec 1 := Scalar.cmpi .slt v48 c4_i32_25
  let c7_i32_26 : BitVec 32 := 7#32
  let v52 : BitVec 32 := Scalar.subi c7_i32_26 v48
  let v53 : BitVec 32 := Scalar.select v51 v48 v52
  let c4_i32_2149 : BitVec 32 := 4#32
  let v2047 : BitVec 32 := Scalar.muli v53 c4_i32_2149
  let v2048 : BitVec 32 := Scalar.addi v2046 v2047
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2150 : BitVec 32 := 1#32
  let v2049 : BitVec 32 := Scalar.muli v8 c1_i32_2150
  let v2050 : BitVec 32 := Scalar.addi v2048 v2049
  v2050.toNat
def k0_cond3 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_215 : BitVec 32 := 1#32
  let v278 : BitVec 32 := Scalar.addi v8 c1_i32_215
  let c4_i32_216 : BitVec 32 := 4#32
  let c0_i32_217 : BitVec 32 := 0#32
  let v279 : BitVec 1 := Scalar.cmpi .eq c4_i32_216 c0_i32_217
  let c1_i32_218 : BitVec 32 := 1#32
  let v280 : BitVec 32 := Scalar.select v279 c1_i32_218 c4_i32_216
  let v281 : BitVec 32 := Scalar.remsi v278 v280
  let c0_i32_220 : BitVec 32 := 0#32
  let v283 : BitVec 1 := Scalar.cmpi .slt v281 c0_i32_220
  let c0_i32_221 : BitVec 32 := 0#32
  let v284 : BitVec 1 := Scalar.cmpi .slt v280 c0_i32_221
  let v285 : BitVec 1 := Scalar.xori v283 v284
  let c0_i32_219 : BitVec 32 := 0#32
  let v282 : BitVec 1 := Scalar.cmpi .ne v281 c0_i32_219
  let v286 : BitVec 1 := Scalar.andi v285 v282
  let v287 : BitVec 32 := Scalar.addi v281 v280
  let v288 : BitVec 32 := Scalar.select v286 v287 v281
  let c2_i32_233 : BitVec 32 := 2#32
  let v301 : BitVec 1 := Scalar.cmpi .eq v288 c2_i32_233
  let v302 : BitVec 32 := Scalar.extui v301
  let c0_i32_235 : BitVec 32 := 0#32
  let v303 : BitVec 1 := Scalar.cmpi .ne v302 c0_i32_235
  v303

def k0_dev11 (d0 : Dev nD) : Nat :=
  let c0_i32_2148 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_17 : BitVec 32 := 0#32
  let v34 : BitVec 1 := Scalar.cmpi .eq v2 c0_i32_17
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v35 : BitVec 32 := Scalar.subi c7_i32 v5
  let v36 : BitVec 32 := Scalar.select v34 v5 v35
  let c8_i32_27 : BitVec 32 := 8#32
  let v54 : BitVec 32 := Scalar.addi v36 c8_i32_27
  let c1_i32_28 : BitVec 32 := 1#32
  let v55 : BitVec 32 := Scalar.subi v54 c1_i32_28
  let c8_i32_29 : BitVec 32 := 8#32
  let c0_i32_30 : BitVec 32 := 0#32
  let v56 : BitVec 1 := Scalar.cmpi .eq c8_i32_29 c0_i32_30
  let c1_i32_31 : BitVec 32 := 1#32
  let v57 : BitVec 32 := Scalar.select v56 c1_i32_31 c8_i32_29
  let v58 : BitVec 32 := Scalar.remsi v55 v57
  let c0_i32_33 : BitVec 32 := 0#32
  let v60 : BitVec 1 := Scalar.cmpi .slt v58 c0_i32_33
  let c0_i32_34 : BitVec 32 := 0#32
  let v61 : BitVec 1 := Scalar.cmpi .slt v57 c0_i32_34
  let v62 : BitVec 1 := Scalar.xori v60 v61
  let c0_i32_32 : BitVec 32 := 0#32
  let v59 : BitVec 1 := Scalar.cmpi .ne v58 c0_i32_32
  let v63 : BitVec 1 := Scalar.andi v62 v59
  let v64 : BitVec 32 := Scalar.addi v58 v57
  let v65 : BitVec 32 := Scalar.select v63 v64 v58
  let c4_i32_35 : BitVec 32 := 4#32
  let v66 : BitVec 1 := Scalar.cmpi .sge v65 c4_i32_35
  let v67 : BitVec 32 := Scalar.extui v66
  let c16_i32_2147 : BitVec 32 := 16#32
  let v2045 : BitVec 32 := Scalar.muli v67 c16_i32_2147
  let v2046 : BitVec 32 := Scalar.addi c0_i32_2148 v2045
  let c4_i32_36 : BitVec 32 := 4#32
  let v68 : BitVec 1 := Scalar.cmpi .slt v65 c4_i32_36
  let c7_i32_37 : BitVec 32 := 7#32
  let v69 : BitVec 32 := Scalar.subi c7_i32_37 v65
  let v70 : BitVec 32 := Scalar.select v68 v65 v69
  let c4_i32_2149 : BitVec 32 := 4#32
  let v2047 : BitVec 32 := Scalar.muli v70 c4_i32_2149
  let v2048 : BitVec 32 := Scalar.addi v2046 v2047
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2150 : BitVec 32 := 1#32
  let v2049 : BitVec 32 := Scalar.muli v8 c1_i32_2150
  let v2050 : BitVec 32 := Scalar.addi v2048 v2049
  v2050.toNat
def k0_cond4 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_215 : BitVec 32 := 1#32
  let v278 : BitVec 32 := Scalar.addi v8 c1_i32_215
  let c4_i32_216 : BitVec 32 := 4#32
  let c0_i32_217 : BitVec 32 := 0#32
  let v279 : BitVec 1 := Scalar.cmpi .eq c4_i32_216 c0_i32_217
  let c1_i32_218 : BitVec 32 := 1#32
  let v280 : BitVec 32 := Scalar.select v279 c1_i32_218 c4_i32_216
  let v281 : BitVec 32 := Scalar.remsi v278 v280
  let c0_i32_220 : BitVec 32 := 0#32
  let v283 : BitVec 1 := Scalar.cmpi .slt v281 c0_i32_220
  let c0_i32_221 : BitVec 32 := 0#32
  let v284 : BitVec 1 := Scalar.cmpi .slt v280 c0_i32_221
  let v285 : BitVec 1 := Scalar.xori v283 v284
  let c0_i32_219 : BitVec 32 := 0#32
  let v282 : BitVec 1 := Scalar.cmpi .ne v281 c0_i32_219
  let v286 : BitVec 1 := Scalar.andi v285 v282
  let v287 : BitVec 32 := Scalar.addi v281 v280
  let v288 : BitVec 32 := Scalar.select v286 v287 v281
  let c3_i32 : BitVec 32 := 3#32
  let v304 : BitVec 1 := Scalar.cmpi .eq v288 c3_i32
  let v305 : BitVec 32 := Scalar.extui v304
  let c0_i32_237 : BitVec 32 := 0#32
  let v306 : BitVec 1 := Scalar.cmpi .ne v305 c0_i32_237
  v306

def k0_dev12 (d0 : Dev nD) : Nat :=
  let c0_i32_2148 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_17 : BitVec 32 := 0#32
  let v34 : BitVec 1 := Scalar.cmpi .eq v2 c0_i32_17
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v35 : BitVec 32 := Scalar.subi c7_i32 v5
  let v36 : BitVec 32 := Scalar.select v34 v5 v35
  let c8_i32_27 : BitVec 32 := 8#32
  let v54 : BitVec 32 := Scalar.addi v36 c8_i32_27
  let c1_i32_28 : BitVec 32 := 1#32
  let v55 : BitVec 32 := Scalar.subi v54 c1_i32_28
  let c8_i32_29 : BitVec 32 := 8#32
  let c0_i32_30 : BitVec 32 := 0#32
  let v56 : BitVec 1 := Scalar.cmpi .eq c8_i32_29 c0_i32_30
  let c1_i32_31 : BitVec 32 := 1#32
  let v57 : BitVec 32 := Scalar.select v56 c1_i32_31 c8_i32_29
  let v58 : BitVec 32 := Scalar.remsi v55 v57
  let c0_i32_33 : BitVec 32 := 0#32
  let v60 : BitVec 1 := Scalar.cmpi .slt v58 c0_i32_33
  let c0_i32_34 : BitVec 32 := 0#32
  let v61 : BitVec 1 := Scalar.cmpi .slt v57 c0_i32_34
  let v62 : BitVec 1 := Scalar.xori v60 v61
  let c0_i32_32 : BitVec 32 := 0#32
  let v59 : BitVec 1 := Scalar.cmpi .ne v58 c0_i32_32
  let v63 : BitVec 1 := Scalar.andi v62 v59
  let v64 : BitVec 32 := Scalar.addi v58 v57
  let v65 : BitVec 32 := Scalar.select v63 v64 v58
  let c4_i32_35 : BitVec 32 := 4#32
  let v66 : BitVec 1 := Scalar.cmpi .sge v65 c4_i32_35
  let v67 : BitVec 32 := Scalar.extui v66
  let c16_i32_2147 : BitVec 32 := 16#32
  let v2045 : BitVec 32 := Scalar.muli v67 c16_i32_2147
  let v2046 : BitVec 32 := Scalar.addi c0_i32_2148 v2045
  let c4_i32_36 : BitVec 32 := 4#32
  let v68 : BitVec 1 := Scalar.cmpi .slt v65 c4_i32_36
  let c7_i32_37 : BitVec 32 := 7#32
  let v69 : BitVec 32 := Scalar.subi c7_i32_37 v65
  let v70 : BitVec 32 := Scalar.select v68 v65 v69
  let c4_i32_2149 : BitVec 32 := 4#32
  let v2047 : BitVec 32 := Scalar.muli v70 c4_i32_2149
  let v2048 : BitVec 32 := Scalar.addi v2046 v2047
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2150 : BitVec 32 := 1#32
  let v2049 : BitVec 32 := Scalar.muli v8 c1_i32_2150
  let v2050 : BitVec 32 := Scalar.addi v2048 v2049
  v2050.toNat
def k0_dev13 (d0 : Dev nD) : Nat :=
  let c0_i32_255 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_254 : BitVec 32 := 16#32
  let v319 : BitVec 32 := Scalar.muli v2 c16_i32_254
  let v320 : BitVec 32 := Scalar.addi c0_i32_255 v319
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_256 : BitVec 32 := 4#32
  let v321 : BitVec 32 := Scalar.muli v5 c4_i32_256
  let v322 : BitVec 32 := Scalar.addi v320 v321
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_257 : BitVec 32 := 1#32
  let v323 : BitVec 32 := Scalar.muli v19 c1_i32_257
  let v324 : BitVec 32 := Scalar.addi v322 v323
  v324.toNat
def k0_off5 (d0 : Dev nD) (c0_i32_263 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_16 : BitVec 32 := 4#32
  let v32 : BitVec 32 := Scalar.muli v2 c4_i32_16
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v33 : BitVec 32 := Scalar.addi v32 v5
  let c1024_i32 : BitVec 32 := 1024#32
  let v37 : BitVec 32 := Scalar.muli v33 c1024_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_262 : BitVec 32 := 4#32
  let v333 : BitVec 32 := Scalar.addi v8 c4_i32_262
  let v334 : BitVec 32 := Scalar.subi v333 c0_i32_263
  let c4_i32_264 : BitVec 32 := 4#32
  let c0_i32_265 : BitVec 32 := 0#32
  let v335 : BitVec 1 := Scalar.cmpi .eq c4_i32_264 c0_i32_265
  let c1_i32_266 : BitVec 32 := 1#32
  let v336 : BitVec 32 := Scalar.select v335 c1_i32_266 c4_i32_264
  let v337 : BitVec 32 := Scalar.remsi v334 v336
  let c0_i32_268 : BitVec 32 := 0#32
  let v339 : BitVec 1 := Scalar.cmpi .slt v337 c0_i32_268
  let c0_i32_269 : BitVec 32 := 0#32
  let v340 : BitVec 1 := Scalar.cmpi .slt v336 c0_i32_269
  let v341 : BitVec 1 := Scalar.xori v339 v340
  let c0_i32_267 : BitVec 32 := 0#32
  let v338 : BitVec 1 := Scalar.cmpi .ne v337 c0_i32_267
  let v342 : BitVec 1 := Scalar.andi v341 v338
  let v343 : BitVec 32 := Scalar.addi v337 v336
  let v344 : BitVec 32 := Scalar.select v342 v343 v337
  let c256_i32_273 : BitVec 32 := 256#32
  let v347 : BitVec 32 := Scalar.muli v344 c256_i32_273
  let v348 : BitVec 32 := Scalar.addi v37 v347
  let v349 : Index := Scalar.indexCast v348
  let c0_274 : Index := 0#32
  ![v349.toNat, 0]
def k0_cond5 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_262 : BitVec 32 := 4#32
  let v333 : BitVec 32 := Scalar.addi v8 c4_i32_262
  let c0_i32_263 : BitVec 32 := 0#32
  let v334 : BitVec 32 := Scalar.subi v333 c0_i32_263
  let c4_i32_264 : BitVec 32 := 4#32
  let c0_i32_265 : BitVec 32 := 0#32
  let v335 : BitVec 1 := Scalar.cmpi .eq c4_i32_264 c0_i32_265
  let c1_i32_266 : BitVec 32 := 1#32
  let v336 : BitVec 32 := Scalar.select v335 c1_i32_266 c4_i32_264
  let v337 : BitVec 32 := Scalar.remsi v334 v336
  let c0_i32_268 : BitVec 32 := 0#32
  let v339 : BitVec 1 := Scalar.cmpi .slt v337 c0_i32_268
  let c0_i32_269 : BitVec 32 := 0#32
  let v340 : BitVec 1 := Scalar.cmpi .slt v336 c0_i32_269
  let v341 : BitVec 1 := Scalar.xori v339 v340
  let c0_i32_267 : BitVec 32 := 0#32
  let v338 : BitVec 1 := Scalar.cmpi .ne v337 c0_i32_267
  let v342 : BitVec 1 := Scalar.andi v341 v338
  let v343 : BitVec 32 := Scalar.addi v337 v336
  let v344 : BitVec 32 := Scalar.select v342 v343 v337
  let c0_i32_275 : BitVec 32 := 0#32
  let v351 : BitVec 1 := Scalar.cmpi .eq v344 c0_i32_275
  let v352 : BitVec 32 := Scalar.extui v351
  let c0_i32_277 : BitVec 32 := 0#32
  let v353 : BitVec 1 := Scalar.cmpi .ne v352 c0_i32_277
  v353

def k0_dev14 (d0 : Dev nD) : Nat :=
  let c0_i32_2148 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_17 : BitVec 32 := 0#32
  let v34 : BitVec 1 := Scalar.cmpi .eq v2 c0_i32_17
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v35 : BitVec 32 := Scalar.subi c7_i32 v5
  let v36 : BitVec 32 := Scalar.select v34 v5 v35
  let c1_i32_18 : BitVec 32 := 1#32
  let v38 : BitVec 32 := Scalar.addi v36 c1_i32_18
  let c8_i32 : BitVec 32 := 8#32
  let c0_i32_19 : BitVec 32 := 0#32
  let v39 : BitVec 1 := Scalar.cmpi .eq c8_i32 c0_i32_19
  let c1_i32_20 : BitVec 32 := 1#32
  let v40 : BitVec 32 := Scalar.select v39 c1_i32_20 c8_i32
  let v41 : BitVec 32 := Scalar.remsi v38 v40
  let c0_i32_22 : BitVec 32 := 0#32
  let v43 : BitVec 1 := Scalar.cmpi .slt v41 c0_i32_22
  let c0_i32_23 : BitVec 32 := 0#32
  let v44 : BitVec 1 := Scalar.cmpi .slt v40 c0_i32_23
  let v45 : BitVec 1 := Scalar.xori v43 v44
  let c0_i32_21 : BitVec 32 := 0#32
  let v42 : BitVec 1 := Scalar.cmpi .ne v41 c0_i32_21
  let v46 : BitVec 1 := Scalar.andi v45 v42
  let v47 : BitVec 32 := Scalar.addi v41 v40
  let v48 : BitVec 32 := Scalar.select v46 v47 v41
  let c4_i32_24 : BitVec 32 := 4#32
  let v49 : BitVec 1 := Scalar.cmpi .sge v48 c4_i32_24
  let v50 : BitVec 32 := Scalar.extui v49
  let c16_i32_2147 : BitVec 32 := 16#32
  let v2045 : BitVec 32 := Scalar.muli v50 c16_i32_2147
  let v2046 : BitVec 32 := Scalar.addi c0_i32_2148 v2045
  let c4_i32_25 : BitVec 32 := 4#32
  let v51 : BitVec 1 := Scalar.cmpi .slt v48 c4_i32_25
  let c7_i32_26 : BitVec 32 := 7#32
  let v52 : BitVec 32 := Scalar.subi c7_i32_26 v48
  let v53 : BitVec 32 := Scalar.select v51 v48 v52
  let c4_i32_2149 : BitVec 32 := 4#32
  let v2047 : BitVec 32 := Scalar.muli v53 c4_i32_2149
  let v2048 : BitVec 32 := Scalar.addi v2046 v2047
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2150 : BitVec 32 := 1#32
  let v2049 : BitVec 32 := Scalar.muli v8 c1_i32_2150
  let v2050 : BitVec 32 := Scalar.addi v2048 v2049
  v2050.toNat
def k0_cond6 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_262 : BitVec 32 := 4#32
  let v333 : BitVec 32 := Scalar.addi v8 c4_i32_262
  let c0_i32_263 : BitVec 32 := 0#32
  let v334 : BitVec 32 := Scalar.subi v333 c0_i32_263
  let c4_i32_264 : BitVec 32 := 4#32
  let c0_i32_265 : BitVec 32 := 0#32
  let v335 : BitVec 1 := Scalar.cmpi .eq c4_i32_264 c0_i32_265
  let c1_i32_266 : BitVec 32 := 1#32
  let v336 : BitVec 32 := Scalar.select v335 c1_i32_266 c4_i32_264
  let v337 : BitVec 32 := Scalar.remsi v334 v336
  let c0_i32_268 : BitVec 32 := 0#32
  let v339 : BitVec 1 := Scalar.cmpi .slt v337 c0_i32_268
  let c0_i32_269 : BitVec 32 := 0#32
  let v340 : BitVec 1 := Scalar.cmpi .slt v336 c0_i32_269
  let v341 : BitVec 1 := Scalar.xori v339 v340
  let c0_i32_267 : BitVec 32 := 0#32
  let v338 : BitVec 1 := Scalar.cmpi .ne v337 c0_i32_267
  let v342 : BitVec 1 := Scalar.andi v341 v338
  let v343 : BitVec 32 := Scalar.addi v337 v336
  let v344 : BitVec 32 := Scalar.select v342 v343 v337
  let c1_i32_278 : BitVec 32 := 1#32
  let v354 : BitVec 1 := Scalar.cmpi .eq v344 c1_i32_278
  let v355 : BitVec 32 := Scalar.extui v354
  let c0_i32_280 : BitVec 32 := 0#32
  let v356 : BitVec 1 := Scalar.cmpi .ne v355 c0_i32_280
  v356

def k0_dev15 (d0 : Dev nD) : Nat :=
  let c0_i32_2148 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_17 : BitVec 32 := 0#32
  let v34 : BitVec 1 := Scalar.cmpi .eq v2 c0_i32_17
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v35 : BitVec 32 := Scalar.subi c7_i32 v5
  let v36 : BitVec 32 := Scalar.select v34 v5 v35
  let c1_i32_18 : BitVec 32 := 1#32
  let v38 : BitVec 32 := Scalar.addi v36 c1_i32_18
  let c8_i32 : BitVec 32 := 8#32
  let c0_i32_19 : BitVec 32 := 0#32
  let v39 : BitVec 1 := Scalar.cmpi .eq c8_i32 c0_i32_19
  let c1_i32_20 : BitVec 32 := 1#32
  let v40 : BitVec 32 := Scalar.select v39 c1_i32_20 c8_i32
  let v41 : BitVec 32 := Scalar.remsi v38 v40
  let c0_i32_22 : BitVec 32 := 0#32
  let v43 : BitVec 1 := Scalar.cmpi .slt v41 c0_i32_22
  let c0_i32_23 : BitVec 32 := 0#32
  let v44 : BitVec 1 := Scalar.cmpi .slt v40 c0_i32_23
  let v45 : BitVec 1 := Scalar.xori v43 v44
  let c0_i32_21 : BitVec 32 := 0#32
  let v42 : BitVec 1 := Scalar.cmpi .ne v41 c0_i32_21
  let v46 : BitVec 1 := Scalar.andi v45 v42
  let v47 : BitVec 32 := Scalar.addi v41 v40
  let v48 : BitVec 32 := Scalar.select v46 v47 v41
  let c4_i32_24 : BitVec 32 := 4#32
  let v49 : BitVec 1 := Scalar.cmpi .sge v48 c4_i32_24
  let v50 : BitVec 32 := Scalar.extui v49
  let c16_i32_2147 : BitVec 32 := 16#32
  let v2045 : BitVec 32 := Scalar.muli v50 c16_i32_2147
  let v2046 : BitVec 32 := Scalar.addi c0_i32_2148 v2045
  let c4_i32_25 : BitVec 32 := 4#32
  let v51 : BitVec 1 := Scalar.cmpi .slt v48 c4_i32_25
  let c7_i32_26 : BitVec 32 := 7#32
  let v52 : BitVec 32 := Scalar.subi c7_i32_26 v48
  let v53 : BitVec 32 := Scalar.select v51 v48 v52
  let c4_i32_2149 : BitVec 32 := 4#32
  let v2047 : BitVec 32 := Scalar.muli v53 c4_i32_2149
  let v2048 : BitVec 32 := Scalar.addi v2046 v2047
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2150 : BitVec 32 := 1#32
  let v2049 : BitVec 32 := Scalar.muli v8 c1_i32_2150
  let v2050 : BitVec 32 := Scalar.addi v2048 v2049
  v2050.toNat
def k0_cond7 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_262 : BitVec 32 := 4#32
  let v333 : BitVec 32 := Scalar.addi v8 c4_i32_262
  let c0_i32_263 : BitVec 32 := 0#32
  let v334 : BitVec 32 := Scalar.subi v333 c0_i32_263
  let c4_i32_264 : BitVec 32 := 4#32
  let c0_i32_265 : BitVec 32 := 0#32
  let v335 : BitVec 1 := Scalar.cmpi .eq c4_i32_264 c0_i32_265
  let c1_i32_266 : BitVec 32 := 1#32
  let v336 : BitVec 32 := Scalar.select v335 c1_i32_266 c4_i32_264
  let v337 : BitVec 32 := Scalar.remsi v334 v336
  let c0_i32_268 : BitVec 32 := 0#32
  let v339 : BitVec 1 := Scalar.cmpi .slt v337 c0_i32_268
  let c0_i32_269 : BitVec 32 := 0#32
  let v340 : BitVec 1 := Scalar.cmpi .slt v336 c0_i32_269
  let v341 : BitVec 1 := Scalar.xori v339 v340
  let c0_i32_267 : BitVec 32 := 0#32
  let v338 : BitVec 1 := Scalar.cmpi .ne v337 c0_i32_267
  let v342 : BitVec 1 := Scalar.andi v341 v338
  let v343 : BitVec 32 := Scalar.addi v337 v336
  let v344 : BitVec 32 := Scalar.select v342 v343 v337
  let c2_i32_281 : BitVec 32 := 2#32
  let v357 : BitVec 1 := Scalar.cmpi .eq v344 c2_i32_281
  let v358 : BitVec 32 := Scalar.extui v357
  let c0_i32_283 : BitVec 32 := 0#32
  let v359 : BitVec 1 := Scalar.cmpi .ne v358 c0_i32_283
  v359

def k0_dev16 (d0 : Dev nD) : Nat :=
  let c0_i32_2148 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_17 : BitVec 32 := 0#32
  let v34 : BitVec 1 := Scalar.cmpi .eq v2 c0_i32_17
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v35 : BitVec 32 := Scalar.subi c7_i32 v5
  let v36 : BitVec 32 := Scalar.select v34 v5 v35
  let c8_i32_27 : BitVec 32 := 8#32
  let v54 : BitVec 32 := Scalar.addi v36 c8_i32_27
  let c1_i32_28 : BitVec 32 := 1#32
  let v55 : BitVec 32 := Scalar.subi v54 c1_i32_28
  let c8_i32_29 : BitVec 32 := 8#32
  let c0_i32_30 : BitVec 32 := 0#32
  let v56 : BitVec 1 := Scalar.cmpi .eq c8_i32_29 c0_i32_30
  let c1_i32_31 : BitVec 32 := 1#32
  let v57 : BitVec 32 := Scalar.select v56 c1_i32_31 c8_i32_29
  let v58 : BitVec 32 := Scalar.remsi v55 v57
  let c0_i32_33 : BitVec 32 := 0#32
  let v60 : BitVec 1 := Scalar.cmpi .slt v58 c0_i32_33
  let c0_i32_34 : BitVec 32 := 0#32
  let v61 : BitVec 1 := Scalar.cmpi .slt v57 c0_i32_34
  let v62 : BitVec 1 := Scalar.xori v60 v61
  let c0_i32_32 : BitVec 32 := 0#32
  let v59 : BitVec 1 := Scalar.cmpi .ne v58 c0_i32_32
  let v63 : BitVec 1 := Scalar.andi v62 v59
  let v64 : BitVec 32 := Scalar.addi v58 v57
  let v65 : BitVec 32 := Scalar.select v63 v64 v58
  let c4_i32_35 : BitVec 32 := 4#32
  let v66 : BitVec 1 := Scalar.cmpi .sge v65 c4_i32_35
  let v67 : BitVec 32 := Scalar.extui v66
  let c16_i32_2147 : BitVec 32 := 16#32
  let v2045 : BitVec 32 := Scalar.muli v67 c16_i32_2147
  let v2046 : BitVec 32 := Scalar.addi c0_i32_2148 v2045
  let c4_i32_36 : BitVec 32 := 4#32
  let v68 : BitVec 1 := Scalar.cmpi .slt v65 c4_i32_36
  let c7_i32_37 : BitVec 32 := 7#32
  let v69 : BitVec 32 := Scalar.subi c7_i32_37 v65
  let v70 : BitVec 32 := Scalar.select v68 v65 v69
  let c4_i32_2149 : BitVec 32 := 4#32
  let v2047 : BitVec 32 := Scalar.muli v70 c4_i32_2149
  let v2048 : BitVec 32 := Scalar.addi v2046 v2047
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2150 : BitVec 32 := 1#32
  let v2049 : BitVec 32 := Scalar.muli v8 c1_i32_2150
  let v2050 : BitVec 32 := Scalar.addi v2048 v2049
  v2050.toNat
def k0_cond8 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_262 : BitVec 32 := 4#32
  let v333 : BitVec 32 := Scalar.addi v8 c4_i32_262
  let c0_i32_263 : BitVec 32 := 0#32
  let v334 : BitVec 32 := Scalar.subi v333 c0_i32_263
  let c4_i32_264 : BitVec 32 := 4#32
  let c0_i32_265 : BitVec 32 := 0#32
  let v335 : BitVec 1 := Scalar.cmpi .eq c4_i32_264 c0_i32_265
  let c1_i32_266 : BitVec 32 := 1#32
  let v336 : BitVec 32 := Scalar.select v335 c1_i32_266 c4_i32_264
  let v337 : BitVec 32 := Scalar.remsi v334 v336
  let c0_i32_268 : BitVec 32 := 0#32
  let v339 : BitVec 1 := Scalar.cmpi .slt v337 c0_i32_268
  let c0_i32_269 : BitVec 32 := 0#32
  let v340 : BitVec 1 := Scalar.cmpi .slt v336 c0_i32_269
  let v341 : BitVec 1 := Scalar.xori v339 v340
  let c0_i32_267 : BitVec 32 := 0#32
  let v338 : BitVec 1 := Scalar.cmpi .ne v337 c0_i32_267
  let v342 : BitVec 1 := Scalar.andi v341 v338
  let v343 : BitVec 32 := Scalar.addi v337 v336
  let v344 : BitVec 32 := Scalar.select v342 v343 v337
  let c3_i32_284 : BitVec 32 := 3#32
  let v360 : BitVec 1 := Scalar.cmpi .eq v344 c3_i32_284
  let v361 : BitVec 32 := Scalar.extui v360
  let c0_i32_286 : BitVec 32 := 0#32
  let v362 : BitVec 1 := Scalar.cmpi .ne v361 c0_i32_286
  v362

def k0_dev17 (d0 : Dev nD) : Nat :=
  let c0_i32_2148 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_17 : BitVec 32 := 0#32
  let v34 : BitVec 1 := Scalar.cmpi .eq v2 c0_i32_17
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v35 : BitVec 32 := Scalar.subi c7_i32 v5
  let v36 : BitVec 32 := Scalar.select v34 v5 v35
  let c8_i32_27 : BitVec 32 := 8#32
  let v54 : BitVec 32 := Scalar.addi v36 c8_i32_27
  let c1_i32_28 : BitVec 32 := 1#32
  let v55 : BitVec 32 := Scalar.subi v54 c1_i32_28
  let c8_i32_29 : BitVec 32 := 8#32
  let c0_i32_30 : BitVec 32 := 0#32
  let v56 : BitVec 1 := Scalar.cmpi .eq c8_i32_29 c0_i32_30
  let c1_i32_31 : BitVec 32 := 1#32
  let v57 : BitVec 32 := Scalar.select v56 c1_i32_31 c8_i32_29
  let v58 : BitVec 32 := Scalar.remsi v55 v57
  let c0_i32_33 : BitVec 32 := 0#32
  let v60 : BitVec 1 := Scalar.cmpi .slt v58 c0_i32_33
  let c0_i32_34 : BitVec 32 := 0#32
  let v61 : BitVec 1 := Scalar.cmpi .slt v57 c0_i32_34
  let v62 : BitVec 1 := Scalar.xori v60 v61
  let c0_i32_32 : BitVec 32 := 0#32
  let v59 : BitVec 1 := Scalar.cmpi .ne v58 c0_i32_32
  let v63 : BitVec 1 := Scalar.andi v62 v59
  let v64 : BitVec 32 := Scalar.addi v58 v57
  let v65 : BitVec 32 := Scalar.select v63 v64 v58
  let c4_i32_35 : BitVec 32 := 4#32
  let v66 : BitVec 1 := Scalar.cmpi .sge v65 c4_i32_35
  let v67 : BitVec 32 := Scalar.extui v66
  let c16_i32_2147 : BitVec 32 := 16#32
  let v2045 : BitVec 32 := Scalar.muli v67 c16_i32_2147
  let v2046 : BitVec 32 := Scalar.addi c0_i32_2148 v2045
  let c4_i32_36 : BitVec 32 := 4#32
  let v68 : BitVec 1 := Scalar.cmpi .slt v65 c4_i32_36
  let c7_i32_37 : BitVec 32 := 7#32
  let v69 : BitVec 32 := Scalar.subi c7_i32_37 v65
  let v70 : BitVec 32 := Scalar.select v68 v65 v69
  let c4_i32_2149 : BitVec 32 := 4#32
  let v2047 : BitVec 32 := Scalar.muli v70 c4_i32_2149
  let v2048 : BitVec 32 := Scalar.addi v2046 v2047
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2150 : BitVec 32 := 1#32
  let v2049 : BitVec 32 := Scalar.muli v8 c1_i32_2150
  let v2050 : BitVec 32 := Scalar.addi v2048 v2049
  v2050.toNat
def k0_dev18 (d0 : Dev nD) : Nat :=
  let c0_i32_304 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_303 : BitVec 32 := 16#32
  let v375 : BitVec 32 := Scalar.muli v2 c16_i32_303
  let v376 : BitVec 32 := Scalar.addi c0_i32_304 v375
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_305 : BitVec 32 := 4#32
  let v377 : BitVec 32 := Scalar.muli v5 c4_i32_305
  let v378 : BitVec 32 := Scalar.addi v376 v377
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_306 : BitVec 32 := 1#32
  let v379 : BitVec 32 := Scalar.muli v19 c1_i32_306
  let v380 : BitVec 32 := Scalar.addi v378 v379
  v380.toNat
def k0_cond9 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_311 : BitVec 32 := 4#32
  let v389 : BitVec 32 := Scalar.addi v8 c4_i32_311
  let c1_i32_312 : BitVec 32 := 1#32
  let v390 : BitVec 32 := Scalar.subi v389 c1_i32_312
  let c4_i32_313 : BitVec 32 := 4#32
  let c0_i32_314 : BitVec 32 := 0#32
  let v391 : BitVec 1 := Scalar.cmpi .eq c4_i32_313 c0_i32_314
  let c1_i32_315 : BitVec 32 := 1#32
  let v392 : BitVec 32 := Scalar.select v391 c1_i32_315 c4_i32_313
  let v393 : BitVec 32 := Scalar.remsi v390 v392
  let c0_i32_317 : BitVec 32 := 0#32
  let v395 : BitVec 1 := Scalar.cmpi .slt v393 c0_i32_317
  let c0_i32_318 : BitVec 32 := 0#32
  let v396 : BitVec 1 := Scalar.cmpi .slt v392 c0_i32_318
  let v397 : BitVec 1 := Scalar.xori v395 v396
  let c0_i32_316 : BitVec 32 := 0#32
  let v394 : BitVec 1 := Scalar.cmpi .ne v393 c0_i32_316
  let v398 : BitVec 1 := Scalar.andi v397 v394
  let v399 : BitVec 32 := Scalar.addi v393 v392
  let v400 : BitVec 32 := Scalar.select v398 v399 v393
  let c0_i32_324 : BitVec 32 := 0#32
  let v407 : BitVec 1 := Scalar.cmpi .eq v400 c0_i32_324
  let v408 : BitVec 32 := Scalar.extui v407
  let c0_i32_326 : BitVec 32 := 0#32
  let v409 : BitVec 1 := Scalar.cmpi .ne v408 c0_i32_326
  v409

def k0_dev19 (d0 : Dev nD) : Nat :=
  let c0_i32_2148 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_17 : BitVec 32 := 0#32
  let v34 : BitVec 1 := Scalar.cmpi .eq v2 c0_i32_17
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v35 : BitVec 32 := Scalar.subi c7_i32 v5
  let v36 : BitVec 32 := Scalar.select v34 v5 v35
  let c1_i32_18 : BitVec 32 := 1#32
  let v38 : BitVec 32 := Scalar.addi v36 c1_i32_18
  let c8_i32 : BitVec 32 := 8#32
  let c0_i32_19 : BitVec 32 := 0#32
  let v39 : BitVec 1 := Scalar.cmpi .eq c8_i32 c0_i32_19
  let c1_i32_20 : BitVec 32 := 1#32
  let v40 : BitVec 32 := Scalar.select v39 c1_i32_20 c8_i32
  let v41 : BitVec 32 := Scalar.remsi v38 v40
  let c0_i32_22 : BitVec 32 := 0#32
  let v43 : BitVec 1 := Scalar.cmpi .slt v41 c0_i32_22
  let c0_i32_23 : BitVec 32 := 0#32
  let v44 : BitVec 1 := Scalar.cmpi .slt v40 c0_i32_23
  let v45 : BitVec 1 := Scalar.xori v43 v44
  let c0_i32_21 : BitVec 32 := 0#32
  let v42 : BitVec 1 := Scalar.cmpi .ne v41 c0_i32_21
  let v46 : BitVec 1 := Scalar.andi v45 v42
  let v47 : BitVec 32 := Scalar.addi v41 v40
  let v48 : BitVec 32 := Scalar.select v46 v47 v41
  let c4_i32_24 : BitVec 32 := 4#32
  let v49 : BitVec 1 := Scalar.cmpi .sge v48 c4_i32_24
  let v50 : BitVec 32 := Scalar.extui v49
  let c16_i32_2147 : BitVec 32 := 16#32
  let v2045 : BitVec 32 := Scalar.muli v50 c16_i32_2147
  let v2046 : BitVec 32 := Scalar.addi c0_i32_2148 v2045
  let c4_i32_25 : BitVec 32 := 4#32
  let v51 : BitVec 1 := Scalar.cmpi .slt v48 c4_i32_25
  let c7_i32_26 : BitVec 32 := 7#32
  let v52 : BitVec 32 := Scalar.subi c7_i32_26 v48
  let v53 : BitVec 32 := Scalar.select v51 v48 v52
  let c4_i32_2149 : BitVec 32 := 4#32
  let v2047 : BitVec 32 := Scalar.muli v53 c4_i32_2149
  let v2048 : BitVec 32 := Scalar.addi v2046 v2047
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2150 : BitVec 32 := 1#32
  let v2049 : BitVec 32 := Scalar.muli v8 c1_i32_2150
  let v2050 : BitVec 32 := Scalar.addi v2048 v2049
  v2050.toNat
def k0_cond10 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_311 : BitVec 32 := 4#32
  let v389 : BitVec 32 := Scalar.addi v8 c4_i32_311
  let c1_i32_312 : BitVec 32 := 1#32
  let v390 : BitVec 32 := Scalar.subi v389 c1_i32_312
  let c4_i32_313 : BitVec 32 := 4#32
  let c0_i32_314 : BitVec 32 := 0#32
  let v391 : BitVec 1 := Scalar.cmpi .eq c4_i32_313 c0_i32_314
  let c1_i32_315 : BitVec 32 := 1#32
  let v392 : BitVec 32 := Scalar.select v391 c1_i32_315 c4_i32_313
  let v393 : BitVec 32 := Scalar.remsi v390 v392
  let c0_i32_317 : BitVec 32 := 0#32
  let v395 : BitVec 1 := Scalar.cmpi .slt v393 c0_i32_317
  let c0_i32_318 : BitVec 32 := 0#32
  let v396 : BitVec 1 := Scalar.cmpi .slt v392 c0_i32_318
  let v397 : BitVec 1 := Scalar.xori v395 v396
  let c0_i32_316 : BitVec 32 := 0#32
  let v394 : BitVec 1 := Scalar.cmpi .ne v393 c0_i32_316
  let v398 : BitVec 1 := Scalar.andi v397 v394
  let v399 : BitVec 32 := Scalar.addi v393 v392
  let v400 : BitVec 32 := Scalar.select v398 v399 v393
  let c1_i32_327 : BitVec 32 := 1#32
  let v410 : BitVec 1 := Scalar.cmpi .eq v400 c1_i32_327
  let v411 : BitVec 32 := Scalar.extui v410
  let c0_i32_329 : BitVec 32 := 0#32
  let v412 : BitVec 1 := Scalar.cmpi .ne v411 c0_i32_329
  v412

def k0_dev20 (d0 : Dev nD) : Nat :=
  let c0_i32_2148 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_17 : BitVec 32 := 0#32
  let v34 : BitVec 1 := Scalar.cmpi .eq v2 c0_i32_17
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v35 : BitVec 32 := Scalar.subi c7_i32 v5
  let v36 : BitVec 32 := Scalar.select v34 v5 v35
  let c1_i32_18 : BitVec 32 := 1#32
  let v38 : BitVec 32 := Scalar.addi v36 c1_i32_18
  let c8_i32 : BitVec 32 := 8#32
  let c0_i32_19 : BitVec 32 := 0#32
  let v39 : BitVec 1 := Scalar.cmpi .eq c8_i32 c0_i32_19
  let c1_i32_20 : BitVec 32 := 1#32
  let v40 : BitVec 32 := Scalar.select v39 c1_i32_20 c8_i32
  let v41 : BitVec 32 := Scalar.remsi v38 v40
  let c0_i32_22 : BitVec 32 := 0#32
  let v43 : BitVec 1 := Scalar.cmpi .slt v41 c0_i32_22
  let c0_i32_23 : BitVec 32 := 0#32
  let v44 : BitVec 1 := Scalar.cmpi .slt v40 c0_i32_23
  let v45 : BitVec 1 := Scalar.xori v43 v44
  let c0_i32_21 : BitVec 32 := 0#32
  let v42 : BitVec 1 := Scalar.cmpi .ne v41 c0_i32_21
  let v46 : BitVec 1 := Scalar.andi v45 v42
  let v47 : BitVec 32 := Scalar.addi v41 v40
  let v48 : BitVec 32 := Scalar.select v46 v47 v41
  let c4_i32_24 : BitVec 32 := 4#32
  let v49 : BitVec 1 := Scalar.cmpi .sge v48 c4_i32_24
  let v50 : BitVec 32 := Scalar.extui v49
  let c16_i32_2147 : BitVec 32 := 16#32
  let v2045 : BitVec 32 := Scalar.muli v50 c16_i32_2147
  let v2046 : BitVec 32 := Scalar.addi c0_i32_2148 v2045
  let c4_i32_25 : BitVec 32 := 4#32
  let v51 : BitVec 1 := Scalar.cmpi .slt v48 c4_i32_25
  let c7_i32_26 : BitVec 32 := 7#32
  let v52 : BitVec 32 := Scalar.subi c7_i32_26 v48
  let v53 : BitVec 32 := Scalar.select v51 v48 v52
  let c4_i32_2149 : BitVec 32 := 4#32
  let v2047 : BitVec 32 := Scalar.muli v53 c4_i32_2149
  let v2048 : BitVec 32 := Scalar.addi v2046 v2047
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2150 : BitVec 32 := 1#32
  let v2049 : BitVec 32 := Scalar.muli v8 c1_i32_2150
  let v2050 : BitVec 32 := Scalar.addi v2048 v2049
  v2050.toNat
def k0_cond11 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_311 : BitVec 32 := 4#32
  let v389 : BitVec 32 := Scalar.addi v8 c4_i32_311
  let c1_i32_312 : BitVec 32 := 1#32
  let v390 : BitVec 32 := Scalar.subi v389 c1_i32_312
  let c4_i32_313 : BitVec 32 := 4#32
  let c0_i32_314 : BitVec 32 := 0#32
  let v391 : BitVec 1 := Scalar.cmpi .eq c4_i32_313 c0_i32_314
  let c1_i32_315 : BitVec 32 := 1#32
  let v392 : BitVec 32 := Scalar.select v391 c1_i32_315 c4_i32_313
  let v393 : BitVec 32 := Scalar.remsi v390 v392
  let c0_i32_317 : BitVec 32 := 0#32
  let v395 : BitVec 1 := Scalar.cmpi .slt v393 c0_i32_317
  let c0_i32_318 : BitVec 32 := 0#32
  let v396 : BitVec 1 := Scalar.cmpi .slt v392 c0_i32_318
  let v397 : BitVec 1 := Scalar.xori v395 v396
  let c0_i32_316 : BitVec 32 := 0#32
  let v394 : BitVec 1 := Scalar.cmpi .ne v393 c0_i32_316
  let v398 : BitVec 1 := Scalar.andi v397 v394
  let v399 : BitVec 32 := Scalar.addi v393 v392
  let v400 : BitVec 32 := Scalar.select v398 v399 v393
  let c2_i32_330 : BitVec 32 := 2#32
  let v413 : BitVec 1 := Scalar.cmpi .eq v400 c2_i32_330
  let v414 : BitVec 32 := Scalar.extui v413
  let c0_i32_332 : BitVec 32 := 0#32
  let v415 : BitVec 1 := Scalar.cmpi .ne v414 c0_i32_332
  v415

def k0_dev21 (d0 : Dev nD) : Nat :=
  let c0_i32_2148 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_17 : BitVec 32 := 0#32
  let v34 : BitVec 1 := Scalar.cmpi .eq v2 c0_i32_17
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v35 : BitVec 32 := Scalar.subi c7_i32 v5
  let v36 : BitVec 32 := Scalar.select v34 v5 v35
  let c8_i32_27 : BitVec 32 := 8#32
  let v54 : BitVec 32 := Scalar.addi v36 c8_i32_27
  let c1_i32_28 : BitVec 32 := 1#32
  let v55 : BitVec 32 := Scalar.subi v54 c1_i32_28
  let c8_i32_29 : BitVec 32 := 8#32
  let c0_i32_30 : BitVec 32 := 0#32
  let v56 : BitVec 1 := Scalar.cmpi .eq c8_i32_29 c0_i32_30
  let c1_i32_31 : BitVec 32 := 1#32
  let v57 : BitVec 32 := Scalar.select v56 c1_i32_31 c8_i32_29
  let v58 : BitVec 32 := Scalar.remsi v55 v57
  let c0_i32_33 : BitVec 32 := 0#32
  let v60 : BitVec 1 := Scalar.cmpi .slt v58 c0_i32_33
  let c0_i32_34 : BitVec 32 := 0#32
  let v61 : BitVec 1 := Scalar.cmpi .slt v57 c0_i32_34
  let v62 : BitVec 1 := Scalar.xori v60 v61
  let c0_i32_32 : BitVec 32 := 0#32
  let v59 : BitVec 1 := Scalar.cmpi .ne v58 c0_i32_32
  let v63 : BitVec 1 := Scalar.andi v62 v59
  let v64 : BitVec 32 := Scalar.addi v58 v57
  let v65 : BitVec 32 := Scalar.select v63 v64 v58
  let c4_i32_35 : BitVec 32 := 4#32
  let v66 : BitVec 1 := Scalar.cmpi .sge v65 c4_i32_35
  let v67 : BitVec 32 := Scalar.extui v66
  let c16_i32_2147 : BitVec 32 := 16#32
  let v2045 : BitVec 32 := Scalar.muli v67 c16_i32_2147
  let v2046 : BitVec 32 := Scalar.addi c0_i32_2148 v2045
  let c4_i32_36 : BitVec 32 := 4#32
  let v68 : BitVec 1 := Scalar.cmpi .slt v65 c4_i32_36
  let c7_i32_37 : BitVec 32 := 7#32
  let v69 : BitVec 32 := Scalar.subi c7_i32_37 v65
  let v70 : BitVec 32 := Scalar.select v68 v65 v69
  let c4_i32_2149 : BitVec 32 := 4#32
  let v2047 : BitVec 32 := Scalar.muli v70 c4_i32_2149
  let v2048 : BitVec 32 := Scalar.addi v2046 v2047
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2150 : BitVec 32 := 1#32
  let v2049 : BitVec 32 := Scalar.muli v8 c1_i32_2150
  let v2050 : BitVec 32 := Scalar.addi v2048 v2049
  v2050.toNat
def k0_cond12 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_311 : BitVec 32 := 4#32
  let v389 : BitVec 32 := Scalar.addi v8 c4_i32_311
  let c1_i32_312 : BitVec 32 := 1#32
  let v390 : BitVec 32 := Scalar.subi v389 c1_i32_312
  let c4_i32_313 : BitVec 32 := 4#32
  let c0_i32_314 : BitVec 32 := 0#32
  let v391 : BitVec 1 := Scalar.cmpi .eq c4_i32_313 c0_i32_314
  let c1_i32_315 : BitVec 32 := 1#32
  let v392 : BitVec 32 := Scalar.select v391 c1_i32_315 c4_i32_313
  let v393 : BitVec 32 := Scalar.remsi v390 v392
  let c0_i32_317 : BitVec 32 := 0#32
  let v395 : BitVec 1 := Scalar.cmpi .slt v393 c0_i32_317
  let c0_i32_318 : BitVec 32 := 0#32
  let v396 : BitVec 1 := Scalar.cmpi .slt v392 c0_i32_318
  let v397 : BitVec 1 := Scalar.xori v395 v396
  let c0_i32_316 : BitVec 32 := 0#32
  let v394 : BitVec 1 := Scalar.cmpi .ne v393 c0_i32_316
  let v398 : BitVec 1 := Scalar.andi v397 v394
  let v399 : BitVec 32 := Scalar.addi v393 v392
  let v400 : BitVec 32 := Scalar.select v398 v399 v393
  let c3_i32_333 : BitVec 32 := 3#32
  let v416 : BitVec 1 := Scalar.cmpi .eq v400 c3_i32_333
  let v417 : BitVec 32 := Scalar.extui v416
  let c0_i32_335 : BitVec 32 := 0#32
  let v418 : BitVec 1 := Scalar.cmpi .ne v417 c0_i32_335
  v418

def k0_dev22 (d0 : Dev nD) : Nat :=
  let c0_i32_2148 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_17 : BitVec 32 := 0#32
  let v34 : BitVec 1 := Scalar.cmpi .eq v2 c0_i32_17
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v35 : BitVec 32 := Scalar.subi c7_i32 v5
  let v36 : BitVec 32 := Scalar.select v34 v5 v35
  let c8_i32_27 : BitVec 32 := 8#32
  let v54 : BitVec 32 := Scalar.addi v36 c8_i32_27
  let c1_i32_28 : BitVec 32 := 1#32
  let v55 : BitVec 32 := Scalar.subi v54 c1_i32_28
  let c8_i32_29 : BitVec 32 := 8#32
  let c0_i32_30 : BitVec 32 := 0#32
  let v56 : BitVec 1 := Scalar.cmpi .eq c8_i32_29 c0_i32_30
  let c1_i32_31 : BitVec 32 := 1#32
  let v57 : BitVec 32 := Scalar.select v56 c1_i32_31 c8_i32_29
  let v58 : BitVec 32 := Scalar.remsi v55 v57
  let c0_i32_33 : BitVec 32 := 0#32
  let v60 : BitVec 1 := Scalar.cmpi .slt v58 c0_i32_33
  let c0_i32_34 : BitVec 32 := 0#32
  let v61 : BitVec 1 := Scalar.cmpi .slt v57 c0_i32_34
  let v62 : BitVec 1 := Scalar.xori v60 v61
  let c0_i32_32 : BitVec 32 := 0#32
  let v59 : BitVec 1 := Scalar.cmpi .ne v58 c0_i32_32
  let v63 : BitVec 1 := Scalar.andi v62 v59
  let v64 : BitVec 32 := Scalar.addi v58 v57
  let v65 : BitVec 32 := Scalar.select v63 v64 v58
  let c4_i32_35 : BitVec 32 := 4#32
  let v66 : BitVec 1 := Scalar.cmpi .sge v65 c4_i32_35
  let v67 : BitVec 32 := Scalar.extui v66
  let c16_i32_2147 : BitVec 32 := 16#32
  let v2045 : BitVec 32 := Scalar.muli v67 c16_i32_2147
  let v2046 : BitVec 32 := Scalar.addi c0_i32_2148 v2045
  let c4_i32_36 : BitVec 32 := 4#32
  let v68 : BitVec 1 := Scalar.cmpi .slt v65 c4_i32_36
  let c7_i32_37 : BitVec 32 := 7#32
  let v69 : BitVec 32 := Scalar.subi c7_i32_37 v65
  let v70 : BitVec 32 := Scalar.select v68 v65 v69
  let c4_i32_2149 : BitVec 32 := 4#32
  let v2047 : BitVec 32 := Scalar.muli v70 c4_i32_2149
  let v2048 : BitVec 32 := Scalar.addi v2046 v2047
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2150 : BitVec 32 := 1#32
  let v2049 : BitVec 32 := Scalar.muli v8 c1_i32_2150
  let v2050 : BitVec 32 := Scalar.addi v2048 v2049
  v2050.toNat
def k0_cond13 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_348 : BitVec 32 := 4#32
  let v431 : BitVec 32 := Scalar.addi v8 c4_i32_348
  let c2_i32_349 : BitVec 32 := 2#32
  let v432 : BitVec 32 := Scalar.subi v431 c2_i32_349
  let c4_i32_350 : BitVec 32 := 4#32
  let c0_i32_351 : BitVec 32 := 0#32
  let v433 : BitVec 1 := Scalar.cmpi .eq c4_i32_350 c0_i32_351
  let c1_i32_352 : BitVec 32 := 1#32
  let v434 : BitVec 32 := Scalar.select v433 c1_i32_352 c4_i32_350
  let v435 : BitVec 32 := Scalar.remsi v432 v434
  let c0_i32_354 : BitVec 32 := 0#32
  let v437 : BitVec 1 := Scalar.cmpi .slt v435 c0_i32_354
  let c0_i32_355 : BitVec 32 := 0#32
  let v438 : BitVec 1 := Scalar.cmpi .slt v434 c0_i32_355
  let v439 : BitVec 1 := Scalar.xori v437 v438
  let c0_i32_353 : BitVec 32 := 0#32
  let v436 : BitVec 1 := Scalar.cmpi .ne v435 c0_i32_353
  let v440 : BitVec 1 := Scalar.andi v439 v436
  let v441 : BitVec 32 := Scalar.addi v435 v434
  let v442 : BitVec 32 := Scalar.select v440 v441 v435
  let c0_i32_361 : BitVec 32 := 0#32
  let v449 : BitVec 1 := Scalar.cmpi .eq v442 c0_i32_361
  let v450 : BitVec 32 := Scalar.extui v449
  let c0_i32_363 : BitVec 32 := 0#32
  let v451 : BitVec 1 := Scalar.cmpi .ne v450 c0_i32_363
  v451

def k0_dev23 (d0 : Dev nD) : Nat :=
  let c0_i32_2148 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_17 : BitVec 32 := 0#32
  let v34 : BitVec 1 := Scalar.cmpi .eq v2 c0_i32_17
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v35 : BitVec 32 := Scalar.subi c7_i32 v5
  let v36 : BitVec 32 := Scalar.select v34 v5 v35
  let c1_i32_18 : BitVec 32 := 1#32
  let v38 : BitVec 32 := Scalar.addi v36 c1_i32_18
  let c8_i32 : BitVec 32 := 8#32
  let c0_i32_19 : BitVec 32 := 0#32
  let v39 : BitVec 1 := Scalar.cmpi .eq c8_i32 c0_i32_19
  let c1_i32_20 : BitVec 32 := 1#32
  let v40 : BitVec 32 := Scalar.select v39 c1_i32_20 c8_i32
  let v41 : BitVec 32 := Scalar.remsi v38 v40
  let c0_i32_22 : BitVec 32 := 0#32
  let v43 : BitVec 1 := Scalar.cmpi .slt v41 c0_i32_22
  let c0_i32_23 : BitVec 32 := 0#32
  let v44 : BitVec 1 := Scalar.cmpi .slt v40 c0_i32_23
  let v45 : BitVec 1 := Scalar.xori v43 v44
  let c0_i32_21 : BitVec 32 := 0#32
  let v42 : BitVec 1 := Scalar.cmpi .ne v41 c0_i32_21
  let v46 : BitVec 1 := Scalar.andi v45 v42
  let v47 : BitVec 32 := Scalar.addi v41 v40
  let v48 : BitVec 32 := Scalar.select v46 v47 v41
  let c4_i32_24 : BitVec 32 := 4#32
  let v49 : BitVec 1 := Scalar.cmpi .sge v48 c4_i32_24
  let v50 : BitVec 32 := Scalar.extui v49
  let c16_i32_2147 : BitVec 32 := 16#32
  let v2045 : BitVec 32 := Scalar.muli v50 c16_i32_2147
  let v2046 : BitVec 32 := Scalar.addi c0_i32_2148 v2045
  let c4_i32_25 : BitVec 32 := 4#32
  let v51 : BitVec 1 := Scalar.cmpi .slt v48 c4_i32_25
  let c7_i32_26 : BitVec 32 := 7#32
  let v52 : BitVec 32 := Scalar.subi c7_i32_26 v48
  let v53 : BitVec 32 := Scalar.select v51 v48 v52
  let c4_i32_2149 : BitVec 32 := 4#32
  let v2047 : BitVec 32 := Scalar.muli v53 c4_i32_2149
  let v2048 : BitVec 32 := Scalar.addi v2046 v2047
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2150 : BitVec 32 := 1#32
  let v2049 : BitVec 32 := Scalar.muli v8 c1_i32_2150
  let v2050 : BitVec 32 := Scalar.addi v2048 v2049
  v2050.toNat
def k0_cond14 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_348 : BitVec 32 := 4#32
  let v431 : BitVec 32 := Scalar.addi v8 c4_i32_348
  let c2_i32_349 : BitVec 32 := 2#32
  let v432 : BitVec 32 := Scalar.subi v431 c2_i32_349
  let c4_i32_350 : BitVec 32 := 4#32
  let c0_i32_351 : BitVec 32 := 0#32
  let v433 : BitVec 1 := Scalar.cmpi .eq c4_i32_350 c0_i32_351
  let c1_i32_352 : BitVec 32 := 1#32
  let v434 : BitVec 32 := Scalar.select v433 c1_i32_352 c4_i32_350
  let v435 : BitVec 32 := Scalar.remsi v432 v434
  let c0_i32_354 : BitVec 32 := 0#32
  let v437 : BitVec 1 := Scalar.cmpi .slt v435 c0_i32_354
  let c0_i32_355 : BitVec 32 := 0#32
  let v438 : BitVec 1 := Scalar.cmpi .slt v434 c0_i32_355
  let v439 : BitVec 1 := Scalar.xori v437 v438
  let c0_i32_353 : BitVec 32 := 0#32
  let v436 : BitVec 1 := Scalar.cmpi .ne v435 c0_i32_353
  let v440 : BitVec 1 := Scalar.andi v439 v436
  let v441 : BitVec 32 := Scalar.addi v435 v434
  let v442 : BitVec 32 := Scalar.select v440 v441 v435
  let c1_i32_364 : BitVec 32 := 1#32
  let v452 : BitVec 1 := Scalar.cmpi .eq v442 c1_i32_364
  let v453 : BitVec 32 := Scalar.extui v452
  let c0_i32_366 : BitVec 32 := 0#32
  let v454 : BitVec 1 := Scalar.cmpi .ne v453 c0_i32_366
  v454

def k0_dev24 (d0 : Dev nD) : Nat :=
  let c0_i32_2148 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_17 : BitVec 32 := 0#32
  let v34 : BitVec 1 := Scalar.cmpi .eq v2 c0_i32_17
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v35 : BitVec 32 := Scalar.subi c7_i32 v5
  let v36 : BitVec 32 := Scalar.select v34 v5 v35
  let c1_i32_18 : BitVec 32 := 1#32
  let v38 : BitVec 32 := Scalar.addi v36 c1_i32_18
  let c8_i32 : BitVec 32 := 8#32
  let c0_i32_19 : BitVec 32 := 0#32
  let v39 : BitVec 1 := Scalar.cmpi .eq c8_i32 c0_i32_19
  let c1_i32_20 : BitVec 32 := 1#32
  let v40 : BitVec 32 := Scalar.select v39 c1_i32_20 c8_i32
  let v41 : BitVec 32 := Scalar.remsi v38 v40
  let c0_i32_22 : BitVec 32 := 0#32
  let v43 : BitVec 1 := Scalar.cmpi .slt v41 c0_i32_22
  let c0_i32_23 : BitVec 32 := 0#32
  let v44 : BitVec 1 := Scalar.cmpi .slt v40 c0_i32_23
  let v45 : BitVec 1 := Scalar.xori v43 v44
  let c0_i32_21 : BitVec 32 := 0#32
  let v42 : BitVec 1 := Scalar.cmpi .ne v41 c0_i32_21
  let v46 : BitVec 1 := Scalar.andi v45 v42
  let v47 : BitVec 32 := Scalar.addi v41 v40
  let v48 : BitVec 32 := Scalar.select v46 v47 v41
  let c4_i32_24 : BitVec 32 := 4#32
  let v49 : BitVec 1 := Scalar.cmpi .sge v48 c4_i32_24
  let v50 : BitVec 32 := Scalar.extui v49
  let c16_i32_2147 : BitVec 32 := 16#32
  let v2045 : BitVec 32 := Scalar.muli v50 c16_i32_2147
  let v2046 : BitVec 32 := Scalar.addi c0_i32_2148 v2045
  let c4_i32_25 : BitVec 32 := 4#32
  let v51 : BitVec 1 := Scalar.cmpi .slt v48 c4_i32_25
  let c7_i32_26 : BitVec 32 := 7#32
  let v52 : BitVec 32 := Scalar.subi c7_i32_26 v48
  let v53 : BitVec 32 := Scalar.select v51 v48 v52
  let c4_i32_2149 : BitVec 32 := 4#32
  let v2047 : BitVec 32 := Scalar.muli v53 c4_i32_2149
  let v2048 : BitVec 32 := Scalar.addi v2046 v2047
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2150 : BitVec 32 := 1#32
  let v2049 : BitVec 32 := Scalar.muli v8 c1_i32_2150
  let v2050 : BitVec 32 := Scalar.addi v2048 v2049
  v2050.toNat
def k0_cond15 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_348 : BitVec 32 := 4#32
  let v431 : BitVec 32 := Scalar.addi v8 c4_i32_348
  let c2_i32_349 : BitVec 32 := 2#32
  let v432 : BitVec 32 := Scalar.subi v431 c2_i32_349
  let c4_i32_350 : BitVec 32 := 4#32
  let c0_i32_351 : BitVec 32 := 0#32
  let v433 : BitVec 1 := Scalar.cmpi .eq c4_i32_350 c0_i32_351
  let c1_i32_352 : BitVec 32 := 1#32
  let v434 : BitVec 32 := Scalar.select v433 c1_i32_352 c4_i32_350
  let v435 : BitVec 32 := Scalar.remsi v432 v434
  let c0_i32_354 : BitVec 32 := 0#32
  let v437 : BitVec 1 := Scalar.cmpi .slt v435 c0_i32_354
  let c0_i32_355 : BitVec 32 := 0#32
  let v438 : BitVec 1 := Scalar.cmpi .slt v434 c0_i32_355
  let v439 : BitVec 1 := Scalar.xori v437 v438
  let c0_i32_353 : BitVec 32 := 0#32
  let v436 : BitVec 1 := Scalar.cmpi .ne v435 c0_i32_353
  let v440 : BitVec 1 := Scalar.andi v439 v436
  let v441 : BitVec 32 := Scalar.addi v435 v434
  let v442 : BitVec 32 := Scalar.select v440 v441 v435
  let c2_i32_367 : BitVec 32 := 2#32
  let v455 : BitVec 1 := Scalar.cmpi .eq v442 c2_i32_367
  let v456 : BitVec 32 := Scalar.extui v455
  let c0_i32_369 : BitVec 32 := 0#32
  let v457 : BitVec 1 := Scalar.cmpi .ne v456 c0_i32_369
  v457

def k0_dev25 (d0 : Dev nD) : Nat :=
  let c0_i32_2148 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_17 : BitVec 32 := 0#32
  let v34 : BitVec 1 := Scalar.cmpi .eq v2 c0_i32_17
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v35 : BitVec 32 := Scalar.subi c7_i32 v5
  let v36 : BitVec 32 := Scalar.select v34 v5 v35
  let c8_i32_27 : BitVec 32 := 8#32
  let v54 : BitVec 32 := Scalar.addi v36 c8_i32_27
  let c1_i32_28 : BitVec 32 := 1#32
  let v55 : BitVec 32 := Scalar.subi v54 c1_i32_28
  let c8_i32_29 : BitVec 32 := 8#32
  let c0_i32_30 : BitVec 32 := 0#32
  let v56 : BitVec 1 := Scalar.cmpi .eq c8_i32_29 c0_i32_30
  let c1_i32_31 : BitVec 32 := 1#32
  let v57 : BitVec 32 := Scalar.select v56 c1_i32_31 c8_i32_29
  let v58 : BitVec 32 := Scalar.remsi v55 v57
  let c0_i32_33 : BitVec 32 := 0#32
  let v60 : BitVec 1 := Scalar.cmpi .slt v58 c0_i32_33
  let c0_i32_34 : BitVec 32 := 0#32
  let v61 : BitVec 1 := Scalar.cmpi .slt v57 c0_i32_34
  let v62 : BitVec 1 := Scalar.xori v60 v61
  let c0_i32_32 : BitVec 32 := 0#32
  let v59 : BitVec 1 := Scalar.cmpi .ne v58 c0_i32_32
  let v63 : BitVec 1 := Scalar.andi v62 v59
  let v64 : BitVec 32 := Scalar.addi v58 v57
  let v65 : BitVec 32 := Scalar.select v63 v64 v58
  let c4_i32_35 : BitVec 32 := 4#32
  let v66 : BitVec 1 := Scalar.cmpi .sge v65 c4_i32_35
  let v67 : BitVec 32 := Scalar.extui v66
  let c16_i32_2147 : BitVec 32 := 16#32
  let v2045 : BitVec 32 := Scalar.muli v67 c16_i32_2147
  let v2046 : BitVec 32 := Scalar.addi c0_i32_2148 v2045
  let c4_i32_36 : BitVec 32 := 4#32
  let v68 : BitVec 1 := Scalar.cmpi .slt v65 c4_i32_36
  let c7_i32_37 : BitVec 32 := 7#32
  let v69 : BitVec 32 := Scalar.subi c7_i32_37 v65
  let v70 : BitVec 32 := Scalar.select v68 v65 v69
  let c4_i32_2149 : BitVec 32 := 4#32
  let v2047 : BitVec 32 := Scalar.muli v70 c4_i32_2149
  let v2048 : BitVec 32 := Scalar.addi v2046 v2047
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2150 : BitVec 32 := 1#32
  let v2049 : BitVec 32 := Scalar.muli v8 c1_i32_2150
  let v2050 : BitVec 32 := Scalar.addi v2048 v2049
  v2050.toNat
def k0_cond16 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_348 : BitVec 32 := 4#32
  let v431 : BitVec 32 := Scalar.addi v8 c4_i32_348
  let c2_i32_349 : BitVec 32 := 2#32
  let v432 : BitVec 32 := Scalar.subi v431 c2_i32_349
  let c4_i32_350 : BitVec 32 := 4#32
  let c0_i32_351 : BitVec 32 := 0#32
  let v433 : BitVec 1 := Scalar.cmpi .eq c4_i32_350 c0_i32_351
  let c1_i32_352 : BitVec 32 := 1#32
  let v434 : BitVec 32 := Scalar.select v433 c1_i32_352 c4_i32_350
  let v435 : BitVec 32 := Scalar.remsi v432 v434
  let c0_i32_354 : BitVec 32 := 0#32
  let v437 : BitVec 1 := Scalar.cmpi .slt v435 c0_i32_354
  let c0_i32_355 : BitVec 32 := 0#32
  let v438 : BitVec 1 := Scalar.cmpi .slt v434 c0_i32_355
  let v439 : BitVec 1 := Scalar.xori v437 v438
  let c0_i32_353 : BitVec 32 := 0#32
  let v436 : BitVec 1 := Scalar.cmpi .ne v435 c0_i32_353
  let v440 : BitVec 1 := Scalar.andi v439 v436
  let v441 : BitVec 32 := Scalar.addi v435 v434
  let v442 : BitVec 32 := Scalar.select v440 v441 v435
  let c3_i32_370 : BitVec 32 := 3#32
  let v458 : BitVec 1 := Scalar.cmpi .eq v442 c3_i32_370
  let v459 : BitVec 32 := Scalar.extui v458
  let c0_i32_372 : BitVec 32 := 0#32
  let v460 : BitVec 1 := Scalar.cmpi .ne v459 c0_i32_372
  v460

def k0_dev26 (d0 : Dev nD) : Nat :=
  let c0_i32_2148 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_17 : BitVec 32 := 0#32
  let v34 : BitVec 1 := Scalar.cmpi .eq v2 c0_i32_17
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v35 : BitVec 32 := Scalar.subi c7_i32 v5
  let v36 : BitVec 32 := Scalar.select v34 v5 v35
  let c8_i32_27 : BitVec 32 := 8#32
  let v54 : BitVec 32 := Scalar.addi v36 c8_i32_27
  let c1_i32_28 : BitVec 32 := 1#32
  let v55 : BitVec 32 := Scalar.subi v54 c1_i32_28
  let c8_i32_29 : BitVec 32 := 8#32
  let c0_i32_30 : BitVec 32 := 0#32
  let v56 : BitVec 1 := Scalar.cmpi .eq c8_i32_29 c0_i32_30
  let c1_i32_31 : BitVec 32 := 1#32
  let v57 : BitVec 32 := Scalar.select v56 c1_i32_31 c8_i32_29
  let v58 : BitVec 32 := Scalar.remsi v55 v57
  let c0_i32_33 : BitVec 32 := 0#32
  let v60 : BitVec 1 := Scalar.cmpi .slt v58 c0_i32_33
  let c0_i32_34 : BitVec 32 := 0#32
  let v61 : BitVec 1 := Scalar.cmpi .slt v57 c0_i32_34
  let v62 : BitVec 1 := Scalar.xori v60 v61
  let c0_i32_32 : BitVec 32 := 0#32
  let v59 : BitVec 1 := Scalar.cmpi .ne v58 c0_i32_32
  let v63 : BitVec 1 := Scalar.andi v62 v59
  let v64 : BitVec 32 := Scalar.addi v58 v57
  let v65 : BitVec 32 := Scalar.select v63 v64 v58
  let c4_i32_35 : BitVec 32 := 4#32
  let v66 : BitVec 1 := Scalar.cmpi .sge v65 c4_i32_35
  let v67 : BitVec 32 := Scalar.extui v66
  let c16_i32_2147 : BitVec 32 := 16#32
  let v2045 : BitVec 32 := Scalar.muli v67 c16_i32_2147
  let v2046 : BitVec 32 := Scalar.addi c0_i32_2148 v2045
  let c4_i32_36 : BitVec 32 := 4#32
  let v68 : BitVec 1 := Scalar.cmpi .slt v65 c4_i32_36
  let c7_i32_37 : BitVec 32 := 7#32
  let v69 : BitVec 32 := Scalar.subi c7_i32_37 v65
  let v70 : BitVec 32 := Scalar.select v68 v65 v69
  let c4_i32_2149 : BitVec 32 := 4#32
  let v2047 : BitVec 32 := Scalar.muli v70 c4_i32_2149
  let v2048 : BitVec 32 := Scalar.addi v2046 v2047
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2150 : BitVec 32 := 1#32
  let v2049 : BitVec 32 := Scalar.muli v8 c1_i32_2150
  let v2050 : BitVec 32 := Scalar.addi v2048 v2049
  v2050.toNat
def k0_dev27 (d0 : Dev nD) : Nat :=
  let c0_i32_397 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_17 : BitVec 32 := 0#32
  let v34 : BitVec 1 := Scalar.cmpi .eq v2 c0_i32_17
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v35 : BitVec 32 := Scalar.subi c7_i32 v5
  let v36 : BitVec 32 := Scalar.select v34 v5 v35
  let c1_i32_18 : BitVec 32 := 1#32
  let v38 : BitVec 32 := Scalar.addi v36 c1_i32_18
  let c8_i32 : BitVec 32 := 8#32
  let c0_i32_19 : BitVec 32 := 0#32
  let v39 : BitVec 1 := Scalar.cmpi .eq c8_i32 c0_i32_19
  let c1_i32_20 : BitVec 32 := 1#32
  let v40 : BitVec 32 := Scalar.select v39 c1_i32_20 c8_i32
  let v41 : BitVec 32 := Scalar.remsi v38 v40
  let c0_i32_22 : BitVec 32 := 0#32
  let v43 : BitVec 1 := Scalar.cmpi .slt v41 c0_i32_22
  let c0_i32_23 : BitVec 32 := 0#32
  let v44 : BitVec 1 := Scalar.cmpi .slt v40 c0_i32_23
  let v45 : BitVec 1 := Scalar.xori v43 v44
  let c0_i32_21 : BitVec 32 := 0#32
  let v42 : BitVec 1 := Scalar.cmpi .ne v41 c0_i32_21
  let v46 : BitVec 1 := Scalar.andi v45 v42
  let v47 : BitVec 32 := Scalar.addi v41 v40
  let v48 : BitVec 32 := Scalar.select v46 v47 v41
  let c4_i32_24 : BitVec 32 := 4#32
  let v49 : BitVec 1 := Scalar.cmpi .sge v48 c4_i32_24
  let v50 : BitVec 32 := Scalar.extui v49
  let c16_i32_396 : BitVec 32 := 16#32
  let v473 : BitVec 32 := Scalar.muli v50 c16_i32_396
  let v474 : BitVec 32 := Scalar.addi c0_i32_397 v473
  let c4_i32_25 : BitVec 32 := 4#32
  let v51 : BitVec 1 := Scalar.cmpi .slt v48 c4_i32_25
  let c7_i32_26 : BitVec 32 := 7#32
  let v52 : BitVec 32 := Scalar.subi c7_i32_26 v48
  let v53 : BitVec 32 := Scalar.select v51 v48 v52
  let c4_i32_398 : BitVec 32 := 4#32
  let v475 : BitVec 32 := Scalar.muli v53 c4_i32_398
  let v476 : BitVec 32 := Scalar.addi v474 v475
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_399 : BitVec 32 := 1#32
  let v477 : BitVec 32 := Scalar.muli v8 c1_i32_399
  let v478 : BitVec 32 := Scalar.addi v476 v477
  v478.toNat
def k0_dev28 (d0 : Dev nD) : Nat :=
  let c0_i32_428 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_17 : BitVec 32 := 0#32
  let v34 : BitVec 1 := Scalar.cmpi .eq v2 c0_i32_17
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v35 : BitVec 32 := Scalar.subi c7_i32 v5
  let v36 : BitVec 32 := Scalar.select v34 v5 v35
  let c1_i32_18 : BitVec 32 := 1#32
  let v38 : BitVec 32 := Scalar.addi v36 c1_i32_18
  let c8_i32 : BitVec 32 := 8#32
  let c0_i32_19 : BitVec 32 := 0#32
  let v39 : BitVec 1 := Scalar.cmpi .eq c8_i32 c0_i32_19
  let c1_i32_20 : BitVec 32 := 1#32
  let v40 : BitVec 32 := Scalar.select v39 c1_i32_20 c8_i32
  let v41 : BitVec 32 := Scalar.remsi v38 v40
  let c0_i32_22 : BitVec 32 := 0#32
  let v43 : BitVec 1 := Scalar.cmpi .slt v41 c0_i32_22
  let c0_i32_23 : BitVec 32 := 0#32
  let v44 : BitVec 1 := Scalar.cmpi .slt v40 c0_i32_23
  let v45 : BitVec 1 := Scalar.xori v43 v44
  let c0_i32_21 : BitVec 32 := 0#32
  let v42 : BitVec 1 := Scalar.cmpi .ne v41 c0_i32_21
  let v46 : BitVec 1 := Scalar.andi v45 v42
  let v47 : BitVec 32 := Scalar.addi v41 v40
  let v48 : BitVec 32 := Scalar.select v46 v47 v41
  let c4_i32_24 : BitVec 32 := 4#32
  let v49 : BitVec 1 := Scalar.cmpi .sge v48 c4_i32_24
  let v50 : BitVec 32 := Scalar.extui v49
  let c16_i32_427 : BitVec 32 := 16#32
  let v499 : BitVec 32 := Scalar.muli v50 c16_i32_427
  let v500 : BitVec 32 := Scalar.addi c0_i32_428 v499
  let c4_i32_25 : BitVec 32 := 4#32
  let v51 : BitVec 1 := Scalar.cmpi .slt v48 c4_i32_25
  let c7_i32_26 : BitVec 32 := 7#32
  let v52 : BitVec 32 := Scalar.subi c7_i32_26 v48
  let v53 : BitVec 32 := Scalar.select v51 v48 v52
  let c4_i32_429 : BitVec 32 := 4#32
  let v501 : BitVec 32 := Scalar.muli v53 c4_i32_429
  let v502 : BitVec 32 := Scalar.addi v500 v501
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_430 : BitVec 32 := 1#32
  let v503 : BitVec 32 := Scalar.muli v8 c1_i32_430
  let v504 : BitVec 32 := Scalar.addi v502 v503
  v504.toNat
def k0_dev29 (d0 : Dev nD) : Nat :=
  let c0_i32_459 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_17 : BitVec 32 := 0#32
  let v34 : BitVec 1 := Scalar.cmpi .eq v2 c0_i32_17
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v35 : BitVec 32 := Scalar.subi c7_i32 v5
  let v36 : BitVec 32 := Scalar.select v34 v5 v35
  let c8_i32_27 : BitVec 32 := 8#32
  let v54 : BitVec 32 := Scalar.addi v36 c8_i32_27
  let c1_i32_28 : BitVec 32 := 1#32
  let v55 : BitVec 32 := Scalar.subi v54 c1_i32_28
  let c8_i32_29 : BitVec 32 := 8#32
  let c0_i32_30 : BitVec 32 := 0#32
  let v56 : BitVec 1 := Scalar.cmpi .eq c8_i32_29 c0_i32_30
  let c1_i32_31 : BitVec 32 := 1#32
  let v57 : BitVec 32 := Scalar.select v56 c1_i32_31 c8_i32_29
  let v58 : BitVec 32 := Scalar.remsi v55 v57
  let c0_i32_33 : BitVec 32 := 0#32
  let v60 : BitVec 1 := Scalar.cmpi .slt v58 c0_i32_33
  let c0_i32_34 : BitVec 32 := 0#32
  let v61 : BitVec 1 := Scalar.cmpi .slt v57 c0_i32_34
  let v62 : BitVec 1 := Scalar.xori v60 v61
  let c0_i32_32 : BitVec 32 := 0#32
  let v59 : BitVec 1 := Scalar.cmpi .ne v58 c0_i32_32
  let v63 : BitVec 1 := Scalar.andi v62 v59
  let v64 : BitVec 32 := Scalar.addi v58 v57
  let v65 : BitVec 32 := Scalar.select v63 v64 v58
  let c4_i32_35 : BitVec 32 := 4#32
  let v66 : BitVec 1 := Scalar.cmpi .sge v65 c4_i32_35
  let v67 : BitVec 32 := Scalar.extui v66
  let c16_i32_458 : BitVec 32 := 16#32
  let v525 : BitVec 32 := Scalar.muli v67 c16_i32_458
  let v526 : BitVec 32 := Scalar.addi c0_i32_459 v525
  let c4_i32_36 : BitVec 32 := 4#32
  let v68 : BitVec 1 := Scalar.cmpi .slt v65 c4_i32_36
  let c7_i32_37 : BitVec 32 := 7#32
  let v69 : BitVec 32 := Scalar.subi c7_i32_37 v65
  let v70 : BitVec 32 := Scalar.select v68 v65 v69
  let c4_i32_460 : BitVec 32 := 4#32
  let v527 : BitVec 32 := Scalar.muli v70 c4_i32_460
  let v528 : BitVec 32 := Scalar.addi v526 v527
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_461 : BitVec 32 := 1#32
  let v529 : BitVec 32 := Scalar.muli v8 c1_i32_461
  let v530 : BitVec 32 := Scalar.addi v528 v529
  v530.toNat
def k0_dev30 (d0 : Dev nD) : Nat :=
  let c0_i32_490 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_17 : BitVec 32 := 0#32
  let v34 : BitVec 1 := Scalar.cmpi .eq v2 c0_i32_17
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v35 : BitVec 32 := Scalar.subi c7_i32 v5
  let v36 : BitVec 32 := Scalar.select v34 v5 v35
  let c8_i32_27 : BitVec 32 := 8#32
  let v54 : BitVec 32 := Scalar.addi v36 c8_i32_27
  let c1_i32_28 : BitVec 32 := 1#32
  let v55 : BitVec 32 := Scalar.subi v54 c1_i32_28
  let c8_i32_29 : BitVec 32 := 8#32
  let c0_i32_30 : BitVec 32 := 0#32
  let v56 : BitVec 1 := Scalar.cmpi .eq c8_i32_29 c0_i32_30
  let c1_i32_31 : BitVec 32 := 1#32
  let v57 : BitVec 32 := Scalar.select v56 c1_i32_31 c8_i32_29
  let v58 : BitVec 32 := Scalar.remsi v55 v57
  let c0_i32_33 : BitVec 32 := 0#32
  let v60 : BitVec 1 := Scalar.cmpi .slt v58 c0_i32_33
  let c0_i32_34 : BitVec 32 := 0#32
  let v61 : BitVec 1 := Scalar.cmpi .slt v57 c0_i32_34
  let v62 : BitVec 1 := Scalar.xori v60 v61
  let c0_i32_32 : BitVec 32 := 0#32
  let v59 : BitVec 1 := Scalar.cmpi .ne v58 c0_i32_32
  let v63 : BitVec 1 := Scalar.andi v62 v59
  let v64 : BitVec 32 := Scalar.addi v58 v57
  let v65 : BitVec 32 := Scalar.select v63 v64 v58
  let c4_i32_35 : BitVec 32 := 4#32
  let v66 : BitVec 1 := Scalar.cmpi .sge v65 c4_i32_35
  let v67 : BitVec 32 := Scalar.extui v66
  let c16_i32_489 : BitVec 32 := 16#32
  let v551 : BitVec 32 := Scalar.muli v67 c16_i32_489
  let v552 : BitVec 32 := Scalar.addi c0_i32_490 v551
  let c4_i32_36 : BitVec 32 := 4#32
  let v68 : BitVec 1 := Scalar.cmpi .slt v65 c4_i32_36
  let c7_i32_37 : BitVec 32 := 7#32
  let v69 : BitVec 32 := Scalar.subi c7_i32_37 v65
  let v70 : BitVec 32 := Scalar.select v68 v65 v69
  let c4_i32_491 : BitVec 32 := 4#32
  let v553 : BitVec 32 := Scalar.muli v70 c4_i32_491
  let v554 : BitVec 32 := Scalar.addi v552 v553
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_492 : BitVec 32 := 1#32
  let v555 : BitVec 32 := Scalar.muli v8 c1_i32_492
  let v556 : BitVec 32 := Scalar.addi v554 v555
  v556.toNat
def k0_off6 (d0 : Dev nD) (c0_i32_499 : BitVec 32) (c0_i32_515 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_17 : BitVec 32 := 0#32
  let v34 : BitVec 1 := Scalar.cmpi .eq v2 c0_i32_17
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v35 : BitVec 32 := Scalar.subi c7_i32 v5
  let v36 : BitVec 32 := Scalar.select v34 v5 v35
  let c8_i32_497 : BitVec 32 := 8#32
  let v565 : BitVec 32 := Scalar.addi v36 c8_i32_497
  let c1_i32_498 : BitVec 32 := 1#32
  let v566 : BitVec 32 := Scalar.subi v565 c1_i32_498
  let v567 : BitVec 32 := Scalar.subi v566 c0_i32_499
  let c8_i32_500 : BitVec 32 := 8#32
  let c0_i32_501 : BitVec 32 := 0#32
  let v568 : BitVec 1 := Scalar.cmpi .eq c8_i32_500 c0_i32_501
  let c1_i32_502 : BitVec 32 := 1#32
  let v569 : BitVec 32 := Scalar.select v568 c1_i32_502 c8_i32_500
  let v570 : BitVec 32 := Scalar.remsi v567 v569
  let c0_i32_504 : BitVec 32 := 0#32
  let v572 : BitVec 1 := Scalar.cmpi .slt v570 c0_i32_504
  let c0_i32_505 : BitVec 32 := 0#32
  let v573 : BitVec 1 := Scalar.cmpi .slt v569 c0_i32_505
  let v574 : BitVec 1 := Scalar.xori v572 v573
  let c0_i32_503 : BitVec 32 := 0#32
  let v571 : BitVec 1 := Scalar.cmpi .ne v570 c0_i32_503
  let v575 : BitVec 1 := Scalar.andi v574 v571
  let v576 : BitVec 32 := Scalar.addi v570 v569
  let v577 : BitVec 32 := Scalar.select v575 v576 v570
  let c4_i32_506 : BitVec 32 := 4#32
  let v578 : BitVec 1 := Scalar.cmpi .sge v577 c4_i32_506
  let v579 : BitVec 32 := Scalar.extui v578
  let c4_i32_513 : BitVec 32 := 4#32
  let v585 : BitVec 32 := Scalar.muli v579 c4_i32_513
  let c4_i32_507 : BitVec 32 := 4#32
  let v580 : BitVec 1 := Scalar.cmpi .slt v577 c4_i32_507
  let c7_i32_508 : BitVec 32 := 7#32
  let v581 : BitVec 32 := Scalar.subi c7_i32_508 v577
  let v582 : BitVec 32 := Scalar.select v580 v577 v581
  let v586 : BitVec 32 := Scalar.addi v585 v582
  let c1024_i32_514 : BitVec 32 := 1024#32
  let v587 : BitVec 32 := Scalar.muli v586 c1024_i32_514
  let v588 : BitVec 32 := Scalar.addi v587 c0_i32_515
  let v589 : Index := Scalar.indexCast v588
  let c0_516 : Index := 0#32
  ![v589.toNat, 0]
def k0_off7 (d0 : Dev nD) (c0_i32_538 : BitVec 32) (c512_i32 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_17 : BitVec 32 := 0#32
  let v34 : BitVec 1 := Scalar.cmpi .eq v2 c0_i32_17
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v35 : BitVec 32 := Scalar.subi c7_i32 v5
  let v36 : BitVec 32 := Scalar.select v34 v5 v35
  let c1_i32_537 : BitVec 32 := 1#32
  let v617 : BitVec 32 := Scalar.addi v36 c1_i32_537
  let v618 : BitVec 32 := Scalar.addi v617 c0_i32_538
  let c8_i32_539 : BitVec 32 := 8#32
  let c0_i32_540 : BitVec 32 := 0#32
  let v619 : BitVec 1 := Scalar.cmpi .eq c8_i32_539 c0_i32_540
  let c1_i32_541 : BitVec 32 := 1#32
  let v620 : BitVec 32 := Scalar.select v619 c1_i32_541 c8_i32_539
  let v621 : BitVec 32 := Scalar.remsi v618 v620
  let c0_i32_543 : BitVec 32 := 0#32
  let v623 : BitVec 1 := Scalar.cmpi .slt v621 c0_i32_543
  let c0_i32_544 : BitVec 32 := 0#32
  let v624 : BitVec 1 := Scalar.cmpi .slt v620 c0_i32_544
  let v625 : BitVec 1 := Scalar.xori v623 v624
  let c0_i32_542 : BitVec 32 := 0#32
  let v622 : BitVec 1 := Scalar.cmpi .ne v621 c0_i32_542
  let v626 : BitVec 1 := Scalar.andi v625 v622
  let v627 : BitVec 32 := Scalar.addi v621 v620
  let v628 : BitVec 32 := Scalar.select v626 v627 v621
  let c4_i32_545 : BitVec 32 := 4#32
  let v629 : BitVec 1 := Scalar.cmpi .sge v628 c4_i32_545
  let v630 : BitVec 32 := Scalar.extui v629
  let c4_i32_552 : BitVec 32 := 4#32
  let v636 : BitVec 32 := Scalar.muli v630 c4_i32_552
  let c4_i32_546 : BitVec 32 := 4#32
  let v631 : BitVec 1 := Scalar.cmpi .slt v628 c4_i32_546
  let c7_i32_547 : BitVec 32 := 7#32
  let v632 : BitVec 32 := Scalar.subi c7_i32_547 v628
  let v633 : BitVec 32 := Scalar.select v631 v628 v632
  let v637 : BitVec 32 := Scalar.addi v636 v633
  let c1024_i32_553 : BitVec 32 := 1024#32
  let v638 : BitVec 32 := Scalar.muli v637 c1024_i32_553
  let v639 : BitVec 32 := Scalar.addi v638 c512_i32
  let v640 : Index := Scalar.indexCast v639
  let c0_554 : Index := 0#32
  ![v640.toNat, 0]
def k0_dev31 (d0 : Dev nD) : Nat :=
  let c0_i32_597 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_17 : BitVec 32 := 0#32
  let v34 : BitVec 1 := Scalar.cmpi .eq v2 c0_i32_17
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v35 : BitVec 32 := Scalar.subi c7_i32 v5
  let v36 : BitVec 32 := Scalar.select v34 v5 v35
  let c1_i32_18 : BitVec 32 := 1#32
  let v38 : BitVec 32 := Scalar.addi v36 c1_i32_18
  let c8_i32 : BitVec 32 := 8#32
  let c0_i32_19 : BitVec 32 := 0#32
  let v39 : BitVec 1 := Scalar.cmpi .eq c8_i32 c0_i32_19
  let c1_i32_20 : BitVec 32 := 1#32
  let v40 : BitVec 32 := Scalar.select v39 c1_i32_20 c8_i32
  let v41 : BitVec 32 := Scalar.remsi v38 v40
  let c0_i32_22 : BitVec 32 := 0#32
  let v43 : BitVec 1 := Scalar.cmpi .slt v41 c0_i32_22
  let c0_i32_23 : BitVec 32 := 0#32
  let v44 : BitVec 1 := Scalar.cmpi .slt v40 c0_i32_23
  let v45 : BitVec 1 := Scalar.xori v43 v44
  let c0_i32_21 : BitVec 32 := 0#32
  let v42 : BitVec 1 := Scalar.cmpi .ne v41 c0_i32_21
  let v46 : BitVec 1 := Scalar.andi v45 v42
  let v47 : BitVec 32 := Scalar.addi v41 v40
  let v48 : BitVec 32 := Scalar.select v46 v47 v41
  let c4_i32_24 : BitVec 32 := 4#32
  let v49 : BitVec 1 := Scalar.cmpi .sge v48 c4_i32_24
  let v50 : BitVec 32 := Scalar.extui v49
  let c16_i32_596 : BitVec 32 := 16#32
  let v679 : BitVec 32 := Scalar.muli v50 c16_i32_596
  let v680 : BitVec 32 := Scalar.addi c0_i32_597 v679
  let c4_i32_25 : BitVec 32 := 4#32
  let v51 : BitVec 1 := Scalar.cmpi .slt v48 c4_i32_25
  let c7_i32_26 : BitVec 32 := 7#32
  let v52 : BitVec 32 := Scalar.subi c7_i32_26 v48
  let v53 : BitVec 32 := Scalar.select v51 v48 v52
  let c4_i32_598 : BitVec 32 := 4#32
  let v681 : BitVec 32 := Scalar.muli v53 c4_i32_598
  let v682 : BitVec 32 := Scalar.addi v680 v681
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_599 : BitVec 32 := 1#32
  let v683 : BitVec 32 := Scalar.muli v8 c1_i32_599
  let v684 : BitVec 32 := Scalar.addi v682 v683
  v684.toNat
def k0_dev32 (d0 : Dev nD) : Nat :=
  let c0_i32_629 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_17 : BitVec 32 := 0#32
  let v34 : BitVec 1 := Scalar.cmpi .eq v2 c0_i32_17
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v35 : BitVec 32 := Scalar.subi c7_i32 v5
  let v36 : BitVec 32 := Scalar.select v34 v5 v35
  let c1_i32_18 : BitVec 32 := 1#32
  let v38 : BitVec 32 := Scalar.addi v36 c1_i32_18
  let c8_i32 : BitVec 32 := 8#32
  let c0_i32_19 : BitVec 32 := 0#32
  let v39 : BitVec 1 := Scalar.cmpi .eq c8_i32 c0_i32_19
  let c1_i32_20 : BitVec 32 := 1#32
  let v40 : BitVec 32 := Scalar.select v39 c1_i32_20 c8_i32
  let v41 : BitVec 32 := Scalar.remsi v38 v40
  let c0_i32_22 : BitVec 32 := 0#32
  let v43 : BitVec 1 := Scalar.cmpi .slt v41 c0_i32_22
  let c0_i32_23 : BitVec 32 := 0#32
  let v44 : BitVec 1 := Scalar.cmpi .slt v40 c0_i32_23
  let v45 : BitVec 1 := Scalar.xori v43 v44
  let c0_i32_21 : BitVec 32 := 0#32
  let v42 : BitVec 1 := Scalar.cmpi .ne v41 c0_i32_21
  let v46 : BitVec 1 := Scalar.andi v45 v42
  let v47 : BitVec 32 := Scalar.addi v41 v40
  let v48 : BitVec 32 := Scalar.select v46 v47 v41
  let c4_i32_24 : BitVec 32 := 4#32
  let v49 : BitVec 1 := Scalar.cmpi .sge v48 c4_i32_24
  let v50 : BitVec 32 := Scalar.extui v49
  let c16_i32_628 : BitVec 32 := 16#32
  let v705 : BitVec 32 := Scalar.muli v50 c16_i32_628
  let v706 : BitVec 32 := Scalar.addi c0_i32_629 v705
  let c4_i32_25 : BitVec 32 := 4#32
  let v51 : BitVec 1 := Scalar.cmpi .slt v48 c4_i32_25
  let c7_i32_26 : BitVec 32 := 7#32
  let v52 : BitVec 32 := Scalar.subi c7_i32_26 v48
  let v53 : BitVec 32 := Scalar.select v51 v48 v52
  let c4_i32_630 : BitVec 32 := 4#32
  let v707 : BitVec 32 := Scalar.muli v53 c4_i32_630
  let v708 : BitVec 32 := Scalar.addi v706 v707
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_631 : BitVec 32 := 1#32
  let v709 : BitVec 32 := Scalar.muli v8 c1_i32_631
  let v710 : BitVec 32 := Scalar.addi v708 v709
  v710.toNat
def k0_dev33 (d0 : Dev nD) : Nat :=
  let c0_i32_661 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_17 : BitVec 32 := 0#32
  let v34 : BitVec 1 := Scalar.cmpi .eq v2 c0_i32_17
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v35 : BitVec 32 := Scalar.subi c7_i32 v5
  let v36 : BitVec 32 := Scalar.select v34 v5 v35
  let c8_i32_27 : BitVec 32 := 8#32
  let v54 : BitVec 32 := Scalar.addi v36 c8_i32_27
  let c1_i32_28 : BitVec 32 := 1#32
  let v55 : BitVec 32 := Scalar.subi v54 c1_i32_28
  let c8_i32_29 : BitVec 32 := 8#32
  let c0_i32_30 : BitVec 32 := 0#32
  let v56 : BitVec 1 := Scalar.cmpi .eq c8_i32_29 c0_i32_30
  let c1_i32_31 : BitVec 32 := 1#32
  let v57 : BitVec 32 := Scalar.select v56 c1_i32_31 c8_i32_29
  let v58 : BitVec 32 := Scalar.remsi v55 v57
  let c0_i32_33 : BitVec 32 := 0#32
  let v60 : BitVec 1 := Scalar.cmpi .slt v58 c0_i32_33
  let c0_i32_34 : BitVec 32 := 0#32
  let v61 : BitVec 1 := Scalar.cmpi .slt v57 c0_i32_34
  let v62 : BitVec 1 := Scalar.xori v60 v61
  let c0_i32_32 : BitVec 32 := 0#32
  let v59 : BitVec 1 := Scalar.cmpi .ne v58 c0_i32_32
  let v63 : BitVec 1 := Scalar.andi v62 v59
  let v64 : BitVec 32 := Scalar.addi v58 v57
  let v65 : BitVec 32 := Scalar.select v63 v64 v58
  let c4_i32_35 : BitVec 32 := 4#32
  let v66 : BitVec 1 := Scalar.cmpi .sge v65 c4_i32_35
  let v67 : BitVec 32 := Scalar.extui v66
  let c16_i32_660 : BitVec 32 := 16#32
  let v731 : BitVec 32 := Scalar.muli v67 c16_i32_660
  let v732 : BitVec 32 := Scalar.addi c0_i32_661 v731
  let c4_i32_36 : BitVec 32 := 4#32
  let v68 : BitVec 1 := Scalar.cmpi .slt v65 c4_i32_36
  let c7_i32_37 : BitVec 32 := 7#32
  let v69 : BitVec 32 := Scalar.subi c7_i32_37 v65
  let v70 : BitVec 32 := Scalar.select v68 v65 v69
  let c4_i32_662 : BitVec 32 := 4#32
  let v733 : BitVec 32 := Scalar.muli v70 c4_i32_662
  let v734 : BitVec 32 := Scalar.addi v732 v733
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_663 : BitVec 32 := 1#32
  let v735 : BitVec 32 := Scalar.muli v8 c1_i32_663
  let v736 : BitVec 32 := Scalar.addi v734 v735
  v736.toNat
def k0_dev34 (d0 : Dev nD) : Nat :=
  let c0_i32_693 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_17 : BitVec 32 := 0#32
  let v34 : BitVec 1 := Scalar.cmpi .eq v2 c0_i32_17
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v35 : BitVec 32 := Scalar.subi c7_i32 v5
  let v36 : BitVec 32 := Scalar.select v34 v5 v35
  let c8_i32_27 : BitVec 32 := 8#32
  let v54 : BitVec 32 := Scalar.addi v36 c8_i32_27
  let c1_i32_28 : BitVec 32 := 1#32
  let v55 : BitVec 32 := Scalar.subi v54 c1_i32_28
  let c8_i32_29 : BitVec 32 := 8#32
  let c0_i32_30 : BitVec 32 := 0#32
  let v56 : BitVec 1 := Scalar.cmpi .eq c8_i32_29 c0_i32_30
  let c1_i32_31 : BitVec 32 := 1#32
  let v57 : BitVec 32 := Scalar.select v56 c1_i32_31 c8_i32_29
  let v58 : BitVec 32 := Scalar.remsi v55 v57
  let c0_i32_33 : BitVec 32 := 0#32
  let v60 : BitVec 1 := Scalar.cmpi .slt v58 c0_i32_33
  let c0_i32_34 : BitVec 32 := 0#32
  let v61 : BitVec 1 := Scalar.cmpi .slt v57 c0_i32_34
  let v62 : BitVec 1 := Scalar.xori v60 v61
  let c0_i32_32 : BitVec 32 := 0#32
  let v59 : BitVec 1 := Scalar.cmpi .ne v58 c0_i32_32
  let v63 : BitVec 1 := Scalar.andi v62 v59
  let v64 : BitVec 32 := Scalar.addi v58 v57
  let v65 : BitVec 32 := Scalar.select v63 v64 v58
  let c4_i32_35 : BitVec 32 := 4#32
  let v66 : BitVec 1 := Scalar.cmpi .sge v65 c4_i32_35
  let v67 : BitVec 32 := Scalar.extui v66
  let c16_i32_692 : BitVec 32 := 16#32
  let v757 : BitVec 32 := Scalar.muli v67 c16_i32_692
  let v758 : BitVec 32 := Scalar.addi c0_i32_693 v757
  let c4_i32_36 : BitVec 32 := 4#32
  let v68 : BitVec 1 := Scalar.cmpi .slt v65 c4_i32_36
  let c7_i32_37 : BitVec 32 := 7#32
  let v69 : BitVec 32 := Scalar.subi c7_i32_37 v65
  let v70 : BitVec 32 := Scalar.select v68 v65 v69
  let c4_i32_694 : BitVec 32 := 4#32
  let v759 : BitVec 32 := Scalar.muli v70 c4_i32_694
  let v760 : BitVec 32 := Scalar.addi v758 v759
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_695 : BitVec 32 := 1#32
  let v761 : BitVec 32 := Scalar.muli v8 c1_i32_695
  let v762 : BitVec 32 := Scalar.addi v760 v761
  v762.toNat
def k0_dev35 (d0 : Dev nD) : Nat :=
  let c0_i32_803 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_17 : BitVec 32 := 0#32
  let v34 : BitVec 1 := Scalar.cmpi .eq v2 c0_i32_17
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v35 : BitVec 32 := Scalar.subi c7_i32 v5
  let v36 : BitVec 32 := Scalar.select v34 v5 v35
  let c1_i32_18 : BitVec 32 := 1#32
  let v38 : BitVec 32 := Scalar.addi v36 c1_i32_18
  let c8_i32 : BitVec 32 := 8#32
  let c0_i32_19 : BitVec 32 := 0#32
  let v39 : BitVec 1 := Scalar.cmpi .eq c8_i32 c0_i32_19
  let c1_i32_20 : BitVec 32 := 1#32
  let v40 : BitVec 32 := Scalar.select v39 c1_i32_20 c8_i32
  let v41 : BitVec 32 := Scalar.remsi v38 v40
  let c0_i32_22 : BitVec 32 := 0#32
  let v43 : BitVec 1 := Scalar.cmpi .slt v41 c0_i32_22
  let c0_i32_23 : BitVec 32 := 0#32
  let v44 : BitVec 1 := Scalar.cmpi .slt v40 c0_i32_23
  let v45 : BitVec 1 := Scalar.xori v43 v44
  let c0_i32_21 : BitVec 32 := 0#32
  let v42 : BitVec 1 := Scalar.cmpi .ne v41 c0_i32_21
  let v46 : BitVec 1 := Scalar.andi v45 v42
  let v47 : BitVec 32 := Scalar.addi v41 v40
  let v48 : BitVec 32 := Scalar.select v46 v47 v41
  let c4_i32_24 : BitVec 32 := 4#32
  let v49 : BitVec 1 := Scalar.cmpi .sge v48 c4_i32_24
  let v50 : BitVec 32 := Scalar.extui v49
  let c16_i32_802 : BitVec 32 := 16#32
  let v885 : BitVec 32 := Scalar.muli v50 c16_i32_802
  let v886 : BitVec 32 := Scalar.addi c0_i32_803 v885
  let c4_i32_25 : BitVec 32 := 4#32
  let v51 : BitVec 1 := Scalar.cmpi .slt v48 c4_i32_25
  let c7_i32_26 : BitVec 32 := 7#32
  let v52 : BitVec 32 := Scalar.subi c7_i32_26 v48
  let v53 : BitVec 32 := Scalar.select v51 v48 v52
  let c4_i32_804 : BitVec 32 := 4#32
  let v887 : BitVec 32 := Scalar.muli v53 c4_i32_804
  let v888 : BitVec 32 := Scalar.addi v886 v887
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_805 : BitVec 32 := 1#32
  let v889 : BitVec 32 := Scalar.muli v8 c1_i32_805
  let v890 : BitVec 32 := Scalar.addi v888 v889
  v890.toNat
def k0_dev36 (d0 : Dev nD) : Nat :=
  let c0_i32_835 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_17 : BitVec 32 := 0#32
  let v34 : BitVec 1 := Scalar.cmpi .eq v2 c0_i32_17
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v35 : BitVec 32 := Scalar.subi c7_i32 v5
  let v36 : BitVec 32 := Scalar.select v34 v5 v35
  let c1_i32_18 : BitVec 32 := 1#32
  let v38 : BitVec 32 := Scalar.addi v36 c1_i32_18
  let c8_i32 : BitVec 32 := 8#32
  let c0_i32_19 : BitVec 32 := 0#32
  let v39 : BitVec 1 := Scalar.cmpi .eq c8_i32 c0_i32_19
  let c1_i32_20 : BitVec 32 := 1#32
  let v40 : BitVec 32 := Scalar.select v39 c1_i32_20 c8_i32
  let v41 : BitVec 32 := Scalar.remsi v38 v40
  let c0_i32_22 : BitVec 32 := 0#32
  let v43 : BitVec 1 := Scalar.cmpi .slt v41 c0_i32_22
  let c0_i32_23 : BitVec 32 := 0#32
  let v44 : BitVec 1 := Scalar.cmpi .slt v40 c0_i32_23
  let v45 : BitVec 1 := Scalar.xori v43 v44
  let c0_i32_21 : BitVec 32 := 0#32
  let v42 : BitVec 1 := Scalar.cmpi .ne v41 c0_i32_21
  let v46 : BitVec 1 := Scalar.andi v45 v42
  let v47 : BitVec 32 := Scalar.addi v41 v40
  let v48 : BitVec 32 := Scalar.select v46 v47 v41
  let c4_i32_24 : BitVec 32 := 4#32
  let v49 : BitVec 1 := Scalar.cmpi .sge v48 c4_i32_24
  let v50 : BitVec 32 := Scalar.extui v49
  let c16_i32_834 : BitVec 32 := 16#32
  let v911 : BitVec 32 := Scalar.muli v50 c16_i32_834
  let v912 : BitVec 32 := Scalar.addi c0_i32_835 v911
  let c4_i32_25 : BitVec 32 := 4#32
  let v51 : BitVec 1 := Scalar.cmpi .slt v48 c4_i32_25
  let c7_i32_26 : BitVec 32 := 7#32
  let v52 : BitVec 32 := Scalar.subi c7_i32_26 v48
  let v53 : BitVec 32 := Scalar.select v51 v48 v52
  let c4_i32_836 : BitVec 32 := 4#32
  let v913 : BitVec 32 := Scalar.muli v53 c4_i32_836
  let v914 : BitVec 32 := Scalar.addi v912 v913
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_837 : BitVec 32 := 1#32
  let v915 : BitVec 32 := Scalar.muli v8 c1_i32_837
  let v916 : BitVec 32 := Scalar.addi v914 v915
  v916.toNat
def k0_dev37 (d0 : Dev nD) : Nat :=
  let c0_i32_867 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_17 : BitVec 32 := 0#32
  let v34 : BitVec 1 := Scalar.cmpi .eq v2 c0_i32_17
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v35 : BitVec 32 := Scalar.subi c7_i32 v5
  let v36 : BitVec 32 := Scalar.select v34 v5 v35
  let c8_i32_27 : BitVec 32 := 8#32
  let v54 : BitVec 32 := Scalar.addi v36 c8_i32_27
  let c1_i32_28 : BitVec 32 := 1#32
  let v55 : BitVec 32 := Scalar.subi v54 c1_i32_28
  let c8_i32_29 : BitVec 32 := 8#32
  let c0_i32_30 : BitVec 32 := 0#32
  let v56 : BitVec 1 := Scalar.cmpi .eq c8_i32_29 c0_i32_30
  let c1_i32_31 : BitVec 32 := 1#32
  let v57 : BitVec 32 := Scalar.select v56 c1_i32_31 c8_i32_29
  let v58 : BitVec 32 := Scalar.remsi v55 v57
  let c0_i32_33 : BitVec 32 := 0#32
  let v60 : BitVec 1 := Scalar.cmpi .slt v58 c0_i32_33
  let c0_i32_34 : BitVec 32 := 0#32
  let v61 : BitVec 1 := Scalar.cmpi .slt v57 c0_i32_34
  let v62 : BitVec 1 := Scalar.xori v60 v61
  let c0_i32_32 : BitVec 32 := 0#32
  let v59 : BitVec 1 := Scalar.cmpi .ne v58 c0_i32_32
  let v63 : BitVec 1 := Scalar.andi v62 v59
  let v64 : BitVec 32 := Scalar.addi v58 v57
  let v65 : BitVec 32 := Scalar.select v63 v64 v58
  let c4_i32_35 : BitVec 32 := 4#32
  let v66 : BitVec 1 := Scalar.cmpi .sge v65 c4_i32_35
  let v67 : BitVec 32 := Scalar.extui v66
  let c16_i32_866 : BitVec 32 := 16#32
  let v937 : BitVec 32 := Scalar.muli v67 c16_i32_866
  let v938 : BitVec 32 := Scalar.addi c0_i32_867 v937
  let c4_i32_36 : BitVec 32 := 4#32
  let v68 : BitVec 1 := Scalar.cmpi .slt v65 c4_i32_36
  let c7_i32_37 : BitVec 32 := 7#32
  let v69 : BitVec 32 := Scalar.subi c7_i32_37 v65
  let v70 : BitVec 32 := Scalar.select v68 v65 v69
  let c4_i32_868 : BitVec 32 := 4#32
  let v939 : BitVec 32 := Scalar.muli v70 c4_i32_868
  let v940 : BitVec 32 := Scalar.addi v938 v939
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_869 : BitVec 32 := 1#32
  let v941 : BitVec 32 := Scalar.muli v8 c1_i32_869
  let v942 : BitVec 32 := Scalar.addi v940 v941
  v942.toNat
def k0_dev38 (d0 : Dev nD) : Nat :=
  let c0_i32_899 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_17 : BitVec 32 := 0#32
  let v34 : BitVec 1 := Scalar.cmpi .eq v2 c0_i32_17
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v35 : BitVec 32 := Scalar.subi c7_i32 v5
  let v36 : BitVec 32 := Scalar.select v34 v5 v35
  let c8_i32_27 : BitVec 32 := 8#32
  let v54 : BitVec 32 := Scalar.addi v36 c8_i32_27
  let c1_i32_28 : BitVec 32 := 1#32
  let v55 : BitVec 32 := Scalar.subi v54 c1_i32_28
  let c8_i32_29 : BitVec 32 := 8#32
  let c0_i32_30 : BitVec 32 := 0#32
  let v56 : BitVec 1 := Scalar.cmpi .eq c8_i32_29 c0_i32_30
  let c1_i32_31 : BitVec 32 := 1#32
  let v57 : BitVec 32 := Scalar.select v56 c1_i32_31 c8_i32_29
  let v58 : BitVec 32 := Scalar.remsi v55 v57
  let c0_i32_33 : BitVec 32 := 0#32
  let v60 : BitVec 1 := Scalar.cmpi .slt v58 c0_i32_33
  let c0_i32_34 : BitVec 32 := 0#32
  let v61 : BitVec 1 := Scalar.cmpi .slt v57 c0_i32_34
  let v62 : BitVec 1 := Scalar.xori v60 v61
  let c0_i32_32 : BitVec 32 := 0#32
  let v59 : BitVec 1 := Scalar.cmpi .ne v58 c0_i32_32
  let v63 : BitVec 1 := Scalar.andi v62 v59
  let v64 : BitVec 32 := Scalar.addi v58 v57
  let v65 : BitVec 32 := Scalar.select v63 v64 v58
  let c4_i32_35 : BitVec 32 := 4#32
  let v66 : BitVec 1 := Scalar.cmpi .sge v65 c4_i32_35
  let v67 : BitVec 32 := Scalar.extui v66
  let c16_i32_898 : BitVec 32 := 16#32
  let v963 : BitVec 32 := Scalar.muli v67 c16_i32_898
  let v964 : BitVec 32 := Scalar.addi c0_i32_899 v963
  let c4_i32_36 : BitVec 32 := 4#32
  let v68 : BitVec 1 := Scalar.cmpi .slt v65 c4_i32_36
  let c7_i32_37 : BitVec 32 := 7#32
  let v69 : BitVec 32 := Scalar.subi c7_i32_37 v65
  let v70 : BitVec 32 := Scalar.select v68 v65 v69
  let c4_i32_900 : BitVec 32 := 4#32
  let v965 : BitVec 32 := Scalar.muli v70 c4_i32_900
  let v966 : BitVec 32 := Scalar.addi v964 v965
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_901 : BitVec 32 := 1#32
  let v967 : BitVec 32 := Scalar.muli v8 c1_i32_901
  let v968 : BitVec 32 := Scalar.addi v966 v967
  v968.toNat
def k0_dev39 (d0 : Dev nD) : Nat :=
  let c0_i32_1009 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_17 : BitVec 32 := 0#32
  let v34 : BitVec 1 := Scalar.cmpi .eq v2 c0_i32_17
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v35 : BitVec 32 := Scalar.subi c7_i32 v5
  let v36 : BitVec 32 := Scalar.select v34 v5 v35
  let c1_i32_18 : BitVec 32 := 1#32
  let v38 : BitVec 32 := Scalar.addi v36 c1_i32_18
  let c8_i32 : BitVec 32 := 8#32
  let c0_i32_19 : BitVec 32 := 0#32
  let v39 : BitVec 1 := Scalar.cmpi .eq c8_i32 c0_i32_19
  let c1_i32_20 : BitVec 32 := 1#32
  let v40 : BitVec 32 := Scalar.select v39 c1_i32_20 c8_i32
  let v41 : BitVec 32 := Scalar.remsi v38 v40
  let c0_i32_22 : BitVec 32 := 0#32
  let v43 : BitVec 1 := Scalar.cmpi .slt v41 c0_i32_22
  let c0_i32_23 : BitVec 32 := 0#32
  let v44 : BitVec 1 := Scalar.cmpi .slt v40 c0_i32_23
  let v45 : BitVec 1 := Scalar.xori v43 v44
  let c0_i32_21 : BitVec 32 := 0#32
  let v42 : BitVec 1 := Scalar.cmpi .ne v41 c0_i32_21
  let v46 : BitVec 1 := Scalar.andi v45 v42
  let v47 : BitVec 32 := Scalar.addi v41 v40
  let v48 : BitVec 32 := Scalar.select v46 v47 v41
  let c4_i32_24 : BitVec 32 := 4#32
  let v49 : BitVec 1 := Scalar.cmpi .sge v48 c4_i32_24
  let v50 : BitVec 32 := Scalar.extui v49
  let c16_i32_1008 : BitVec 32 := 16#32
  let v1091 : BitVec 32 := Scalar.muli v50 c16_i32_1008
  let v1092 : BitVec 32 := Scalar.addi c0_i32_1009 v1091
  let c4_i32_25 : BitVec 32 := 4#32
  let v51 : BitVec 1 := Scalar.cmpi .slt v48 c4_i32_25
  let c7_i32_26 : BitVec 32 := 7#32
  let v52 : BitVec 32 := Scalar.subi c7_i32_26 v48
  let v53 : BitVec 32 := Scalar.select v51 v48 v52
  let c4_i32_1010 : BitVec 32 := 4#32
  let v1093 : BitVec 32 := Scalar.muli v53 c4_i32_1010
  let v1094 : BitVec 32 := Scalar.addi v1092 v1093
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1011 : BitVec 32 := 1#32
  let v1095 : BitVec 32 := Scalar.muli v8 c1_i32_1011
  let v1096 : BitVec 32 := Scalar.addi v1094 v1095
  v1096.toNat
def k0_dev40 (d0 : Dev nD) : Nat :=
  let c0_i32_1041 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_17 : BitVec 32 := 0#32
  let v34 : BitVec 1 := Scalar.cmpi .eq v2 c0_i32_17
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v35 : BitVec 32 := Scalar.subi c7_i32 v5
  let v36 : BitVec 32 := Scalar.select v34 v5 v35
  let c1_i32_18 : BitVec 32 := 1#32
  let v38 : BitVec 32 := Scalar.addi v36 c1_i32_18
  let c8_i32 : BitVec 32 := 8#32
  let c0_i32_19 : BitVec 32 := 0#32
  let v39 : BitVec 1 := Scalar.cmpi .eq c8_i32 c0_i32_19
  let c1_i32_20 : BitVec 32 := 1#32
  let v40 : BitVec 32 := Scalar.select v39 c1_i32_20 c8_i32
  let v41 : BitVec 32 := Scalar.remsi v38 v40
  let c0_i32_22 : BitVec 32 := 0#32
  let v43 : BitVec 1 := Scalar.cmpi .slt v41 c0_i32_22
  let c0_i32_23 : BitVec 32 := 0#32
  let v44 : BitVec 1 := Scalar.cmpi .slt v40 c0_i32_23
  let v45 : BitVec 1 := Scalar.xori v43 v44
  let c0_i32_21 : BitVec 32 := 0#32
  let v42 : BitVec 1 := Scalar.cmpi .ne v41 c0_i32_21
  let v46 : BitVec 1 := Scalar.andi v45 v42
  let v47 : BitVec 32 := Scalar.addi v41 v40
  let v48 : BitVec 32 := Scalar.select v46 v47 v41
  let c4_i32_24 : BitVec 32 := 4#32
  let v49 : BitVec 1 := Scalar.cmpi .sge v48 c4_i32_24
  let v50 : BitVec 32 := Scalar.extui v49
  let c16_i32_1040 : BitVec 32 := 16#32
  let v1117 : BitVec 32 := Scalar.muli v50 c16_i32_1040
  let v1118 : BitVec 32 := Scalar.addi c0_i32_1041 v1117
  let c4_i32_25 : BitVec 32 := 4#32
  let v51 : BitVec 1 := Scalar.cmpi .slt v48 c4_i32_25
  let c7_i32_26 : BitVec 32 := 7#32
  let v52 : BitVec 32 := Scalar.subi c7_i32_26 v48
  let v53 : BitVec 32 := Scalar.select v51 v48 v52
  let c4_i32_1042 : BitVec 32 := 4#32
  let v1119 : BitVec 32 := Scalar.muli v53 c4_i32_1042
  let v1120 : BitVec 32 := Scalar.addi v1118 v1119
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1043 : BitVec 32 := 1#32
  let v1121 : BitVec 32 := Scalar.muli v8 c1_i32_1043
  let v1122 : BitVec 32 := Scalar.addi v1120 v1121
  v1122.toNat
def k0_dev41 (d0 : Dev nD) : Nat :=
  let c0_i32_1073 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_17 : BitVec 32 := 0#32
  let v34 : BitVec 1 := Scalar.cmpi .eq v2 c0_i32_17
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v35 : BitVec 32 := Scalar.subi c7_i32 v5
  let v36 : BitVec 32 := Scalar.select v34 v5 v35
  let c8_i32_27 : BitVec 32 := 8#32
  let v54 : BitVec 32 := Scalar.addi v36 c8_i32_27
  let c1_i32_28 : BitVec 32 := 1#32
  let v55 : BitVec 32 := Scalar.subi v54 c1_i32_28
  let c8_i32_29 : BitVec 32 := 8#32
  let c0_i32_30 : BitVec 32 := 0#32
  let v56 : BitVec 1 := Scalar.cmpi .eq c8_i32_29 c0_i32_30
  let c1_i32_31 : BitVec 32 := 1#32
  let v57 : BitVec 32 := Scalar.select v56 c1_i32_31 c8_i32_29
  let v58 : BitVec 32 := Scalar.remsi v55 v57
  let c0_i32_33 : BitVec 32 := 0#32
  let v60 : BitVec 1 := Scalar.cmpi .slt v58 c0_i32_33
  let c0_i32_34 : BitVec 32 := 0#32
  let v61 : BitVec 1 := Scalar.cmpi .slt v57 c0_i32_34
  let v62 : BitVec 1 := Scalar.xori v60 v61
  let c0_i32_32 : BitVec 32 := 0#32
  let v59 : BitVec 1 := Scalar.cmpi .ne v58 c0_i32_32
  let v63 : BitVec 1 := Scalar.andi v62 v59
  let v64 : BitVec 32 := Scalar.addi v58 v57
  let v65 : BitVec 32 := Scalar.select v63 v64 v58
  let c4_i32_35 : BitVec 32 := 4#32
  let v66 : BitVec 1 := Scalar.cmpi .sge v65 c4_i32_35
  let v67 : BitVec 32 := Scalar.extui v66
  let c16_i32_1072 : BitVec 32 := 16#32
  let v1143 : BitVec 32 := Scalar.muli v67 c16_i32_1072
  let v1144 : BitVec 32 := Scalar.addi c0_i32_1073 v1143
  let c4_i32_36 : BitVec 32 := 4#32
  let v68 : BitVec 1 := Scalar.cmpi .slt v65 c4_i32_36
  let c7_i32_37 : BitVec 32 := 7#32
  let v69 : BitVec 32 := Scalar.subi c7_i32_37 v65
  let v70 : BitVec 32 := Scalar.select v68 v65 v69
  let c4_i32_1074 : BitVec 32 := 4#32
  let v1145 : BitVec 32 := Scalar.muli v70 c4_i32_1074
  let v1146 : BitVec 32 := Scalar.addi v1144 v1145
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1075 : BitVec 32 := 1#32
  let v1147 : BitVec 32 := Scalar.muli v8 c1_i32_1075
  let v1148 : BitVec 32 := Scalar.addi v1146 v1147
  v1148.toNat
def k0_dev42 (d0 : Dev nD) : Nat :=
  let c0_i32_1105 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_17 : BitVec 32 := 0#32
  let v34 : BitVec 1 := Scalar.cmpi .eq v2 c0_i32_17
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v35 : BitVec 32 := Scalar.subi c7_i32 v5
  let v36 : BitVec 32 := Scalar.select v34 v5 v35
  let c8_i32_27 : BitVec 32 := 8#32
  let v54 : BitVec 32 := Scalar.addi v36 c8_i32_27
  let c1_i32_28 : BitVec 32 := 1#32
  let v55 : BitVec 32 := Scalar.subi v54 c1_i32_28
  let c8_i32_29 : BitVec 32 := 8#32
  let c0_i32_30 : BitVec 32 := 0#32
  let v56 : BitVec 1 := Scalar.cmpi .eq c8_i32_29 c0_i32_30
  let c1_i32_31 : BitVec 32 := 1#32
  let v57 : BitVec 32 := Scalar.select v56 c1_i32_31 c8_i32_29
  let v58 : BitVec 32 := Scalar.remsi v55 v57
  let c0_i32_33 : BitVec 32 := 0#32
  let v60 : BitVec 1 := Scalar.cmpi .slt v58 c0_i32_33
  let c0_i32_34 : BitVec 32 := 0#32
  let v61 : BitVec 1 := Scalar.cmpi .slt v57 c0_i32_34
  let v62 : BitVec 1 := Scalar.xori v60 v61
  let c0_i32_32 : BitVec 32 := 0#32
  let v59 : BitVec 1 := Scalar.cmpi .ne v58 c0_i32_32
  let v63 : BitVec 1 := Scalar.andi v62 v59
  let v64 : BitVec 32 := Scalar.addi v58 v57
  let v65 : BitVec 32 := Scalar.select v63 v64 v58
  let c4_i32_35 : BitVec 32 := 4#32
  let v66 : BitVec 1 := Scalar.cmpi .sge v65 c4_i32_35
  let v67 : BitVec 32 := Scalar.extui v66
  let c16_i32_1104 : BitVec 32 := 16#32
  let v1169 : BitVec 32 := Scalar.muli v67 c16_i32_1104
  let v1170 : BitVec 32 := Scalar.addi c0_i32_1105 v1169
  let c4_i32_36 : BitVec 32 := 4#32
  let v68 : BitVec 1 := Scalar.cmpi .slt v65 c4_i32_36
  let c7_i32_37 : BitVec 32 := 7#32
  let v69 : BitVec 32 := Scalar.subi c7_i32_37 v65
  let v70 : BitVec 32 := Scalar.select v68 v65 v69
  let c4_i32_1106 : BitVec 32 := 4#32
  let v1171 : BitVec 32 := Scalar.muli v70 c4_i32_1106
  let v1172 : BitVec 32 := Scalar.addi v1170 v1171
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1107 : BitVec 32 := 1#32
  let v1173 : BitVec 32 := Scalar.muli v8 c1_i32_1107
  let v1174 : BitVec 32 := Scalar.addi v1172 v1173
  v1174.toNat
def k0_dev43 (d0 : Dev nD) : Nat :=
  let c0_i32_1214 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_17 : BitVec 32 := 0#32
  let v34 : BitVec 1 := Scalar.cmpi .eq v2 c0_i32_17
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v35 : BitVec 32 := Scalar.subi c7_i32 v5
  let v36 : BitVec 32 := Scalar.select v34 v5 v35
  let c1_i32_18 : BitVec 32 := 1#32
  let v38 : BitVec 32 := Scalar.addi v36 c1_i32_18
  let c8_i32 : BitVec 32 := 8#32
  let c0_i32_19 : BitVec 32 := 0#32
  let v39 : BitVec 1 := Scalar.cmpi .eq c8_i32 c0_i32_19
  let c1_i32_20 : BitVec 32 := 1#32
  let v40 : BitVec 32 := Scalar.select v39 c1_i32_20 c8_i32
  let v41 : BitVec 32 := Scalar.remsi v38 v40
  let c0_i32_22 : BitVec 32 := 0#32
  let v43 : BitVec 1 := Scalar.cmpi .slt v41 c0_i32_22
  let c0_i32_23 : BitVec 32 := 0#32
  let v44 : BitVec 1 := Scalar.cmpi .slt v40 c0_i32_23
  let v45 : BitVec 1 := Scalar.xori v43 v44
  let c0_i32_21 : BitVec 32 := 0#32
  let v42 : BitVec 1 := Scalar.cmpi .ne v41 c0_i32_21
  let v46 : BitVec 1 := Scalar.andi v45 v42
  let v47 : BitVec 32 := Scalar.addi v41 v40
  let v48 : BitVec 32 := Scalar.select v46 v47 v41
  let c4_i32_24 : BitVec 32 := 4#32
  let v49 : BitVec 1 := Scalar.cmpi .sge v48 c4_i32_24
  let v50 : BitVec 32 := Scalar.extui v49
  let c16_i32_1213 : BitVec 32 := 16#32
  let v1297 : BitVec 32 := Scalar.muli v50 c16_i32_1213
  let v1298 : BitVec 32 := Scalar.addi c0_i32_1214 v1297
  let c4_i32_25 : BitVec 32 := 4#32
  let v51 : BitVec 1 := Scalar.cmpi .slt v48 c4_i32_25
  let c7_i32_26 : BitVec 32 := 7#32
  let v52 : BitVec 32 := Scalar.subi c7_i32_26 v48
  let v53 : BitVec 32 := Scalar.select v51 v48 v52
  let c4_i32_1215 : BitVec 32 := 4#32
  let v1299 : BitVec 32 := Scalar.muli v53 c4_i32_1215
  let v1300 : BitVec 32 := Scalar.addi v1298 v1299
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1216 : BitVec 32 := 1#32
  let v1301 : BitVec 32 := Scalar.muli v8 c1_i32_1216
  let v1302 : BitVec 32 := Scalar.addi v1300 v1301
  v1302.toNat
def k0_dev44 (d0 : Dev nD) : Nat :=
  let c0_i32_1246 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_17 : BitVec 32 := 0#32
  let v34 : BitVec 1 := Scalar.cmpi .eq v2 c0_i32_17
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v35 : BitVec 32 := Scalar.subi c7_i32 v5
  let v36 : BitVec 32 := Scalar.select v34 v5 v35
  let c1_i32_18 : BitVec 32 := 1#32
  let v38 : BitVec 32 := Scalar.addi v36 c1_i32_18
  let c8_i32 : BitVec 32 := 8#32
  let c0_i32_19 : BitVec 32 := 0#32
  let v39 : BitVec 1 := Scalar.cmpi .eq c8_i32 c0_i32_19
  let c1_i32_20 : BitVec 32 := 1#32
  let v40 : BitVec 32 := Scalar.select v39 c1_i32_20 c8_i32
  let v41 : BitVec 32 := Scalar.remsi v38 v40
  let c0_i32_22 : BitVec 32 := 0#32
  let v43 : BitVec 1 := Scalar.cmpi .slt v41 c0_i32_22
  let c0_i32_23 : BitVec 32 := 0#32
  let v44 : BitVec 1 := Scalar.cmpi .slt v40 c0_i32_23
  let v45 : BitVec 1 := Scalar.xori v43 v44
  let c0_i32_21 : BitVec 32 := 0#32
  let v42 : BitVec 1 := Scalar.cmpi .ne v41 c0_i32_21
  let v46 : BitVec 1 := Scalar.andi v45 v42
  let v47 : BitVec 32 := Scalar.addi v41 v40
  let v48 : BitVec 32 := Scalar.select v46 v47 v41
  let c4_i32_24 : BitVec 32 := 4#32
  let v49 : BitVec 1 := Scalar.cmpi .sge v48 c4_i32_24
  let v50 : BitVec 32 := Scalar.extui v49
  let c16_i32_1245 : BitVec 32 := 16#32
  let v1323 : BitVec 32 := Scalar.muli v50 c16_i32_1245
  let v1324 : BitVec 32 := Scalar.addi c0_i32_1246 v1323
  let c4_i32_25 : BitVec 32 := 4#32
  let v51 : BitVec 1 := Scalar.cmpi .slt v48 c4_i32_25
  let c7_i32_26 : BitVec 32 := 7#32
  let v52 : BitVec 32 := Scalar.subi c7_i32_26 v48
  let v53 : BitVec 32 := Scalar.select v51 v48 v52
  let c4_i32_1247 : BitVec 32 := 4#32
  let v1325 : BitVec 32 := Scalar.muli v53 c4_i32_1247
  let v1326 : BitVec 32 := Scalar.addi v1324 v1325
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1248 : BitVec 32 := 1#32
  let v1327 : BitVec 32 := Scalar.muli v8 c1_i32_1248
  let v1328 : BitVec 32 := Scalar.addi v1326 v1327
  v1328.toNat
def k0_dev45 (d0 : Dev nD) : Nat :=
  let c0_i32_1278 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_17 : BitVec 32 := 0#32
  let v34 : BitVec 1 := Scalar.cmpi .eq v2 c0_i32_17
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v35 : BitVec 32 := Scalar.subi c7_i32 v5
  let v36 : BitVec 32 := Scalar.select v34 v5 v35
  let c8_i32_27 : BitVec 32 := 8#32
  let v54 : BitVec 32 := Scalar.addi v36 c8_i32_27
  let c1_i32_28 : BitVec 32 := 1#32
  let v55 : BitVec 32 := Scalar.subi v54 c1_i32_28
  let c8_i32_29 : BitVec 32 := 8#32
  let c0_i32_30 : BitVec 32 := 0#32
  let v56 : BitVec 1 := Scalar.cmpi .eq c8_i32_29 c0_i32_30
  let c1_i32_31 : BitVec 32 := 1#32
  let v57 : BitVec 32 := Scalar.select v56 c1_i32_31 c8_i32_29
  let v58 : BitVec 32 := Scalar.remsi v55 v57
  let c0_i32_33 : BitVec 32 := 0#32
  let v60 : BitVec 1 := Scalar.cmpi .slt v58 c0_i32_33
  let c0_i32_34 : BitVec 32 := 0#32
  let v61 : BitVec 1 := Scalar.cmpi .slt v57 c0_i32_34
  let v62 : BitVec 1 := Scalar.xori v60 v61
  let c0_i32_32 : BitVec 32 := 0#32
  let v59 : BitVec 1 := Scalar.cmpi .ne v58 c0_i32_32
  let v63 : BitVec 1 := Scalar.andi v62 v59
  let v64 : BitVec 32 := Scalar.addi v58 v57
  let v65 : BitVec 32 := Scalar.select v63 v64 v58
  let c4_i32_35 : BitVec 32 := 4#32
  let v66 : BitVec 1 := Scalar.cmpi .sge v65 c4_i32_35
  let v67 : BitVec 32 := Scalar.extui v66
  let c16_i32_1277 : BitVec 32 := 16#32
  let v1349 : BitVec 32 := Scalar.muli v67 c16_i32_1277
  let v1350 : BitVec 32 := Scalar.addi c0_i32_1278 v1349
  let c4_i32_36 : BitVec 32 := 4#32
  let v68 : BitVec 1 := Scalar.cmpi .slt v65 c4_i32_36
  let c7_i32_37 : BitVec 32 := 7#32
  let v69 : BitVec 32 := Scalar.subi c7_i32_37 v65
  let v70 : BitVec 32 := Scalar.select v68 v65 v69
  let c4_i32_1279 : BitVec 32 := 4#32
  let v1351 : BitVec 32 := Scalar.muli v70 c4_i32_1279
  let v1352 : BitVec 32 := Scalar.addi v1350 v1351
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1280 : BitVec 32 := 1#32
  let v1353 : BitVec 32 := Scalar.muli v8 c1_i32_1280
  let v1354 : BitVec 32 := Scalar.addi v1352 v1353
  v1354.toNat
def k0_dev46 (d0 : Dev nD) : Nat :=
  let c0_i32_1310 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_17 : BitVec 32 := 0#32
  let v34 : BitVec 1 := Scalar.cmpi .eq v2 c0_i32_17
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v35 : BitVec 32 := Scalar.subi c7_i32 v5
  let v36 : BitVec 32 := Scalar.select v34 v5 v35
  let c8_i32_27 : BitVec 32 := 8#32
  let v54 : BitVec 32 := Scalar.addi v36 c8_i32_27
  let c1_i32_28 : BitVec 32 := 1#32
  let v55 : BitVec 32 := Scalar.subi v54 c1_i32_28
  let c8_i32_29 : BitVec 32 := 8#32
  let c0_i32_30 : BitVec 32 := 0#32
  let v56 : BitVec 1 := Scalar.cmpi .eq c8_i32_29 c0_i32_30
  let c1_i32_31 : BitVec 32 := 1#32
  let v57 : BitVec 32 := Scalar.select v56 c1_i32_31 c8_i32_29
  let v58 : BitVec 32 := Scalar.remsi v55 v57
  let c0_i32_33 : BitVec 32 := 0#32
  let v60 : BitVec 1 := Scalar.cmpi .slt v58 c0_i32_33
  let c0_i32_34 : BitVec 32 := 0#32
  let v61 : BitVec 1 := Scalar.cmpi .slt v57 c0_i32_34
  let v62 : BitVec 1 := Scalar.xori v60 v61
  let c0_i32_32 : BitVec 32 := 0#32
  let v59 : BitVec 1 := Scalar.cmpi .ne v58 c0_i32_32
  let v63 : BitVec 1 := Scalar.andi v62 v59
  let v64 : BitVec 32 := Scalar.addi v58 v57
  let v65 : BitVec 32 := Scalar.select v63 v64 v58
  let c4_i32_35 : BitVec 32 := 4#32
  let v66 : BitVec 1 := Scalar.cmpi .sge v65 c4_i32_35
  let v67 : BitVec 32 := Scalar.extui v66
  let c16_i32_1309 : BitVec 32 := 16#32
  let v1375 : BitVec 32 := Scalar.muli v67 c16_i32_1309
  let v1376 : BitVec 32 := Scalar.addi c0_i32_1310 v1375
  let c4_i32_36 : BitVec 32 := 4#32
  let v68 : BitVec 1 := Scalar.cmpi .slt v65 c4_i32_36
  let c7_i32_37 : BitVec 32 := 7#32
  let v69 : BitVec 32 := Scalar.subi c7_i32_37 v65
  let v70 : BitVec 32 := Scalar.select v68 v65 v69
  let c4_i32_1311 : BitVec 32 := 4#32
  let v1377 : BitVec 32 := Scalar.muli v70 c4_i32_1311
  let v1378 : BitVec 32 := Scalar.addi v1376 v1377
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1312 : BitVec 32 := 1#32
  let v1379 : BitVec 32 := Scalar.muli v8 c1_i32_1312
  let v1380 : BitVec 32 := Scalar.addi v1378 v1379
  v1380.toNat
def k0_dev47 (d0 : Dev nD) : Nat :=
  let c0_i32_1418 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_17 : BitVec 32 := 0#32
  let v34 : BitVec 1 := Scalar.cmpi .eq v2 c0_i32_17
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v35 : BitVec 32 := Scalar.subi c7_i32 v5
  let v36 : BitVec 32 := Scalar.select v34 v5 v35
  let c1_i32_18 : BitVec 32 := 1#32
  let v38 : BitVec 32 := Scalar.addi v36 c1_i32_18
  let c8_i32 : BitVec 32 := 8#32
  let c0_i32_19 : BitVec 32 := 0#32
  let v39 : BitVec 1 := Scalar.cmpi .eq c8_i32 c0_i32_19
  let c1_i32_20 : BitVec 32 := 1#32
  let v40 : BitVec 32 := Scalar.select v39 c1_i32_20 c8_i32
  let v41 : BitVec 32 := Scalar.remsi v38 v40
  let c0_i32_22 : BitVec 32 := 0#32
  let v43 : BitVec 1 := Scalar.cmpi .slt v41 c0_i32_22
  let c0_i32_23 : BitVec 32 := 0#32
  let v44 : BitVec 1 := Scalar.cmpi .slt v40 c0_i32_23
  let v45 : BitVec 1 := Scalar.xori v43 v44
  let c0_i32_21 : BitVec 32 := 0#32
  let v42 : BitVec 1 := Scalar.cmpi .ne v41 c0_i32_21
  let v46 : BitVec 1 := Scalar.andi v45 v42
  let v47 : BitVec 32 := Scalar.addi v41 v40
  let v48 : BitVec 32 := Scalar.select v46 v47 v41
  let c4_i32_24 : BitVec 32 := 4#32
  let v49 : BitVec 1 := Scalar.cmpi .sge v48 c4_i32_24
  let v50 : BitVec 32 := Scalar.extui v49
  let c16_i32_1417 : BitVec 32 := 16#32
  let v1503 : BitVec 32 := Scalar.muli v50 c16_i32_1417
  let v1504 : BitVec 32 := Scalar.addi c0_i32_1418 v1503
  let c4_i32_25 : BitVec 32 := 4#32
  let v51 : BitVec 1 := Scalar.cmpi .slt v48 c4_i32_25
  let c7_i32_26 : BitVec 32 := 7#32
  let v52 : BitVec 32 := Scalar.subi c7_i32_26 v48
  let v53 : BitVec 32 := Scalar.select v51 v48 v52
  let c4_i32_1419 : BitVec 32 := 4#32
  let v1505 : BitVec 32 := Scalar.muli v53 c4_i32_1419
  let v1506 : BitVec 32 := Scalar.addi v1504 v1505
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1420 : BitVec 32 := 1#32
  let v1507 : BitVec 32 := Scalar.muli v8 c1_i32_1420
  let v1508 : BitVec 32 := Scalar.addi v1506 v1507
  v1508.toNat
def k0_dev48 (d0 : Dev nD) : Nat :=
  let c0_i32_1450 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_17 : BitVec 32 := 0#32
  let v34 : BitVec 1 := Scalar.cmpi .eq v2 c0_i32_17
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v35 : BitVec 32 := Scalar.subi c7_i32 v5
  let v36 : BitVec 32 := Scalar.select v34 v5 v35
  let c1_i32_18 : BitVec 32 := 1#32
  let v38 : BitVec 32 := Scalar.addi v36 c1_i32_18
  let c8_i32 : BitVec 32 := 8#32
  let c0_i32_19 : BitVec 32 := 0#32
  let v39 : BitVec 1 := Scalar.cmpi .eq c8_i32 c0_i32_19
  let c1_i32_20 : BitVec 32 := 1#32
  let v40 : BitVec 32 := Scalar.select v39 c1_i32_20 c8_i32
  let v41 : BitVec 32 := Scalar.remsi v38 v40
  let c0_i32_22 : BitVec 32 := 0#32
  let v43 : BitVec 1 := Scalar.cmpi .slt v41 c0_i32_22
  let c0_i32_23 : BitVec 32 := 0#32
  let v44 : BitVec 1 := Scalar.cmpi .slt v40 c0_i32_23
  let v45 : BitVec 1 := Scalar.xori v43 v44
  let c0_i32_21 : BitVec 32 := 0#32
  let v42 : BitVec 1 := Scalar.cmpi .ne v41 c0_i32_21
  let v46 : BitVec 1 := Scalar.andi v45 v42
  let v47 : BitVec 32 := Scalar.addi v41 v40
  let v48 : BitVec 32 := Scalar.select v46 v47 v41
  let c4_i32_24 : BitVec 32 := 4#32
  let v49 : BitVec 1 := Scalar.cmpi .sge v48 c4_i32_24
  let v50 : BitVec 32 := Scalar.extui v49
  let c16_i32_1449 : BitVec 32 := 16#32
  let v1529 : BitVec 32 := Scalar.muli v50 c16_i32_1449
  let v1530 : BitVec 32 := Scalar.addi c0_i32_1450 v1529
  let c4_i32_25 : BitVec 32 := 4#32
  let v51 : BitVec 1 := Scalar.cmpi .slt v48 c4_i32_25
  let c7_i32_26 : BitVec 32 := 7#32
  let v52 : BitVec 32 := Scalar.subi c7_i32_26 v48
  let v53 : BitVec 32 := Scalar.select v51 v48 v52
  let c4_i32_1451 : BitVec 32 := 4#32
  let v1531 : BitVec 32 := Scalar.muli v53 c4_i32_1451
  let v1532 : BitVec 32 := Scalar.addi v1530 v1531
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1452 : BitVec 32 := 1#32
  let v1533 : BitVec 32 := Scalar.muli v8 c1_i32_1452
  let v1534 : BitVec 32 := Scalar.addi v1532 v1533
  v1534.toNat
def k0_dev49 (d0 : Dev nD) : Nat :=
  let c0_i32_1482 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_17 : BitVec 32 := 0#32
  let v34 : BitVec 1 := Scalar.cmpi .eq v2 c0_i32_17
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v35 : BitVec 32 := Scalar.subi c7_i32 v5
  let v36 : BitVec 32 := Scalar.select v34 v5 v35
  let c8_i32_27 : BitVec 32 := 8#32
  let v54 : BitVec 32 := Scalar.addi v36 c8_i32_27
  let c1_i32_28 : BitVec 32 := 1#32
  let v55 : BitVec 32 := Scalar.subi v54 c1_i32_28
  let c8_i32_29 : BitVec 32 := 8#32
  let c0_i32_30 : BitVec 32 := 0#32
  let v56 : BitVec 1 := Scalar.cmpi .eq c8_i32_29 c0_i32_30
  let c1_i32_31 : BitVec 32 := 1#32
  let v57 : BitVec 32 := Scalar.select v56 c1_i32_31 c8_i32_29
  let v58 : BitVec 32 := Scalar.remsi v55 v57
  let c0_i32_33 : BitVec 32 := 0#32
  let v60 : BitVec 1 := Scalar.cmpi .slt v58 c0_i32_33
  let c0_i32_34 : BitVec 32 := 0#32
  let v61 : BitVec 1 := Scalar.cmpi .slt v57 c0_i32_34
  let v62 : BitVec 1 := Scalar.xori v60 v61
  let c0_i32_32 : BitVec 32 := 0#32
  let v59 : BitVec 1 := Scalar.cmpi .ne v58 c0_i32_32
  let v63 : BitVec 1 := Scalar.andi v62 v59
  let v64 : BitVec 32 := Scalar.addi v58 v57
  let v65 : BitVec 32 := Scalar.select v63 v64 v58
  let c4_i32_35 : BitVec 32 := 4#32
  let v66 : BitVec 1 := Scalar.cmpi .sge v65 c4_i32_35
  let v67 : BitVec 32 := Scalar.extui v66
  let c16_i32_1481 : BitVec 32 := 16#32
  let v1555 : BitVec 32 := Scalar.muli v67 c16_i32_1481
  let v1556 : BitVec 32 := Scalar.addi c0_i32_1482 v1555
  let c4_i32_36 : BitVec 32 := 4#32
  let v68 : BitVec 1 := Scalar.cmpi .slt v65 c4_i32_36
  let c7_i32_37 : BitVec 32 := 7#32
  let v69 : BitVec 32 := Scalar.subi c7_i32_37 v65
  let v70 : BitVec 32 := Scalar.select v68 v65 v69
  let c4_i32_1483 : BitVec 32 := 4#32
  let v1557 : BitVec 32 := Scalar.muli v70 c4_i32_1483
  let v1558 : BitVec 32 := Scalar.addi v1556 v1557
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1484 : BitVec 32 := 1#32
  let v1559 : BitVec 32 := Scalar.muli v8 c1_i32_1484
  let v1560 : BitVec 32 := Scalar.addi v1558 v1559
  v1560.toNat
def k0_dev50 (d0 : Dev nD) : Nat :=
  let c0_i32_1514 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_17 : BitVec 32 := 0#32
  let v34 : BitVec 1 := Scalar.cmpi .eq v2 c0_i32_17
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v35 : BitVec 32 := Scalar.subi c7_i32 v5
  let v36 : BitVec 32 := Scalar.select v34 v5 v35
  let c8_i32_27 : BitVec 32 := 8#32
  let v54 : BitVec 32 := Scalar.addi v36 c8_i32_27
  let c1_i32_28 : BitVec 32 := 1#32
  let v55 : BitVec 32 := Scalar.subi v54 c1_i32_28
  let c8_i32_29 : BitVec 32 := 8#32
  let c0_i32_30 : BitVec 32 := 0#32
  let v56 : BitVec 1 := Scalar.cmpi .eq c8_i32_29 c0_i32_30
  let c1_i32_31 : BitVec 32 := 1#32
  let v57 : BitVec 32 := Scalar.select v56 c1_i32_31 c8_i32_29
  let v58 : BitVec 32 := Scalar.remsi v55 v57
  let c0_i32_33 : BitVec 32 := 0#32
  let v60 : BitVec 1 := Scalar.cmpi .slt v58 c0_i32_33
  let c0_i32_34 : BitVec 32 := 0#32
  let v61 : BitVec 1 := Scalar.cmpi .slt v57 c0_i32_34
  let v62 : BitVec 1 := Scalar.xori v60 v61
  let c0_i32_32 : BitVec 32 := 0#32
  let v59 : BitVec 1 := Scalar.cmpi .ne v58 c0_i32_32
  let v63 : BitVec 1 := Scalar.andi v62 v59
  let v64 : BitVec 32 := Scalar.addi v58 v57
  let v65 : BitVec 32 := Scalar.select v63 v64 v58
  let c4_i32_35 : BitVec 32 := 4#32
  let v66 : BitVec 1 := Scalar.cmpi .sge v65 c4_i32_35
  let v67 : BitVec 32 := Scalar.extui v66
  let c16_i32_1513 : BitVec 32 := 16#32
  let v1581 : BitVec 32 := Scalar.muli v67 c16_i32_1513
  let v1582 : BitVec 32 := Scalar.addi c0_i32_1514 v1581
  let c4_i32_36 : BitVec 32 := 4#32
  let v68 : BitVec 1 := Scalar.cmpi .slt v65 c4_i32_36
  let c7_i32_37 : BitVec 32 := 7#32
  let v69 : BitVec 32 := Scalar.subi c7_i32_37 v65
  let v70 : BitVec 32 := Scalar.select v68 v65 v69
  let c4_i32_1515 : BitVec 32 := 4#32
  let v1583 : BitVec 32 := Scalar.muli v70 c4_i32_1515
  let v1584 : BitVec 32 := Scalar.addi v1582 v1583
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1516 : BitVec 32 := 1#32
  let v1585 : BitVec 32 := Scalar.muli v8 c1_i32_1516
  let v1586 : BitVec 32 := Scalar.addi v1584 v1585
  v1586.toNat
abbrev stage0_0 : Fin 1 → Memref sig .tc .vmem S8192x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S32768x1024 : Shape := ⟨2, ![32768, 1024]⟩
abbrev S4x8192x1024 : Shape := ⟨3, ![4, 8192, 1024]⟩
abbrev S_ : Shape := ⟨0, ![]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S4x8192x1024, .f32⟩
  | .hbm, ⟨2, _⟩ => ⟨S_, .f32⟩
  | .hbm, ⟨3, _⟩ => ⟨S8192x1024, .f32⟩
  | .hbm, ⟨4, _⟩ => ⟨S8192x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Mesh.lean ====
/-
The mesh of thirty-two devices and the plan of the kernel's transfers, free of any float value.

Device `c` is `x * 16 + y * 4 + z` on the 2 × 4 × 4 mesh. Along `z` the four devices of a column form a ring
(`zn` the next, `zp` the previous one); over `x` and `y` the eight devices of a plane form a ring of their own
(`xn`, `xp`), in the order `(0,0) (0,1) (0,2) (0,3) (1,3) (1,2) (1,1) (1,0)`.
-/
module

public import proofs.«01_k».proof.Proof.Gen.KernelIdeal

@[expose] public section

namespace Cert.KernelIdealProof

open Cert.KernelIdeal Cert.KernelIdeal.Gen
open Idealize.ShloMosaic

/-! ## Neighbours -/

/-- The device at plane position `q` (`x * 4 + y`) and depth `z`. -/
def at' (q : Fin 8) (z : Fin 4) : Dev nD := ⟨q.val * 4 + z.val, by have := q.isLt; have := z.isLt; unfold nD; omega⟩
/-- A device's plane position, which is also its slice of the result. -/
def pl (c : Dev nD) : Fin 8 := ⟨c.val / 4, by have := c.isLt; unfold nD at this; omega⟩
/-- A device's depth. -/
def zz (c : Dev nD) : Fin 4 := ⟨c.val % 4, Nat.mod_lt _ (by decide)⟩

/-- Plane position to place in the eight-device ring, and back. -/
def turn (q : Fin 8) : Fin 8 :=
  match q with
  | 0 => 0 | 1 => 1 | 2 => 2 | 3 => 3 | 4 => 7 | 5 => 6 | 6 => 5 | 7 => 4

def zn (c : Dev nD) : Dev nD := at' (pl c) (zz c + 1)
def zp (c : Dev nD) : Dev nD := at' (pl c) (zz c + 3)
def xn (c : Dev nD) : Dev nD := at' (turn (turn (pl c) + 1)) (zz c)
def xp (c : Dev nD) : Dev nD := at' (turn (turn (pl c) + 7)) (zz c)

theorem zp_zn : ∀ c : Dev nD, zp (zn c) = c := by decide +kernel
theorem zn_zp : ∀ c : Dev nD, zn (zp c) = c := by decide +kernel
theorem xp_xn : ∀ c : Dev nD, xp (xn c) = c := by decide +kernel
theorem xn_xp : ∀ c : Dev nD, xn (xp c) = c := by decide +kernel

/-! ## Channels and slabs -/

/-- The channels: one per remote copy a device issues. `rs s` is step `s` of the reduction along `z`, `ag t` step `t`
    of the gather along `z`, `st k h` hop `h` of chunk `k` around the eight-device ring. -/
inductive Ch where
  | rs (s : Fin 3)
  | ag (t : Fin 3)
  | st (k : Fin 4) (h : Fin 7)
deriving DecidableEq

/-- The slabs of 256 × 1024 elements a device's buffers are made of: `v s` the partial sum of step `s` (the two slabs of
    the sum buffer, used in turn), `inj k` the copy of chunk `k` put on the ring, `dst j` where channel `j` lands. -/
inductive It where
  | v (s : Fin 4)
  | inj (k : Fin 4)
  | dst (j : Ch)
deriving DecidableEq

instance : Fintype Ch := Fintype.ofEquiv (Fin 3 ⊕ Fin 3 ⊕ Fin 4 × Fin 7)
  { toFun := fun | .inl s => .rs s | .inr (.inl t) => .ag t | .inr (.inr (k, h)) => .st k h
    invFun := fun | .rs s => .inl s | .ag t => .inr (.inl t) | .st k h => .inr (.inr (k, h))
    left_inv := fun x => by rcases x with s | t | ⟨k, h⟩ <;> rfl
    right_inv := fun x => by cases x <;> rfl }
instance : Fintype It := Fintype.ofEquiv (Fin 4 ⊕ Fin 4 ⊕ Ch)
  { toFun := fun | .inl s => .v s | .inr (.inl k) => .inj k | .inr (.inr j) => .dst j
    invFun := fun | .v s => .inl s | .inj k => .inr (.inl k) | .dst j => .inr (.inr j)
    left_inv := fun x => by rcases x with s | k | j <;> rfl
    right_inv := fun x => by cases x <;> rfl }

/-- The slab channel `j` sends. -/
def srcIt : Ch → It
  | .rs s => .v ⟨s.val, by have := s.isLt; omega⟩
  | .ag ⟨0, _⟩ => .v 3
  | .ag ⟨t + 1, h⟩ => .dst (.ag ⟨t, by omega⟩)
  | .st k ⟨0, _⟩ => .inj k
  | .st k ⟨h + 1, hh⟩ => .dst (.st k ⟨h, by omega⟩)

/-- The device channel `j` of `c` sends to, and the one whose channel `j` sends to `c`. -/
def tgt : Ch → Dev nD → Dev nD
  | .rs _, c => zn c
  | .ag _, c => zn c
  | .st k _, c => if k.val < 2 then xn c else xp c
def bk : Ch → Dev nD → Dev nD
  | .rs _, c => zp c
  | .ag _, c => zp c
  | .st k _, c => if k.val < 2 then xp c else xn c

theorem bk_tgt (j : Ch) (c : Dev nD) : bk j (tgt j c) = c := by
  cases j <;> simp only [bk, tgt]
  · exact zp_zn c
  · exact zp_zn c
  · split
    · exact xp_xn c
    · exact xn_xp c
theorem tgt_bk (j : Ch) (c : Dev nD) : tgt j (bk j c) = c := by
  cases j <;> simp only [bk, tgt]
  · exact zn_zp c
  · exact zn_zp c
  · split
    · exact xn_xp c
    · exact xp_xn c
/-- A channel permutes the devices. -/
def chE (j : Ch) : Dev nD ≃ Dev nD := ⟨tgt j, bk j, bk_tgt j, tgt_bk j⟩

/-- The device the `d`-th handshake signal of `c` goes to, and the one whose `d`-th signal reaches `c`. -/
def sg : Fin 4 → Dev nD → Dev nD
  | 0, c => zp c
  | 1, c => zn c
  | 2, c => xn c
  | 3, c => xp c
def sb : Fin 4 → Dev nD → Dev nD
  | 0, c => zn c
  | 1, c => zp c
  | 2, c => xp c
  | 3, c => xn c
theorem sb_sg (d : Fin 4) (c : Dev nD) : sb d (sg d c) = c := by
  fin_cases d
  · exact zn_zp c
  · exact zp_zn c
  · exact xp_xn c
  · exact xn_xp c
theorem sg_sb (d : Fin 4) (c : Dev nD) : sg d (sb d c) = c := by
  fin_cases d
  · exact zp_zn c
  · exact zn_zp c
  · exact xn_xp c
  · exact xp_xn c
def sgE (d : Fin 4) : Dev nD ≃ Dev nD := ⟨sg d, sb d, sb_sg d, sg_sb d⟩

/-- Which handshake signal carries the landing slab of channel `j`. -/
def duOf : Ch → Fin 4
  | .rs _ => 0
  | .ag _ => 0
  | .st k _ => if k.val < 2 then 3 else 2
theorem tgt_sg (j : Ch) (c : Dev nD) : tgt j (sg (duOf j) c) = c := by
  cases j <;> simp only [tgt, duOf]
  · exact zn_zp c
  · exact zn_zp c
  · split
    · exact xn_xp c
    · exact xp_xn c

/-! ## Which sum a slab holds -/

/-- `zp` taken `n` times. -/
def zpn : ℕ → Dev nD → Dev nD
  | 0, c => c
  | n + 1, c => zp (zpn n c)
/-- Backwards along chunk `k`'s direction of the eight-device ring, `n` times. -/
def bkn (k : Fin 4) : ℕ → Dev nD → Dev nD
  | 0, c => c
  | n + 1, c => bk (.st k 0) (bkn k n c)
/-- The device of `c`'s plane position whose finished sum is chunk `k`. -/
def own (k : Fin 4) (c : Dev nD) : Dev nD := at' (pl c) (k + 3)

/-- Slab `i` of device `c` holds the partial sum number `(key i c).1` of device `(key i c).2`. -/
def key : It → Dev nD → Fin 4 × Dev nD
  | .v s, c => (s, c)
  | .inj k, c => (3, own k c)
  | .dst (.rs s), c => (⟨s.val, by have := s.isLt; omega⟩, zp c)
  | .dst (.ag t), c => (3, zpn (t.val + 1) c)
  | .dst (.st k h), c => (3, own k (bkn k (h.val + 1) c))

/-- A channel carries its source slab's sum to its landing slab. -/
theorem key_tgt : ∀ (j : Ch) (c : Dev nD), key (.dst j) (tgt j c) = key (srcIt j) c := by decide +kernel

/-- The chunk that is injected `i`-th on a device at depth `z`. -/
def kOf (z : Fin 4) (i : Fin 4) : Fin 4 := z + 1 - i
/-- The slab that is injected `i`-th. -/
def injIt : Fin 4 → It
  | ⟨0, _⟩ => .v 3
  | ⟨i + 1, h⟩ => .dst (.ag ⟨i, by omega⟩)
theorem key_inj : ∀ (c : Dev nD) (i : Fin 4), key (injIt i) c = key (.inj (kOf (zz c) i)) c := by decide +kernel

/-! ## The blocks of the result -/

/-- The block of 256 rows of the result that slab `i` is stored to. -/
def bIdx : It → Dev nD → Fin 32
  | i, c => ⟨(pl (key i c).2).val * 4 + (zz (key i c).2 + 1).val, by
      have := (pl (key i c).2).isLt; have := (zz (key i c).2 + 1).isLt; omega⟩

/-- The finished sum of block `b`: partial sum 3 of this device. -/
def bDev (b : Fin 32) : Dev nD := at' ⟨b.val / 4, by have := b.isLt; omega⟩ (⟨b.val % 4, Nat.mod_lt _ (by decide)⟩ + 3)
theorem bDev_bIdx : ∀ (i : It) (c : Dev nD), bDev (bIdx i c) = (key i c).2 := by decide +kernel

/-- The slabs stored to the result: the finished sums. -/
def fin' : It → Bool
  | .v s => s = 3
  | .inj _ => false
  | .dst (.rs _) => false
  | .dst (.ag _) => true
  | .dst (.st _ _) => true
theorem key_fin : ∀ (i : It) (c : Dev nD), fin' i = true → (key i c).1 = 3 := by decide +kernel
/-- Together they fill the result. -/
theorem bIdx_cover : ∀ (c : Dev nD) (b : Fin 32), ∃ i : It, fin' i = true ∧ bIdx i c = b := by decide +kernel

/-! ## The printed offsets and addressed devices -/

theorem off1_eq : ∀ c : Dev nD, k0_off1 c = ![(pl c).val * 1024, 0] := by decide +kernel
theorem off2_eq : ∀ c : Dev nD, k0_off2 c = ![(zz c).val * 256, 0] := by decide +kernel
theorem off3_eq : ∀ (c : Dev nD) (r : Fin 3), k0_off3 c (BitVec.ofNat 32 r.val) = ![(zz c + 3 - (⟨r.val, by have := r.isLt; omega⟩ : Fin 4)).val * 256, 0] := by decide +kernel
theorem off4_eq : ∀ c : Dev nD, k0_off4 c = ![(bIdx (.v 3) c).val * 256, 0] := by decide +kernel
theorem off5_eq : ∀ (c : Dev nD) (t : Fin 3), k0_off5 c (BitVec.ofNat 32 t.val) = ![(bIdx (.dst (.ag t)) c).val * 256, 0] := by decide +kernel
theorem off6_eq : ∀ (c : Dev nD) (h : Fin 7) (k : Fin 2), k0_off6 c (BitVec.ofNat 32 h.val) (BitVec.ofNat 32 (256 * k.val)) = ![(bIdx (.dst (.st ⟨k.val, by have := k.isLt; omega⟩ h)) c).val * 256, 0] := by decide +kernel
theorem off7_eq : ∀ (c : Dev nD) (h : Fin 7) (k : Fin 2), k0_off7 c (BitVec.ofNat 32 h.val) (BitVec.ofNat 32 (512 + 256 * k.val)) = ![(bIdx (.dst (.st ⟨k.val + 2, by have := k.isLt; omega⟩ h)) c).val * 256, 0] := by decide +kernel

theorem dev1_val : ∀ c : Dev nD, k0_dev1 c = (zp c).val := by decide +kernel
theorem dev1_eq (c : Dev nD) : (⟨k0_dev1 c, k0_dev1_lt c⟩ : Dev nD) = zp c := Fin.ext (dev1_val c)
theorem dev2_val : ∀ c : Dev nD, k0_dev2 c = (zn c).val := by decide +kernel
theorem dev2_eq (c : Dev nD) : (⟨k0_dev2 c, k0_dev2_lt c⟩ : Dev nD) = zn c := Fin.ext (dev2_val c)
theorem dev3_val : ∀ c : Dev nD, k0_dev3 c = (xn c).val := by decide +kernel
theorem dev3_eq (c : Dev nD) : (⟨k0_dev3 c, k0_dev3_lt c⟩ : Dev nD) = xn c := Fin.ext (dev3_val c)
theorem dev4_val : ∀ c : Dev nD, k0_dev4 c = (xp c).val := by decide +kernel
theorem dev4_eq (c : Dev nD) : (⟨k0_dev4 c, k0_dev4_lt c⟩ : Dev nD) = xp c := Fin.ext (dev4_val c)
theorem dev5_val : ∀ c : Dev nD, k0_dev5 c = (zn c).val := by decide +kernel
theorem dev5_eq (c : Dev nD) : (⟨k0_dev5 c, k0_dev5_lt c⟩ : Dev nD) = zn c := Fin.ext (dev5_val c)
theorem dev6_val : ∀ c : Dev nD, k0_dev6 c = (zn c).val := by decide +kernel
theorem dev6_eq (c : Dev nD) : (⟨k0_dev6 c, k0_dev6_lt c⟩ : Dev nD) = zn c := Fin.ext (dev6_val c)
theorem dev7_val : ∀ c : Dev nD, k0_dev7 c = (zn c).val := by decide +kernel
theorem dev7_eq (c : Dev nD) : (⟨k0_dev7 c, k0_dev7_lt c⟩ : Dev nD) = zn c := Fin.ext (dev7_val c)
theorem dev8_val : ∀ c : Dev nD, k0_dev8 c = (zn c).val := by decide +kernel
theorem dev8_eq (c : Dev nD) : (⟨k0_dev8 c, k0_dev8_lt c⟩ : Dev nD) = zn c := Fin.ext (dev8_val c)
theorem dev13_val : ∀ c : Dev nD, k0_dev13 c = (zn c).val := by decide +kernel
theorem dev13_eq (c : Dev nD) : (⟨k0_dev13 c, k0_dev13_lt c⟩ : Dev nD) = zn c := Fin.ext (dev13_val c)
theorem dev18_val : ∀ c : Dev nD, k0_dev18 c = (zn c).val := by decide +kernel
theorem dev18_eq (c : Dev nD) : (⟨k0_dev18 c, k0_dev18_lt c⟩ : Dev nD) = zn c := Fin.ext (dev18_val c)
theorem dev27_val : ∀ c : Dev nD, k0_dev27 c = (xn c).val := by decide +kernel
theorem dev27_eq (c : Dev nD) : (⟨k0_dev27 c, k0_dev27_lt c⟩ : Dev nD) = xn c := Fin.ext (dev27_val c)
theorem dev28_eq (c : Dev nD) : (⟨k0_dev28 c, k0_dev28_lt c⟩ : Dev nD) = xn c := dev27_eq c
theorem dev29_val : ∀ c : Dev nD, k0_dev29 c = (xp c).val := by decide +kernel
theorem dev29_eq (c : Dev nD) : (⟨k0_dev29 c, k0_dev29_lt c⟩ : Dev nD) = xp c := Fin.ext (dev29_val c)
theorem dev9_eq (c : Dev nD) (h : k0_cond1 c = 1#1) : (⟨k0_dev9 c, k0_dev9_lt c h⟩ : Dev nD) = xn c := Fin.ext (dev27_val c)
theorem dev10_eq (c : Dev nD) (h : k0_cond2 c = 1#1) : (⟨k0_dev10 c, k0_dev10_lt c h⟩ : Dev nD) = xn c := Fin.ext (dev27_val c)
theorem dev11_eq (c : Dev nD) (h : k0_cond3 c = 1#1) : (⟨k0_dev11 c, k0_dev11_lt c h⟩ : Dev nD) = xp c := Fin.ext (dev29_val c)
theorem dev12_eq (c : Dev nD) (h : k0_cond4 c = 1#1) : (⟨k0_dev12 c, k0_dev12_lt c h⟩ : Dev nD) = xp c := Fin.ext (dev29_val c)
theorem dev14_eq (c : Dev nD) (h : k0_cond5 c = 1#1) : (⟨k0_dev14 c, k0_dev14_lt c h⟩ : Dev nD) = xn c := Fin.ext (dev27_val c)
theorem dev15_eq (c : Dev nD) (h : k0_cond6 c = 1#1) : (⟨k0_dev15 c, k0_dev15_lt c h⟩ : Dev nD) = xn c := Fin.ext (dev27_val c)
theorem dev16_eq (c : Dev nD) (h : k0_cond7 c = 1#1) : (⟨k0_dev16 c, k0_dev16_lt c h⟩ : Dev nD) = xp c := Fin.ext (dev29_val c)
theorem dev17_eq (c : Dev nD) (h : k0_cond8 c = 1#1) : (⟨k0_dev17 c, k0_dev17_lt c h⟩ : Dev nD) = xp c := Fin.ext (dev29_val c)
theorem dev19_eq (c : Dev nD) (h : k0_cond9 c = 1#1) : (⟨k0_dev19 c, k0_dev19_lt c h⟩ : Dev nD) = xn c := Fin.ext (dev27_val c)
theorem dev20_eq (c : Dev nD) (h : k0_cond10 c = 1#1) : (⟨k0_dev20 c, k0_dev20_lt c h⟩ : Dev nD) = xn c := Fin.ext (dev27_val c)
theorem dev21_eq (c : Dev nD) (h : k0_cond11 c = 1#1) : (⟨k0_dev21 c, k0_dev21_lt c h⟩ : Dev nD) = xp c := Fin.ext (dev29_val c)
theorem dev22_eq (c : Dev nD) (h : k0_cond12 c = 1#1) : (⟨k0_dev22 c, k0_dev22_lt c h⟩ : Dev nD) = xp c := Fin.ext (dev29_val c)
theorem dev23_eq (c : Dev nD) (h : k0_cond13 c = 1#1) : (⟨k0_dev23 c, k0_dev23_lt c h⟩ : Dev nD) = xn c := Fin.ext (dev27_val c)
theorem dev24_eq (c : Dev nD) (h : k0_cond14 c = 1#1) : (⟨k0_dev24 c, k0_dev24_lt c h⟩ : Dev nD) = xn c := Fin.ext (dev27_val c)
theorem dev25_eq (c : Dev nD) (h : k0_cond15 c = 1#1) : (⟨k0_dev25 c, k0_dev25_lt c h⟩ : Dev nD) = xp c := Fin.ext (dev29_val c)
theorem dev26_eq (c : Dev nD) (h : k0_cond16 c = 1#1) : (⟨k0_dev26 c, k0_dev26_lt c h⟩ : Dev nD) = xp c := Fin.ext (dev29_val c)
theorem dev30_eq : ∀ c : Dev nD, (⟨k0_dev30 c, k0_dev30_lt c⟩ : Dev nD) = xp c := dev29_eq
theorem dev31_eq : ∀ c : Dev nD, (⟨k0_dev31 c, k0_dev31_lt c⟩ : Dev nD) = xn c := dev27_eq
theorem dev32_eq : ∀ c : Dev nD, (⟨k0_dev32 c, k0_dev32_lt c⟩ : Dev nD) = xn c := dev27_eq
theorem dev33_eq : ∀ c : Dev nD, (⟨k0_dev33 c, k0_dev33_lt c⟩ : Dev nD) = xp c := dev29_eq
theorem dev34_eq : ∀ c : Dev nD, (⟨k0_dev34 c, k0_dev34_lt c⟩ : Dev nD) = xp c := dev29_eq
theorem dev35_eq : ∀ c : Dev nD, (⟨k0_dev35 c, k0_dev35_lt c⟩ : Dev nD) = xn c := dev27_eq
theorem dev36_eq : ∀ c : Dev nD, (⟨k0_dev36 c, k0_dev36_lt c⟩ : Dev nD) = xn c := dev27_eq
theorem dev37_eq : ∀ c : Dev nD, (⟨k0_dev37 c, k0_dev37_lt c⟩ : Dev nD) = xp c := dev29_eq
theorem dev38_eq : ∀ c : Dev nD, (⟨k0_dev38 c, k0_dev38_lt c⟩ : Dev nD) = xp c := dev29_eq
theorem dev39_eq : ∀ c : Dev nD, (⟨k0_dev39 c, k0_dev39_lt c⟩ : Dev nD) = xn c := dev27_eq
theorem dev40_eq : ∀ c : Dev nD, (⟨k0_dev40 c, k0_dev40_lt c⟩ : Dev nD) = xn c := dev27_eq
theorem dev41_eq : ∀ c : Dev nD, (⟨k0_dev41 c, k0_dev41_lt c⟩ : Dev nD) = xp c := dev29_eq
theorem dev42_eq : ∀ c : Dev nD, (⟨k0_dev42 c, k0_dev42_lt c⟩ : Dev nD) = xp c := dev29_eq
theorem dev43_eq : ∀ c : Dev nD, (⟨k0_dev43 c, k0_dev43_lt c⟩ : Dev nD) = xn c := dev27_eq
theorem dev44_eq : ∀ c : Dev nD, (⟨k0_dev44 c, k0_dev44_lt c⟩ : Dev nD) = xn c := dev27_eq
theorem dev45_eq : ∀ c : Dev nD, (⟨k0_dev45 c, k0_dev45_lt c⟩ : Dev nD) = xp c := dev29_eq
theorem dev46_eq : ∀ c : Dev nD, (⟨k0_dev46 c, k0_dev46_lt c⟩ : Dev nD) = xp c := dev29_eq
theorem dev47_eq : ∀ c : Dev nD, (⟨k0_dev47 c, k0_dev47_lt c⟩ : Dev nD) = xn c := dev27_eq
theorem dev48_eq : ∀ c : Dev nD, (⟨k0_dev48 c, k0_dev48_lt c⟩ : Dev nD) = xn c := dev27_eq
theorem dev49_eq : ∀ c : Dev nD, (⟨k0_dev49 c, k0_dev49_lt c⟩ : Dev nD) = xp c := dev29_eq
theorem dev50_eq : ∀ c : Dev nD, (⟨k0_dev50 c, k0_dev50_lt c⟩ : Dev nD) = xp c := dev29_eq

/-! The conditional injections: conditional `k` of injection `i` runs where chunk `k` is the `i`-th. -/

theorem cond1_iff : ∀ c : Dev nD, k0_cond1 c = 1#1 ↔ kOf (zz c) 0 = 0 := by decide +kernel
theorem cond2_iff : ∀ c : Dev nD, k0_cond2 c = 1#1 ↔ kOf (zz c) 0 = 1 := by decide +kernel
theorem cond3_iff : ∀ c : Dev nD, k0_cond3 c = 1#1 ↔ kOf (zz c) 0 = 2 := by decide +kernel
theorem cond4_iff : ∀ c : Dev nD, k0_cond4 c = 1#1 ↔ kOf (zz c) 0 = 3 := by decide +kernel
theorem cond5_iff : ∀ c : Dev nD, k0_cond5 c = 1#1 ↔ kOf (zz c) 1 = 0 := by decide +kernel
theorem cond6_iff : ∀ c : Dev nD, k0_cond6 c = 1#1 ↔ kOf (zz c) 1 = 1 := by decide +kernel
theorem cond7_iff : ∀ c : Dev nD, k0_cond7 c = 1#1 ↔ kOf (zz c) 1 = 2 := by decide +kernel
theorem cond8_iff : ∀ c : Dev nD, k0_cond8 c = 1#1 ↔ kOf (zz c) 1 = 3 := by decide +kernel
theorem cond9_iff : ∀ c : Dev nD, k0_cond9 c = 1#1 ↔ kOf (zz c) 2 = 0 := by decide +kernel
theorem cond10_iff : ∀ c : Dev nD, k0_cond10 c = 1#1 ↔ kOf (zz c) 2 = 1 := by decide +kernel
theorem cond11_iff : ∀ c : Dev nD, k0_cond11 c = 1#1 ↔ kOf (zz c) 2 = 2 := by decide +kernel
theorem cond12_iff : ∀ c : Dev nD, k0_cond12 c = 1#1 ↔ kOf (zz c) 2 = 3 := by decide +kernel
theorem cond13_iff : ∀ c : Dev nD, k0_cond13 c = 1#1 ↔ kOf (zz c) 3 = 0 := by decide +kernel
theorem cond14_iff : ∀ c : Dev nD, k0_cond14 c = 1#1 ↔ kOf (zz c) 3 = 1 := by decide +kernel
theorem cond15_iff : ∀ c : Dev nD, k0_cond15 c = 1#1 ↔ kOf (zz c) 3 = 2 := by decide +kernel
theorem cond16_iff : ∀ c : Dev nD, k0_cond16 c = 1#1 ↔ kOf (zz c) 3 = 3 := by decide +kernel

end Cert.KernelIdealProof

end
-- ==== Proof.Proto.lean ====
/-
The protocol of the kernel's transfers: the slabs as memrefs, the sums they hold, the semaphore cells, and what each
cell hands over (one round per cell).
-/
module

public import proofs.«01_k».proof.Proof.Mesh
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's copy and the protocol's (duties `Fin 4`) -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## Slabs as memrefs -/

theorem inb2 : ∀ (s : Fin 4) (a : Fin 3), (![s.val % 2, 0, 0] : Fin 3 → Nat) a + S1x256x1024.size a ≤ S2x256x1024.size a := by decide +kernel
theorem inb3 : ∀ (s : Fin 3) (a : Fin 3), (![s.val, 0, 0] : Fin 3 → Nat) a + S1x256x1024.size a ≤ S3x256x1024.size a := by decide +kernel
theorem inb4 : ∀ (s : Fin 4) (a : Fin 3), (![s.val, 0, 0] : Fin 3 → Nat) a + S1x256x1024.size a ≤ S4x256x1024.size a := by decide +kernel
theorem inb47 : ∀ (k : Fin 4) (h : Fin 7) (a : Fin 4), (![k.val, h.val, 0, 0] : Fin 4 → Nat) a + S1x1x256x1024.size a ≤ S4x7x256x1024.size a := by decide +kernel

/-- The whole scratch buffers: the loaded block of the argument, the sums, the two landing buffers along `z`, the
    injected copies, the landing buffer of the eight-device ring; and the result's staging buffer and the argument. -/
abbrev xM : Memref sig .tc .vmem S1024x1024 .f32 := Memref.whole cc0_scratch0
abbrev sM : Memref sig .tc .vmem S2x256x1024 .bf16 := Memref.whole cc0_scratch1
abbrev rM : Memref sig .tc .vmem S3x256x1024 .bf16 := Memref.whole cc0_scratch2
abbrev gM : Memref sig .tc .vmem S3x256x1024 .bf16 := Memref.whole cc0_scratch3
abbrev jM : Memref sig .tc .vmem S4x256x1024 .bf16 := Memref.whole cc0_scratch4
abbrev tM : Memref sig .tc .vmem S4x7x256x1024 .bf16 := Memref.whole cc0_scratch5
abbrev oM : Memref sig .tc .vmem S8192x1024 .bf16 := Memref.whole cc0_stg0_0
abbrev aM : Memref sig .tc .hbm S8192x1024 .f32 := Memref.whole main_arg0

abbrev rect2 (s : Fin 4) : Rect S2x256x1024 := Rect.unit (s := S2x256x1024) ![s.val % 2, 0, 0] S1x256x1024.size (inb2 s)
abbrev rect3 (s : Fin 3) : Rect S3x256x1024 := Rect.unit (s := S3x256x1024) ![s.val, 0, 0] S1x256x1024.size (inb3 s)
abbrev rect4 (s : Fin 4) : Rect S4x256x1024 := Rect.unit (s := S4x256x1024) ![s.val, 0, 0] S1x256x1024.size (inb4 s)
abbrev rect47 (k : Fin 4) (h : Fin 7) : Rect S4x7x256x1024 := Rect.unit (s := S4x7x256x1024) ![k.val, h.val, 0, 0] S1x1x256x1024.size (inb47 k h)

/-- Slab `i` as a memref. -/
def itM : It → Memref sig .tc .vmem S256x1024 .bf16
  | .v s => (sM.slice (rect2 s) (fun _ => rfl)).squeeze S256x1024 squeezes_S1x256x1024_S256x1024
  | .inj k => (jM.slice (rect4 k) (fun _ => rfl)).squeeze S256x1024 squeezes_S1x256x1024_S256x1024
  | .dst (.rs s) => (rM.slice (rect3 s) (fun _ => rfl)).squeeze S256x1024 squeezes_S1x256x1024_S256x1024
  | .dst (.ag t) => (gM.slice (rect3 t) (fun _ => rfl)).squeeze S256x1024 squeezes_S1x256x1024_S256x1024
  | .dst (.st k h) => (tM.slice (rect47 k h) (fun _ => rfl)).squeeze S256x1024 squeezes_S1x1x256x1024_S256x1024

/-! ## Cells -/

/-- The runtime's barrier semaphore. -/
abbrev barS : Sem sig := (SemArray.scalar (sig.barrier 0 rfl) : Sems sig S_).sem
/-- The semaphore of the copy of the argument's block. -/
def ldS : DmaSem sig := ⟨1, by decide⟩
/-- The send and receive semaphores of channel `j`. -/
def sndS : Ch → DmaSem sig
  | .rs s => ⟨2 + s.val, Nat.lt_of_lt_of_le (Nat.add_lt_add_left s.isLt 2) (by decide)⟩
  | .ag t => ⟨8 + t.val, Nat.lt_of_lt_of_le (Nat.add_lt_add_left t.isLt 8) (by decide)⟩
  | .st k h => ⟨14 + (k.val * 7 + h.val), Nat.lt_of_lt_of_le (show _ < 42 by have := k.isLt; have := h.isLt; omega) (by decide)⟩
def rcvS : Ch → DmaSem sig
  | .rs s => ⟨5 + s.val, Nat.lt_of_lt_of_le (Nat.add_lt_add_left s.isLt 5) (by decide)⟩
  | .ag t => ⟨11 + t.val, Nat.lt_of_lt_of_le (Nat.add_lt_add_left t.isLt 11) (by decide)⟩
  | .st k h => ⟨42 + (k.val * 7 + h.val), Nat.lt_of_lt_of_le (show _ < 70 by have := k.isLt; have := h.isLt; omega) (by decide)⟩

/-- The protocol's cells on a device. -/
inductive Cl where
  | bar
  | ld
  | snd (j : Ch)
  | rcv (j : Ch)
deriving DecidableEq
instance : Fintype Cl := Fintype.ofEquiv (Unit ⊕ Unit ⊕ Ch ⊕ Ch)
  { toFun := fun | .inl _ => .bar | .inr (.inl _) => .ld | .inr (.inr (.inl j)) => .snd j | .inr (.inr (.inr j)) => .rcv j
    invFun := fun | .bar => .inl () | .ld => .inr (.inl ()) | .snd j => .inr (.inr (.inl j)) | .rcv j => .inr (.inr (.inr j))
    left_inv := fun x => by rcases x with _ | _ | j | j <;> rfl
    right_inv := fun x => by cases x <;> rfl }

def csem : Cl → SemLoc sig
  | .bar => .reg barS
  | .ld => .dma ldS
  | .snd j => .dma (sndS j)
  | .rcv j => .dma (rcvS j)

theorem csem_inj : ∀ k k' : Cl, csem k = csem k' → k = k' := by decide +kernel

abbrev kcell (ck : Dev nD × Cl) : GSem nD τ sig := ((ck.1 : Thread nD τ), csem ck.2)
theorem kcell_injective : Function.Injective (kcell : Dev nD × Cl → GSem nD τ sig) := by
  rintro ⟨c, k⟩ ⟨c', k'⟩ h
  have h1 : c = c' := congrArg (fun g : GSem nD τ sig => g.1.1) h
  have h2 : csem k = csem k' := congrArg Prod.snd h
  rw [h1, csem_inj k k' h2]

/-- Which of the protocol's cells a semaphore is, if any. -/
def dec (s : SemLoc sig) : Option Cl := if h : ∃ k, csem k = s then some (Classical.choose h) else none
theorem dec_csem (k : Cl) : dec (csem k) = some k := by
  have h : ∃ k', csem k' = csem k := ⟨k, rfl⟩
  unfold dec; rw [dif_pos h]; exact congrArg some (csem_inj _ _ (Classical.choose_spec h))

/-- The bytes' credit of a slab's transfer, and of the argument's block. -/
abbrev N : ℕ := (itM (.v 0)).view.dmaCredit
abbrev NL : ℕ := xM.view.dmaCredit
theorem N_pos : 0 < N := View.dmaCredit_pos _ (by decide)
theorem NL_pos : 0 < NL := View.dmaCredit_pos _ (by decide)
theorem itM_credit (i : It) : (itM i).view.dmaCredit = N := by
  rcases i with s | k | (s | t | ⟨k, h⟩) <;> rfl

/-! ## The sums -/

section Values
variable (m : (ℓ : Loc nD τ sig) → Buf (Elt F) ℓ)

theorem inbX : ∀ (i : Fin 4) (a : Fin 2), (![i.val * 256, 0] : Fin 2 → Nat) a + S256x1024.size a ≤ S1024x1024.size a := by decide +kernel
theorem inbA : ∀ (q : Fin 8) (a : Fin 2), (![q.val * 1024, 0] : Fin 2 → Nat) a + S1024x1024.size a ≤ S8192x1024.size a := by decide +kernel
abbrev rectX (i : Fin 4) : Rect S1024x1024 := Rect.unit (s := S1024x1024) ![i.val * 256, 0] S256x1024.size (inbX i)
abbrev rectA (q : Fin 8) : Rect S8192x1024 := Rect.unit (s := S8192x1024) ![q.val * 1024, 0] S1024x1024.size (inbA q)

/-- The argument on device `c`, -/
abbrev argAt (c : Dev nD) : Buf (Elt F) ((c : Thread nD τ).loc main_arg0) := m ((c : Thread nD τ).loc main_arg0)
/-- the block of it the kernel loads, -/
def xslC (c : Dev nD) : (cc0_scratch0 : Ref sig .tc).ty.Contents (Elt F) :=
  (aM.slice (rectA (pl c)) (fun _ => rfl)).view.read (Elt F) (argAt m c)
/-- and chunk `i` of that block, cast. -/
def chunk (c : Dev nD) (i : Fin 4) : FVec F S256x1024 .bf16 :=
  truncf .bf16 (xM.view.readAt (Elt F) (rectX i).toLoadRect (xslC m c) : Vec F S256x1024 .f32) bitsLt_bf16_f32

/-- Partial sum `n` of device `c`: its own chunk, then one more chunk per step on top of the previous device's sum. -/
def vv : ℕ → Dev nD → FVec F S256x1024 .bf16
  | 0, c => chunk m c (zz c)
  | n + 1, c => addf (chunk m c (zz c + 3 - Fin.ofNat 4 n)) (vv n (zp c))

/-- What slab `i` of device `c` holds. -/
def cv (i : It) (c : Dev nD) : FVec F S256x1024 .bf16 := vv m (key i c).1.val (key i c).2

theorem cv_tgt (j : Ch) (c : Dev nD) : cv m (.dst j) (tgt j c) = cv m (srcIt j) c := by
  unfold cv; rw [key_tgt]
theorem cv_inj (c : Dev nD) (i : Fin 4) : cv m (injIt i) c = cv m (.inj (kOf (zz c) i)) c := by
  unfold cv; rw [key_inj]

end Values

/-! ## The schedule -/

section Sched
variable (m : (ℓ : Loc nD τ sig) → Buf (Elt F) ℓ)

/-- What the `d`-th handshake signal hands the device it reaches: the sender's landing slabs of the channels that come
    from it. -/
def barPay (c : Dev nD) (d : Fin 4) : sProp 𝕄 :=
  bigSep (Finset.univ.filter fun j : Ch => duOf j = d) fun j => iprop(∃ X, owns ((tgt j c : Dev nD) : Thread nD τ) (itM (.dst j)) fullShare X)
/-- What the copy of the argument's block hands back: the block in place and the argument. -/
def ldPay (c : Dev nD) : sProp 𝕄 :=
  iprop(((c : Thread nD τ).loc cc0_scratch0 ↦{fullShare} xslC m c)
    ∗ ((aM.slice (rectA (pl c)) (fun _ => rfl)).view.loc (c : Thread nD τ) ↦[(aM.slice (rectA (pl c)) (fun _ => rfl)).view.set]{fullShare.left} argAt m c))
/-- What a send hands back: the half share it reads from. -/
def sndPay (c : Dev nD) (j : Ch) : sProp 𝕄 := owns (c : Thread nD τ) (itM (srcIt j)) fullShare.left (cv m (srcIt j) c)
/-- What an arrival hands over: the landing slab, filled. -/
def rcvPay (c : Dev nD) (j : Ch) : sProp 𝕄 := owns (c : Thread nD τ) (itM (.dst j)) fullShare (cv m (.dst j) c)

def pay (c : Dev nD) (d : Fin 4) : Option Cl → sProp 𝕄
  | some .bar => barPay c d
  | some .ld => ldPay m c
  | some (.snd j) => sndPay m c j
  | some (.rcv j) => rcvPay m c j
  | none => iprop(emp)
def dut : Option Cl → Finset (Fin 4)
  | some .bar => Finset.univ
  | some _ => {0}
  | none => ∅
def amt : Option Cl → ℕ
  | some .bar => 1
  | some .ld => NL
  | _ => N

/-- One round per cell: the barrier's of four unit duties, every other's of one duty. -/
def Rd : Rounds.Schedule (GSem nD τ sig) (Fin 4) 𝕄 where
  duties g r := if r = 0 ∧ g.1.2 = .tc then dut (dec g.2) else ∅
  unitless _ := False
  amount g _ _ := amt (dec g.2)
  payload g _ d := pay m g.1.1 d (dec g.2)
  amount_pos g _ _ _ := by
    unfold amt; split
    · exact Nat.one_pos
    · exact NL_pos
    · exact N_pos

omit [FloatOps F] in
instance barPay_storable (c : Dev nD) (d : Fin 4) : BI.Storable (upEmb : UEmb _ 𝕄) (barPay (F := F) c d) := by unfold barPay; infer_instance
instance ldPay_storable (c : Dev nD) : BI.Storable (upEmb : UEmb _ 𝕄) (ldPay (F := F) m c) := by unfold ldPay; infer_instance
instance sndPay_storable (c : Dev nD) (j : Ch) : BI.Storable (upEmb : UEmb _ 𝕄) (sndPay (F := F) m c j) := by unfold sndPay; infer_instance
instance rcvPay_storable (c : Dev nD) (j : Ch) : BI.Storable (upEmb : UEmb _ 𝕄) (rcvPay (F := F) m c j) := by unfold rcvPay; infer_instance
instance Rd_payload_storable (g : GSem nD τ sig) (r : ℕ) (d : Fin 4) : BI.Storable (upEmb : UEmb _ 𝕄) ((Rd (F := F) m).payload g r d) := by
  show BI.Storable upEmb (pay m g.1.1 d (dec g.2))
  unfold pay; split <;> infer_instance

theorem duties_k (c : Dev nD) (k : Cl) : (Rd (F := F) m).duties (kcell (c, k)) 0 = dut (some k) := by
  dsimp only [Rd]; rw [if_pos ⟨rfl, rfl⟩]; exact congrArg dut (dec_csem k)
theorem duties_later (g : GSem nD τ sig) : ∀ r, 1 ≤ r → (Rd (F := F) m).duties g r = ∅ :=
  fun r hr => by dsimp only [Rd]; rw [if_neg fun h => by omega]
theorem amount_k (c : Dev nD) (k : Cl) (d : Fin 4) : (Rd (F := F) m).amount (kcell (c, k)) 0 d = amt (some k) := congrArg amt (dec_csem k)
theorem payload_k (c : Dev nD) (k : Cl) (d : Fin 4) : (Rd (F := F) m).payload (kcell (c, k)) 0 d = pay m c d (some k) := by
  show pay m c d (dec (csem k)) = _; rw [dec_csem]

theorem expect_bar (c : Dev nD) : (Rd (F := F) m).expect (kcell (c, .bar)) 0 = 4 := by
  unfold Schedule.expect Schedule.amountOf
  rw [duties_k, Finset.sum_congr rfl fun d _ => amount_k m c .bar d]; rfl
theorem expect_one (c : Dev nD) (k : Cl) (hk : k ≠ .bar) : (Rd (F := F) m).expect (kcell (c, k)) 0 = amt (some k) := by
  unfold Schedule.expect Schedule.amountOf
  rw [duties_k, Finset.sum_congr rfl fun d _ => amount_k m c k d]
  cases k <;> first | exact absurd rfl hk | exact Finset.sum_singleton _ _
theorem rest_one (c : Dev nD) (k : Cl) (hk : k ≠ .bar) :
    bigSep ((Rd (F := F) m).duties (kcell (c, k)) 0 \ ∅) (fun d => (Rd (F := F) m).payload (kcell (c, k)) 0 d) = pay m c 0 (some k) := by
  rw [Finset.sdiff_empty, duties_k]
  have : dut (some k) = {0} := by cases k <;> first | exact absurd rfl hk | rfl
  rw [this, bigSep_singleton, payload_k]
theorem rest_bar (c : Dev nD) :
    bigSep ((Rd (F := F) m).duties (kcell (c, .bar)) 0 \ ∅) (fun d => (Rd (F := F) m).payload (kcell (c, .bar)) 0 d) = bigSep Finset.univ fun d => barPay c d := by
  rw [Finset.sdiff_empty, duties_k]
  exact bigSep_congr fun d _ => payload_k m c .bar d

end Sched

/-! ## Levels -/

/-- Every wait is for something whose owers owe only what comes later in this order. -/
def lvC : Option Cl → ℕ
  | some .bar => 1
  | some (.rcv (.rs s)) => 2 + s.val
  | some (.rcv (.ag t)) => 5 + t.val
  | some (.rcv (.st _ h)) => 8 + h.val
  | _ => 0
def L (g : GSem nD τ sig) : Finset Unit := if g.1.2 = .tc then {()} else ∅
def lv (g : GSem nD τ sig) (_ : Unit) : ℕ := lvC (dec g.2)

theorem L_of_ne (g : GSem nD τ sig) (h : g.1.2 ≠ .tc) : L g = ∅ := if_neg h
theorem L_tc (c : Dev nD) (sm : SemLoc sig) : L ((c : Thread nD τ), sm) = {()} := if_pos rfl
theorem lv_k (c : Dev nD) (k : Cl) : lv (kcell (c, k)) () = lvC (some k) := congrArg lvC (dec_csem k)

end Cert.KernelIdealProof

end
-- ==== Proof.Slab.lean ====
/-
Slabs of 256 × 1024 elements: splitting a slab's ownership into two shares and joining it again, loading one through the
buffer it lies in, storing one, and changing one member of a family of resources.
-/
module

public import proofs.«01_k».proof.Proof.Proto
public import Idealize.ShloMosaic.Lib.Pipeline.Value

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## One member of a family -/

theorem upd_entry {ι σ : Type} [Fintype ι] [DecidableEq ι] (R : ι → σ → sProp 𝕄) (f : ι → σ) (i : ι) :
    (bigSep Finset.univ fun j => R j (f j)) ⊢ iprop(R i (f i) ∗ ∀ v : σ, (R i v -∗ bigSep Finset.univ fun j => R j (Function.update f i v j))) := by
  rw [bigSep_univ_at _ i]
  iintro ⟨H, Hr⟩
  isplitl [H]; · iexact H
  iintro %v Hv
  rw [bigSep_univ_at (fun j => R j (Function.update f i v j)) i, Function.update_self]
  isplitl [Hv]; · iexact Hv
  rw [show bigSep (Finset.univ.erase i) (fun j => R j (Function.update f i v j)) = bigSep (Finset.univ.erase i) (fun j => R j (f j)) from
    bigSep_congr fun j hj => congrArg (R j) (Function.update_of_ne (Finset.ne_of_mem_erase hj) v f)]
  iexact Hr

/-! ## Shares -/

section Shares
variable (c : Thread nD τ) {sp : Space} {sh : Shape} {e : EltTy} (M : Memref sig c.2.kind sp sh e) (X : sh.Idx → Elt F e)

omit [FloatOps F] in
theorem owns_halve : (owns c M fullShare X : sProp 𝕄) ⊢ iprop(owns c M fullShare.left X ∗ owns c M fullShare.right X) := by
  unfold owns
  iintro ⟨%f, %hf, H⟩
  ihave H := (pointsTo_share (PosShare.mem_left_op_right fullShare)).1 $$ H
  icases H with ⟨H1, H2⟩
  isplitl [H1]
  · iexists f; isplitr; · (ipureintro; exact hf)
    iexact H1
  · iexists f; isplitr; · (ipureintro; exact hf)
    iexact H2

omit [FloatOps F] in
theorem owns_unhalve : iprop(owns c M fullShare.left X ∗ owns c M fullShare.right X) ⊢ (owns c M fullShare X : sProp 𝕄) := by
  unfold owns
  iintro ⟨⟨%f, %hf, H1⟩, ⟨%g, %hg, H2⟩⟩
  have hfg : ∀ i ∈ M.view.set, f i = g i := fun i hi => by
    obtain ⟨x, -, rfl⟩ := Finset.mem_map.mp hi
    have hx := congrFun (hf.trans hg.symm) x
    simp only [View.read] at hx
    exact (cast_inj _).mp hx
  iexists f
  isplitr; · (ipureintro; exact hf)
  ihave H2 := (Entails.of_eq (pointsTo_congr (q := fullShare.right) hfg).symm) $$ H2
  have hj : iprop((M.view.loc c ↦[M.view.set]{fullShare.left} f) ∗ (M.view.loc c ↦[M.view.set]{fullShare.right} f))
      ⊢ (M.view.loc c ↦[M.view.set]{fullShare} f : sProp 𝕄) := (pointsTo_share (PosShare.mem_left_op_right fullShare)).2
  iapply hj
  isplitl [H1]; · iexact H1
  iexact H2

end Shares

/-! ## Loads and stores of a slab -/

section Slab
variable (c : Dev nD) {sh : Shape} {M : Memref sig .tc .vmem sh .bf16} {r : Rect sh} {hr : ∀ a, r.stride a = 1} {hq : r.shape.Squeezes S256x1024}

/-- A load of the rows a slab lies in reads the slab's contents. -/
theorem wp_load_slab {α : Type} {Q : α → sProp 𝕄} (hc : r.shape.ShapeCasts S256x1024) (hc' : S256x1024.ShapeCasts r.shape) {S : Memref sig .tc .vmem S256x1024 .bf16} (hS : S = (M.slice r hr).squeeze S256x1024 hq)
    {q : PosShare TreeShare} {X : FVec F S256x1024 .bf16}
    {hl : M.view.LoadsAt r.toLoadRect} {k : (r.toLoadRect.shape.Idx → Elt F .bf16) → Prog (TpuEff nD τ sig (Elt F) Λ₀ .tc) α} :
    (owns (c : Thread nD τ) S q X)
      ⊢ iprop((owns (c : Thread nD τ) S q X -∗ wp frame (wpE (defs₀ (F := F)) 𝒱₀ (c : Thread nD τ) none) Set.univ (k (shapeCast r.shape X hc')) Q)
          -∗ wp frame (wpE (defs₀ (F := F)) 𝒱₀ (c : Thread nD τ) none) Set.univ (.op (.load M r.toLoadRect hl) k) Q) := by
  subst hS
  unfold owns
  iintro ⟨%f, %hf, H⟩ Hk
  have hset : ((M.slice r hr).squeeze S256x1024 hq).view.set = M.view.setOn r.set :=
    (View.set_reshape (v := (M.slice r hr).view) (hq.numel_eq)).trans (View.set_slice (v := M.view) r)
  have hread : M.view.readAt (Elt F) r.toLoadRect f = shapeCast r.shape X hc' := by
    rw [← hf, Memref.read_squeeze_slice M r hr hq hc f]
    exact (shapeCast_shapeCast (M.view.readAt (Elt F) r.toLoadRect f) hc hc').symm
  iapply (wp_load 𝒱₀ (c : Thread nD τ) none Set.univ (m := M) (r := r.toLoadRect) hset.ge) $$ H; iintro H
  rw [hread]
  iapply Hk
  iexists f; isplitr; · (ipureintro; exact hf)
  iexact H

/-- A store of the rows a slab lies in leaves the stored values in the slab. -/
theorem wp_store_slab {α : Type} {Q : α → sProp 𝕄} (hc : r.shape.ShapeCasts S256x1024) {S : Memref sig .tc .vmem S256x1024 .bf16} (hS : S = (M.slice r hr).squeeze S256x1024 hq)
    {X : FVec F S256x1024 .bf16} {w : r.shape.Idx → Elt F .bf16}
    {hx : (M.access r).Stores Finset.univ} {hm : (Finset.univ : Finset r.shape.Idx) = Finset.univ ∨ ∀ a, r.stride a = 1} {k : PUnit → Prog (TpuEff nD τ sig (Elt F) Λ₀ .tc) α} :
    (owns (c : Thread nD τ) S fullShare X)
      ⊢ iprop((owns (c : Thread nD τ) S fullShare (shapeCast S256x1024 w hc : FVec F S256x1024 .bf16) -∗ wp frame (wpE (defs₀ (F := F)) 𝒱₀ (c : Thread nD τ) none) Set.univ (k ⟨⟩) Q)
          -∗ wp frame (wpE (defs₀ (F := F)) 𝒱₀ (c : Thread nD τ) none) Set.univ (.op (.store M r w Finset.univ hx hm) k) Q) := by
  subst hS
  unfold owns
  iintro ⟨%f, %hf, H⟩ Hk
  have hset : ((M.slice r hr).squeeze S256x1024 hq).view.set = (M.access r).setOn Finset.univ :=
    View.set_reshape (v := (M.slice r hr).view) (hq.numel_eq)
  iapply (wp_store 𝒱₀ (c : Thread nD τ) none Set.univ (m := M) (r := r) (Mk := Finset.univ) hset.ge) $$ H; iintro H
  iapply Hk
  iexists ((M.access r).write (Elt F) f w Finset.univ); isplitr
  · ipureintro
    rw [Memref.read_squeeze_slice M r hr hq hc]
    exact congrArg (fun v => shapeCast S256x1024 v hc) (View.read_write_univ (Val := Elt F) (v := M.access r) f w)
  iexact H

end Slab

end Cert.KernelIdealProof

end
-- ==== Proof.Inv.lean ====
/-
What a device holds between two operations of the kernel, as a function of how far each transfer has come, and how each
kind of operation changes it.
-/
module

public import proofs.«01_k».proof.Proof.Slab

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Phases -/

/-- How far a device is. `snd j`: channel `j` not yet sent (0), in flight (1), its send awaited (2). `rcv j`: its arrival
    awaited. `own i`: slab `i` not held (0), a half share of it held (1), held in full (2), held with no known contents (3).
    `st i`: slab `i` stored to the result. -/
structure Ph where
  snd : Ch → Fin 3
  rcv : Ch → Bool
  own : It → Fin 4
  st : It → Bool

namespace Ph
/-- Channel `j` is sent: half its source slab goes along. -/
def send (p : Ph) (j : Ch) : Ph := { p with snd := Function.update p.snd j 1, own := Function.update p.own (srcIt j) 1 }
/-- Channel `j`'s arrival is awaited. -/
def recv (p : Ph) (j : Ch) : Ph := { p with rcv := Function.update p.rcv j true, own := Function.update p.own (.dst j) 2 }
/-- Channel `j`'s send is awaited. -/
def swait (p : Ph) (j : Ch) : Ph := { p with snd := Function.update p.snd j 2, own := Function.update p.own (srcIt j) 2 }
/-- Slab `i` is written in the place of slab `i₀`. -/
def store (p : Ph) (i₀ i : It) : Ph := { p with own := Function.update (Function.update p.own i₀ 0) i 2 }
/-- Slab `i` is stored to the result. -/
def out (p : Ph) (i : It) : Ph := { p with st := Function.update p.st i true }
end Ph

/-! ## The invariant -/

section Inv
variable (m : (ℓ : Loc nD τ sig) → Buf (Elt F) ℓ) (K : Dev nD × Cl → ℕ) (c : Dev nD)

/-- Every cell's invariant, and that its round is open. -/
def records : sProp 𝕄 :=
  bigSep Finset.univ fun ck : Dev nD × Cl => iprop(cellInv ER (Rd m) (K ck) (kcell ck) ∗ reached ER (kcell ck) 0)
instance records_persistent : Persistent (records m K) := by unfold records; infer_instance

theorem records_elim (ck : Dev nD × Cl) : records m K ⊢ iprop(cellInv ER (Rd m) (K ck) (kcell ck) ∗ reached ER (kcell ck) 0) :=
  bigSep_elim (Finset.mem_univ ck)

def sndRes (j : Ch) (s : Fin 3) : sProp 𝕄 :=
  match s with
  | 0 => iprop(dutyTok ER (kcell (c, .snd j)) 0 0 ∗ dutyTok ER (kcell (tgt j c, .rcv j)) 0 0
      ∗ (∃ X, owns ((tgt j c : Dev nD) : Thread nD τ) (itM (.dst j)) fullShare X) ∗ atPos ER (kcell (c, .snd j)) 0 ∅ 0)
  | 1 => iprop(cred (tallyAt (kcell (c, .snd j)) () N) ∗ atPos ER (kcell (c, .snd j)) 0 ∅ 0)
  | 2 => semVal (kcell (c, .snd j)) 0
def rcvRes (j : Ch) (s : Bool) : sProp 𝕄 :=
  match s with
  | false => iprop(cred (tallyAt (kcell (c, .rcv j)) () N) ∗ atPos ER (kcell (c, .rcv j)) 0 ∅ 0)
  | true => semVal (kcell (c, .rcv j)) 0
def itRes (i : It) (s : Fin 4) : sProp 𝕄 :=
  match s with
  | 0 => iprop(emp)
  | 1 => owns (c : Thread nD τ) (itM i) fullShare.right (cv m i c)
  | 2 => owns (c : Thread nD τ) (itM i) fullShare (cv m i c)
  | 3 => iprop(∃ X, owns (c : Thread nD τ) (itM i) fullShare X)

theorem sndRes_0 (j : Ch) : sndRes (F := F) c j 0 = iprop(dutyTok ER (kcell (c, .snd j)) 0 0 ∗ dutyTok ER (kcell (tgt j c, .rcv j)) 0 0
      ∗ (∃ X, owns ((tgt j c : Dev nD) : Thread nD τ) (itM (.dst j)) fullShare X) ∗ atPos ER (kcell (c, .snd j)) 0 ∅ 0) := rfl
theorem sndRes_1 (j : Ch) : sndRes (F := F) c j 1 = iprop(cred (tallyAt (kcell (c, .snd j)) () N) ∗ atPos ER (kcell (c, .snd j)) 0 ∅ 0) := rfl
theorem sndRes_2 (j : Ch) : sndRes (F := F) c j 2 = semVal (kcell (c, .snd j)) 0 := rfl
theorem rcvRes_f (j : Ch) : rcvRes (F := F) c j false = iprop(cred (tallyAt (kcell (c, .rcv j)) () N) ∗ atPos ER (kcell (c, .rcv j)) 0 ∅ 0) := rfl
theorem rcvRes_t (j : Ch) : rcvRes (F := F) c j true = semVal (kcell (c, .rcv j)) 0 := rfl
theorem itRes_1 (i : It) : itRes m c i 1 = owns (c : Thread nD τ) (itM i) fullShare.right (cv m i c) := rfl
theorem itRes_2 (i : It) : itRes m c i 2 = owns (c : Thread nD τ) (itM i) fullShare (cv m i c) := rfl
theorem itRes_3 (i : It) : itRes m c i 3 = iprop(∃ X, owns (c : Thread nD τ) (itM i) fullShare X) := rfl

/-- What the device still owes: the arrivals of what it has not sent. -/
def owed (f : Ch → Fin 3) : CellTallies nD τ sig Unit :=
  ∑ j ∈ Finset.univ.filter (fun j => f j = 0), tallyAt (kcell (tgt j c, .rcv j)) () N

theorem inbO : ∀ (b : Fin 32) (a : Fin 2), (![b.val * 256, 0] : Fin 2 → Nat) a + S256x1024.size a ≤ S8192x1024.size a := by decide +kernel
/-- Block `b` of the result. -/
abbrev rectO (b : Fin 32) : Rect S8192x1024 := Rect.unit (s := S8192x1024) ![b.val * 256, 0] S256x1024.size (inbO b)

/-- The blocks stored so far hold their sums. -/
def OutOk (st : It → Bool) (f : (cc0_stg0_0 : Ref sig .tc).ty.Contents (Elt F)) : Prop :=
  ∀ i, st i = true → (oM.view.readAt (Elt F) (rectO (bIdx i c)).toLoadRect f : FVec F S256x1024 .bf16) = vv m 3 (bDev (bIdx i c))
def outRes (st : It → Bool) : sProp 𝕄 :=
  iprop(∃ f : Buf (Elt F) ((c : Thread nD τ).loc cc0_stg0_0), ⌜OutOk m c st f⌝ ∗ ((c : Thread nD τ).loc cc0_stg0_0 ↦{fullShare} f))

def Inv (p : Ph) : sProp 𝕄 :=
  iprop(records m K ∗ levAts L lv ∗ (∃ W, owes (c : Thread nD τ) (owed c p.snd) W)
    ∗ (bigSep Finset.univ fun j => sndRes (F := F) c j (p.snd j))
    ∗ (bigSep Finset.univ fun j => rcvRes (F := F) c j (p.rcv j))
    ∗ (bigSep Finset.univ fun i => itRes m c i (p.own i))
    ∗ ((c : Thread nD τ).loc cc0_scratch0 ↦{fullShare} xslC m c)
    ∗ outRes m c p.st)

/-! ## Levels -/

theorem owed_update (f : Ch → Fin 3) (j : Ch) (hj : f j = 0) :
    owed c f = owed c (Function.update f j 1) + tallyAt (kcell (tgt j c, .rcv j)) () N := by
  unfold owed
  have h : Finset.univ.filter (fun j' => f j' = 0) = insert j (Finset.univ.filter fun j' => Function.update f j 1 j' = 0) := by
    ext j'
    by_cases e : j' = j
    · subst e; simp [hj]
    · simp [e, Function.update_of_ne e]
  rw [h, Finset.sum_insert (by simp), add_comm]

theorem owed_done (f : Ch → Fin 3) (j : Ch) (hj : f j = 1) : owed c (Function.update f j 2) = owed c f := by
  unfold owed
  congr 1
  ext j'
  by_cases e : j' = j
  · subst e; simp [hj]
  · simp [Function.update_of_ne e]

theorem owed_pos (f : Ch → Fin 3) (g : GSem nD τ sig) (u : Unit) (h : 0 < owed c f g u) :
    ∃ j, f j = 0 ∧ g = kcell (tgt j c, .rcv j) := by
  by_contra hn
  push Not at hn
  have : owed c f g u = 0 := by
    unfold owed
    rw [Finset.sum_apply, Finsupp.finset_sum_apply]
    refine Finset.sum_eq_zero fun j hj => ?_
    rw [tallyAt_apply, if_neg]
    exact fun h' => hn j (Finset.mem_filter.mp hj).2 h'.1
  omega

theorem mem_k (k : Cl) (hk : k ≠ .bar) : (0 : Fin 4) ∈ (Rd m).duties (kcell (c, k)) 0 := by
  rw [duties_k]; cases k <;> first | exact absurd rfl hk | exact Finset.mem_singleton_self _

/-- A wait on cell `k` may happen when everything still owed comes later. -/
theorem mayWait (f : Ch → Fin 3) (k : Cl) (hk : ∀ j, f j = 0 → lvC (some k) < lvC (some (.rcv j))) :
    (levAts L lv : sProp 𝕄) ⊢ MayWait (c : Thread nD τ) (csem k) () (owed c f) :=
  MayOwe.of_cut (L := L) (lev := lv) (lvC (some k)) (fun p hp => by rw [Finset.mem_singleton.mp hp, L_tc]; exact Finset.mem_singleton_self _)
    (fun g u hg => by
      obtain ⟨j, -, rfl⟩ := owed_pos c f g u hg
      rw [L_tc]; exact Finset.mem_singleton_self _)
    (fun p hp => by rw [Finset.mem_singleton.mp hp]; exact (lv_k c k).le)
    (fun g u hg => by
      obtain ⟨j, hj, rfl⟩ := owed_pos c f g u hg
      rw [lv_k]; exact hk j hj)

theorem lv_rcv_pos : ∀ j : Ch, 0 < lvC (some (.rcv j)) := by decide +kernel

/-! ## Operations on slabs -/

set_option maxHeartbeats 1000000 in
/-- A remote copy of channel `j`. -/
theorem step_send {α : Type} {Q : α → sProp 𝕄} (p : Ph) (j : Ch) (hs : p.snd j = 0) (ho : p.own (srcIt j) = 2) {n : Dev nD} (hn : n = tgt j c)
    {src : Memref sig .tc .vmem S256x1024 .bf16} {dst : Memref sig (Dev.tc n : Thread nD τ).2.kind .vmem S256x1024 .bf16} {sS sR : DmaSem sig}
    (hsrc' : src = itM (srcIt j)) (hdst' : dst = itM (.dst j)) (hsS : sS = sndS j) (hsR : sR = rcvS j)
    {hsc : dst.view.ref.isScScratch = false} {hsrc : src.view.WordExact} {hdst : dst.view.WordExact}
    {hsem : DmaTarget.Typed .vmem (.dma sR) (.remote (Dev.tc n : Thread nD τ) dst (.dma sS) hsc)}
    {k : PUnit → Prog (TpuEff nD τ sig (Elt F) Λ₀ .tc) α} :
    Inv m K c p
      ⊢ iprop((Inv m K c (p.send j) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) k) Q) := by
  subst hn hsrc' hdst' hsS hsR
  unfold Inv
  iintro ⟨#HR, #HL, ⟨%W, HO⟩, Hs, Hr, Hi, Hx, Hout⟩ Hk
  ihave Hs := (upd_entry (fun j s => sndRes (F := F) c j s) p.snd j) $$ Hs
  rw [hs, sndRes_0]
  icases Hs with ⟨⟨Ht1, Ht2, ⟨%X, Hd⟩, Hat⟩, Hs⟩
  ihave Hi := (upd_entry (fun i s => itRes m c i s) p.own (srcIt j)) $$ Hi
  rw [ho, itRes_2]
  icases Hi with ⟨H, Hi⟩
  ihave H := (owns_halve (c : Thread nD τ) (itM (srcIt j)) (cv m (srcIt j) c)) $$ H
  icases H with ⟨Hl, Hh⟩
  ihave Hi := Hi $$ %1 [Hh]
  · rw [itRes_1]; iexact Hh
  ihave #R1 := (records_elim m K (c, .snd j)) $$ HR
  icases R1 with ⟨HI1, Hr1⟩
  ihave #R2 := (records_elim m K (tgt j c, .rcv j)) $$ HR
  icases R2 with ⟨HI2, Hr2⟩
  unfold owns
  icases Hl with ⟨%fs, %hfs, Hl⟩
  icases Hd with ⟨%fd, %hfd, Hd⟩
  have hpay₁ : ((itM (srcIt j)).view.loc (c : Thread nD τ) ↦[(itM (srcIt j)).view.set]{fullShare.left} fs : sProp 𝕄) ⊢ (Rd m).payload ((c : Thread nD τ), SemLoc.dma (sndS j)) 0 0 := by
    refine BIBase.Entails.trans ?_ (Entails.of_eq (payload_k m c (.snd j) 0).symm)
    change _ ⊢ (owns (c : Thread nD τ) (itM (srcIt j)) fullShare.left (cv m (srcIt j) c) : sProp 𝕄); rw [← hfs]
    exact owns_intro (c : Thread nD τ) (itM (srcIt j)) fullShare.left fs
  have hpay₂ : ((itM (.dst j)).view.loc ((tgt j c : Dev nD) : Thread nD τ) ↦[(itM (.dst j)).view.set]{fullShare}
        ((itM (.dst j)).view.write (Elt F) fd ((itM (srcIt j)).view.read (Elt F) fs) Finset.univ) : sProp 𝕄) ⊢ (Rd m).payload (((tgt j c : Dev nD) : Thread nD τ), SemLoc.dma (rcvS j)) 0 0 := by
    refine BIBase.Entails.trans ?_ (Entails.of_eq (payload_k m (tgt j c) (.rcv j) 0).symm)
    change _ ⊢ (owns ((tgt j c : Dev nD) : Thread nD τ) (itM (.dst j)) fullShare (cv m (.dst j) (tgt j c)) : sProp 𝕄); rw [cv_tgt, hfs]
    refine (owns_intro ((tgt j c : Dev nD) : Thread nD τ) (itM (.dst j)) fullShare _).trans ?_
    rw [View.read_write_univ]
  have hN : (itM (.dst j)).view.amount (SemLoc.dma (rcvS j)) = N := itM_credit (.dst j)
  have hk₁ : (Rd (F := F) m).amount ((c : Thread nD τ), SemLoc.dma (sndS j)) 0 0 = N := amount_k m c (.snd j) 0
  have hk₂ : (Rd (F := F) m).amount (((tgt j c : Dev nD) : Thread nD τ), SemLoc.dma (rcvS j)) 0 0 = N := amount_k m (tgt j c) (.rcv j) 0
  have hd₁ : (0 : Fin 4) ∈ (Rd (F := F) m).duties ((c : Thread nD τ), SemLoc.dma (sndS j)) 0 := mem_k m c (.snd j) (by simp)
  have hd₂ : (0 : Fin 4) ∈ (Rd (F := F) m).duties (((tgt j c : Dev nD) : Thread nD τ), SemLoc.dma (rcvS j)) 0 := mem_k m (tgt j c) (.rcv j) (by simp)
  have hO : owed c p.snd = owed c (Function.update p.snd j 1) + tallyAt (((tgt j c : Dev nD) : Thread nD τ), SemLoc.dma (rcvS j)) () N := owed_update c p.snd j hs
  have hw := (Rounds.wp_send_pointsTo 𝒱₀ ER (Rd m) (c : Thread nD τ) none (κ₁ := K (c, .snd j)) (κ₂ := K (tgt j c, .rcv j))
      (fs := fs) (fd := fd) hd₁ hd₂ () () N hN hk₁ hk₂ (owed c (Function.update p.snd j 1)) hO (W := W)
      hpay₁ hpay₂ (hr := Topo.routes_tc _ _) (Q := Q) (Es := Set.univ) (k := k) (defs := defs₀ (F := F)) (hsc := hsc) (hsrc := hsrc) (hdst := hdst) (hsem := hsem) (Γ := .empty))
  iapply hw $$ [Hl Hd HO Ht1 Ht2]
  · isplitr; · iexact HI1
    isplitr; · iexact HI2
    isplitl [Hl]; · iexact Hl
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  ihave Hs := Hs $$ %1 [Hc Hat]
  · rw [sndRes_1]; isplitl [Hc]; · iexact Hc
    iexact Hat
  isplitr; · iexact HR
  isplitr; · iexact HL
  isplitl [HO]; · iexists W; iexact HO
  isplitl [Hs]; · iexact Hs
  isplitl [Hr]; · iexact Hr
  isplitl [Hi]; · iexact Hi
  isplitl [Hx]; · iexact Hx
  iexact Hout

/-- The wait for the arrival of channel `j`. -/
theorem step_recv {α : Type} {Q : α → sProp 𝕄} (p : Ph) (j : Ch) (hr : p.rcv j = false) (ho : p.own (.dst j) = 0)
    (hlv : ∀ j', p.snd j' = 0 → lvC (some (.rcv j)) < lvC (some (.rcv j')))
    {s : DmaSem sig} (hs : s = rcvS j) {src dst : Memref sig .tc .vmem S256x1024 .bf16} (hN : dst.view.dmaCredit = N)
    {hsrc : src.view.WordExact} {hdst : dst.view.WordExact} {k : PUnit → Prog (TpuEff nD τ sig (Elt F) Λ₀ .tc) α} :
    Inv m K c p
      ⊢ iprop((Inv m K c (p.recv j) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s src dst hsrc hdst) k) Q) := by
  subst hs
  unfold Inv
  iintro ⟨#HR, #HL, ⟨%W, HO⟩, Hs, Hr, Hi, Hx, Hout⟩ Hk
  ihave Hr := (upd_entry (fun j s => rcvRes (F := F) c j s) p.rcv j) $$ Hr
  rw [hr, rcvRes_f]
  icases Hr with ⟨⟨Hc, Hat⟩, Hr⟩
  ihave #R1 := (records_elim m K (c, .rcv j)) $$ HR
  icases R1 with ⟨HI1, -⟩
  iapply (Rounds.wp_wait_rest_token 𝒱₀ ER (Rd m) (c : Thread nD τ) none (κ := K (c, .rcv j)) (sm := .dma (rcvS j))
      (wpE_waitDma2_eq 𝒱₀ (c : Thread nD τ) none Set.univ) (Set.mem_univ _) () (O := owed c p.snd) (W := W) (R := 0) (m := 0) (T := ∅)
      (by rw [Nat.zero_add, hN]; exact (expect_one m c (.rcv j) (by simp)).symm)) $$ [Hc HO Hat]
  · isplitr; · iexact HI1
    isplitl [Hc]; · rw [hN]; iexact Hc
    isplitl [HO]; · iexact HO
    isplitr; · iapply (mayWait c p.snd (.rcv j) hlv); iexact HL
    iexact Hat
  iintro ⟨HO, Hat, -, Hpay⟩
  have hrest : bigSep ((Rd (F := F) m).duties ((c : Thread nD τ), SemLoc.dma (rcvS j)) 0 \ ∅) (fun d => (Rd (F := F) m).payload ((c : Thread nD τ), SemLoc.dma (rcvS j)) 0 d)
      ⊢ owns (c : Thread nD τ) (itM (.dst j)) fullShare (cv m (.dst j) c) := Entails.of_eq (rest_one m c (.rcv j) (by simp))
  ihave H := hrest $$ Hpay
  imod (Rounds.cell_close ER (Rd m) (Set.mem_univ (K (c, .rcv j))) (fun h => h) (R := 0 + 1) (duties_later m (kcell (c, .rcv j)))) $$ [Hat] with Hz
  · isplitr; · iexact HI1
    iexact Hat
  ihave Hr := Hr $$ %true [Hz]
  · rw [rcvRes_t]; iexact Hz
  ihave Hi := (upd_entry (fun i s => itRes m c i s) p.own (.dst j)) $$ Hi
  rw [ho]
  icases Hi with ⟨-, Hi⟩
  ihave Hi := Hi $$ %2 [H]
  · rw [itRes_2]; iexact H
  iapply Hk
  isplitr; · iexact HR
  isplitr; · iexact HL
  isplitl [HO]; · iexists _; iexact HO
  isplitl [Hs]; · iexact Hs
  isplitl [Hr]; · iexact Hr
  isplitl [Hi]; · iexact Hi
  isplitl [Hx]; · iexact Hx
  iexact Hout

/-- The wait for channel `j`'s own send: the half share of the source slab comes back. -/
theorem step_swait {α : Type} {Q : α → sProp 𝕄} (p : Ph) (j : Ch) (hj : p.snd j = 1) (ho : p.own (srcIt j) = 1)
    {s : DmaSem sig} (hs : s = sndS j) {src dst : Memref sig .tc .vmem S256x1024 .bf16} (hN : dst.view.dmaCredit = N)
    {hsrc : src.view.WordExact} {hdst : dst.view.WordExact} {k : PUnit → Prog (TpuEff nD τ sig (Elt F) Λ₀ .tc) α} :
    Inv m K c p
      ⊢ iprop((Inv m K c (p.swait j) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s src dst hsrc hdst) k) Q) := by
  subst hs
  unfold Inv
  iintro ⟨#HR, #HL, ⟨%W, HO⟩, Hs, Hr, Hi, Hx, Hout⟩ Hk
  ihave Hs := (upd_entry (fun j s => sndRes (F := F) c j s) p.snd j) $$ Hs
  rw [hj, sndRes_1]
  icases Hs with ⟨⟨Hc, Hat⟩, Hs⟩
  ihave #R1 := (records_elim m K (c, .snd j)) $$ HR
  icases R1 with ⟨HI1, -⟩
  iapply (Rounds.wp_wait_rest_token 𝒱₀ ER (Rd m) (c : Thread nD τ) none (κ := K (c, .snd j)) (sm := .dma (sndS j))
      (wpE_waitDma2_eq 𝒱₀ (c : Thread nD τ) none Set.univ) (Set.mem_univ _) () (O := owed c p.snd) (W := W) (R := 0) (m := 0) (T := ∅)
      (by rw [Nat.zero_add, hN]; exact (expect_one m c (.snd j) (by simp)).symm)) $$ [Hc HO Hat]
  · isplitr; · iexact HI1
    isplitl [Hc]; · rw [hN]; iexact Hc
    isplitl [HO]; · iexact HO
    isplitr; · iapply (mayWait c p.snd (.snd j) (fun j' _ => lv_rcv_pos j')); iexact HL
    iexact Hat
  iintro ⟨HO, Hat, -, Hpay⟩
  have hrest : bigSep ((Rd (F := F) m).duties ((c : Thread nD τ), SemLoc.dma (sndS j)) 0 \ ∅) (fun d => (Rd (F := F) m).payload ((c : Thread nD τ), SemLoc.dma (sndS j)) 0 d)
      ⊢ owns (c : Thread nD τ) (itM (srcIt j)) fullShare.left (cv m (srcIt j) c) := Entails.of_eq (rest_one m c (.snd j) (by simp))
  ihave H := hrest $$ Hpay
  imod (Rounds.cell_close ER (Rd m) (Set.mem_univ (K (c, .snd j))) (fun h => h) (R := 0 + 1) (duties_later m (kcell (c, .snd j)))) $$ [Hat] with Hz
  · isplitr; · iexact HI1
    iexact Hat
  ihave Hs := Hs $$ %2 [Hz]
  · rw [sndRes_2]; iexact Hz
  ihave Hi := (upd_entry (fun i s => itRes m c i s) p.own (srcIt j)) $$ Hi
  rw [ho, itRes_1]
  icases Hi with ⟨Hh, Hi⟩
  ihave Hi := Hi $$ %2 [H Hh]
  · rw [itRes_2]; iapply (owns_unhalve (c : Thread nD τ) (itM (srcIt j)) (cv m (srcIt j) c))
    isplitl [H]; · iexact H
    iexact Hh
  iapply Hk
  isplitr; · iexact HR
  isplitr; · iexact HL
  isplitl [HO]; · iexists _; unfold Ph.swait; dsimp only; rw [owed_done c p.snd j hj]; iexact HO
  isplitl [Hs]; · iexact Hs
  isplitl [Hr]; · iexact Hr
  isplitl [Hi]; · iexact Hi
  isplitl [Hx]; · iexact Hx
  iexact Hout

section Slabs
variable {sh : Shape} {M : Memref sig .tc .vmem sh .bf16} {r : Rect sh} {hr : ∀ a, r.stride a = 1} {hq : r.shape.Squeezes S256x1024}

/-- A load of a slab held at a known sum. -/
theorem step_load {α : Type} {Q : α → sProp 𝕄} (p : Ph) (i : It) (ho : p.own i = 1 ∨ p.own i = 2) (hc : r.shape.ShapeCasts S256x1024) (hc' : S256x1024.ShapeCasts r.shape)
    (hi : itM i = (M.slice r hr).squeeze S256x1024 hq)
    {hl : M.view.LoadsAt r.toLoadRect} {k : (r.toLoadRect.shape.Idx → Elt F .bf16) → Prog (TpuEff nD τ sig (Elt F) Λ₀ .tc) α} :
    Inv m K c p
      ⊢ iprop((Inv m K c p -∗ wp frame (wpE (defs₀ (F := F)) 𝒱₀ (c : Thread nD τ) none) Set.univ (k (shapeCast r.shape (cv m i c) hc')) Q)
          -∗ wp frame (wpE (defs₀ (F := F)) 𝒱₀ (c : Thread nD τ) none) Set.univ (.op (.load M r.toLoadRect hl) k) Q) := by
  unfold Inv
  iintro ⟨#HR, #HL, HO, Hs, Hr, Hi, Hx, Hout⟩ Hk
  ihave Hi := (upd_entry (fun i s => itRes m c i s) p.own i) $$ Hi
  rcases ho with ho | ho
  · rw [ho, itRes_1]
    icases Hi with ⟨H, Hi⟩
    have hw := wp_load_slab (Q := Q) (k := k) (hl := hl) (q := fullShare.right) (X := cv m i c) c hc hc' hi
    iapply hw $$ H; iintro H
    ihave Hi := Hi $$ %1 [H]
    · rw [itRes_1]; iexact H
    rw [show Function.update p.own i 1 = p.own from ho ▸ Function.update_eq_self i p.own]
    iapply Hk
    isplitr; · iexact HR
    isplitr; · iexact HL
    isplitl [HO]; · iexact HO
    isplitl [Hs]; · iexact Hs
    isplitl [Hr]; · iexact Hr
    isplitl [Hi]; · iexact Hi
    isplitl [Hx]; · iexact Hx
    iexact Hout
  · rw [ho, itRes_2]
    icases Hi with ⟨H, Hi⟩
    have hw := wp_load_slab (Q := Q) (k := k) (hl := hl) (q := fullShare) (X := cv m i c) c hc hc' hi
    iapply hw $$ H; iintro H
    ihave Hi := Hi $$ %2 [H]
    · rw [itRes_2]; iexact H
    rw [show Function.update p.own i 2 = p.own from ho ▸ Function.update_eq_self i p.own]
    iapply Hk
    isplitr; · iexact HR
    isplitr; · iexact HL
    isplitl [HO]; · iexact HO
    isplitl [Hs]; · iexact Hs
    isplitl [Hr]; · iexact Hr
    isplitl [Hi]; · iexact Hi
    isplitl [Hx]; · iexact Hx
    iexact Hout

/-- A load of a slab held in full, its value of no interest. -/
theorem step_peek {α : Type} {Q : α → sProp 𝕄} (p : Ph) (i : It) (ho : p.own i = 2 ∨ p.own i = 3) (hc : r.shape.ShapeCasts S256x1024) (hc' : S256x1024.ShapeCasts r.shape)
    (hi : itM i = (M.slice r hr).squeeze S256x1024 hq)
    {hl : M.view.LoadsAt r.toLoadRect} {k : (r.toLoadRect.shape.Idx → Elt F .bf16) → Prog (TpuEff nD τ sig (Elt F) Λ₀ .tc) α} :
    Inv m K c p
      ⊢ iprop((∀ x, Inv m K c p -∗ wp frame (wpE (defs₀ (F := F)) 𝒱₀ (c : Thread nD τ) none) Set.univ (k x) Q)
          -∗ wp frame (wpE (defs₀ (F := F)) 𝒱₀ (c : Thread nD τ) none) Set.univ (.op (.load M r.toLoadRect hl) k) Q) := by
  rcases ho with ho | ho
  · iintro H Hk
    iapply (step_load m K c p i (Or.inr ho) hc hc' hi) $$ H; iintro H
    iapply Hk $$ %_ H
  unfold Inv
  iintro ⟨#HR, #HL, HO, Hs, Hr, Hi, Hx, Hout⟩ Hk
  ihave Hi := (upd_entry (fun i s => itRes m c i s) p.own i) $$ Hi
  rw [ho, itRes_3]
  icases Hi with ⟨⟨%X, H⟩, Hi⟩
  have hw := wp_load_slab (Q := Q) (k := k) (hl := hl) (q := fullShare) (X := X) c hc hc' hi
  iapply hw $$ H; iintro H
  ihave Hi := Hi $$ %3 [H]
  · rw [itRes_3]; iexists X; iexact H
  rw [show Function.update p.own i 3 = p.own from ho ▸ Function.update_eq_self i p.own]
  iapply Hk $$ %_
  isplitr; · iexact HR
  isplitr; · iexact HL
  isplitl [HO]; · iexact HO
  isplitl [Hs]; · iexact Hs
  isplitl [Hr]; · iexact Hr
  isplitl [Hi]; · iexact Hi
  isplitl [Hx]; · iexact Hx
  iexact Hout

/-- A store of slab `i`'s sum in the place of slab `i₀`. -/
theorem step_store {α : Type} {Q : α → sProp 𝕄} (p : Ph) (i₀ i : It) (ho : p.own i₀ = 2 ∨ p.own i₀ = 3) (hn : i = i₀ ∨ p.own i = 0) (hc : r.shape.ShapeCasts S256x1024)
    (h₀ : itM i₀ = itM i) (hi : itM i = (M.slice r hr).squeeze S256x1024 hq) {w : r.shape.Idx → Elt F .bf16}
    (hw : (shapeCast S256x1024 w hc : FVec F S256x1024 .bf16) = cv m i c)
    {hx : (M.access r).Stores Finset.univ} {hm : (Finset.univ : Finset r.shape.Idx) = Finset.univ ∨ ∀ a, r.stride a = 1} {k : PUnit → Prog (TpuEff nD τ sig (Elt F) Λ₀ .tc) α} :
    Inv m K c p
      ⊢ iprop((Inv m K c (p.store i₀ i) -∗ wp frame (wpE (defs₀ (F := F)) 𝒱₀ (c : Thread nD τ) none) Set.univ (k ⟨⟩) Q)
          -∗ wp frame (wpE (defs₀ (F := F)) 𝒱₀ (c : Thread nD τ) none) Set.univ (.op (.store M r w Finset.univ hx hm) k) Q) := by
  unfold Inv
  iintro ⟨#HR, #HL, HO, Hs, Hr, Hi, Hx, Hout⟩ Hk
  ihave Hi := (upd_entry (fun i s => itRes m c i s) p.own i₀) $$ Hi
  icases Hi with ⟨H, Hi⟩
  have hX : itRes (F := F) m c i₀ (p.own i₀) ⊢ iprop(∃ X, owns (c : Thread nD τ) (itM i) fullShare X) := by
    rcases ho with ho | ho
    · rw [ho, itRes_2, h₀]; iintro H; iexists _; iexact H
    · rw [ho, itRes_3, h₀]
  ihave H := hX $$ H
  icases H with ⟨%X, H⟩
  iapply (wp_store_slab c hc hi) $$ H; iintro H
  ihave Hi := Hi $$ %0 []
  · unfold itRes; iempintro
  ihave Hi := (upd_entry (fun i s => itRes m c i s) (Function.update p.own i₀ 0) i) $$ Hi
  icases Hi with ⟨He, Hi⟩
  have he : Function.update p.own i₀ 0 i = 0 := by
    rcases hn with rfl | hn
    · exact Function.update_self _ _ _
    · by_cases e : i = i₀
      · subst e; exact Function.update_self _ _ _
      · rw [Function.update_of_ne e, hn]
  rw [he]
  ihave Hi := Hi $$ %2 [H]
  · rw [itRes_2, ← hw]; iexact H
  iclear He
  iapply Hk
  isplitr; · iexact HR
  isplitr; · iexact HL
  isplitl [HO]; · iexact HO
  isplitl [Hs]; · iexact Hs
  isplitl [Hr]; · iexact Hr
  isplitl [Hi]; · iexact Hi
  isplitl [Hx]; · iexact Hx
  iexact Hout

end Slabs

/-! ## Operations on the argument's block and on the result -/

/-- A load of chunk `i` of the argument's block. -/
theorem step_loadx {α : Type} {Q : α → sProp 𝕄} (p : Ph) (i : Fin 4) {off : Fin 2 → ℕ} (ho : off = ![i.val * 256, 0]) {inb : ∀ a, off a + S256x1024.size a ≤ S1024x1024.size a}
    {hl : (xM : Memref sig .tc .vmem S1024x1024 .f32).view.LoadsAt (Rect.unit (s := S1024x1024) off S256x1024.size inb).toLoadRect}
    {k : ((Rect.unit (s := S1024x1024) off S256x1024.size inb).toLoadRect.shape.Idx → Elt F .f32) → Prog (TpuEff nD τ sig (Elt F) Λ₀ .tc) α} :
    Inv m K c p
      ⊢ iprop((Inv m K c p -∗ wp frame (wpE (defs₀ (F := F)) 𝒱₀ (c : Thread nD τ) none) Set.univ (k (xM.view.readAt (Elt F) (rectX i).toLoadRect (xslC m c))) Q)
          -∗ wp frame (wpE (defs₀ (F := F)) 𝒱₀ (c : Thread nD τ) none) Set.univ (.op (.load xM (Rect.unit (s := S1024x1024) off S256x1024.size inb).toLoadRect hl) k) Q) := by
  subst ho
  unfold Inv
  iintro ⟨#HR, #HL, HO, Hs, Hr, Hi, Hx, Hout⟩ Hk
  iapply (wp_load 𝒱₀ (c : Thread nD τ) none Set.univ (m := xM) (Finset.subset_univ _)) $$ Hx; iintro Hx
  iapply Hk
  isplitr; · iexact HR
  isplitr; · iexact HL
  isplitl [HO]; · iexact HO
  isplitl [Hs]; · iexact Hs
  isplitl [Hr]; · iexact Hr
  isplitl [Hi]; · iexact Hi
  isplitl [Hx]; · iexact Hx
  iexact Hout

/-- A load of the result's buffer, its value of no interest. -/
theorem step_peeko {α : Type} {Q : α → sProp 𝕄} (p : Ph) {off : Fin 2 → ℕ} {inb : ∀ a, off a + S256x1024.size a ≤ S8192x1024.size a}
    {hl : (oM : Memref sig .tc .vmem S8192x1024 .bf16).view.LoadsAt (Rect.unit (s := S8192x1024) off S256x1024.size inb).toLoadRect}
    {k : ((Rect.unit (s := S8192x1024) off S256x1024.size inb).toLoadRect.shape.Idx → Elt F .bf16) → Prog (TpuEff nD τ sig (Elt F) Λ₀ .tc) α} :
    Inv m K c p
      ⊢ iprop((∀ x, Inv m K c p -∗ wp frame (wpE (defs₀ (F := F)) 𝒱₀ (c : Thread nD τ) none) Set.univ (k x) Q)
          -∗ wp frame (wpE (defs₀ (F := F)) 𝒱₀ (c : Thread nD τ) none) Set.univ (.op (.load oM (Rect.unit (s := S8192x1024) off S256x1024.size inb).toLoadRect hl) k) Q) := by
  unfold Inv outRes
  iintro ⟨#HR, #HL, HO, Hs, Hr, Hi, Hx, ⟨%f, %hf, Hout⟩⟩ Hk
  iapply (wp_load 𝒱₀ (c : Thread nD τ) none Set.univ (m := oM) (Finset.subset_univ _)) $$ Hout; iintro Hout
  iapply Hk $$ %_
  isplitr; · iexact HR
  isplitr; · iexact HL
  isplitl [HO]; · iexact HO
  isplitl [Hs]; · iexact Hs
  isplitl [Hr]; · iexact Hr
  isplitl [Hi]; · iexact Hi
  isplitl [Hx]; · iexact Hx
  iexists f; isplitr; · (ipureintro; exact hf)
  iexact Hout

theorem rectO_disjoint (b b' : Fin 32) (h : b ≠ b') (x y : S256x1024.Idx) : (rectO b).emb x ≠ (rectO b').emb y := by
  intro e
  have e0 : ((rectO b).emb x 0).val = ((rectO b').emb y 0).val := congrArg (fun i : S8192x1024.Idx => (i 0).val) e
  rw [Rect.emb_apply, Rect.emb_apply] at e0
  change b.val * 256 + 1 * (x 0).val = b'.val * 256 + 1 * (y 0).val at e0
  have hx : (x 0).val < 256 := (x 0).isLt
  have hy : (y 0).val < 256 := (y 0).isLt
  exact h (Fin.ext (by omega))

/-- Storing slab `i`'s finished sum to its block keeps every stored block right. -/
theorem outOk_store (st : It → Bool) (i : It) (hi : fin' i = true) (f : (cc0_stg0_0 : Ref sig .tc).ty.Contents (Elt F)) (hf : OutOk m c st f) :
    OutOk m c (Function.update st i true) (((oM : Memref sig .tc .vmem S8192x1024 .bf16).access (rectO (bIdx i c))).write (Elt F) f (cv m i c) Finset.univ) := by
  intro i' h'
  by_cases hb : bIdx i' c = bIdx i c
  · rw [hb]
    refine Eq.trans (View.read_write_univ (Val := Elt F) (v := (oM : Memref sig .tc .vmem S8192x1024 .bf16).access (rectO (bIdx i c))) f (cv m i c)) ?_
    unfold cv
    rw [key_fin i c hi, bDev_bIdx]; rfl
  · have hne : i' ≠ i := fun e => hb (by rw [e])
    rw [Function.update_of_ne hne] at h'
    refine Eq.trans ?_ (hf i' h')
    refine View.read_slice_write_slice_of_disjoint (Val := Elt F) (v := (oM : Memref sig .tc .vmem S8192x1024 .bf16).view) (rectO (bIdx i' c)) (rectO (bIdx i c)) f (cv m i c) Finset.univ ?_
    rw [Finset.disjoint_left]
    intro x hx hy
    obtain ⟨y, -, rfl⟩ := Finset.mem_map.mp hx
    obtain ⟨z, -, hz⟩ := Finset.mem_map.mp hy
    exact rectO_disjoint _ _ hb y z hz.symm

/-- The store of slab `i`'s finished sum to the result. -/
theorem step_out {α : Type} {Q : α → sProp 𝕄} (p : Ph) (i : It) (hi : fin' i = true) {off : Fin 2 → ℕ} (ho : off = ![(bIdx i c).val * 256, 0])
    {inb : ∀ a, off a + S256x1024.size a ≤ S8192x1024.size a} {w : (Rect.unit (s := S8192x1024) off S256x1024.size inb).shape.Idx → Elt F .bf16}
    (hw : (w : FVec F S256x1024 .bf16) = cv m i c)
    {hx : ((oM : Memref sig .tc .vmem S8192x1024 .bf16).access (Rect.unit (s := S8192x1024) off S256x1024.size inb)).Stores Finset.univ}
    {hm : (Finset.univ : Finset (Rect.unit (s := S8192x1024) off S256x1024.size inb).shape.Idx) = Finset.univ ∨ ∀ a, (Rect.unit (s := S8192x1024) off S256x1024.size inb).stride a = 1}
    {k : PUnit → Prog (TpuEff nD τ sig (Elt F) Λ₀ .tc) α} :
    Inv m K c p
      ⊢ iprop((Inv m K c (p.out i) -∗ wp frame (wpE (defs₀ (F := F)) 𝒱₀ (c : Thread nD τ) none) Set.univ (k ⟨⟩) Q)
          -∗ wp frame (wpE (defs₀ (F := F)) 𝒱₀ (c : Thread nD τ) none) Set.univ (.op (.store oM (Rect.unit (s := S8192x1024) off S256x1024.size inb) w Finset.univ hx hm) k) Q) := by
  subst ho
  unfold Inv outRes
  iintro ⟨#HR, #HL, HO, Hs, Hr, Hi, Hx, ⟨%f, %hf, Hout⟩⟩ Hk
  iapply (wp_store 𝒱₀ (c : Thread nD τ) none Set.univ (m := oM) (r := Rect.unit (s := S8192x1024) ![(bIdx i c).val * 256, 0] S256x1024.size inb) (Mk := Finset.univ) (Finset.subset_univ _)) $$ Hout; iintro Hout
  iapply Hk
  isplitr; · iexact HR
  isplitr; · iexact HL
  isplitl [HO]; · iexact HO
  isplitl [Hs]; · iexact Hs
  isplitl [Hr]; · iexact Hr
  isplitl [Hi]; · iexact Hi
  isplitl [Hx]; · iexact Hx
  iexists _; isplitr
  rotate_left
  · iexact Hout
  ipureintro
  exact (congrArg (fun v => OutOk m c (Function.update p.st i true) (((oM : Memref sig .tc .vmem S8192x1024 .bf16).access (rectO (bIdx i c))).write (Elt F) f v Finset.univ)) hw).mpr
    (outOk_store m c p.st i hi f hf)

end Inv

end Cert.KernelIdealProof

end
-- ==== Proof.Inject.lean ====
/-
A conditional injection of a finished chunk into the x rings, and the values the kernel stores.
-/
module

public import proofs.«01_k».proof.Proof.Inv

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

namespace Ph
/-- Chunk `k` is injected as the `i`-th one, on the devices where it is that one. -/
def inject (p : Ph) (z i k : Fin 4) : Ph := if kOf z i = k then (p.store (.inj k) (.inj k)).send (.st k 0) else p
end Ph

/-! ## The stored values -/

theorem castsBack : S256x1024.ShapeCasts S1x1x256x1024 := by decide

theorem pay5_eq (x : FVec F S256x1024 .bf16) (h : S256x1024.ShapeCasts S1x256x1024) : k0_pay5 (shapeCast S1x256x1024 x h) = x :=
  shapeCast_shapeCast x _ _
theorem pay6_eq (x : FVec F S256x1024 .bf16) (h : S256x1024.ShapeCasts S1x256x1024) (h' : S1x256x1024.ShapeCasts S256x1024) :
    shapeCast S256x1024 (k0_pay6 (shapeCast S1x256x1024 x h)) h' = x :=
  (shapeCast_shapeCast _ _ _).trans (shapeCast_shapeCast x _ _)
theorem pay7_eq (x : FVec F S256x1024 .bf16) (h : S256x1024.ShapeCasts S1x256x1024) (h' : S1x256x1024.ShapeCasts S256x1024) :
    shapeCast S256x1024 (k0_pay7 (shapeCast S1x256x1024 x h)) h' = x :=
  (shapeCast_shapeCast _ _ _).trans (shapeCast_shapeCast x _ _)
theorem pay8_eq (x : FVec F S256x1024 .bf16) (h : S256x1024.ShapeCasts S1x256x1024) (h' : S1x256x1024.ShapeCasts S256x1024) :
    shapeCast S256x1024 (k0_pay8 (shapeCast S1x256x1024 x h)) h' = x :=
  (shapeCast_shapeCast _ _ _).trans (shapeCast_shapeCast x _ _)
theorem pay9_eq (x : FVec F S256x1024 .bf16) (h : S256x1024.ShapeCasts S1x256x1024) (h' : S1x256x1024.ShapeCasts S256x1024) :
    shapeCast S256x1024 (k0_pay9 (shapeCast S1x256x1024 x h)) h' = x :=
  (shapeCast_shapeCast _ _ _).trans (shapeCast_shapeCast x _ _)
theorem pay10_eq (x : FVec F S256x1024 .bf16) (h : S256x1024.ShapeCasts S1x256x1024) : k0_pay10 (shapeCast S1x256x1024 x h) = x :=
  shapeCast_shapeCast x _ _
theorem pay11_eq (x : FVec F S256x1024 .bf16) (h : S256x1024.ShapeCasts S1x256x1024) (h' : S1x256x1024.ShapeCasts S256x1024) :
    shapeCast S256x1024 (k0_pay11 (shapeCast S1x256x1024 x h)) h' = x :=
  (shapeCast_shapeCast _ _ _).trans (shapeCast_shapeCast x _ _)
theorem pay12_eq (x : FVec F S256x1024 .bf16) (h : S256x1024.ShapeCasts S1x256x1024) (h' : S1x256x1024.ShapeCasts S256x1024) :
    shapeCast S256x1024 (k0_pay12 (shapeCast S1x256x1024 x h)) h' = x :=
  (shapeCast_shapeCast _ _ _).trans (shapeCast_shapeCast x _ _)
theorem pay13_eq (x : FVec F S256x1024 .bf16) (h : S256x1024.ShapeCasts S1x256x1024) (h' : S1x256x1024.ShapeCasts S256x1024) :
    shapeCast S256x1024 (k0_pay13 (shapeCast S1x256x1024 x h)) h' = x :=
  (shapeCast_shapeCast _ _ _).trans (shapeCast_shapeCast x _ _)
theorem pay14_eq (x : FVec F S256x1024 .bf16) (h : S256x1024.ShapeCasts S1x256x1024) (h' : S1x256x1024.ShapeCasts S256x1024) :
    shapeCast S256x1024 (k0_pay14 (shapeCast S1x256x1024 x h)) h' = x :=
  (shapeCast_shapeCast _ _ _).trans (shapeCast_shapeCast x _ _)
theorem pay15_eq (x : FVec F S256x1024 .bf16) (h : S256x1024.ShapeCasts S1x256x1024) : k0_pay15 (shapeCast S1x256x1024 x h) = x :=
  shapeCast_shapeCast x _ _
theorem pay16_eq (x : FVec F S256x1024 .bf16) (h : S256x1024.ShapeCasts S1x256x1024) (h' : S1x256x1024.ShapeCasts S256x1024) :
    shapeCast S256x1024 (k0_pay16 (shapeCast S1x256x1024 x h)) h' = x :=
  (shapeCast_shapeCast _ _ _).trans (shapeCast_shapeCast x _ _)
theorem pay17_eq (x : FVec F S256x1024 .bf16) (h : S256x1024.ShapeCasts S1x256x1024) (h' : S1x256x1024.ShapeCasts S256x1024) :
    shapeCast S256x1024 (k0_pay17 (shapeCast S1x256x1024 x h)) h' = x :=
  (shapeCast_shapeCast _ _ _).trans (shapeCast_shapeCast x _ _)
theorem pay18_eq (x : FVec F S256x1024 .bf16) (h : S256x1024.ShapeCasts S1x256x1024) (h' : S1x256x1024.ShapeCasts S256x1024) :
    shapeCast S256x1024 (k0_pay18 (shapeCast S1x256x1024 x h)) h' = x :=
  (shapeCast_shapeCast _ _ _).trans (shapeCast_shapeCast x _ _)
theorem pay19_eq (x : FVec F S256x1024 .bf16) (h : S256x1024.ShapeCasts S1x256x1024) (h' : S1x256x1024.ShapeCasts S256x1024) :
    shapeCast S256x1024 (k0_pay19 (shapeCast S1x256x1024 x h)) h' = x :=
  (shapeCast_shapeCast _ _ _).trans (shapeCast_shapeCast x _ _)
theorem pay20_eq (x : FVec F S256x1024 .bf16) (h : S256x1024.ShapeCasts S1x256x1024) : k0_pay20 (shapeCast S1x256x1024 x h) = x :=
  shapeCast_shapeCast x _ _
theorem pay21_eq (x : FVec F S256x1024 .bf16) (h : S256x1024.ShapeCasts S1x256x1024) (h' : S1x256x1024.ShapeCasts S256x1024) :
    shapeCast S256x1024 (k0_pay21 (shapeCast S1x256x1024 x h)) h' = x :=
  (shapeCast_shapeCast _ _ _).trans (shapeCast_shapeCast x _ _)
theorem pay22_eq (x : FVec F S256x1024 .bf16) (h : S256x1024.ShapeCasts S1x256x1024) (h' : S1x256x1024.ShapeCasts S256x1024) :
    shapeCast S256x1024 (k0_pay22 (shapeCast S1x256x1024 x h)) h' = x :=
  (shapeCast_shapeCast _ _ _).trans (shapeCast_shapeCast x _ _)
theorem pay23_eq (x : FVec F S256x1024 .bf16) (h : S256x1024.ShapeCasts S1x256x1024) (h' : S1x256x1024.ShapeCasts S256x1024) :
    shapeCast S256x1024 (k0_pay23 (shapeCast S1x256x1024 x h)) h' = x :=
  (shapeCast_shapeCast _ _ _).trans (shapeCast_shapeCast x _ _)
theorem pay24_eq (x : FVec F S256x1024 .bf16) (h : S256x1024.ShapeCasts S1x256x1024) (h' : S1x256x1024.ShapeCasts S256x1024) :
    shapeCast S256x1024 (k0_pay24 (shapeCast S1x256x1024 x h)) h' = x :=
  (shapeCast_shapeCast _ _ _).trans (shapeCast_shapeCast x _ _)
theorem pay25_eq (x : FVec F S256x1024 .bf16) (h : S256x1024.ShapeCasts S1x1x256x1024) : k0_pay25 (shapeCast S1x1x256x1024 x h) = x :=
  shapeCast_shapeCast x _ _
theorem pay26_eq (x : FVec F S256x1024 .bf16) (h : S256x1024.ShapeCasts S1x1x256x1024) : k0_pay26 (shapeCast S1x1x256x1024 x h) = x :=
  shapeCast_shapeCast x _ _
theorem pay27_eq (x : FVec F S256x1024 .bf16) (h : S256x1024.ShapeCasts S1x1x256x1024) : k0_pay27 (shapeCast S1x1x256x1024 x h) = x :=
  shapeCast_shapeCast x _ _
theorem pay28_eq (x : FVec F S256x1024 .bf16) (h : S256x1024.ShapeCasts S1x1x256x1024) : k0_pay28 (shapeCast S1x1x256x1024 x h) = x :=
  shapeCast_shapeCast x _ _
theorem pay29_eq (x : FVec F S256x1024 .bf16) (h : S256x1024.ShapeCasts S1x1x256x1024) : k0_pay29 (shapeCast S1x1x256x1024 x h) = x :=
  shapeCast_shapeCast x _ _
theorem pay30_eq (x : FVec F S256x1024 .bf16) (h : S256x1024.ShapeCasts S1x1x256x1024) : k0_pay30 (shapeCast S1x1x256x1024 x h) = x :=
  shapeCast_shapeCast x _ _
theorem pay31_eq (x : FVec F S256x1024 .bf16) (h : S256x1024.ShapeCasts S1x1x256x1024) : k0_pay31 (shapeCast S1x1x256x1024 x h) = x :=
  shapeCast_shapeCast x _ _
theorem pay32_eq (x : FVec F S256x1024 .bf16) (h : S256x1024.ShapeCasts S1x1x256x1024) : k0_pay32 (shapeCast S1x1x256x1024 x h) = x :=
  shapeCast_shapeCast x _ _
theorem pay33_eq (x : FVec F S256x1024 .bf16) (h : S256x1024.ShapeCasts S1x1x256x1024) : k0_pay33 (shapeCast S1x1x256x1024 x h) = x :=
  shapeCast_shapeCast x _ _
theorem pay34_eq (x : FVec F S256x1024 .bf16) (h : S256x1024.ShapeCasts S1x1x256x1024) : k0_pay34 (shapeCast S1x1x256x1024 x h) = x :=
  shapeCast_shapeCast x _ _
theorem pay35_eq (x : FVec F S256x1024 .bf16) (h : S256x1024.ShapeCasts S1x1x256x1024) : k0_pay35 (shapeCast S1x1x256x1024 x h) = x :=
  shapeCast_shapeCast x _ _
theorem pay36_eq (x : FVec F S256x1024 .bf16) (h : S256x1024.ShapeCasts S1x1x256x1024) : k0_pay36 (shapeCast S1x1x256x1024 x h) = x :=
  shapeCast_shapeCast x _ _
theorem pay37_eq (x : FVec F S256x1024 .bf16) (h : S256x1024.ShapeCasts S1x1x256x1024) : k0_pay37 (shapeCast S1x1x256x1024 x h) = x :=
  shapeCast_shapeCast x _ _
theorem pay38_eq (x : FVec F S256x1024 .bf16) (h : S256x1024.ShapeCasts S1x1x256x1024) : k0_pay38 (shapeCast S1x1x256x1024 x h) = x :=
  shapeCast_shapeCast x _ _
theorem pay39_eq (x : FVec F S256x1024 .bf16) (h : S256x1024.ShapeCasts S1x1x256x1024) : k0_pay39 (shapeCast S1x1x256x1024 x h) = x :=
  shapeCast_shapeCast x _ _
theorem pay40_eq (x : FVec F S256x1024 .bf16) (h : S256x1024.ShapeCasts S1x1x256x1024) : k0_pay40 (shapeCast S1x1x256x1024 x h) = x :=
  shapeCast_shapeCast x _ _
theorem pay41_eq (x : FVec F S256x1024 .bf16) (h : S256x1024.ShapeCasts S1x1x256x1024) : k0_pay41 (shapeCast S1x1x256x1024 x h) = x :=
  shapeCast_shapeCast x _ _
theorem pay42_eq (x : FVec F S256x1024 .bf16) (h : S256x1024.ShapeCasts S1x1x256x1024) : k0_pay42 (shapeCast S1x1x256x1024 x h) = x :=
  shapeCast_shapeCast x _ _
theorem pay43_eq (x : FVec F S256x1024 .bf16) (h : S256x1024.ShapeCasts S1x1x256x1024) : k0_pay43 (shapeCast S1x1x256x1024 x h) = x :=
  shapeCast_shapeCast x _ _
theorem pay44_eq (x : FVec F S256x1024 .bf16) (h : S256x1024.ShapeCasts S1x1x256x1024) : k0_pay44 (shapeCast S1x1x256x1024 x h) = x :=
  shapeCast_shapeCast x _ _
theorem pay45_eq (x : FVec F S256x1024 .bf16) (h : S256x1024.ShapeCasts S1x1x256x1024) : k0_pay45 (shapeCast S1x1x256x1024 x h) = x :=
  shapeCast_shapeCast x _ _
theorem pay46_eq (x : FVec F S256x1024 .bf16) (h : S256x1024.ShapeCasts S1x1x256x1024) : k0_pay46 (shapeCast S1x1x256x1024 x h) = x :=
  shapeCast_shapeCast x _ _
theorem pay47_eq (x : FVec F S256x1024 .bf16) (h : S256x1024.ShapeCasts S1x1x256x1024) : k0_pay47 (shapeCast S1x1x256x1024 x h) = x :=
  shapeCast_shapeCast x _ _
theorem pay48_eq (x : FVec F S256x1024 .bf16) (h : S256x1024.ShapeCasts S1x1x256x1024) : k0_pay48 (shapeCast S1x1x256x1024 x h) = x :=
  shapeCast_shapeCast x _ _
theorem pay49_eq (x : FVec F S256x1024 .bf16) (h : S256x1024.ShapeCasts S1x1x256x1024) : k0_pay49 (shapeCast S1x1x256x1024 x h) = x :=
  shapeCast_shapeCast x _ _
theorem pay50_eq (x : FVec F S256x1024 .bf16) (h : S256x1024.ShapeCasts S1x1x256x1024) : k0_pay50 (shapeCast S1x1x256x1024 x h) = x :=
  shapeCast_shapeCast x _ _
theorem pay51_eq (x : FVec F S256x1024 .bf16) (h : S256x1024.ShapeCasts S1x1x256x1024) : k0_pay51 (shapeCast S1x1x256x1024 x h) = x :=
  shapeCast_shapeCast x _ _
theorem pay52_eq (x : FVec F S256x1024 .bf16) (h : S256x1024.ShapeCasts S1x1x256x1024) : k0_pay52 (shapeCast S1x1x256x1024 x h) = x :=
  shapeCast_shapeCast x _ _

section Vals
variable (m : (ℓ : Loc nD τ sig) → Buf (Elt F) ℓ) (c : Dev nD)

theorem val_v0 : (shapeCast S256x1024 (k0_pay1 (xM.view.readAt (Elt F) (rectX (zz c)).toLoadRect (xslC m c))) shapeCasts_S1x256x1024_S256x1024 : FVec F S256x1024 .bf16) = cv m (.v 0) c :=
  shapeCast_shapeCast _ _ _
theorem val_v1 : (shapeCast S256x1024 (k0_pay2 (xM.view.readAt (Elt F) (rectX (zz c + 3 - (⟨0, by decide⟩ : Fin 4))).toLoadRect (xslC m c))
    (shapeCast S1x256x1024 (cv m (.dst (.rs 0)) c) shapeCasts_S256x1024_S1x256x1024)) shapeCasts_S1x256x1024_S256x1024 : FVec F S256x1024 .bf16) = cv m (.v 1) c := by
  refine (shapeCast_shapeCast _ _ _).trans ?_
  rw [shapeCast_shapeCast]
  rfl
theorem val_v2 : (shapeCast S256x1024 (k0_pay3 (xM.view.readAt (Elt F) (rectX (zz c + 3 - (⟨1, by decide⟩ : Fin 4))).toLoadRect (xslC m c))
    (shapeCast S1x256x1024 (cv m (.dst (.rs 1)) c) shapeCasts_S256x1024_S1x256x1024)) shapeCasts_S1x256x1024_S256x1024 : FVec F S256x1024 .bf16) = cv m (.v 2) c := by
  refine (shapeCast_shapeCast _ _ _).trans ?_
  rw [shapeCast_shapeCast]
  rfl
theorem val_v3 : (shapeCast S256x1024 (k0_pay4 (xM.view.readAt (Elt F) (rectX (zz c + 3 - (⟨2, by decide⟩ : Fin 4))).toLoadRect (xslC m c))
    (shapeCast S1x256x1024 (cv m (.dst (.rs 2)) c) shapeCasts_S256x1024_S1x256x1024)) shapeCasts_S1x256x1024_S256x1024 : FVec F S256x1024 .bf16) = cv m (.v 3) c := by
  refine (shapeCast_shapeCast _ _ _).trans ?_
  rw [shapeCast_shapeCast]
  rfl

theorem cv_injk (i k : Fin 4) (h : kOf (zz c) i = k) : cv m (injIt i) c = cv m (.inj k) c := by
  subst h; exact cv_inj m c i

end Vals

/-! ## A conditional injection -/

section Inject
variable (m : (ℓ : Loc nD τ sig) → Buf (Elt F) ℓ) (K : Dev nD × Cl → ℕ) (c : Dev nD)

/-- The `i`-th injection: on the devices where chunk `k` is the one to go, its slab is copied and sent. -/
theorem step_inject {α : Type} {Q : α → sProp 𝕄} (p : Ph) (i k : Fin 4)
    (hp : kOf (zz c) i = k → p.snd (.st k 0) = 0 ∧ p.own (.inj k) = 3 ∧ (p.own (injIt i) = 1 ∨ p.own (injIt i) = 2))
    {P : Prop} [Decidable P] (hP : P ↔ kOf (zz c) i = k)
    {sh : Shape} {M : Memref sig .tc .vmem sh .bf16} {r : Rect sh} {hr : ∀ a, r.stride a = 1} {hq : r.shape.Squeezes S256x1024}
    (hc : r.shape.ShapeCasts S256x1024) (hc' : S256x1024.ShapeCasts r.shape) (hi : itM (injIt i) = (M.slice r hr).squeeze S256x1024 hq)
    {sh' : Shape} {M' : Memref sig .tc .vmem sh' .bf16} {r' : Rect sh'} {hr' : ∀ a, r'.stride a = 1} {hq' : r'.shape.Squeezes S256x1024}
    (hd : r'.shape.ShapeCasts S256x1024) (hd' : S256x1024.ShapeCasts r'.shape) (hj : itM (.inj k) = (M'.slice r' hr').squeeze S256x1024 hq')
    {pay : (r.toLoadRect.shape.Idx → Elt F .bf16) → (r'.shape.Idx → Elt F .bf16)}
    (hpay : (shapeCast S256x1024 (pay (shapeCast r.shape (cv m (injIt i) c) hc')) hd : FVec F S256x1024 .bf16) = cv m (injIt i) c)
    {n : P → Dev nD} (hn : ∀ h, n h = tgt (.st k 0) c)
    {src : P → Memref sig .tc .vmem S256x1024 .bf16} {dst : P → Memref sig .tc .vmem S256x1024 .bf16} {sS sR : P → DmaSem sig}
    (hsrc' : ∀ h, src h = itM (.inj k)) (hdst' : ∀ h, dst h = itM (.dst (.st k 0))) (hsS : ∀ h, sS h = sndS (.st k 0)) (hsR : ∀ h, sR h = rcvS (.st k 0))
    {hl : P → M.view.LoadsAt r.toLoadRect} {hl' : P → M'.view.LoadsAt r'.toLoadRect}
    {hx : P → (M'.access r').Stores Finset.univ} {hm : P → ((Finset.univ : Finset r'.shape.Idx) = Finset.univ ∨ ∀ a, r'.stride a = 1)}
    {hsc : ∀ h, (dst h).view.ref.isScScratch = false} {hsrc : ∀ h, (src h).view.WordExact} {hdst : ∀ h, (dst h).view.WordExact}
    {hsem : ∀ h, DmaTarget.Typed .vmem (.dma (sR h)) (.remote (Dev.tc (n h) : Thread nD τ) (dst h) (.dma (sS h)) (hsc h))} {R : Prog (TpuEff nD τ sig (Elt F) Λ₀ .tc) α} :
    Inv m K c p
      ⊢ iprop((Inv m K c (p.inject (zz c) i k) -∗ wp frame (wpE (defs₀ (F := F)) 𝒱₀ (c : Thread nD τ) none) Set.univ R Q)
          -∗ wp frame (wpE (defs₀ (F := F)) 𝒱₀ (c : Thread nD τ) none) Set.univ
              (dite P
                (fun h => .op (.load M r.toLoadRect (hl h)) fun v => .op (.load M' r'.toLoadRect (hl' h)) fun _ =>
                  .op (.store M' r' (pay v) Finset.univ (hx h) (hm h)) fun _ =>
                    .op (.enqueueDma (src h) (.remote (Dev.tc (n h) : Thread nD τ) (dst h) (.dma (sS h)) (hsc h)) (.dma (sR h)) (hsrc h) (hdst h) (hsem h)) fun _ => R)
                (fun _ => R)) Q) := by
  by_cases h : P
  · have hk := hP.1 h
    obtain ⟨h1, h2, h3⟩ := hp hk
    rw [dif_pos h, show p.inject (zz c) i k = (p.store (.inj k) (.inj k)).send (.st k 0) from if_pos hk]
    iintro H Hk
    iapply (step_load m K c p (injIt i) h3 hc hc' hi) $$ H; iintro H
    iapply (step_peek m K c p (.inj k) (.inr h2) hd hd' hj) $$ H; iintro %_ H
    iapply (step_store m K c p (.inj k) (.inj k) (.inr h2) (.inl rfl) hd rfl hj (hpay.trans (cv_injk m c i k hk))) $$ H; iintro H
    iapply (step_send m K c (p.store (.inj k) (.inj k)) (.st k 0) h1 (Function.update_self _ _ _) (hn h) (hsrc' h) (hdst' h) (hsS h) (hsR h)) $$ H; iintro H
    iapply Hk $$ H
  · rw [dif_neg h, show p.inject (zz c) i k = p from if_neg (fun hk => h (hP.2 hk))]
    iintro H Hk
    iapply Hk $$ H

end Inject

end Cert.KernelIdealProof

end
-- ==== Proof.Names.lean ====
/-
The slabs and the semaphores as the kernel's program writes them.
-/
module

public import proofs.«01_k».proof.Proof.Inject

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem sl_v_0 : itM (.v 0) = ((sM : Memref sig .tc .vmem S2x256x1024 .bf16).slice (Rect.unit (s := S2x256x1024) ![0, 0, 0] ![1, 256, 1024] inb_S2x256x1024_S1x256x1024_0_0_0) (fun _ => rfl)).squeeze S256x1024 squeezes_S1x256x1024_S256x1024 := rfl
theorem cr_b_0_0_0 : (((sM : Memref sig .tc .vmem S2x256x1024 .bf16).slice (Rect.unit (s := S2x256x1024) ![0, 0, 0] ![1, 256, 1024] inb_S2x256x1024_S1x256x1024_0_0_0) (fun _ => rfl)).squeeze S256x1024 squeezes_S1x256x1024_S256x1024).view.dmaCredit = N := itM_credit (.v 0)
theorem sl_v_1 : itM (.v 1) = ((sM : Memref sig .tc .vmem S2x256x1024 .bf16).slice (Rect.unit (s := S2x256x1024) ![1, 0, 0] ![1, 256, 1024] inb_S2x256x1024_S1x256x1024_1_0_0) (fun _ => rfl)).squeeze S256x1024 squeezes_S1x256x1024_S256x1024 := rfl
theorem cr_b_1_0_0 : (((sM : Memref sig .tc .vmem S2x256x1024 .bf16).slice (Rect.unit (s := S2x256x1024) ![1, 0, 0] ![1, 256, 1024] inb_S2x256x1024_S1x256x1024_1_0_0) (fun _ => rfl)).squeeze S256x1024 squeezes_S1x256x1024_S256x1024).view.dmaCredit = N := itM_credit (.v 1)
theorem sl_v_2 : itM (.v 2) = ((sM : Memref sig .tc .vmem S2x256x1024 .bf16).slice (Rect.unit (s := S2x256x1024) ![0, 0, 0] ![1, 256, 1024] inb_S2x256x1024_S1x256x1024_0_0_0) (fun _ => rfl)).squeeze S256x1024 squeezes_S1x256x1024_S256x1024 := rfl
theorem sl_v_3 : itM (.v 3) = ((sM : Memref sig .tc .vmem S2x256x1024 .bf16).slice (Rect.unit (s := S2x256x1024) ![1, 0, 0] ![1, 256, 1024] inb_S2x256x1024_S1x256x1024_1_0_0) (fun _ => rfl)).squeeze S256x1024 squeezes_S1x256x1024_S256x1024 := rfl
theorem sl_inj_0 : itM (.inj 0) = ((jM : Memref sig .tc .vmem S4x256x1024 .bf16).slice (Rect.unit (s := S4x256x1024) ![0, 0, 0] ![1, 256, 1024] inb_S4x256x1024_S1x256x1024_0_0_0) (fun _ => rfl)).squeeze S256x1024 squeezes_S1x256x1024_S256x1024 := rfl
theorem cr_inj_0_0_0 : (((jM : Memref sig .tc .vmem S4x256x1024 .bf16).slice (Rect.unit (s := S4x256x1024) ![0, 0, 0] ![1, 256, 1024] inb_S4x256x1024_S1x256x1024_0_0_0) (fun _ => rfl)).squeeze S256x1024 squeezes_S1x256x1024_S256x1024).view.dmaCredit = N := itM_credit (.inj 0)
theorem sl_inj_1 : itM (.inj 1) = ((jM : Memref sig .tc .vmem S4x256x1024 .bf16).slice (Rect.unit (s := S4x256x1024) ![1, 0, 0] ![1, 256, 1024] inb_S4x256x1024_S1x256x1024_1_0_0) (fun _ => rfl)).squeeze S256x1024 squeezes_S1x256x1024_S256x1024 := rfl
theorem cr_inj_1_0_0 : (((jM : Memref sig .tc .vmem S4x256x1024 .bf16).slice (Rect.unit (s := S4x256x1024) ![1, 0, 0] ![1, 256, 1024] inb_S4x256x1024_S1x256x1024_1_0_0) (fun _ => rfl)).squeeze S256x1024 squeezes_S1x256x1024_S256x1024).view.dmaCredit = N := itM_credit (.inj 1)
theorem sl_inj_2 : itM (.inj 2) = ((jM : Memref sig .tc .vmem S4x256x1024 .bf16).slice (Rect.unit (s := S4x256x1024) ![2, 0, 0] ![1, 256, 1024] inb_S4x256x1024_S1x256x1024_2_0_0) (fun _ => rfl)).squeeze S256x1024 squeezes_S1x256x1024_S256x1024 := rfl
theorem cr_inj_2_0_0 : (((jM : Memref sig .tc .vmem S4x256x1024 .bf16).slice (Rect.unit (s := S4x256x1024) ![2, 0, 0] ![1, 256, 1024] inb_S4x256x1024_S1x256x1024_2_0_0) (fun _ => rfl)).squeeze S256x1024 squeezes_S1x256x1024_S256x1024).view.dmaCredit = N := itM_credit (.inj 2)
theorem sl_inj_3 : itM (.inj 3) = ((jM : Memref sig .tc .vmem S4x256x1024 .bf16).slice (Rect.unit (s := S4x256x1024) ![3, 0, 0] ![1, 256, 1024] inb_S4x256x1024_S1x256x1024_3_0_0) (fun _ => rfl)).squeeze S256x1024 squeezes_S1x256x1024_S256x1024 := rfl
theorem cr_inj_3_0_0 : (((jM : Memref sig .tc .vmem S4x256x1024 .bf16).slice (Rect.unit (s := S4x256x1024) ![3, 0, 0] ![1, 256, 1024] inb_S4x256x1024_S1x256x1024_3_0_0) (fun _ => rfl)).squeeze S256x1024 squeezes_S1x256x1024_S256x1024).view.dmaCredit = N := itM_credit (.inj 3)
theorem sl_rs_0 : itM (.dst (.rs 0)) = ((rM : Memref sig .tc .vmem S3x256x1024 .bf16).slice (Rect.unit (s := S3x256x1024) ![0, 0, 0] ![1, 256, 1024] inb_S3x256x1024_S1x256x1024_0_0_0) (fun _ => rfl)).squeeze S256x1024 squeezes_S1x256x1024_S256x1024 := rfl
theorem cr_rs_0_0_0 : (((rM : Memref sig .tc .vmem S3x256x1024 .bf16).slice (Rect.unit (s := S3x256x1024) ![0, 0, 0] ![1, 256, 1024] inb_S3x256x1024_S1x256x1024_0_0_0) (fun _ => rfl)).squeeze S256x1024 squeezes_S1x256x1024_S256x1024).view.dmaCredit = N := itM_credit (.dst (.rs 0))
theorem sl_rs_1 : itM (.dst (.rs 1)) = ((rM : Memref sig .tc .vmem S3x256x1024 .bf16).slice (Rect.unit (s := S3x256x1024) ![1, 0, 0] ![1, 256, 1024] inb_S3x256x1024_S1x256x1024_1_0_0) (fun _ => rfl)).squeeze S256x1024 squeezes_S1x256x1024_S256x1024 := rfl
theorem cr_rs_1_0_0 : (((rM : Memref sig .tc .vmem S3x256x1024 .bf16).slice (Rect.unit (s := S3x256x1024) ![1, 0, 0] ![1, 256, 1024] inb_S3x256x1024_S1x256x1024_1_0_0) (fun _ => rfl)).squeeze S256x1024 squeezes_S1x256x1024_S256x1024).view.dmaCredit = N := itM_credit (.dst (.rs 1))
theorem sl_rs_2 : itM (.dst (.rs 2)) = ((rM : Memref sig .tc .vmem S3x256x1024 .bf16).slice (Rect.unit (s := S3x256x1024) ![2, 0, 0] ![1, 256, 1024] inb_S3x256x1024_S1x256x1024_2_0_0) (fun _ => rfl)).squeeze S256x1024 squeezes_S1x256x1024_S256x1024 := rfl
theorem cr_rs_2_0_0 : (((rM : Memref sig .tc .vmem S3x256x1024 .bf16).slice (Rect.unit (s := S3x256x1024) ![2, 0, 0] ![1, 256, 1024] inb_S3x256x1024_S1x256x1024_2_0_0) (fun _ => rfl)).squeeze S256x1024 squeezes_S1x256x1024_S256x1024).view.dmaCredit = N := itM_credit (.dst (.rs 2))
theorem sl_ag_0 : itM (.dst (.ag 0)) = ((gM : Memref sig .tc .vmem S3x256x1024 .bf16).slice (Rect.unit (s := S3x256x1024) ![0, 0, 0] ![1, 256, 1024] inb_S3x256x1024_S1x256x1024_0_0_0) (fun _ => rfl)).squeeze S256x1024 squeezes_S1x256x1024_S256x1024 := rfl
theorem cr_ag_0_0_0 : (((gM : Memref sig .tc .vmem S3x256x1024 .bf16).slice (Rect.unit (s := S3x256x1024) ![0, 0, 0] ![1, 256, 1024] inb_S3x256x1024_S1x256x1024_0_0_0) (fun _ => rfl)).squeeze S256x1024 squeezes_S1x256x1024_S256x1024).view.dmaCredit = N := itM_credit (.dst (.ag 0))
theorem sl_ag_1 : itM (.dst (.ag 1)) = ((gM : Memref sig .tc .vmem S3x256x1024 .bf16).slice (Rect.unit (s := S3x256x1024) ![1, 0, 0] ![1, 256, 1024] inb_S3x256x1024_S1x256x1024_1_0_0) (fun _ => rfl)).squeeze S256x1024 squeezes_S1x256x1024_S256x1024 := rfl
theorem cr_ag_1_0_0 : (((gM : Memref sig .tc .vmem S3x256x1024 .bf16).slice (Rect.unit (s := S3x256x1024) ![1, 0, 0] ![1, 256, 1024] inb_S3x256x1024_S1x256x1024_1_0_0) (fun _ => rfl)).squeeze S256x1024 squeezes_S1x256x1024_S256x1024).view.dmaCredit = N := itM_credit (.dst (.ag 1))
theorem sl_ag_2 : itM (.dst (.ag 2)) = ((gM : Memref sig .tc .vmem S3x256x1024 .bf16).slice (Rect.unit (s := S3x256x1024) ![2, 0, 0] ![1, 256, 1024] inb_S3x256x1024_S1x256x1024_2_0_0) (fun _ => rfl)).squeeze S256x1024 squeezes_S1x256x1024_S256x1024 := rfl
theorem cr_ag_2_0_0 : (((gM : Memref sig .tc .vmem S3x256x1024 .bf16).slice (Rect.unit (s := S3x256x1024) ![2, 0, 0] ![1, 256, 1024] inb_S3x256x1024_S1x256x1024_2_0_0) (fun _ => rfl)).squeeze S256x1024 squeezes_S1x256x1024_S256x1024).view.dmaCredit = N := itM_credit (.dst (.ag 2))
theorem sl_st_0_0 : itM (.dst (.st 0 0)) = ((tM : Memref sig .tc .vmem S4x7x256x1024 .bf16).slice (Rect.unit (s := S4x7x256x1024) ![0, 0, 0, 0] ![1, 1, 256, 1024] inb_S4x7x256x1024_S1x1x256x1024_0_0_0_0) (fun _ => rfl)).squeeze S256x1024 squeezes_S1x1x256x1024_S256x1024 := rfl
theorem cr_st_0_0_0_0 : (((tM : Memref sig .tc .vmem S4x7x256x1024 .bf16).slice (Rect.unit (s := S4x7x256x1024) ![0, 0, 0, 0] ![1, 1, 256, 1024] inb_S4x7x256x1024_S1x1x256x1024_0_0_0_0) (fun _ => rfl)).squeeze S256x1024 squeezes_S1x1x256x1024_S256x1024).view.dmaCredit = N := itM_credit (.dst (.st 0 0))
theorem sl_st_0_1 : itM (.dst (.st 0 1)) = ((tM : Memref sig .tc .vmem S4x7x256x1024 .bf16).slice (Rect.unit (s := S4x7x256x1024) ![0, 1, 0, 0] ![1, 1, 256, 1024] inb_S4x7x256x1024_S1x1x256x1024_0_1_0_0) (fun _ => rfl)).squeeze S256x1024 squeezes_S1x1x256x1024_S256x1024 := rfl
theorem cr_st_0_1_0_0 : (((tM : Memref sig .tc .vmem S4x7x256x1024 .bf16).slice (Rect.unit (s := S4x7x256x1024) ![0, 1, 0, 0] ![1, 1, 256, 1024] inb_S4x7x256x1024_S1x1x256x1024_0_1_0_0) (fun _ => rfl)).squeeze S256x1024 squeezes_S1x1x256x1024_S256x1024).view.dmaCredit = N := itM_credit (.dst (.st 0 1))
theorem sl_st_0_2 : itM (.dst (.st 0 2)) = ((tM : Memref sig .tc .vmem S4x7x256x1024 .bf16).slice (Rect.unit (s := S4x7x256x1024) ![0, 2, 0, 0] ![1, 1, 256, 1024] inb_S4x7x256x1024_S1x1x256x1024_0_2_0_0) (fun _ => rfl)).squeeze S256x1024 squeezes_S1x1x256x1024_S256x1024 := rfl
theorem cr_st_0_2_0_0 : (((tM : Memref sig .tc .vmem S4x7x256x1024 .bf16).slice (Rect.unit (s := S4x7x256x1024) ![0, 2, 0, 0] ![1, 1, 256, 1024] inb_S4x7x256x1024_S1x1x256x1024_0_2_0_0) (fun _ => rfl)).squeeze S256x1024 squeezes_S1x1x256x1024_S256x1024).view.dmaCredit = N := itM_credit (.dst (.st 0 2))
theorem sl_st_0_3 : itM (.dst (.st 0 3)) = ((tM : Memref sig .tc .vmem S4x7x256x1024 .bf16).slice (Rect.unit (s := S4x7x256x1024) ![0, 3, 0, 0] ![1, 1, 256, 1024] inb_S4x7x256x1024_S1x1x256x1024_0_3_0_0) (fun _ => rfl)).squeeze S256x1024 squeezes_S1x1x256x1024_S256x1024 := rfl
theorem cr_st_0_3_0_0 : (((tM : Memref sig .tc .vmem S4x7x256x1024 .bf16).slice (Rect.unit (s := S4x7x256x1024) ![0, 3, 0, 0] ![1, 1, 256, 1024] inb_S4x7x256x1024_S1x1x256x1024_0_3_0_0) (fun _ => rfl)).squeeze S256x1024 squeezes_S1x1x256x1024_S256x1024).view.dmaCredit = N := itM_credit (.dst (.st 0 3))
theorem sl_st_0_4 : itM (.dst (.st 0 4)) = ((tM : Memref sig .tc .vmem S4x7x256x1024 .bf16).slice (Rect.unit (s := S4x7x256x1024) ![0, 4, 0, 0] ![1, 1, 256, 1024] inb_S4x7x256x1024_S1x1x256x1024_0_4_0_0) (fun _ => rfl)).squeeze S256x1024 squeezes_S1x1x256x1024_S256x1024 := rfl
theorem cr_st_0_4_0_0 : (((tM : Memref sig .tc .vmem S4x7x256x1024 .bf16).slice (Rect.unit (s := S4x7x256x1024) ![0, 4, 0, 0] ![1, 1, 256, 1024] inb_S4x7x256x1024_S1x1x256x1024_0_4_0_0) (fun _ => rfl)).squeeze S256x1024 squeezes_S1x1x256x1024_S256x1024).view.dmaCredit = N := itM_credit (.dst (.st 0 4))
theorem sl_st_0_5 : itM (.dst (.st 0 5)) = ((tM : Memref sig .tc .vmem S4x7x256x1024 .bf16).slice (Rect.unit (s := S4x7x256x1024) ![0, 5, 0, 0] ![1, 1, 256, 1024] inb_S4x7x256x1024_S1x1x256x1024_0_5_0_0) (fun _ => rfl)).squeeze S256x1024 squeezes_S1x1x256x1024_S256x1024 := rfl
theorem cr_st_0_5_0_0 : (((tM : Memref sig .tc .vmem S4x7x256x1024 .bf16).slice (Rect.unit (s := S4x7x256x1024) ![0, 5, 0, 0] ![1, 1, 256, 1024] inb_S4x7x256x1024_S1x1x256x1024_0_5_0_0) (fun _ => rfl)).squeeze S256x1024 squeezes_S1x1x256x1024_S256x1024).view.dmaCredit = N := itM_credit (.dst (.st 0 5))
theorem sl_st_0_6 : itM (.dst (.st 0 6)) = ((tM : Memref sig .tc .vmem S4x7x256x1024 .bf16).slice (Rect.unit (s := S4x7x256x1024) ![0, 6, 0, 0] ![1, 1, 256, 1024] inb_S4x7x256x1024_S1x1x256x1024_0_6_0_0) (fun _ => rfl)).squeeze S256x1024 squeezes_S1x1x256x1024_S256x1024 := rfl
theorem cr_st_0_6_0_0 : (((tM : Memref sig .tc .vmem S4x7x256x1024 .bf16).slice (Rect.unit (s := S4x7x256x1024) ![0, 6, 0, 0] ![1, 1, 256, 1024] inb_S4x7x256x1024_S1x1x256x1024_0_6_0_0) (fun _ => rfl)).squeeze S256x1024 squeezes_S1x1x256x1024_S256x1024).view.dmaCredit = N := itM_credit (.dst (.st 0 6))
theorem sl_st_1_0 : itM (.dst (.st 1 0)) = ((tM : Memref sig .tc .vmem S4x7x256x1024 .bf16).slice (Rect.unit (s := S4x7x256x1024) ![1, 0, 0, 0] ![1, 1, 256, 1024] inb_S4x7x256x1024_S1x1x256x1024_1_0_0_0) (fun _ => rfl)).squeeze S256x1024 squeezes_S1x1x256x1024_S256x1024 := rfl
theorem cr_st_1_0_0_0 : (((tM : Memref sig .tc .vmem S4x7x256x1024 .bf16).slice (Rect.unit (s := S4x7x256x1024) ![1, 0, 0, 0] ![1, 1, 256, 1024] inb_S4x7x256x1024_S1x1x256x1024_1_0_0_0) (fun _ => rfl)).squeeze S256x1024 squeezes_S1x1x256x1024_S256x1024).view.dmaCredit = N := itM_credit (.dst (.st 1 0))
theorem sl_st_1_1 : itM (.dst (.st 1 1)) = ((tM : Memref sig .tc .vmem S4x7x256x1024 .bf16).slice (Rect.unit (s := S4x7x256x1024) ![1, 1, 0, 0] ![1, 1, 256, 1024] inb_S4x7x256x1024_S1x1x256x1024_1_1_0_0) (fun _ => rfl)).squeeze S256x1024 squeezes_S1x1x256x1024_S256x1024 := rfl
theorem cr_st_1_1_0_0 : (((tM : Memref sig .tc .vmem S4x7x256x1024 .bf16).slice (Rect.unit (s := S4x7x256x1024) ![1, 1, 0, 0] ![1, 1, 256, 1024] inb_S4x7x256x1024_S1x1x256x1024_1_1_0_0) (fun _ => rfl)).squeeze S256x1024 squeezes_S1x1x256x1024_S256x1024).view.dmaCredit = N := itM_credit (.dst (.st 1 1))
theorem sl_st_1_2 : itM (.dst (.st 1 2)) = ((tM : Memref sig .tc .vmem S4x7x256x1024 .bf16).slice (Rect.unit (s := S4x7x256x1024) ![1, 2, 0, 0] ![1, 1, 256, 1024] inb_S4x7x256x1024_S1x1x256x1024_1_2_0_0) (fun _ => rfl)).squeeze S256x1024 squeezes_S1x1x256x1024_S256x1024 := rfl
theorem cr_st_1_2_0_0 : (((tM : Memref sig .tc .vmem S4x7x256x1024 .bf16).slice (Rect.unit (s := S4x7x256x1024) ![1, 2, 0, 0] ![1, 1, 256, 1024] inb_S4x7x256x1024_S1x1x256x1024_1_2_0_0) (fun _ => rfl)).squeeze S256x1024 squeezes_S1x1x256x1024_S256x1024).view.dmaCredit = N := itM_credit (.dst (.st 1 2))
theorem sl_st_1_3 : itM (.dst (.st 1 3)) = ((tM : Memref sig .tc .vmem S4x7x256x1024 .bf16).slice (Rect.unit (s := S4x7x256x1024) ![1, 3, 0, 0] ![1, 1, 256, 1024] inb_S4x7x256x1024_S1x1x256x1024_1_3_0_0) (fun _ => rfl)).squeeze S256x1024 squeezes_S1x1x256x1024_S256x1024 := rfl
theorem cr_st_1_3_0_0 : (((tM : Memref sig .tc .vmem S4x7x256x1024 .bf16).slice (Rect.unit (s := S4x7x256x1024) ![1, 3, 0, 0] ![1, 1, 256, 1024] inb_S4x7x256x1024_S1x1x256x1024_1_3_0_0) (fun _ => rfl)).squeeze S256x1024 squeezes_S1x1x256x1024_S256x1024).view.dmaCredit = N := itM_credit (.dst (.st 1 3))
theorem sl_st_1_4 : itM (.dst (.st 1 4)) = ((tM : Memref sig .tc .vmem S4x7x256x1024 .bf16).slice (Rect.unit (s := S4x7x256x1024) ![1, 4, 0, 0] ![1, 1, 256, 1024] inb_S4x7x256x1024_S1x1x256x1024_1_4_0_0) (fun _ => rfl)).squeeze S256x1024 squeezes_S1x1x256x1024_S256x1024 := rfl
theorem cr_st_1_4_0_0 : (((tM : Memref sig .tc .vmem S4x7x256x1024 .bf16).slice (Rect.unit (s := S4x7x256x1024) ![1, 4, 0, 0] ![1, 1, 256, 1024] inb_S4x7x256x1024_S1x1x256x1024_1_4_0_0) (fun _ => rfl)).squeeze S256x1024 squeezes_S1x1x256x1024_S256x1024).view.dmaCredit = N := itM_credit (.dst (.st 1 4))
theorem sl_st_1_5 : itM (.dst (.st 1 5)) = ((tM : Memref sig .tc .vmem S4x7x256x1024 .bf16).slice (Rect.unit (s := S4x7x256x1024) ![1, 5, 0, 0] ![1, 1, 256, 1024] inb_S4x7x256x1024_S1x1x256x1024_1_5_0_0) (fun _ => rfl)).squeeze S256x1024 squeezes_S1x1x256x1024_S256x1024 := rfl
theorem cr_st_1_5_0_0 : (((tM : Memref sig .tc .vmem S4x7x256x1024 .bf16).slice (Rect.unit (s := S4x7x256x1024) ![1, 5, 0, 0] ![1, 1, 256, 1024] inb_S4x7x256x1024_S1x1x256x1024_1_5_0_0) (fun _ => rfl)).squeeze S256x1024 squeezes_S1x1x256x1024_S256x1024).view.dmaCredit = N := itM_credit (.dst (.st 1 5))
theorem sl_st_1_6 : itM (.dst (.st 1 6)) = ((tM : Memref sig .tc .vmem S4x7x256x1024 .bf16).slice (Rect.unit (s := S4x7x256x1024) ![1, 6, 0, 0] ![1, 1, 256, 1024] inb_S4x7x256x1024_S1x1x256x1024_1_6_0_0) (fun _ => rfl)).squeeze S256x1024 squeezes_S1x1x256x1024_S256x1024 := rfl
theorem cr_st_1_6_0_0 : (((tM : Memref sig .tc .vmem S4x7x256x1024 .bf16).slice (Rect.unit (s := S4x7x256x1024) ![1, 6, 0, 0] ![1, 1, 256, 1024] inb_S4x7x256x1024_S1x1x256x1024_1_6_0_0) (fun _ => rfl)).squeeze S256x1024 squeezes_S1x1x256x1024_S256x1024).view.dmaCredit = N := itM_credit (.dst (.st 1 6))
theorem sl_st_2_0 : itM (.dst (.st 2 0)) = ((tM : Memref sig .tc .vmem S4x7x256x1024 .bf16).slice (Rect.unit (s := S4x7x256x1024) ![2, 0, 0, 0] ![1, 1, 256, 1024] inb_S4x7x256x1024_S1x1x256x1024_2_0_0_0) (fun _ => rfl)).squeeze S256x1024 squeezes_S1x1x256x1024_S256x1024 := rfl
theorem cr_st_2_0_0_0 : (((tM : Memref sig .tc .vmem S4x7x256x1024 .bf16).slice (Rect.unit (s := S4x7x256x1024) ![2, 0, 0, 0] ![1, 1, 256, 1024] inb_S4x7x256x1024_S1x1x256x1024_2_0_0_0) (fun _ => rfl)).squeeze S256x1024 squeezes_S1x1x256x1024_S256x1024).view.dmaCredit = N := itM_credit (.dst (.st 2 0))
theorem sl_st_2_1 : itM (.dst (.st 2 1)) = ((tM : Memref sig .tc .vmem S4x7x256x1024 .bf16).slice (Rect.unit (s := S4x7x256x1024) ![2, 1, 0, 0] ![1, 1, 256, 1024] inb_S4x7x256x1024_S1x1x256x1024_2_1_0_0) (fun _ => rfl)).squeeze S256x1024 squeezes_S1x1x256x1024_S256x1024 := rfl
theorem cr_st_2_1_0_0 : (((tM : Memref sig .tc .vmem S4x7x256x1024 .bf16).slice (Rect.unit (s := S4x7x256x1024) ![2, 1, 0, 0] ![1, 1, 256, 1024] inb_S4x7x256x1024_S1x1x256x1024_2_1_0_0) (fun _ => rfl)).squeeze S256x1024 squeezes_S1x1x256x1024_S256x1024).view.dmaCredit = N := itM_credit (.dst (.st 2 1))
theorem sl_st_2_2 : itM (.dst (.st 2 2)) = ((tM : Memref sig .tc .vmem S4x7x256x1024 .bf16).slice (Rect.unit (s := S4x7x256x1024) ![2, 2, 0, 0] ![1, 1, 256, 1024] inb_S4x7x256x1024_S1x1x256x1024_2_2_0_0) (fun _ => rfl)).squeeze S256x1024 squeezes_S1x1x256x1024_S256x1024 := rfl
theorem cr_st_2_2_0_0 : (((tM : Memref sig .tc .vmem S4x7x256x1024 .bf16).slice (Rect.unit (s := S4x7x256x1024) ![2, 2, 0, 0] ![1, 1, 256, 1024] inb_S4x7x256x1024_S1x1x256x1024_2_2_0_0) (fun _ => rfl)).squeeze S256x1024 squeezes_S1x1x256x1024_S256x1024).view.dmaCredit = N := itM_credit (.dst (.st 2 2))
theorem sl_st_2_3 : itM (.dst (.st 2 3)) = ((tM : Memref sig .tc .vmem S4x7x256x1024 .bf16).slice (Rect.unit (s := S4x7x256x1024) ![2, 3, 0, 0] ![1, 1, 256, 1024] inb_S4x7x256x1024_S1x1x256x1024_2_3_0_0) (fun _ => rfl)).squeeze S256x1024 squeezes_S1x1x256x1024_S256x1024 := rfl
theorem cr_st_2_3_0_0 : (((tM : Memref sig .tc .vmem S4x7x256x1024 .bf16).slice (Rect.unit (s := S4x7x256x1024) ![2, 3, 0, 0] ![1, 1, 256, 1024] inb_S4x7x256x1024_S1x1x256x1024_2_3_0_0) (fun _ => rfl)).squeeze S256x1024 squeezes_S1x1x256x1024_S256x1024).view.dmaCredit = N := itM_credit (.dst (.st 2 3))
theorem sl_st_2_4 : itM (.dst (.st 2 4)) = ((tM : Memref sig .tc .vmem S4x7x256x1024 .bf16).slice (Rect.unit (s := S4x7x256x1024) ![2, 4, 0, 0] ![1, 1, 256, 1024] inb_S4x7x256x1024_S1x1x256x1024_2_4_0_0) (fun _ => rfl)).squeeze S256x1024 squeezes_S1x1x256x1024_S256x1024 := rfl
theorem cr_st_2_4_0_0 : (((tM : Memref sig .tc .vmem S4x7x256x1024 .bf16).slice (Rect.unit (s := S4x7x256x1024) ![2, 4, 0, 0] ![1, 1, 256, 1024] inb_S4x7x256x1024_S1x1x256x1024_2_4_0_0) (fun _ => rfl)).squeeze S256x1024 squeezes_S1x1x256x1024_S256x1024).view.dmaCredit = N := itM_credit (.dst (.st 2 4))
theorem sl_st_2_5 : itM (.dst (.st 2 5)) = ((tM : Memref sig .tc .vmem S4x7x256x1024 .bf16).slice (Rect.unit (s := S4x7x256x1024) ![2, 5, 0, 0] ![1, 1, 256, 1024] inb_S4x7x256x1024_S1x1x256x1024_2_5_0_0) (fun _ => rfl)).squeeze S256x1024 squeezes_S1x1x256x1024_S256x1024 := rfl
theorem cr_st_2_5_0_0 : (((tM : Memref sig .tc .vmem S4x7x256x1024 .bf16).slice (Rect.unit (s := S4x7x256x1024) ![2, 5, 0, 0] ![1, 1, 256, 1024] inb_S4x7x256x1024_S1x1x256x1024_2_5_0_0) (fun _ => rfl)).squeeze S256x1024 squeezes_S1x1x256x1024_S256x1024).view.dmaCredit = N := itM_credit (.dst (.st 2 5))
theorem sl_st_2_6 : itM (.dst (.st 2 6)) = ((tM : Memref sig .tc .vmem S4x7x256x1024 .bf16).slice (Rect.unit (s := S4x7x256x1024) ![2, 6, 0, 0] ![1, 1, 256, 1024] inb_S4x7x256x1024_S1x1x256x1024_2_6_0_0) (fun _ => rfl)).squeeze S256x1024 squeezes_S1x1x256x1024_S256x1024 := rfl
theorem cr_st_2_6_0_0 : (((tM : Memref sig .tc .vmem S4x7x256x1024 .bf16).slice (Rect.unit (s := S4x7x256x1024) ![2, 6, 0, 0] ![1, 1, 256, 1024] inb_S4x7x256x1024_S1x1x256x1024_2_6_0_0) (fun _ => rfl)).squeeze S256x1024 squeezes_S1x1x256x1024_S256x1024).view.dmaCredit = N := itM_credit (.dst (.st 2 6))
theorem sl_st_3_0 : itM (.dst (.st 3 0)) = ((tM : Memref sig .tc .vmem S4x7x256x1024 .bf16).slice (Rect.unit (s := S4x7x256x1024) ![3, 0, 0, 0] ![1, 1, 256, 1024] inb_S4x7x256x1024_S1x1x256x1024_3_0_0_0) (fun _ => rfl)).squeeze S256x1024 squeezes_S1x1x256x1024_S256x1024 := rfl
theorem cr_st_3_0_0_0 : (((tM : Memref sig .tc .vmem S4x7x256x1024 .bf16).slice (Rect.unit (s := S4x7x256x1024) ![3, 0, 0, 0] ![1, 1, 256, 1024] inb_S4x7x256x1024_S1x1x256x1024_3_0_0_0) (fun _ => rfl)).squeeze S256x1024 squeezes_S1x1x256x1024_S256x1024).view.dmaCredit = N := itM_credit (.dst (.st 3 0))
theorem sl_st_3_1 : itM (.dst (.st 3 1)) = ((tM : Memref sig .tc .vmem S4x7x256x1024 .bf16).slice (Rect.unit (s := S4x7x256x1024) ![3, 1, 0, 0] ![1, 1, 256, 1024] inb_S4x7x256x1024_S1x1x256x1024_3_1_0_0) (fun _ => rfl)).squeeze S256x1024 squeezes_S1x1x256x1024_S256x1024 := rfl
theorem cr_st_3_1_0_0 : (((tM : Memref sig .tc .vmem S4x7x256x1024 .bf16).slice (Rect.unit (s := S4x7x256x1024) ![3, 1, 0, 0] ![1, 1, 256, 1024] inb_S4x7x256x1024_S1x1x256x1024_3_1_0_0) (fun _ => rfl)).squeeze S256x1024 squeezes_S1x1x256x1024_S256x1024).view.dmaCredit = N := itM_credit (.dst (.st 3 1))
theorem sl_st_3_2 : itM (.dst (.st 3 2)) = ((tM : Memref sig .tc .vmem S4x7x256x1024 .bf16).slice (Rect.unit (s := S4x7x256x1024) ![3, 2, 0, 0] ![1, 1, 256, 1024] inb_S4x7x256x1024_S1x1x256x1024_3_2_0_0) (fun _ => rfl)).squeeze S256x1024 squeezes_S1x1x256x1024_S256x1024 := rfl
theorem cr_st_3_2_0_0 : (((tM : Memref sig .tc .vmem S4x7x256x1024 .bf16).slice (Rect.unit (s := S4x7x256x1024) ![3, 2, 0, 0] ![1, 1, 256, 1024] inb_S4x7x256x1024_S1x1x256x1024_3_2_0_0) (fun _ => rfl)).squeeze S256x1024 squeezes_S1x1x256x1024_S256x1024).view.dmaCredit = N := itM_credit (.dst (.st 3 2))
theorem sl_st_3_3 : itM (.dst (.st 3 3)) = ((tM : Memref sig .tc .vmem S4x7x256x1024 .bf16).slice (Rect.unit (s := S4x7x256x1024) ![3, 3, 0, 0] ![1, 1, 256, 1024] inb_S4x7x256x1024_S1x1x256x1024_3_3_0_0) (fun _ => rfl)).squeeze S256x1024 squeezes_S1x1x256x1024_S256x1024 := rfl
theorem cr_st_3_3_0_0 : (((tM : Memref sig .tc .vmem S4x7x256x1024 .bf16).slice (Rect.unit (s := S4x7x256x1024) ![3, 3, 0, 0] ![1, 1, 256, 1024] inb_S4x7x256x1024_S1x1x256x1024_3_3_0_0) (fun _ => rfl)).squeeze S256x1024 squeezes_S1x1x256x1024_S256x1024).view.dmaCredit = N := itM_credit (.dst (.st 3 3))
theorem sl_st_3_4 : itM (.dst (.st 3 4)) = ((tM : Memref sig .tc .vmem S4x7x256x1024 .bf16).slice (Rect.unit (s := S4x7x256x1024) ![3, 4, 0, 0] ![1, 1, 256, 1024] inb_S4x7x256x1024_S1x1x256x1024_3_4_0_0) (fun _ => rfl)).squeeze S256x1024 squeezes_S1x1x256x1024_S256x1024 := rfl
theorem cr_st_3_4_0_0 : (((tM : Memref sig .tc .vmem S4x7x256x1024 .bf16).slice (Rect.unit (s := S4x7x256x1024) ![3, 4, 0, 0] ![1, 1, 256, 1024] inb_S4x7x256x1024_S1x1x256x1024_3_4_0_0) (fun _ => rfl)).squeeze S256x1024 squeezes_S1x1x256x1024_S256x1024).view.dmaCredit = N := itM_credit (.dst (.st 3 4))
theorem sl_st_3_5 : itM (.dst (.st 3 5)) = ((tM : Memref sig .tc .vmem S4x7x256x1024 .bf16).slice (Rect.unit (s := S4x7x256x1024) ![3, 5, 0, 0] ![1, 1, 256, 1024] inb_S4x7x256x1024_S1x1x256x1024_3_5_0_0) (fun _ => rfl)).squeeze S256x1024 squeezes_S1x1x256x1024_S256x1024 := rfl
theorem cr_st_3_5_0_0 : (((tM : Memref sig .tc .vmem S4x7x256x1024 .bf16).slice (Rect.unit (s := S4x7x256x1024) ![3, 5, 0, 0] ![1, 1, 256, 1024] inb_S4x7x256x1024_S1x1x256x1024_3_5_0_0) (fun _ => rfl)).squeeze S256x1024 squeezes_S1x1x256x1024_S256x1024).view.dmaCredit = N := itM_credit (.dst (.st 3 5))
theorem sl_st_3_6 : itM (.dst (.st 3 6)) = ((tM : Memref sig .tc .vmem S4x7x256x1024 .bf16).slice (Rect.unit (s := S4x7x256x1024) ![3, 6, 0, 0] ![1, 1, 256, 1024] inb_S4x7x256x1024_S1x1x256x1024_3_6_0_0) (fun _ => rfl)).squeeze S256x1024 squeezes_S1x1x256x1024_S256x1024 := rfl
theorem cr_st_3_6_0_0 : (((tM : Memref sig .tc .vmem S4x7x256x1024 .bf16).slice (Rect.unit (s := S4x7x256x1024) ![3, 6, 0, 0] ![1, 1, 256, 1024] inb_S4x7x256x1024_S1x1x256x1024_3_6_0_0) (fun _ => rfl)).squeeze S256x1024 squeezes_S1x1x256x1024_S256x1024).view.dmaCredit = N := itM_credit (.dst (.st 3 6))
theorem sS_rs_0 : ((cc0_scratch7.slice (Rect.unit (s := S3) ![0] ![1] inb_S3_S1_0)).squeeze S_ squeezes_S1_S_).sem = sndS (.rs 0) := by decide
theorem sR_rs_0 : ((cc0_scratch8.slice (Rect.unit (s := S3) ![0] ![1] inb_S3_S1_0)).squeeze S_ squeezes_S1_S_).sem = rcvS (.rs 0) := by decide
theorem sS_ag_0 : ((cc0_scratch9.slice (Rect.unit (s := S3) ![0] ![1] inb_S3_S1_0)).squeeze S_ squeezes_S1_S_).sem = sndS (.ag 0) := by decide
theorem sR_ag_0 : ((cc0_scratch10.slice (Rect.unit (s := S3) ![0] ![1] inb_S3_S1_0)).squeeze S_ squeezes_S1_S_).sem = rcvS (.ag 0) := by decide
theorem sS_rs_1 : ((cc0_scratch7.slice (Rect.unit (s := S3) ![1] ![1] inb_S3_S1_1)).squeeze S_ squeezes_S1_S_).sem = sndS (.rs 1) := by decide
theorem sR_rs_1 : ((cc0_scratch8.slice (Rect.unit (s := S3) ![1] ![1] inb_S3_S1_1)).squeeze S_ squeezes_S1_S_).sem = rcvS (.rs 1) := by decide
theorem sS_ag_1 : ((cc0_scratch9.slice (Rect.unit (s := S3) ![1] ![1] inb_S3_S1_1)).squeeze S_ squeezes_S1_S_).sem = sndS (.ag 1) := by decide
theorem sR_ag_1 : ((cc0_scratch10.slice (Rect.unit (s := S3) ![1] ![1] inb_S3_S1_1)).squeeze S_ squeezes_S1_S_).sem = rcvS (.ag 1) := by decide
theorem sS_rs_2 : ((cc0_scratch7.slice (Rect.unit (s := S3) ![2] ![1] inb_S3_S1_2)).squeeze S_ squeezes_S1_S_).sem = sndS (.rs 2) := by decide
theorem sR_rs_2 : ((cc0_scratch8.slice (Rect.unit (s := S3) ![2] ![1] inb_S3_S1_2)).squeeze S_ squeezes_S1_S_).sem = rcvS (.rs 2) := by decide
theorem sS_ag_2 : ((cc0_scratch9.slice (Rect.unit (s := S3) ![2] ![1] inb_S3_S1_2)).squeeze S_ squeezes_S1_S_).sem = sndS (.ag 2) := by decide
theorem sR_ag_2 : ((cc0_scratch10.slice (Rect.unit (s := S3) ![2] ![1] inb_S3_S1_2)).squeeze S_ squeezes_S1_S_).sem = rcvS (.ag 2) := by decide
theorem sS_st_0_0 : ((cc0_scratch11.slice (Rect.unit (s := S4x7) ![0, 0] ![1, 1] inb_S4x7_S1x1_0_0)).squeeze S_ squeezes_S1x1_S_).sem = sndS (.st 0 0) := by decide
theorem sR_st_0_0 : ((cc0_scratch12.slice (Rect.unit (s := S4x7) ![0, 0] ![1, 1] inb_S4x7_S1x1_0_0)).squeeze S_ squeezes_S1x1_S_).sem = rcvS (.st 0 0) := by decide
theorem sS_st_0_1 : ((cc0_scratch11.slice (Rect.unit (s := S4x7) ![0, 1] ![1, 1] inb_S4x7_S1x1_0_1)).squeeze S_ squeezes_S1x1_S_).sem = sndS (.st 0 1) := by decide
theorem sR_st_0_1 : ((cc0_scratch12.slice (Rect.unit (s := S4x7) ![0, 1] ![1, 1] inb_S4x7_S1x1_0_1)).squeeze S_ squeezes_S1x1_S_).sem = rcvS (.st 0 1) := by decide
theorem sS_st_0_2 : ((cc0_scratch11.slice (Rect.unit (s := S4x7) ![0, 2] ![1, 1] inb_S4x7_S1x1_0_2)).squeeze S_ squeezes_S1x1_S_).sem = sndS (.st 0 2) := by decide
theorem sR_st_0_2 : ((cc0_scratch12.slice (Rect.unit (s := S4x7) ![0, 2] ![1, 1] inb_S4x7_S1x1_0_2)).squeeze S_ squeezes_S1x1_S_).sem = rcvS (.st 0 2) := by decide
theorem sS_st_0_3 : ((cc0_scratch11.slice (Rect.unit (s := S4x7) ![0, 3] ![1, 1] inb_S4x7_S1x1_0_3)).squeeze S_ squeezes_S1x1_S_).sem = sndS (.st 0 3) := by decide
theorem sR_st_0_3 : ((cc0_scratch12.slice (Rect.unit (s := S4x7) ![0, 3] ![1, 1] inb_S4x7_S1x1_0_3)).squeeze S_ squeezes_S1x1_S_).sem = rcvS (.st 0 3) := by decide
theorem sS_st_0_4 : ((cc0_scratch11.slice (Rect.unit (s := S4x7) ![0, 4] ![1, 1] inb_S4x7_S1x1_0_4)).squeeze S_ squeezes_S1x1_S_).sem = sndS (.st 0 4) := by decide
theorem sR_st_0_4 : ((cc0_scratch12.slice (Rect.unit (s := S4x7) ![0, 4] ![1, 1] inb_S4x7_S1x1_0_4)).squeeze S_ squeezes_S1x1_S_).sem = rcvS (.st 0 4) := by decide
theorem sS_st_0_5 : ((cc0_scratch11.slice (Rect.unit (s := S4x7) ![0, 5] ![1, 1] inb_S4x7_S1x1_0_5)).squeeze S_ squeezes_S1x1_S_).sem = sndS (.st 0 5) := by decide
theorem sR_st_0_5 : ((cc0_scratch12.slice (Rect.unit (s := S4x7) ![0, 5] ![1, 1] inb_S4x7_S1x1_0_5)).squeeze S_ squeezes_S1x1_S_).sem = rcvS (.st 0 5) := by decide
theorem sS_st_0_6 : ((cc0_scratch11.slice (Rect.unit (s := S4x7) ![0, 6] ![1, 1] inb_S4x7_S1x1_0_6)).squeeze S_ squeezes_S1x1_S_).sem = sndS (.st 0 6) := by decide
theorem sR_st_0_6 : ((cc0_scratch12.slice (Rect.unit (s := S4x7) ![0, 6] ![1, 1] inb_S4x7_S1x1_0_6)).squeeze S_ squeezes_S1x1_S_).sem = rcvS (.st 0 6) := by decide
theorem sS_st_1_0 : ((cc0_scratch11.slice (Rect.unit (s := S4x7) ![1, 0] ![1, 1] inb_S4x7_S1x1_1_0)).squeeze S_ squeezes_S1x1_S_).sem = sndS (.st 1 0) := by decide
theorem sR_st_1_0 : ((cc0_scratch12.slice (Rect.unit (s := S4x7) ![1, 0] ![1, 1] inb_S4x7_S1x1_1_0)).squeeze S_ squeezes_S1x1_S_).sem = rcvS (.st 1 0) := by decide
theorem sS_st_1_1 : ((cc0_scratch11.slice (Rect.unit (s := S4x7) ![1, 1] ![1, 1] inb_S4x7_S1x1_1_1)).squeeze S_ squeezes_S1x1_S_).sem = sndS (.st 1 1) := by decide
theorem sR_st_1_1 : ((cc0_scratch12.slice (Rect.unit (s := S4x7) ![1, 1] ![1, 1] inb_S4x7_S1x1_1_1)).squeeze S_ squeezes_S1x1_S_).sem = rcvS (.st 1 1) := by decide
theorem sS_st_1_2 : ((cc0_scratch11.slice (Rect.unit (s := S4x7) ![1, 2] ![1, 1] inb_S4x7_S1x1_1_2)).squeeze S_ squeezes_S1x1_S_).sem = sndS (.st 1 2) := by decide
theorem sR_st_1_2 : ((cc0_scratch12.slice (Rect.unit (s := S4x7) ![1, 2] ![1, 1] inb_S4x7_S1x1_1_2)).squeeze S_ squeezes_S1x1_S_).sem = rcvS (.st 1 2) := by decide
theorem sS_st_1_3 : ((cc0_scratch11.slice (Rect.unit (s := S4x7) ![1, 3] ![1, 1] inb_S4x7_S1x1_1_3)).squeeze S_ squeezes_S1x1_S_).sem = sndS (.st 1 3) := by decide
theorem sR_st_1_3 : ((cc0_scratch12.slice (Rect.unit (s := S4x7) ![1, 3] ![1, 1] inb_S4x7_S1x1_1_3)).squeeze S_ squeezes_S1x1_S_).sem = rcvS (.st 1 3) := by decide
theorem sS_st_1_4 : ((cc0_scratch11.slice (Rect.unit (s := S4x7) ![1, 4] ![1, 1] inb_S4x7_S1x1_1_4)).squeeze S_ squeezes_S1x1_S_).sem = sndS (.st 1 4) := by decide
theorem sR_st_1_4 : ((cc0_scratch12.slice (Rect.unit (s := S4x7) ![1, 4] ![1, 1] inb_S4x7_S1x1_1_4)).squeeze S_ squeezes_S1x1_S_).sem = rcvS (.st 1 4) := by decide
theorem sS_st_1_5 : ((cc0_scratch11.slice (Rect.unit (s := S4x7) ![1, 5] ![1, 1] inb_S4x7_S1x1_1_5)).squeeze S_ squeezes_S1x1_S_).sem = sndS (.st 1 5) := by decide
theorem sR_st_1_5 : ((cc0_scratch12.slice (Rect.unit (s := S4x7) ![1, 5] ![1, 1] inb_S4x7_S1x1_1_5)).squeeze S_ squeezes_S1x1_S_).sem = rcvS (.st 1 5) := by decide
theorem sS_st_1_6 : ((cc0_scratch11.slice (Rect.unit (s := S4x7) ![1, 6] ![1, 1] inb_S4x7_S1x1_1_6)).squeeze S_ squeezes_S1x1_S_).sem = sndS (.st 1 6) := by decide
theorem sR_st_1_6 : ((cc0_scratch12.slice (Rect.unit (s := S4x7) ![1, 6] ![1, 1] inb_S4x7_S1x1_1_6)).squeeze S_ squeezes_S1x1_S_).sem = rcvS (.st 1 6) := by decide
theorem sS_st_2_0 : ((cc0_scratch11.slice (Rect.unit (s := S4x7) ![2, 0] ![1, 1] inb_S4x7_S1x1_2_0)).squeeze S_ squeezes_S1x1_S_).sem = sndS (.st 2 0) := by decide
theorem sR_st_2_0 : ((cc0_scratch12.slice (Rect.unit (s := S4x7) ![2, 0] ![1, 1] inb_S4x7_S1x1_2_0)).squeeze S_ squeezes_S1x1_S_).sem = rcvS (.st 2 0) := by decide
theorem sS_st_2_1 : ((cc0_scratch11.slice (Rect.unit (s := S4x7) ![2, 1] ![1, 1] inb_S4x7_S1x1_2_1)).squeeze S_ squeezes_S1x1_S_).sem = sndS (.st 2 1) := by decide
theorem sR_st_2_1 : ((cc0_scratch12.slice (Rect.unit (s := S4x7) ![2, 1] ![1, 1] inb_S4x7_S1x1_2_1)).squeeze S_ squeezes_S1x1_S_).sem = rcvS (.st 2 1) := by decide
theorem sS_st_2_2 : ((cc0_scratch11.slice (Rect.unit (s := S4x7) ![2, 2] ![1, 1] inb_S4x7_S1x1_2_2)).squeeze S_ squeezes_S1x1_S_).sem = sndS (.st 2 2) := by decide
theorem sR_st_2_2 : ((cc0_scratch12.slice (Rect.unit (s := S4x7) ![2, 2] ![1, 1] inb_S4x7_S1x1_2_2)).squeeze S_ squeezes_S1x1_S_).sem = rcvS (.st 2 2) := by decide
theorem sS_st_2_3 : ((cc0_scratch11.slice (Rect.unit (s := S4x7) ![2, 3] ![1, 1] inb_S4x7_S1x1_2_3)).squeeze S_ squeezes_S1x1_S_).sem = sndS (.st 2 3) := by decide
theorem sR_st_2_3 : ((cc0_scratch12.slice (Rect.unit (s := S4x7) ![2, 3] ![1, 1] inb_S4x7_S1x1_2_3)).squeeze S_ squeezes_S1x1_S_).sem = rcvS (.st 2 3) := by decide
theorem sS_st_2_4 : ((cc0_scratch11.slice (Rect.unit (s := S4x7) ![2, 4] ![1, 1] inb_S4x7_S1x1_2_4)).squeeze S_ squeezes_S1x1_S_).sem = sndS (.st 2 4) := by decide
theorem sR_st_2_4 : ((cc0_scratch12.slice (Rect.unit (s := S4x7) ![2, 4] ![1, 1] inb_S4x7_S1x1_2_4)).squeeze S_ squeezes_S1x1_S_).sem = rcvS (.st 2 4) := by decide
theorem sS_st_2_5 : ((cc0_scratch11.slice (Rect.unit (s := S4x7) ![2, 5] ![1, 1] inb_S4x7_S1x1_2_5)).squeeze S_ squeezes_S1x1_S_).sem = sndS (.st 2 5) := by decide
theorem sR_st_2_5 : ((cc0_scratch12.slice (Rect.unit (s := S4x7) ![2, 5] ![1, 1] inb_S4x7_S1x1_2_5)).squeeze S_ squeezes_S1x1_S_).sem = rcvS (.st 2 5) := by decide
theorem sS_st_2_6 : ((cc0_scratch11.slice (Rect.unit (s := S4x7) ![2, 6] ![1, 1] inb_S4x7_S1x1_2_6)).squeeze S_ squeezes_S1x1_S_).sem = sndS (.st 2 6) := by decide
theorem sR_st_2_6 : ((cc0_scratch12.slice (Rect.unit (s := S4x7) ![2, 6] ![1, 1] inb_S4x7_S1x1_2_6)).squeeze S_ squeezes_S1x1_S_).sem = rcvS (.st 2 6) := by decide
theorem sS_st_3_0 : ((cc0_scratch11.slice (Rect.unit (s := S4x7) ![3, 0] ![1, 1] inb_S4x7_S1x1_3_0)).squeeze S_ squeezes_S1x1_S_).sem = sndS (.st 3 0) := by decide
theorem sR_st_3_0 : ((cc0_scratch12.slice (Rect.unit (s := S4x7) ![3, 0] ![1, 1] inb_S4x7_S1x1_3_0)).squeeze S_ squeezes_S1x1_S_).sem = rcvS (.st 3 0) := by decide
theorem sS_st_3_1 : ((cc0_scratch11.slice (Rect.unit (s := S4x7) ![3, 1] ![1, 1] inb_S4x7_S1x1_3_1)).squeeze S_ squeezes_S1x1_S_).sem = sndS (.st 3 1) := by decide
theorem sR_st_3_1 : ((cc0_scratch12.slice (Rect.unit (s := S4x7) ![3, 1] ![1, 1] inb_S4x7_S1x1_3_1)).squeeze S_ squeezes_S1x1_S_).sem = rcvS (.st 3 1) := by decide
theorem sS_st_3_2 : ((cc0_scratch11.slice (Rect.unit (s := S4x7) ![3, 2] ![1, 1] inb_S4x7_S1x1_3_2)).squeeze S_ squeezes_S1x1_S_).sem = sndS (.st 3 2) := by decide
theorem sR_st_3_2 : ((cc0_scratch12.slice (Rect.unit (s := S4x7) ![3, 2] ![1, 1] inb_S4x7_S1x1_3_2)).squeeze S_ squeezes_S1x1_S_).sem = rcvS (.st 3 2) := by decide
theorem sS_st_3_3 : ((cc0_scratch11.slice (Rect.unit (s := S4x7) ![3, 3] ![1, 1] inb_S4x7_S1x1_3_3)).squeeze S_ squeezes_S1x1_S_).sem = sndS (.st 3 3) := by decide
theorem sR_st_3_3 : ((cc0_scratch12.slice (Rect.unit (s := S4x7) ![3, 3] ![1, 1] inb_S4x7_S1x1_3_3)).squeeze S_ squeezes_S1x1_S_).sem = rcvS (.st 3 3) := by decide
theorem sS_st_3_4 : ((cc0_scratch11.slice (Rect.unit (s := S4x7) ![3, 4] ![1, 1] inb_S4x7_S1x1_3_4)).squeeze S_ squeezes_S1x1_S_).sem = sndS (.st 3 4) := by decide
theorem sR_st_3_4 : ((cc0_scratch12.slice (Rect.unit (s := S4x7) ![3, 4] ![1, 1] inb_S4x7_S1x1_3_4)).squeeze S_ squeezes_S1x1_S_).sem = rcvS (.st 3 4) := by decide
theorem sS_st_3_5 : ((cc0_scratch11.slice (Rect.unit (s := S4x7) ![3, 5] ![1, 1] inb_S4x7_S1x1_3_5)).squeeze S_ squeezes_S1x1_S_).sem = sndS (.st 3 5) := by decide
theorem sR_st_3_5 : ((cc0_scratch12.slice (Rect.unit (s := S4x7) ![3, 5] ![1, 1] inb_S4x7_S1x1_3_5)).squeeze S_ squeezes_S1x1_S_).sem = rcvS (.st 3 5) := by decide
theorem sS_st_3_6 : ((cc0_scratch11.slice (Rect.unit (s := S4x7) ![3, 6] ![1, 1] inb_S4x7_S1x1_3_6)).squeeze S_ squeezes_S1x1_S_).sem = sndS (.st 3 6) := by decide
theorem sR_st_3_6 : ((cc0_scratch12.slice (Rect.unit (s := S4x7) ![3, 6] ![1, 1] inb_S4x7_S1x1_3_6)).squeeze S_ squeezes_S1x1_S_).sem = rcvS (.st 3 6) := by decide

end Cert.KernelIdealProof

end
-- ==== Proof.Phases.lean ====
/-
The kernel's phases, in program order, one per operation that changes what a device holds, and what each operation asks
of the phase before it.
-/
module

public import proofs.«01_k».proof.Proof.Names

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- At the start: nothing sent, the sum buffer and the injected copies held with no known contents. -/
def ph0 (_ : Fin 4) : Ph where
  snd _ := 0
  rcv _ := false
  own
    | .v s => if s.val < 2 then 3 else 0
    | .inj _ => 3
    | .dst _ => 0
  st _ := false
abbrev ph1 (z : Fin 4) : Ph := (ph0 z).store (.v 0) (.v 0)
abbrev ph2 (z : Fin 4) : Ph := (ph1 z).send (.rs 0)
abbrev ph3 (z : Fin 4) : Ph := (ph2 z).recv (.rs 0)
abbrev ph4 (z : Fin 4) : Ph := (ph3 z).store (.v 1) (.v 1)
abbrev ph5 (z : Fin 4) : Ph := (ph4 z).send (.rs 1)
abbrev ph6 (z : Fin 4) : Ph := (ph5 z).recv (.rs 1)
abbrev ph7 (z : Fin 4) : Ph := (ph6 z).swait (.rs 0)
abbrev ph8 (z : Fin 4) : Ph := (ph7 z).store (.v 0) (.v 2)
abbrev ph9 (z : Fin 4) : Ph := (ph8 z).send (.rs 2)
abbrev ph10 (z : Fin 4) : Ph := (ph9 z).recv (.rs 2)
abbrev ph11 (z : Fin 4) : Ph := (ph10 z).swait (.rs 1)
abbrev ph12 (z : Fin 4) : Ph := (ph11 z).store (.v 1) (.v 3)
abbrev ph13 (z : Fin 4) : Ph := (ph12 z).send (.ag 0)
abbrev ph14 (z : Fin 4) : Ph := (ph13 z).out (.v 3)
abbrev ph15 (z : Fin 4) : Ph := (ph14 z).inject z 0 0
abbrev ph16 (z : Fin 4) : Ph := (ph15 z).inject z 0 1
abbrev ph17 (z : Fin 4) : Ph := (ph16 z).inject z 0 2
abbrev ph18 (z : Fin 4) : Ph := (ph17 z).inject z 0 3
abbrev ph19 (z : Fin 4) : Ph := (ph18 z).recv (.ag 0)
abbrev ph20 (z : Fin 4) : Ph := (ph19 z).send (.ag 1)
abbrev ph21 (z : Fin 4) : Ph := (ph20 z).out (.dst (.ag 0))
abbrev ph22 (z : Fin 4) : Ph := (ph21 z).inject z 1 0
abbrev ph23 (z : Fin 4) : Ph := (ph22 z).inject z 1 1
abbrev ph24 (z : Fin 4) : Ph := (ph23 z).inject z 1 2
abbrev ph25 (z : Fin 4) : Ph := (ph24 z).inject z 1 3
abbrev ph26 (z : Fin 4) : Ph := (ph25 z).recv (.ag 1)
abbrev ph27 (z : Fin 4) : Ph := (ph26 z).send (.ag 2)
abbrev ph28 (z : Fin 4) : Ph := (ph27 z).out (.dst (.ag 1))
abbrev ph29 (z : Fin 4) : Ph := (ph28 z).inject z 2 0
abbrev ph30 (z : Fin 4) : Ph := (ph29 z).inject z 2 1
abbrev ph31 (z : Fin 4) : Ph := (ph30 z).inject z 2 2
abbrev ph32 (z : Fin 4) : Ph := (ph31 z).inject z 2 3
abbrev ph33 (z : Fin 4) : Ph := (ph32 z).recv (.ag 2)
abbrev ph34 (z : Fin 4) : Ph := (ph33 z).out (.dst (.ag 2))
abbrev ph35 (z : Fin 4) : Ph := (ph34 z).inject z 3 0
abbrev ph36 (z : Fin 4) : Ph := (ph35 z).inject z 3 1
abbrev ph37 (z : Fin 4) : Ph := (ph36 z).inject z 3 2
abbrev ph38 (z : Fin 4) : Ph := (ph37 z).inject z 3 3
abbrev ph39 (z : Fin 4) : Ph := (ph38 z).recv (.st 0 0)
abbrev ph40 (z : Fin 4) : Ph := (ph39 z).send (.st 0 1)
abbrev ph41 (z : Fin 4) : Ph := (ph40 z).recv (.st 1 0)
abbrev ph42 (z : Fin 4) : Ph := (ph41 z).send (.st 1 1)
abbrev ph43 (z : Fin 4) : Ph := (ph42 z).recv (.st 2 0)
abbrev ph44 (z : Fin 4) : Ph := (ph43 z).send (.st 2 1)
abbrev ph45 (z : Fin 4) : Ph := (ph44 z).recv (.st 3 0)
abbrev ph46 (z : Fin 4) : Ph := (ph45 z).send (.st 3 1)
abbrev ph47 (z : Fin 4) : Ph := (ph46 z).out (.dst (.st 0 0))
abbrev ph48 (z : Fin 4) : Ph := (ph47 z).out (.dst (.st 1 0))
abbrev ph49 (z : Fin 4) : Ph := (ph48 z).out (.dst (.st 2 0))
abbrev ph50 (z : Fin 4) : Ph := (ph49 z).out (.dst (.st 3 0))
abbrev ph51 (z : Fin 4) : Ph := (ph50 z).recv (.st 0 1)
abbrev ph52 (z : Fin 4) : Ph := (ph51 z).send (.st 0 2)
abbrev ph53 (z : Fin 4) : Ph := (ph52 z).recv (.st 1 1)
abbrev ph54 (z : Fin 4) : Ph := (ph53 z).send (.st 1 2)
abbrev ph55 (z : Fin 4) : Ph := (ph54 z).recv (.st 2 1)
abbrev ph56 (z : Fin 4) : Ph := (ph55 z).send (.st 2 2)
abbrev ph57 (z : Fin 4) : Ph := (ph56 z).recv (.st 3 1)
abbrev ph58 (z : Fin 4) : Ph := (ph57 z).send (.st 3 2)
abbrev ph59 (z : Fin 4) : Ph := (ph58 z).out (.dst (.st 0 1))
abbrev ph60 (z : Fin 4) : Ph := (ph59 z).out (.dst (.st 1 1))
abbrev ph61 (z : Fin 4) : Ph := (ph60 z).out (.dst (.st 2 1))
abbrev ph62 (z : Fin 4) : Ph := (ph61 z).out (.dst (.st 3 1))
abbrev ph63 (z : Fin 4) : Ph := (ph62 z).recv (.st 0 2)
abbrev ph64 (z : Fin 4) : Ph := (ph63 z).send (.st 0 3)
abbrev ph65 (z : Fin 4) : Ph := (ph64 z).recv (.st 1 2)
abbrev ph66 (z : Fin 4) : Ph := (ph65 z).send (.st 1 3)
abbrev ph67 (z : Fin 4) : Ph := (ph66 z).recv (.st 2 2)
abbrev ph68 (z : Fin 4) : Ph := (ph67 z).send (.st 2 3)
abbrev ph69 (z : Fin 4) : Ph := (ph68 z).recv (.st 3 2)
abbrev ph70 (z : Fin 4) : Ph := (ph69 z).send (.st 3 3)
abbrev ph71 (z : Fin 4) : Ph := (ph70 z).out (.dst (.st 0 2))
abbrev ph72 (z : Fin 4) : Ph := (ph71 z).out (.dst (.st 1 2))
abbrev ph73 (z : Fin 4) : Ph := (ph72 z).out (.dst (.st 2 2))
abbrev ph74 (z : Fin 4) : Ph := (ph73 z).out (.dst (.st 3 2))
abbrev ph75 (z : Fin 4) : Ph := (ph74 z).recv (.st 0 3)
abbrev ph76 (z : Fin 4) : Ph := (ph75 z).send (.st 0 4)
abbrev ph77 (z : Fin 4) : Ph := (ph76 z).recv (.st 1 3)
abbrev ph78 (z : Fin 4) : Ph := (ph77 z).send (.st 1 4)
abbrev ph79 (z : Fin 4) : Ph := (ph78 z).recv (.st 2 3)
abbrev ph80 (z : Fin 4) : Ph := (ph79 z).send (.st 2 4)
abbrev ph81 (z : Fin 4) : Ph := (ph80 z).recv (.st 3 3)
abbrev ph82 (z : Fin 4) : Ph := (ph81 z).send (.st 3 4)
abbrev ph83 (z : Fin 4) : Ph := (ph82 z).out (.dst (.st 0 3))
abbrev ph84 (z : Fin 4) : Ph := (ph83 z).out (.dst (.st 1 3))
abbrev ph85 (z : Fin 4) : Ph := (ph84 z).out (.dst (.st 2 3))
abbrev ph86 (z : Fin 4) : Ph := (ph85 z).out (.dst (.st 3 3))
abbrev ph87 (z : Fin 4) : Ph := (ph86 z).recv (.st 0 4)
abbrev ph88 (z : Fin 4) : Ph := (ph87 z).send (.st 0 5)
abbrev ph89 (z : Fin 4) : Ph := (ph88 z).recv (.st 1 4)
abbrev ph90 (z : Fin 4) : Ph := (ph89 z).send (.st 1 5)
abbrev ph91 (z : Fin 4) : Ph := (ph90 z).recv (.st 2 4)
abbrev ph92 (z : Fin 4) : Ph := (ph91 z).send (.st 2 5)
abbrev ph93 (z : Fin 4) : Ph := (ph92 z).recv (.st 3 4)
abbrev ph94 (z : Fin 4) : Ph := (ph93 z).send (.st 3 5)
abbrev ph95 (z : Fin 4) : Ph := (ph94 z).out (.dst (.st 0 4))
abbrev ph96 (z : Fin 4) : Ph := (ph95 z).out (.dst (.st 1 4))
abbrev ph97 (z : Fin 4) : Ph := (ph96 z).out (.dst (.st 2 4))
abbrev ph98 (z : Fin 4) : Ph := (ph97 z).out (.dst (.st 3 4))
abbrev ph99 (z : Fin 4) : Ph := (ph98 z).recv (.st 0 5)
abbrev ph100 (z : Fin 4) : Ph := (ph99 z).send (.st 0 6)
abbrev ph101 (z : Fin 4) : Ph := (ph100 z).recv (.st 1 5)
abbrev ph102 (z : Fin 4) : Ph := (ph101 z).send (.st 1 6)
abbrev ph103 (z : Fin 4) : Ph := (ph102 z).recv (.st 2 5)
abbrev ph104 (z : Fin 4) : Ph := (ph103 z).send (.st 2 6)
abbrev ph105 (z : Fin 4) : Ph := (ph104 z).recv (.st 3 5)
abbrev ph106 (z : Fin 4) : Ph := (ph105 z).send (.st 3 6)
abbrev ph107 (z : Fin 4) : Ph := (ph106 z).out (.dst (.st 0 5))
abbrev ph108 (z : Fin 4) : Ph := (ph107 z).out (.dst (.st 1 5))
abbrev ph109 (z : Fin 4) : Ph := (ph108 z).out (.dst (.st 2 5))
abbrev ph110 (z : Fin 4) : Ph := (ph109 z).out (.dst (.st 3 5))
abbrev ph111 (z : Fin 4) : Ph := (ph110 z).recv (.st 0 6)
abbrev ph112 (z : Fin 4) : Ph := (ph111 z).out (.dst (.st 0 6))
abbrev ph113 (z : Fin 4) : Ph := (ph112 z).recv (.st 1 6)
abbrev ph114 (z : Fin 4) : Ph := (ph113 z).out (.dst (.st 1 6))
abbrev ph115 (z : Fin 4) : Ph := (ph114 z).recv (.st 2 6)
abbrev ph116 (z : Fin 4) : Ph := (ph115 z).out (.dst (.st 2 6))
abbrev ph117 (z : Fin 4) : Ph := (ph116 z).recv (.st 3 6)
abbrev ph118 (z : Fin 4) : Ph := (ph117 z).out (.dst (.st 3 6))
abbrev ph119 (z : Fin 4) : Ph := (ph118 z).swait (.rs 2)
abbrev ph120 (z : Fin 4) : Ph := (ph119 z).swait (.ag 0)
abbrev ph121 (z : Fin 4) : Ph := (ph120 z).swait (.ag 1)
abbrev ph122 (z : Fin 4) : Ph := (ph121 z).swait (.ag 2)
abbrev ph123 (z : Fin 4) : Ph := (ph122 z).swait (.st 0 0)
abbrev ph124 (z : Fin 4) : Ph := (ph123 z).swait (.st 0 1)
abbrev ph125 (z : Fin 4) : Ph := (ph124 z).swait (.st 0 2)
abbrev ph126 (z : Fin 4) : Ph := (ph125 z).swait (.st 0 3)
abbrev ph127 (z : Fin 4) : Ph := (ph126 z).swait (.st 0 4)
abbrev ph128 (z : Fin 4) : Ph := (ph127 z).swait (.st 0 5)
abbrev ph129 (z : Fin 4) : Ph := (ph128 z).swait (.st 0 6)
abbrev ph130 (z : Fin 4) : Ph := (ph129 z).swait (.st 1 0)
abbrev ph131 (z : Fin 4) : Ph := (ph130 z).swait (.st 1 1)
abbrev ph132 (z : Fin 4) : Ph := (ph131 z).swait (.st 1 2)
abbrev ph133 (z : Fin 4) : Ph := (ph132 z).swait (.st 1 3)
abbrev ph134 (z : Fin 4) : Ph := (ph133 z).swait (.st 1 4)
abbrev ph135 (z : Fin 4) : Ph := (ph134 z).swait (.st 1 5)
abbrev ph136 (z : Fin 4) : Ph := (ph135 z).swait (.st 1 6)
abbrev ph137 (z : Fin 4) : Ph := (ph136 z).swait (.st 2 0)
abbrev ph138 (z : Fin 4) : Ph := (ph137 z).swait (.st 2 1)
abbrev ph139 (z : Fin 4) : Ph := (ph138 z).swait (.st 2 2)
abbrev ph140 (z : Fin 4) : Ph := (ph139 z).swait (.st 2 3)
abbrev ph141 (z : Fin 4) : Ph := (ph140 z).swait (.st 2 4)
abbrev ph142 (z : Fin 4) : Ph := (ph141 z).swait (.st 2 5)
abbrev ph143 (z : Fin 4) : Ph := (ph142 z).swait (.st 2 6)
abbrev ph144 (z : Fin 4) : Ph := (ph143 z).swait (.st 3 0)
abbrev ph145 (z : Fin 4) : Ph := (ph144 z).swait (.st 3 1)
abbrev ph146 (z : Fin 4) : Ph := (ph145 z).swait (.st 3 2)
abbrev ph147 (z : Fin 4) : Ph := (ph146 z).swait (.st 3 3)
abbrev ph148 (z : Fin 4) : Ph := (ph147 z).swait (.st 3 4)
abbrev ph149 (z : Fin 4) : Ph := (ph148 z).swait (.st 3 5)
abbrev ph150 (z : Fin 4) : Ph := (ph149 z).swait (.st 3 6)

/-! ## What the operations ask -/

set_option maxRecDepth 100000

theorem ld1_f : ∀ z, ((ph0 z).own (.v 0) = 2 ∨ (ph0 z).own (.v 0) = 3) := by decide +kernel
theorem ph0_f : ∀ z, ((ph0 z).own (.v 0) = 2 ∨ (ph0 z).own (.v 0) = 3) ∧ ((.v 0 : It) = .v 0 ∨ (ph0 z).own (.v 0) = 0) := by decide +kernel
theorem ph1_f : ∀ z, (ph1 z).snd (.rs 0) = 0 ∧ (ph1 z).own (srcIt (.rs 0)) = 2 := by decide +kernel
theorem ph2_f : ∀ z, (ph2 z).rcv (.rs 0) = false ∧ (ph2 z).own (.dst (.rs 0)) = 0 ∧ ∀ j', (ph2 z).snd j' = 0 → lvC (some (.rcv (.rs 0))) < lvC (some (.rcv j')) := by decide +kernel
theorem ld2_f : ∀ z, ((ph3 z).own (.dst (.rs 0)) = 1 ∨ (ph3 z).own (.dst (.rs 0)) = 2) := by decide +kernel
theorem ld3_f : ∀ z, ((ph3 z).own (.v 1) = 2 ∨ (ph3 z).own (.v 1) = 3) := by decide +kernel
theorem ph3_f : ∀ z, ((ph3 z).own (.v 1) = 2 ∨ (ph3 z).own (.v 1) = 3) ∧ ((.v 1 : It) = .v 1 ∨ (ph3 z).own (.v 1) = 0) := by decide +kernel
theorem ph4_f : ∀ z, (ph4 z).snd (.rs 1) = 0 ∧ (ph4 z).own (srcIt (.rs 1)) = 2 := by decide +kernel
theorem ph5_f : ∀ z, (ph5 z).rcv (.rs 1) = false ∧ (ph5 z).own (.dst (.rs 1)) = 0 ∧ ∀ j', (ph5 z).snd j' = 0 → lvC (some (.rcv (.rs 1))) < lvC (some (.rcv j')) := by decide +kernel
theorem ph6_f : ∀ z, (ph6 z).snd (.rs 0) = 1 ∧ (ph6 z).own (srcIt (.rs 0)) = 1 := by decide +kernel
theorem ld4_f : ∀ z, ((ph7 z).own (.dst (.rs 1)) = 1 ∨ (ph7 z).own (.dst (.rs 1)) = 2) := by decide +kernel
theorem ld5_f : ∀ z, ((ph7 z).own (.v 0) = 2 ∨ (ph7 z).own (.v 0) = 3) := by decide +kernel
theorem ph7_f : ∀ z, ((ph7 z).own (.v 0) = 2 ∨ (ph7 z).own (.v 0) = 3) ∧ ((.v 2 : It) = .v 0 ∨ (ph7 z).own (.v 2) = 0) := by decide +kernel
theorem ph8_f : ∀ z, (ph8 z).snd (.rs 2) = 0 ∧ (ph8 z).own (srcIt (.rs 2)) = 2 := by decide +kernel
theorem ph9_f : ∀ z, (ph9 z).rcv (.rs 2) = false ∧ (ph9 z).own (.dst (.rs 2)) = 0 ∧ ∀ j', (ph9 z).snd j' = 0 → lvC (some (.rcv (.rs 2))) < lvC (some (.rcv j')) := by decide +kernel
theorem ph10_f : ∀ z, (ph10 z).snd (.rs 1) = 1 ∧ (ph10 z).own (srcIt (.rs 1)) = 1 := by decide +kernel
theorem ld6_f : ∀ z, ((ph11 z).own (.dst (.rs 2)) = 1 ∨ (ph11 z).own (.dst (.rs 2)) = 2) := by decide +kernel
theorem ld7_f : ∀ z, ((ph11 z).own (.v 1) = 2 ∨ (ph11 z).own (.v 1) = 3) := by decide +kernel
theorem ph11_f : ∀ z, ((ph11 z).own (.v 1) = 2 ∨ (ph11 z).own (.v 1) = 3) ∧ ((.v 3 : It) = .v 1 ∨ (ph11 z).own (.v 3) = 0) := by decide +kernel
theorem ph12_f : ∀ z, (ph12 z).snd (.ag 0) = 0 ∧ (ph12 z).own (srcIt (.ag 0)) = 2 := by decide +kernel
theorem ld8_f : ∀ z, ((ph13 z).own (.v 3) = 1 ∨ (ph13 z).own (.v 3) = 2) := by decide +kernel
theorem ph14_f : ∀ z, kOf z 0 = 0 → (ph14 z).snd (.st 0 0) = 0 ∧ (ph14 z).own (.inj 0) = 3 ∧ ((ph14 z).own (injIt 0) = 1 ∨ (ph14 z).own (injIt 0) = 2) := by decide +kernel
theorem ph15_f : ∀ z, kOf z 0 = 1 → (ph15 z).snd (.st 1 0) = 0 ∧ (ph15 z).own (.inj 1) = 3 ∧ ((ph15 z).own (injIt 0) = 1 ∨ (ph15 z).own (injIt 0) = 2) := by decide +kernel
theorem ph16_f : ∀ z, kOf z 0 = 2 → (ph16 z).snd (.st 2 0) = 0 ∧ (ph16 z).own (.inj 2) = 3 ∧ ((ph16 z).own (injIt 0) = 1 ∨ (ph16 z).own (injIt 0) = 2) := by decide +kernel
theorem ph17_f : ∀ z, kOf z 0 = 3 → (ph17 z).snd (.st 3 0) = 0 ∧ (ph17 z).own (.inj 3) = 3 ∧ ((ph17 z).own (injIt 0) = 1 ∨ (ph17 z).own (injIt 0) = 2) := by decide +kernel
theorem ph18_f : ∀ z, (ph18 z).rcv (.ag 0) = false ∧ (ph18 z).own (.dst (.ag 0)) = 0 ∧ ∀ j', (ph18 z).snd j' = 0 → lvC (some (.rcv (.ag 0))) < lvC (some (.rcv j')) := by decide +kernel
theorem ph19_f : ∀ z, (ph19 z).snd (.ag 1) = 0 ∧ (ph19 z).own (srcIt (.ag 1)) = 2 := by decide +kernel
theorem ld9_f : ∀ z, ((ph20 z).own (.dst (.ag 0)) = 1 ∨ (ph20 z).own (.dst (.ag 0)) = 2) := by decide +kernel
theorem ph21_f : ∀ z, kOf z 1 = 0 → (ph21 z).snd (.st 0 0) = 0 ∧ (ph21 z).own (.inj 0) = 3 ∧ ((ph21 z).own (injIt 1) = 1 ∨ (ph21 z).own (injIt 1) = 2) := by decide +kernel
theorem ph22_f : ∀ z, kOf z 1 = 1 → (ph22 z).snd (.st 1 0) = 0 ∧ (ph22 z).own (.inj 1) = 3 ∧ ((ph22 z).own (injIt 1) = 1 ∨ (ph22 z).own (injIt 1) = 2) := by decide +kernel
theorem ph23_f : ∀ z, kOf z 1 = 2 → (ph23 z).snd (.st 2 0) = 0 ∧ (ph23 z).own (.inj 2) = 3 ∧ ((ph23 z).own (injIt 1) = 1 ∨ (ph23 z).own (injIt 1) = 2) := by decide +kernel
theorem ph24_f : ∀ z, kOf z 1 = 3 → (ph24 z).snd (.st 3 0) = 0 ∧ (ph24 z).own (.inj 3) = 3 ∧ ((ph24 z).own (injIt 1) = 1 ∨ (ph24 z).own (injIt 1) = 2) := by decide +kernel
theorem ph25_f : ∀ z, (ph25 z).rcv (.ag 1) = false ∧ (ph25 z).own (.dst (.ag 1)) = 0 ∧ ∀ j', (ph25 z).snd j' = 0 → lvC (some (.rcv (.ag 1))) < lvC (some (.rcv j')) := by decide +kernel
theorem ph26_f : ∀ z, (ph26 z).snd (.ag 2) = 0 ∧ (ph26 z).own (srcIt (.ag 2)) = 2 := by decide +kernel
theorem ld10_f : ∀ z, ((ph27 z).own (.dst (.ag 1)) = 1 ∨ (ph27 z).own (.dst (.ag 1)) = 2) := by decide +kernel
theorem ph28_f : ∀ z, kOf z 2 = 0 → (ph28 z).snd (.st 0 0) = 0 ∧ (ph28 z).own (.inj 0) = 3 ∧ ((ph28 z).own (injIt 2) = 1 ∨ (ph28 z).own (injIt 2) = 2) := by decide +kernel
theorem ph29_f : ∀ z, kOf z 2 = 1 → (ph29 z).snd (.st 1 0) = 0 ∧ (ph29 z).own (.inj 1) = 3 ∧ ((ph29 z).own (injIt 2) = 1 ∨ (ph29 z).own (injIt 2) = 2) := by decide +kernel
theorem ph30_f : ∀ z, kOf z 2 = 2 → (ph30 z).snd (.st 2 0) = 0 ∧ (ph30 z).own (.inj 2) = 3 ∧ ((ph30 z).own (injIt 2) = 1 ∨ (ph30 z).own (injIt 2) = 2) := by decide +kernel
theorem ph31_f : ∀ z, kOf z 2 = 3 → (ph31 z).snd (.st 3 0) = 0 ∧ (ph31 z).own (.inj 3) = 3 ∧ ((ph31 z).own (injIt 2) = 1 ∨ (ph31 z).own (injIt 2) = 2) := by decide +kernel
theorem ph32_f : ∀ z, (ph32 z).rcv (.ag 2) = false ∧ (ph32 z).own (.dst (.ag 2)) = 0 ∧ ∀ j', (ph32 z).snd j' = 0 → lvC (some (.rcv (.ag 2))) < lvC (some (.rcv j')) := by decide +kernel
theorem ld11_f : ∀ z, ((ph33 z).own (.dst (.ag 2)) = 1 ∨ (ph33 z).own (.dst (.ag 2)) = 2) := by decide +kernel
theorem ph34_f : ∀ z, kOf z 3 = 0 → (ph34 z).snd (.st 0 0) = 0 ∧ (ph34 z).own (.inj 0) = 3 ∧ ((ph34 z).own (injIt 3) = 1 ∨ (ph34 z).own (injIt 3) = 2) := by decide +kernel
theorem ph35_f : ∀ z, kOf z 3 = 1 → (ph35 z).snd (.st 1 0) = 0 ∧ (ph35 z).own (.inj 1) = 3 ∧ ((ph35 z).own (injIt 3) = 1 ∨ (ph35 z).own (injIt 3) = 2) := by decide +kernel
theorem ph36_f : ∀ z, kOf z 3 = 2 → (ph36 z).snd (.st 2 0) = 0 ∧ (ph36 z).own (.inj 2) = 3 ∧ ((ph36 z).own (injIt 3) = 1 ∨ (ph36 z).own (injIt 3) = 2) := by decide +kernel
theorem ph37_f : ∀ z, kOf z 3 = 3 → (ph37 z).snd (.st 3 0) = 0 ∧ (ph37 z).own (.inj 3) = 3 ∧ ((ph37 z).own (injIt 3) = 1 ∨ (ph37 z).own (injIt 3) = 2) := by decide +kernel
theorem ph38_f : ∀ z, (ph38 z).rcv (.st 0 0) = false ∧ (ph38 z).own (.dst (.st 0 0)) = 0 ∧ ∀ j', (ph38 z).snd j' = 0 → lvC (some (.rcv (.st 0 0))) < lvC (some (.rcv j')) := by decide +kernel
theorem ph39_f : ∀ z, (ph39 z).snd (.st 0 1) = 0 ∧ (ph39 z).own (srcIt (.st 0 1)) = 2 := by decide +kernel
theorem ph40_f : ∀ z, (ph40 z).rcv (.st 1 0) = false ∧ (ph40 z).own (.dst (.st 1 0)) = 0 ∧ ∀ j', (ph40 z).snd j' = 0 → lvC (some (.rcv (.st 1 0))) < lvC (some (.rcv j')) := by decide +kernel
theorem ph41_f : ∀ z, (ph41 z).snd (.st 1 1) = 0 ∧ (ph41 z).own (srcIt (.st 1 1)) = 2 := by decide +kernel
theorem ph42_f : ∀ z, (ph42 z).rcv (.st 2 0) = false ∧ (ph42 z).own (.dst (.st 2 0)) = 0 ∧ ∀ j', (ph42 z).snd j' = 0 → lvC (some (.rcv (.st 2 0))) < lvC (some (.rcv j')) := by decide +kernel
theorem ph43_f : ∀ z, (ph43 z).snd (.st 2 1) = 0 ∧ (ph43 z).own (srcIt (.st 2 1)) = 2 := by decide +kernel
theorem ph44_f : ∀ z, (ph44 z).rcv (.st 3 0) = false ∧ (ph44 z).own (.dst (.st 3 0)) = 0 ∧ ∀ j', (ph44 z).snd j' = 0 → lvC (some (.rcv (.st 3 0))) < lvC (some (.rcv j')) := by decide +kernel
theorem ph45_f : ∀ z, (ph45 z).snd (.st 3 1) = 0 ∧ (ph45 z).own (srcIt (.st 3 1)) = 2 := by decide +kernel
theorem ld12_f : ∀ z, ((ph46 z).own (.dst (.st 0 0)) = 1 ∨ (ph46 z).own (.dst (.st 0 0)) = 2) := by decide +kernel
theorem ld13_f : ∀ z, ((ph47 z).own (.dst (.st 1 0)) = 1 ∨ (ph47 z).own (.dst (.st 1 0)) = 2) := by decide +kernel
theorem ld14_f : ∀ z, ((ph48 z).own (.dst (.st 2 0)) = 1 ∨ (ph48 z).own (.dst (.st 2 0)) = 2) := by decide +kernel
theorem ld15_f : ∀ z, ((ph49 z).own (.dst (.st 3 0)) = 1 ∨ (ph49 z).own (.dst (.st 3 0)) = 2) := by decide +kernel
theorem ph50_f : ∀ z, (ph50 z).rcv (.st 0 1) = false ∧ (ph50 z).own (.dst (.st 0 1)) = 0 ∧ ∀ j', (ph50 z).snd j' = 0 → lvC (some (.rcv (.st 0 1))) < lvC (some (.rcv j')) := by decide +kernel
theorem ph51_f : ∀ z, (ph51 z).snd (.st 0 2) = 0 ∧ (ph51 z).own (srcIt (.st 0 2)) = 2 := by decide +kernel
theorem ph52_f : ∀ z, (ph52 z).rcv (.st 1 1) = false ∧ (ph52 z).own (.dst (.st 1 1)) = 0 ∧ ∀ j', (ph52 z).snd j' = 0 → lvC (some (.rcv (.st 1 1))) < lvC (some (.rcv j')) := by decide +kernel
theorem ph53_f : ∀ z, (ph53 z).snd (.st 1 2) = 0 ∧ (ph53 z).own (srcIt (.st 1 2)) = 2 := by decide +kernel
theorem ph54_f : ∀ z, (ph54 z).rcv (.st 2 1) = false ∧ (ph54 z).own (.dst (.st 2 1)) = 0 ∧ ∀ j', (ph54 z).snd j' = 0 → lvC (some (.rcv (.st 2 1))) < lvC (some (.rcv j')) := by decide +kernel
theorem ph55_f : ∀ z, (ph55 z).snd (.st 2 2) = 0 ∧ (ph55 z).own (srcIt (.st 2 2)) = 2 := by decide +kernel
theorem ph56_f : ∀ z, (ph56 z).rcv (.st 3 1) = false ∧ (ph56 z).own (.dst (.st 3 1)) = 0 ∧ ∀ j', (ph56 z).snd j' = 0 → lvC (some (.rcv (.st 3 1))) < lvC (some (.rcv j')) := by decide +kernel
theorem ph57_f : ∀ z, (ph57 z).snd (.st 3 2) = 0 ∧ (ph57 z).own (srcIt (.st 3 2)) = 2 := by decide +kernel
theorem ld16_f : ∀ z, ((ph58 z).own (.dst (.st 0 1)) = 1 ∨ (ph58 z).own (.dst (.st 0 1)) = 2) := by decide +kernel
theorem ld17_f : ∀ z, ((ph59 z).own (.dst (.st 1 1)) = 1 ∨ (ph59 z).own (.dst (.st 1 1)) = 2) := by decide +kernel
theorem ld18_f : ∀ z, ((ph60 z).own (.dst (.st 2 1)) = 1 ∨ (ph60 z).own (.dst (.st 2 1)) = 2) := by decide +kernel
theorem ld19_f : ∀ z, ((ph61 z).own (.dst (.st 3 1)) = 1 ∨ (ph61 z).own (.dst (.st 3 1)) = 2) := by decide +kernel
theorem ph62_f : ∀ z, (ph62 z).rcv (.st 0 2) = false ∧ (ph62 z).own (.dst (.st 0 2)) = 0 ∧ ∀ j', (ph62 z).snd j' = 0 → lvC (some (.rcv (.st 0 2))) < lvC (some (.rcv j')) := by decide +kernel
theorem ph63_f : ∀ z, (ph63 z).snd (.st 0 3) = 0 ∧ (ph63 z).own (srcIt (.st 0 3)) = 2 := by decide +kernel
theorem ph64_f : ∀ z, (ph64 z).rcv (.st 1 2) = false ∧ (ph64 z).own (.dst (.st 1 2)) = 0 ∧ ∀ j', (ph64 z).snd j' = 0 → lvC (some (.rcv (.st 1 2))) < lvC (some (.rcv j')) := by decide +kernel
theorem ph65_f : ∀ z, (ph65 z).snd (.st 1 3) = 0 ∧ (ph65 z).own (srcIt (.st 1 3)) = 2 := by decide +kernel
theorem ph66_f : ∀ z, (ph66 z).rcv (.st 2 2) = false ∧ (ph66 z).own (.dst (.st 2 2)) = 0 ∧ ∀ j', (ph66 z).snd j' = 0 → lvC (some (.rcv (.st 2 2))) < lvC (some (.rcv j')) := by decide +kernel
theorem ph67_f : ∀ z, (ph67 z).snd (.st 2 3) = 0 ∧ (ph67 z).own (srcIt (.st 2 3)) = 2 := by decide +kernel
theorem ph68_f : ∀ z, (ph68 z).rcv (.st 3 2) = false ∧ (ph68 z).own (.dst (.st 3 2)) = 0 ∧ ∀ j', (ph68 z).snd j' = 0 → lvC (some (.rcv (.st 3 2))) < lvC (some (.rcv j')) := by decide +kernel
theorem ph69_f : ∀ z, (ph69 z).snd (.st 3 3) = 0 ∧ (ph69 z).own (srcIt (.st 3 3)) = 2 := by decide +kernel
theorem ld20_f : ∀ z, ((ph70 z).own (.dst (.st 0 2)) = 1 ∨ (ph70 z).own (.dst (.st 0 2)) = 2) := by decide +kernel
theorem ld21_f : ∀ z, ((ph71 z).own (.dst (.st 1 2)) = 1 ∨ (ph71 z).own (.dst (.st 1 2)) = 2) := by decide +kernel
theorem ld22_f : ∀ z, ((ph72 z).own (.dst (.st 2 2)) = 1 ∨ (ph72 z).own (.dst (.st 2 2)) = 2) := by decide +kernel
theorem ld23_f : ∀ z, ((ph73 z).own (.dst (.st 3 2)) = 1 ∨ (ph73 z).own (.dst (.st 3 2)) = 2) := by decide +kernel
theorem ph74_f : ∀ z, (ph74 z).rcv (.st 0 3) = false ∧ (ph74 z).own (.dst (.st 0 3)) = 0 ∧ ∀ j', (ph74 z).snd j' = 0 → lvC (some (.rcv (.st 0 3))) < lvC (some (.rcv j')) := by decide +kernel
theorem ph75_f : ∀ z, (ph75 z).snd (.st 0 4) = 0 ∧ (ph75 z).own (srcIt (.st 0 4)) = 2 := by decide +kernel
theorem ph76_f : ∀ z, (ph76 z).rcv (.st 1 3) = false ∧ (ph76 z).own (.dst (.st 1 3)) = 0 ∧ ∀ j', (ph76 z).snd j' = 0 → lvC (some (.rcv (.st 1 3))) < lvC (some (.rcv j')) := by decide +kernel
theorem ph77_f : ∀ z, (ph77 z).snd (.st 1 4) = 0 ∧ (ph77 z).own (srcIt (.st 1 4)) = 2 := by decide +kernel
theorem ph78_f : ∀ z, (ph78 z).rcv (.st 2 3) = false ∧ (ph78 z).own (.dst (.st 2 3)) = 0 ∧ ∀ j', (ph78 z).snd j' = 0 → lvC (some (.rcv (.st 2 3))) < lvC (some (.rcv j')) := by decide +kernel
theorem ph79_f : ∀ z, (ph79 z).snd (.st 2 4) = 0 ∧ (ph79 z).own (srcIt (.st 2 4)) = 2 := by decide +kernel
theorem ph80_f : ∀ z, (ph80 z).rcv (.st 3 3) = false ∧ (ph80 z).own (.dst (.st 3 3)) = 0 ∧ ∀ j', (ph80 z).snd j' = 0 → lvC (some (.rcv (.st 3 3))) < lvC (some (.rcv j')) := by decide +kernel
theorem ph81_f : ∀ z, (ph81 z).snd (.st 3 4) = 0 ∧ (ph81 z).own (srcIt (.st 3 4)) = 2 := by decide +kernel
theorem ld24_f : ∀ z, ((ph82 z).own (.dst (.st 0 3)) = 1 ∨ (ph82 z).own (.dst (.st 0 3)) = 2) := by decide +kernel
theorem ld25_f : ∀ z, ((ph83 z).own (.dst (.st 1 3)) = 1 ∨ (ph83 z).own (.dst (.st 1 3)) = 2) := by decide +kernel
theorem ld26_f : ∀ z, ((ph84 z).own (.dst (.st 2 3)) = 1 ∨ (ph84 z).own (.dst (.st 2 3)) = 2) := by decide +kernel
theorem ld27_f : ∀ z, ((ph85 z).own (.dst (.st 3 3)) = 1 ∨ (ph85 z).own (.dst (.st 3 3)) = 2) := by decide +kernel
theorem ph86_f : ∀ z, (ph86 z).rcv (.st 0 4) = false ∧ (ph86 z).own (.dst (.st 0 4)) = 0 ∧ ∀ j', (ph86 z).snd j' = 0 → lvC (some (.rcv (.st 0 4))) < lvC (some (.rcv j')) := by decide +kernel
theorem ph87_f : ∀ z, (ph87 z).snd (.st 0 5) = 0 ∧ (ph87 z).own (srcIt (.st 0 5)) = 2 := by decide +kernel
theorem ph88_f : ∀ z, (ph88 z).rcv (.st 1 4) = false ∧ (ph88 z).own (.dst (.st 1 4)) = 0 ∧ ∀ j', (ph88 z).snd j' = 0 → lvC (some (.rcv (.st 1 4))) < lvC (some (.rcv j')) := by decide +kernel
theorem ph89_f : ∀ z, (ph89 z).snd (.st 1 5) = 0 ∧ (ph89 z).own (srcIt (.st 1 5)) = 2 := by decide +kernel
theorem ph90_f : ∀ z, (ph90 z).rcv (.st 2 4) = false ∧ (ph90 z).own (.dst (.st 2 4)) = 0 ∧ ∀ j', (ph90 z).snd j' = 0 → lvC (some (.rcv (.st 2 4))) < lvC (some (.rcv j')) := by decide +kernel
theorem ph91_f : ∀ z, (ph91 z).snd (.st 2 5) = 0 ∧ (ph91 z).own (srcIt (.st 2 5)) = 2 := by decide +kernel
theorem ph92_f : ∀ z, (ph92 z).rcv (.st 3 4) = false ∧ (ph92 z).own (.dst (.st 3 4)) = 0 ∧ ∀ j', (ph92 z).snd j' = 0 → lvC (some (.rcv (.st 3 4))) < lvC (some (.rcv j')) := by decide +kernel
theorem ph93_f : ∀ z, (ph93 z).snd (.st 3 5) = 0 ∧ (ph93 z).own (srcIt (.st 3 5)) = 2 := by decide +kernel
theorem ld28_f : ∀ z, ((ph94 z).own (.dst (.st 0 4)) = 1 ∨ (ph94 z).own (.dst (.st 0 4)) = 2) := by decide +kernel
theorem ld29_f : ∀ z, ((ph95 z).own (.dst (.st 1 4)) = 1 ∨ (ph95 z).own (.dst (.st 1 4)) = 2) := by decide +kernel
theorem ld30_f : ∀ z, ((ph96 z).own (.dst (.st 2 4)) = 1 ∨ (ph96 z).own (.dst (.st 2 4)) = 2) := by decide +kernel
theorem ld31_f : ∀ z, ((ph97 z).own (.dst (.st 3 4)) = 1 ∨ (ph97 z).own (.dst (.st 3 4)) = 2) := by decide +kernel
theorem ph98_f : ∀ z, (ph98 z).rcv (.st 0 5) = false ∧ (ph98 z).own (.dst (.st 0 5)) = 0 ∧ ∀ j', (ph98 z).snd j' = 0 → lvC (some (.rcv (.st 0 5))) < lvC (some (.rcv j')) := by decide +kernel
theorem ph99_f : ∀ z, (ph99 z).snd (.st 0 6) = 0 ∧ (ph99 z).own (srcIt (.st 0 6)) = 2 := by decide +kernel
theorem ph100_f : ∀ z, (ph100 z).rcv (.st 1 5) = false ∧ (ph100 z).own (.dst (.st 1 5)) = 0 ∧ ∀ j', (ph100 z).snd j' = 0 → lvC (some (.rcv (.st 1 5))) < lvC (some (.rcv j')) := by decide +kernel
theorem ph101_f : ∀ z, (ph101 z).snd (.st 1 6) = 0 ∧ (ph101 z).own (srcIt (.st 1 6)) = 2 := by decide +kernel
theorem ph102_f : ∀ z, (ph102 z).rcv (.st 2 5) = false ∧ (ph102 z).own (.dst (.st 2 5)) = 0 ∧ ∀ j', (ph102 z).snd j' = 0 → lvC (some (.rcv (.st 2 5))) < lvC (some (.rcv j')) := by decide +kernel
theorem ph103_f : ∀ z, (ph103 z).snd (.st 2 6) = 0 ∧ (ph103 z).own (srcIt (.st 2 6)) = 2 := by decide +kernel
theorem ph104_f : ∀ z, (ph104 z).rcv (.st 3 5) = false ∧ (ph104 z).own (.dst (.st 3 5)) = 0 ∧ ∀ j', (ph104 z).snd j' = 0 → lvC (some (.rcv (.st 3 5))) < lvC (some (.rcv j')) := by decide +kernel
theorem ph105_f : ∀ z, (ph105 z).snd (.st 3 6) = 0 ∧ (ph105 z).own (srcIt (.st 3 6)) = 2 := by decide +kernel
theorem ld32_f : ∀ z, ((ph106 z).own (.dst (.st 0 5)) = 1 ∨ (ph106 z).own (.dst (.st 0 5)) = 2) := by decide +kernel
theorem ld33_f : ∀ z, ((ph107 z).own (.dst (.st 1 5)) = 1 ∨ (ph107 z).own (.dst (.st 1 5)) = 2) := by decide +kernel
theorem ld34_f : ∀ z, ((ph108 z).own (.dst (.st 2 5)) = 1 ∨ (ph108 z).own (.dst (.st 2 5)) = 2) := by decide +kernel
theorem ld35_f : ∀ z, ((ph109 z).own (.dst (.st 3 5)) = 1 ∨ (ph109 z).own (.dst (.st 3 5)) = 2) := by decide +kernel
theorem ph110_f : ∀ z, (ph110 z).rcv (.st 0 6) = false ∧ (ph110 z).own (.dst (.st 0 6)) = 0 ∧ ∀ j', (ph110 z).snd j' = 0 → lvC (some (.rcv (.st 0 6))) < lvC (some (.rcv j')) := by decide +kernel
theorem ld36_f : ∀ z, ((ph111 z).own (.dst (.st 0 6)) = 1 ∨ (ph111 z).own (.dst (.st 0 6)) = 2) := by decide +kernel
theorem ph112_f : ∀ z, (ph112 z).rcv (.st 1 6) = false ∧ (ph112 z).own (.dst (.st 1 6)) = 0 ∧ ∀ j', (ph112 z).snd j' = 0 → lvC (some (.rcv (.st 1 6))) < lvC (some (.rcv j')) := by decide +kernel
theorem ld37_f : ∀ z, ((ph113 z).own (.dst (.st 1 6)) = 1 ∨ (ph113 z).own (.dst (.st 1 6)) = 2) := by decide +kernel
theorem ph114_f : ∀ z, (ph114 z).rcv (.st 2 6) = false ∧ (ph114 z).own (.dst (.st 2 6)) = 0 ∧ ∀ j', (ph114 z).snd j' = 0 → lvC (some (.rcv (.st 2 6))) < lvC (some (.rcv j')) := by decide +kernel
theorem ld38_f : ∀ z, ((ph115 z).own (.dst (.st 2 6)) = 1 ∨ (ph115 z).own (.dst (.st 2 6)) = 2) := by decide +kernel
theorem ph116_f : ∀ z, (ph116 z).rcv (.st 3 6) = false ∧ (ph116 z).own (.dst (.st 3 6)) = 0 ∧ ∀ j', (ph116 z).snd j' = 0 → lvC (some (.rcv (.st 3 6))) < lvC (some (.rcv j')) := by decide +kernel
theorem ld39_f : ∀ z, ((ph117 z).own (.dst (.st 3 6)) = 1 ∨ (ph117 z).own (.dst (.st 3 6)) = 2) := by decide +kernel
theorem ph118_f : ∀ z, (ph118 z).snd (.rs 2) = 1 ∧ (ph118 z).own (srcIt (.rs 2)) = 1 := by decide +kernel
theorem ph119_f : ∀ z, (ph119 z).snd (.ag 0) = 1 ∧ (ph119 z).own (srcIt (.ag 0)) = 1 := by decide +kernel
theorem ph120_f : ∀ z, (ph120 z).snd (.ag 1) = 1 ∧ (ph120 z).own (srcIt (.ag 1)) = 1 := by decide +kernel
theorem ph121_f : ∀ z, (ph121 z).snd (.ag 2) = 1 ∧ (ph121 z).own (srcIt (.ag 2)) = 1 := by decide +kernel
theorem ph122_f : ∀ z, (ph122 z).snd (.st 0 0) = 1 ∧ (ph122 z).own (srcIt (.st 0 0)) = 1 := by decide +kernel
theorem ph123_f : ∀ z, (ph123 z).snd (.st 0 1) = 1 ∧ (ph123 z).own (srcIt (.st 0 1)) = 1 := by decide +kernel
theorem ph124_f : ∀ z, (ph124 z).snd (.st 0 2) = 1 ∧ (ph124 z).own (srcIt (.st 0 2)) = 1 := by decide +kernel
theorem ph125_f : ∀ z, (ph125 z).snd (.st 0 3) = 1 ∧ (ph125 z).own (srcIt (.st 0 3)) = 1 := by decide +kernel
theorem ph126_f : ∀ z, (ph126 z).snd (.st 0 4) = 1 ∧ (ph126 z).own (srcIt (.st 0 4)) = 1 := by decide +kernel
theorem ph127_f : ∀ z, (ph127 z).snd (.st 0 5) = 1 ∧ (ph127 z).own (srcIt (.st 0 5)) = 1 := by decide +kernel
theorem ph128_f : ∀ z, (ph128 z).snd (.st 0 6) = 1 ∧ (ph128 z).own (srcIt (.st 0 6)) = 1 := by decide +kernel
theorem ph129_f : ∀ z, (ph129 z).snd (.st 1 0) = 1 ∧ (ph129 z).own (srcIt (.st 1 0)) = 1 := by decide +kernel
theorem ph130_f : ∀ z, (ph130 z).snd (.st 1 1) = 1 ∧ (ph130 z).own (srcIt (.st 1 1)) = 1 := by decide +kernel
theorem ph131_f : ∀ z, (ph131 z).snd (.st 1 2) = 1 ∧ (ph131 z).own (srcIt (.st 1 2)) = 1 := by decide +kernel
theorem ph132_f : ∀ z, (ph132 z).snd (.st 1 3) = 1 ∧ (ph132 z).own (srcIt (.st 1 3)) = 1 := by decide +kernel
theorem ph133_f : ∀ z, (ph133 z).snd (.st 1 4) = 1 ∧ (ph133 z).own (srcIt (.st 1 4)) = 1 := by decide +kernel
theorem ph134_f : ∀ z, (ph134 z).snd (.st 1 5) = 1 ∧ (ph134 z).own (srcIt (.st 1 5)) = 1 := by decide +kernel
theorem ph135_f : ∀ z, (ph135 z).snd (.st 1 6) = 1 ∧ (ph135 z).own (srcIt (.st 1 6)) = 1 := by decide +kernel
theorem ph136_f : ∀ z, (ph136 z).snd (.st 2 0) = 1 ∧ (ph136 z).own (srcIt (.st 2 0)) = 1 := by decide +kernel
theorem ph137_f : ∀ z, (ph137 z).snd (.st 2 1) = 1 ∧ (ph137 z).own (srcIt (.st 2 1)) = 1 := by decide +kernel
theorem ph138_f : ∀ z, (ph138 z).snd (.st 2 2) = 1 ∧ (ph138 z).own (srcIt (.st 2 2)) = 1 := by decide +kernel
theorem ph139_f : ∀ z, (ph139 z).snd (.st 2 3) = 1 ∧ (ph139 z).own (srcIt (.st 2 3)) = 1 := by decide +kernel
theorem ph140_f : ∀ z, (ph140 z).snd (.st 2 4) = 1 ∧ (ph140 z).own (srcIt (.st 2 4)) = 1 := by decide +kernel
theorem ph141_f : ∀ z, (ph141 z).snd (.st 2 5) = 1 ∧ (ph141 z).own (srcIt (.st 2 5)) = 1 := by decide +kernel
theorem ph142_f : ∀ z, (ph142 z).snd (.st 2 6) = 1 ∧ (ph142 z).own (srcIt (.st 2 6)) = 1 := by decide +kernel
theorem ph143_f : ∀ z, (ph143 z).snd (.st 3 0) = 1 ∧ (ph143 z).own (srcIt (.st 3 0)) = 1 := by decide +kernel
theorem ph144_f : ∀ z, (ph144 z).snd (.st 3 1) = 1 ∧ (ph144 z).own (srcIt (.st 3 1)) = 1 := by decide +kernel
theorem ph145_f : ∀ z, (ph145 z).snd (.st 3 2) = 1 ∧ (ph145 z).own (srcIt (.st 3 2)) = 1 := by decide +kernel
theorem ph146_f : ∀ z, (ph146 z).snd (.st 3 3) = 1 ∧ (ph146 z).own (srcIt (.st 3 3)) = 1 := by decide +kernel
theorem ph147_f : ∀ z, (ph147 z).snd (.st 3 4) = 1 ∧ (ph147 z).own (srcIt (.st 3 4)) = 1 := by decide +kernel
theorem ph148_f : ∀ z, (ph148 z).snd (.st 3 5) = 1 ∧ (ph148 z).own (srcIt (.st 3 5)) = 1 := by decide +kernel
theorem ph149_f : ∀ z, (ph149 z).snd (.st 3 6) = 1 ∧ (ph149 z).own (srcIt (.st 3 6)) = 1 := by decide +kernel

end Cert.KernelIdealProof

end
-- ==== Proof.Start.lean ====
/-
The start of the kernel: the copy of the argument's block, the handshake with the four neighbours, and the state after it.
-/
module

public import proofs.«01_k».proof.Proof.Phases

@[expose] public section

set_option maxRecDepth 100000

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Before the first transfer -/

section Start
variable (m : (ℓ : Loc nD τ sig) → Buf (Elt F) ℓ) (K : Dev nD × Cl → ℕ) (c : Dev nD)

/-- One handshake signal, as owed. -/
abbrev sgT (d : Fin 4) : CellTallies nD τ sig Unit := tallyAt (kcell (sg d c, .bar)) () 1
/-- What a device owes at launch: every arrival and the four handshake signals. -/
def O₀ : CellTallies nD τ sig Unit := owed c (fun _ => 0) + sgT c 3 + sgT c 2 + sgT c 1 + sgT c 0

/-- The device's own landing slabs of the channels the `d`-th signal hands over. -/
def lands (d : Fin 4) : sProp 𝕄 :=
  bigSep (Finset.univ.filter fun j : Ch => duOf j = d) fun j => iprop(∃ X, owns (c : Thread nD τ) (itM (.dst j)) fullShare X)

theorem lands_eq (d : Fin 4) : lands (F := F) c d = barPay (F := F) (sg d c) d :=
  bigSep_congr fun j hj => by
    have h : duOf j = d := (Finset.mem_filter.mp hj).2
    subst h
    rw [tgt_sg]

omit [FloatOps F] in
theorem fib4 (Φ : Ch → sProp 𝕄) : (bigSep Finset.univ fun d : Fin 4 => bigSep (Finset.univ.filter fun j : Ch => duOf j = d) Φ) = bigSep Finset.univ Φ := by
  have h : (Finset.univ : Finset Ch) = (Finset.univ : Finset (Fin 4)).biUnion fun d => Finset.univ.filter fun j : Ch => duOf j = d := by
    ext j; simp
  conv_rhs => rw [h]
  exact (bigSep_biUnion_eq _ _ _ fun d _ d' _ hne => Finset.disjoint_filter.mpr fun i _ hi hi' => hne (hi.symm.trans hi')).symm
theorem bars_eq : (bigSep Finset.univ fun d => barPay (F := F) c d)
    = bigSep Finset.univ fun j : Ch => iprop(∃ X, owns ((tgt j c : Dev nD) : Thread nD τ) (itM (.dst j)) fullShare X) :=
  fib4 _
theorem lands_all : (bigSep Finset.univ fun d => lands (F := F) c d)
    = bigSep Finset.univ fun j : Ch => iprop(∃ X, owns (c : Thread nD τ) (itM (.dst j)) fullShare X) :=
  fib4 _

/-- The `d`-th handshake signal. -/
theorem step_sig {α : Type} {Q : α → sProp 𝕄} (d : Fin 4) (O : CellTallies nD τ sig Unit) (W : Waits sig Unit) {n : Dev nD} (hn : n = sg d c)
    {k' : ℕ} (hk : 1 = k') {k : PUnit → Prog (TpuEff nD τ sig (Elt F) Λ₀ .tc) α} :
    iprop(records m K ∗ owes (c : Thread nD τ) (O + sgT c d) W ∗ dutyTok ER (kcell (sg d c, .bar)) 0 d ∗ lands c d)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) barS k') k) Q) := by
  subst hn hk
  have hd : d ∈ (Rd (F := F) m).duties (((sg d c : Dev nD) : Thread nD τ), SemLoc.reg barS) 0 := by
    have := duties_k m (sg d c) .bar
    exact this ▸ Finset.mem_univ d
  have hpay : lands (F := F) c d ⊢ (Rd m).payload (((sg d c : Dev nD) : Thread nD τ), SemLoc.reg barS) 0 d :=
    Entails.of_eq ((lands_eq c d).trans (payload_k m (sg d c) .bar d).symm)
  have hw := Rounds.wp_signal 𝒱₀ ER (Rd m) (c : Thread nD τ) none (dst := ((sg d c : Dev nD) : Thread nD τ)) (sem := barS) (κ := K (sg d c, .bar))
      (d := d) (r := 0) (k' := 1) hd (amount_k m (sg d c) .bar d) () O rfl (W := W) (hr := Topo.routes_tc _ _) (Q := Q) (Es := Set.univ) (k := k) (defs := defs₀ (F := F)) (Γ := .empty)
  iintro ⟨#HR, HO, Ht, Hp⟩
  ihave #R1 := (records_elim m K (sg d c, .bar)) $$ HR
  icases R1 with ⟨HI, Hr⟩
  iapply hw
  isplitr; · iexact HI
  isplitl [HO]; · iexact HO
  isplitl [Ht]; · iexact Ht
  isplitl [Hp]; · iapply hpay; iexact Hp
  iexact Hr

/-- The wait for the four neighbours' signals: the landing slabs of every channel at its target. -/
theorem step_barrier {α : Type} {Q : α → sProp 𝕄} (W : Waits sig Unit) {k' : ℕ} (hk : 4 = k') {k : PUnit → Prog (TpuEff nD τ sig (Elt F) Λ₀ .tc) α} :
    iprop(records m K ∗ levAts L lv ∗ owes (c : Thread nD τ) (owed c fun _ => 0) W ∗ cred (tallyAt (kcell (c, .bar)) () 4) ∗ atPos ER (kcell (c, .bar)) 0 ∅ 0)
      ⊢ iprop(((owes (c : Thread nD τ) (owed c fun _ => 0) (insert (SemLoc.reg barS, ()) W) ∗ semVal (kcell (c, .bar)) 0
              ∗ bigSep Finset.univ fun j : Ch => iprop(∃ X, owns ((tgt j c : Dev nD) : Thread nD τ) (itM (.dst j)) fullShare X))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  subst hk
  iintro ⟨#HR, #HL, HO, Hc, Hat⟩ Hk
  ihave #R1 := (records_elim m K (c, .bar)) $$ HR
  icases R1 with ⟨HI, -⟩
  iapply (Rounds.wp_wait_rest_token 𝒱₀ ER (Rd m) (c : Thread nD τ) none (κ := K (c, .bar)) (sm := .reg barS)
      (wpE_semWait_eq 𝒱₀ (c : Thread nD τ) none Set.univ) (Set.mem_univ _) () (O := owed c fun _ => 0) (W := W) (R := 0) (m := 0) (T := ∅)
      (by rw [Nat.zero_add]; exact (expect_bar m c).symm)) $$ [Hc HO Hat]
  · isplitr; · iexact HI
    isplitl [Hc]; · iexact Hc
    isplitl [HO]; · iexact HO
    isplitr; · iapply (mayWait c (fun _ => 0) .bar (fun j _ => (show ∀ j : Ch, lvC (some .bar) < lvC (some (.rcv j)) by decide +kernel) j)); iexact HL
    iexact Hat
  iintro ⟨HO, Hat, -, Hpay⟩
  have hrest : bigSep ((Rd (F := F) m).duties ((c : Thread nD τ), SemLoc.reg barS) 0 \ ∅) (fun d => (Rd (F := F) m).payload ((c : Thread nD τ), SemLoc.reg barS) 0 d)
      ⊢ bigSep Finset.univ fun j : Ch => iprop(∃ X, owns ((tgt j c : Dev nD) : Thread nD τ) (itM (.dst j)) fullShare X) :=
    Entails.of_eq ((rest_bar m c).trans (bars_eq c))
  ihave H := hrest $$ Hpay
  imod (Rounds.cell_close ER (Rd m) (Set.mem_univ (K (c, .bar))) (fun h => h) (R := 0 + 1) (duties_later m (kcell (c, .bar)))) $$ [Hat] with Hz
  · isplitr; · iexact HI
    iexact Hat
  iapply Hk
  isplitl [HO]; · iexact HO
  isplitl [Hz]; · iexact Hz
  iexact H

/-- The part of the argument the kernel loads, as a view. -/
abbrev aS : Memref sig .tc .hbm S1024x1024 .f32 := aM.slice (rectA (pl c)) (fun _ => rfl)

/-- The start of the copy of the argument's block. -/
theorem step_ldstart {α : Type} {Q : α → sProp 𝕄} {off : Fin 2 → ℕ} (ho : off = ![(pl c).val * 1024, 0]) {inb : ∀ a, off a + S1024x1024.size a ≤ S8192x1024.size a}
    {hst : ∀ a, (Rect.unit (s := S8192x1024) off S1024x1024.size inb).stride a = 1} {s : DmaSem sig} (hs : s = ldS)
    {hsrc : ((aM : Memref sig .tc .hbm S8192x1024 .f32).slice (Rect.unit (s := S8192x1024) off S1024x1024.size inb) hst).view.WordExact} {hdst : (xM : Memref sig .tc .vmem S1024x1024 .f32).view.WordExact}
    {hsem : DmaTarget.Typed (nD := nD) .hbm (.dma s) (DmaTarget.here (p := (c : Thread nD τ).2) (xM : Memref sig .tc .vmem S1024x1024 .f32))} (f : Buf (Elt F) ((c : Thread nD τ).loc cc0_scratch0))
    {k : PUnit → Prog (TpuEff nD τ sig (Elt F) Λ₀ .tc) α} :
    iprop(records m K ∗ ((aS c).view.loc (c : Thread nD τ) ↦[(aS c).view.set]{fullShare.left} argAt m c) ∗ ((c : Thread nD τ).loc cc0_scratch0 ↦{fullShare} f) ∗ dutyTok ER (kcell (c, .ld)) 0 0)
      ⊢ iprop((cred (tallyAt (kcell (c, .ld)) () NL) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((aM : Memref sig .tc .hbm S8192x1024 .f32).slice (Rect.unit (s := S8192x1024) off S1024x1024.size inb) hst) (.here xM) (.dma s) hsrc hdst hsem) k) Q) := by
  subst ho hs
  have hd : (0 : Fin 4) ∈ (Rd (F := F) m).duties ((c : Thread nD τ), SemLoc.dma ldS) 0 := mem_k m c .ld (by simp)
  have hset : (xM : Memref sig .tc .vmem S1024x1024 .f32).view.set = Finset.univ := View.set_whole _
  have hpay : iprop(((xM : Memref sig .tc .vmem S1024x1024 .f32).view.loc (c : Thread nD τ) ↦[(xM : Memref sig .tc .vmem S1024x1024 .f32).view.set]{fullShare}
        ((xM : Memref sig .tc .vmem S1024x1024 .f32).view.write (Elt F) f ((aS c).view.read (Elt F) (argAt m c)) Finset.univ))
      ∗ ((aS c).view.loc (c : Thread nD τ) ↦[(aS c).view.set]{fullShare.left} argAt m c)) ⊢ (Rd m).payload ((c : Thread nD τ), SemLoc.dma ldS) 0 0 := by
    refine BIBase.Entails.trans ?_ (Entails.of_eq (payload_k m c .ld 0).symm)
    show _ ⊢ ldPay m c
    unfold ldPay
    rw [hset, show (xM : Memref sig .tc .vmem S1024x1024 .f32).view.write (Elt F) f ((aS c).view.read (Elt F) (argAt m c)) Finset.univ = xslC m c from
      View.write_whole_univ _ _ _]
  have hw := Rounds.wp_copy_pointsTo 𝒱₀ ER (Rd m) (c : Thread nD τ) none (src := aS c) (dst := xM) (sem := SemLoc.dma ldS) (κ := K (c, .ld)) (q := fullShare.left) (fs := argAt m c) (fd := f) (d := 0) (r := 0)
      hd () NL rfl (amount_k m c .ld 0) hpay (Q := Q) (Es := Set.univ) (k := k) (defs := defs₀ (F := F)) (Γ := .empty) (hsrc := hsrc) (hdst := hdst) (hsem := hsem)
  iintro ⟨#HR, Ha, Hx, Ht⟩
  ihave #R1 := (records_elim m K (c, .ld)) $$ HR
  icases R1 with ⟨HI, Hr⟩
  iapply hw
  isplitr; · iexact HI
  isplitl [Ha]; · iexact Ha
  isplitl [Hx]; · rw [hset]; iexact Hx
  isplitl [Ht]; · iexact Ht
  iexact Hr

/-- The wait for that copy. -/
theorem step_ldwait {α : Type} {Q : α → sProp 𝕄} (W : Waits sig Unit) {s : DmaSem sig} (hs : s = ldS) {sp' : Space} {src : Memref sig .tc sp' S1024x1024 .f32}
    {hsrc : src.view.WordExact} {hdst : (xM : Memref sig .tc .vmem S1024x1024 .f32).view.WordExact} {k : PUnit → Prog (TpuEff nD τ sig (Elt F) Λ₀ .tc) α} :
    iprop(records m K ∗ levAts L lv ∗ owes (c : Thread nD τ) (owed c fun _ => 0) W ∗ cred (tallyAt (kcell (c, .ld)) () NL) ∗ atPos ER (kcell (c, .ld)) 0 ∅ 0)
      ⊢ iprop(((owes (c : Thread nD τ) (owed c fun _ => 0) (insert (SemLoc.dma ldS, ()) W) ∗ semVal (kcell (c, .ld)) 0 ∗ ldPay m c)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s src xM hsrc hdst) k) Q) := by
  subst hs
  iintro ⟨#HR, #HL, HO, Hc, Hat⟩ Hk
  ihave #R1 := (records_elim m K (c, .ld)) $$ HR
  icases R1 with ⟨HI, -⟩
  iapply (Rounds.wp_wait_rest_token 𝒱₀ ER (Rd m) (c : Thread nD τ) none (κ := K (c, .ld)) (sm := .dma ldS)
      (wpE_waitDma2_eq 𝒱₀ (c : Thread nD τ) none Set.univ) (Set.mem_univ _) () (O := owed c fun _ => 0) (W := W) (R := 0) (m := 0) (T := ∅)
      (by rw [Nat.zero_add]; exact (expect_one m c .ld (by simp)).symm)) $$ [Hc HO Hat]
  · isplitr; · iexact HI
    isplitl [Hc]; · iexact Hc
    isplitl [HO]; · iexact HO
    isplitr; · iapply (mayWait c (fun _ => 0) .ld (fun j _ => lv_rcv_pos j)); iexact HL
    iexact Hat
  iintro ⟨HO, Hat, -, Hpay⟩
  have hrest : bigSep ((Rd (F := F) m).duties ((c : Thread nD τ), SemLoc.dma ldS) 0 \ ∅) (fun d => (Rd (F := F) m).payload ((c : Thread nD τ), SemLoc.dma ldS) 0 d)
      ⊢ ldPay m c := Entails.of_eq (rest_one m c .ld (by simp))
  ihave H := hrest $$ Hpay
  imod (Rounds.cell_close ER (Rd m) (Set.mem_univ (K (c, .ld))) (fun h => h) (R := 0 + 1) (duties_later m (kcell (c, .ld)))) $$ [Hat] with Hz
  · isplitr; · iexact HI
    iexact Hat
  iapply Hk
  isplitl [HO]; · iexact HO
  isplitl [Hz]; · iexact Hz
  iexact H

/-- The argument at the slice and the rest of it. -/
theorem arg_split : ((c : Thread nD τ).loc main_arg0 ↦{fullShare} argAt m c : sProp 𝕄)
    ⊢ iprop(((aS c).view.loc (c : Thread nD τ) ↦[(aS c).view.set]{fullShare.left} argAt m c)
      ∗ (((aS c).view.loc (c : Thread nD τ) ↦[(aS c).view.set]{fullShare.left} argAt m c) -∗ ((c : Thread nD τ).loc main_arg0 ↦{fullShare} argAt m c))) := by
  iintro H
  ihave H := (pointsTo_share (PosShare.mem_left_op_right fullShare)).1 $$ H
  icases H with ⟨Hl, Hr⟩
  ihave Hl := (pointsTo_split_subset (Finset.subset_univ (aS c).view.set)).1 $$ Hl
  icases Hl with ⟨Hs, Hn⟩
  isplitl [Hs]; · iexact Hs
  iintro Hs
  iapply (pointsTo_share (PosShare.mem_left_op_right fullShare)).2
  isplitr [Hr]
  · iapply (pointsTo_split_subset (Finset.subset_univ (aS c).view.set)).2
    isplitl [Hs]; · iexact Hs
    iexact Hn
  iexact Hr

/-- Everything a device enters the kernel's body with. -/
def startRes : sProp 𝕄 :=
  iprop(records m K ∗ levAts L lv ∗ (∃ W, owes (c : Thread nD τ) (O₀ c) W)
    ∗ (bigSep Finset.univ fun j => iprop(dutyTok ER (kcell (c, .snd j)) 0 0 ∗ dutyTok ER (kcell (tgt j c, .rcv j)) 0 0 ∗ atPos ER (kcell (c, .snd j)) 0 ∅ 0))
    ∗ (bigSep Finset.univ fun j => rcvRes (F := F) c j false)
    ∗ (bigSep Finset.univ fun d : Fin 4 => dutyTok ER (kcell (sg d c, .bar)) 0 d)
    ∗ (cred (tallyAt (kcell (c, .bar)) () 4) ∗ atPos ER (kcell (c, .bar)) 0 ∅ 0)
    ∗ (dutyTok ER (kcell (c, .ld)) 0 0 ∗ atPos ER (kcell (c, .ld)) 0 ∅ 0)
    ∗ ((c : Thread nD τ).loc main_arg0 ↦{fullShare} argAt m c)
    ∗ (∃ f, (c : Thread nD τ).loc cc0_scratch0 ↦{fullShare} f)
    ∗ (bigSep Finset.univ fun i => itRes m c i ((ph0 (zz c)).own i))
    ∗ (bigSep Finset.univ fun j : Ch => iprop(∃ X, owns (c : Thread nD τ) (itM (.dst j)) fullShare X))
    ∗ outRes m c (fun _ => false))

/-- What it keeps beside the invariant. -/
def sideRes : sProp 𝕄 :=
  iprop(semVal (kcell (c, .bar)) 0 ∗ semVal (kcell (c, .ld)) 0 ∗ ((c : Thread nD τ).loc main_arg0 ↦{fullShare} argAt m c))

theorem sums4 (Φ : Fin 4 → sProp 𝕄) : bigSep Finset.univ Φ = iprop(Φ 0 ∗ Φ 1 ∗ Φ 2 ∗ Φ 3) :=
  bigSep_univ_eq_bigSepL [0, 1, 2, 3] (by decide) (by decide) Φ

set_option maxHeartbeats 4000000 in
theorem part3_wp  (v2 : BitVec 32) (v5 : BitVec 32) (v8 : BitVec 32) (v19 : BitVec 32) (v31 : BitVec 32) (v50 : BitVec 32) (v53 : BitVec 32) (v67 : BitVec 32) (v70 : BitVec 32) {Kt : (PUnit) → sProp 𝕄} :
    startRes m K c ⊢ iprop(((Inv m K c (ph0 (zz c)) ∗ sideRes m c) -∗ Kt ⟨⟩) -∗ wp frame (wpE (defs₀ (F := F)) 𝒱₀ (c : Thread nD τ) none) Set.univ
      (k0_part3 aM (Memref.isWhole_whole _) oM (Memref.isWhole_whole _) xM (Memref.isWhole_whole _) sM (Memref.isWhole_whole _) rM (Memref.isWhole_whole _) gM (Memref.isWhole_whole _) jM (Memref.isWhole_whole _) tM (Memref.isWhole_whole _) cc0_scratch6 cc0_scratch7 cc0_scratch8 cc0_scratch9 cc0_scratch10 cc0_scratch11 cc0_scratch12 c v2 v5 v8 v19 v31 v50 v53 v67 v70) Kt) := by
  rw [k0_part3_eq_skeleton]; unfold k0_part3_skel
  simp only [semSignalWord, semWaitWord, Prog.lift, Prog.bind_op, Prog.bind_ret, Prog.pure_eq_ret]
  unfold startRes O₀
  rw [← lands_all, sums4, sums4]
  iintro ⟨#HR, #HL, ⟨%W, HO⟩, Hsnd, Hrcv, ⟨Ht0, Ht1, Ht2, Ht3⟩, ⟨Hcb, Hab⟩, ⟨Htl, Hal⟩, Ha, ⟨%f, Hx⟩, Hi, ⟨Hl0, Hl1, Hl2, Hl3⟩, Hout⟩ Hk
  ihave Ha := (arg_split m c) $$ Ha
  icases Ha with ⟨Ha, Hback⟩
  iapply (step_ldstart m K c (off1_eq c) (show _ = ldS from rfl) f) $$ [Ha Hx Htl]
  · isplitr; · iexact HR
    isplitl [Ha]; · iexact Ha
    isplitl [Hx]; · iexact Hx
    iexact Htl
  iintro Hcl
  iapply (step_sig m K c 0 (owed c (fun _ => 0) + sgT c 3 + sgT c 2 + sgT c 1) W (dev1_eq c) (show 1 = _ from by decide)) $$ [HO Ht0 Hl0]
  · isplitr; · iexact HR
    isplitl [HO]; · iexact HO
    isplitl [Ht0]; · iexact Ht0
    iexact Hl0
  iintro HO
  iapply (step_sig m K c 1 (owed c (fun _ => 0) + sgT c 3 + sgT c 2) W (dev2_eq c) (show 1 = _ from by decide)) $$ [HO Ht1 Hl1]
  · isplitr; · iexact HR
    isplitl [HO]; · iexact HO
    isplitl [Ht1]; · iexact Ht1
    iexact Hl1
  iintro HO
  iapply (step_sig m K c 2 (owed c (fun _ => 0) + sgT c 3) W (dev3_eq c) (show 1 = _ from by decide)) $$ [HO Ht2 Hl2]
  · isplitr; · iexact HR
    isplitl [HO]; · iexact HO
    isplitl [Ht2]; · iexact Ht2
    iexact Hl2
  iintro HO
  iapply (step_sig m K c 3 (owed c (fun _ => 0)) W (dev4_eq c) (show 1 = _ from by decide)) $$ [HO Ht3 Hl3]
  · isplitr; · iexact HR
    isplitl [HO]; · iexact HO
    isplitl [Ht3]; · iexact Ht3
    iexact Hl3
  iintro HO
  iapply (step_barrier m K c W (show 4 = _ from by decide)) $$ [HO Hcb Hab]
  · isplitr; · iexact HR
    isplitr; · iexact HL
    isplitl [HO]; · iexact HO
    isplitl [Hcb]; · iexact Hcb
    iexact Hab
  iintro ⟨HO, Hzb, Hl⟩
  iapply (step_ldwait m K c (insert (SemLoc.reg barS, ()) W) (show _ = ldS from rfl)) $$ [HO Hcl Hal]
  · isplitr; · iexact HR
    isplitr; · iexact HL
    isplitl [HO]; · iexact HO
    isplitl [Hcl]; · iexact Hcl
    iexact Hal
  iintro ⟨HO, Hzl, Hp⟩
  unfold ldPay
  icases Hp with ⟨Hx, Ha⟩
  rw [wp_ret]; imodintro
  iapply Hk
  unfold Inv sideRes
  isplitr [Hzb Hzl Ha Hback]
  · isplitr; · iexact HR
    isplitr; · iexact HL
    isplitl [HO]; · iexists _; iexact HO
    isplitl [Hsnd Hl]
    · ihave H := (Entails.of_eq (bigSep_sep' (s := Finset.univ) (Φ := fun j : Ch => iprop(dutyTok ER (kcell (c, .snd j)) 0 0 ∗ dutyTok ER (kcell (tgt j c, .rcv j)) 0 0 ∗ atPos ER (kcell (c, .snd j)) 0 ∅ 0))
        (Ψ := fun j : Ch => iprop(∃ X, owns ((tgt j c : Dev nD) : Thread nD τ) (itM (.dst j)) fullShare X))).symm) $$ [Hsnd Hl]
      · isplitl [Hsnd]; · iexact Hsnd
        iexact Hl
      have hmono : (bigSep Finset.univ fun j : Ch => iprop((dutyTok ER (kcell (c, .snd j)) 0 0 ∗ dutyTok ER (kcell (tgt j c, .rcv j)) 0 0 ∗ atPos ER (kcell (c, .snd j)) 0 ∅ 0)
          ∗ (∃ X, owns ((tgt j c : Dev nD) : Thread nD τ) (itM (.dst j)) fullShare X))) ⊢ bigSep Finset.univ fun j => sndRes (F := F) c j ((ph0 (zz c)).snd j) :=
        bigSep_mono fun j _ => by
          show _ ⊢ sndRes (F := F) c j 0
          rw [sndRes_0]
          iintro ⟨⟨H1, H2, H3⟩, H4⟩
          isplitl [H1]; · iexact H1
          isplitl [H2]; · iexact H2
          isplitl [H4]; · iexact H4
          iexact H3
      iapply hmono; iexact H
    isplitl [Hrcv]; · iexact Hrcv
    isplitl [Hi]; · iexact Hi
    isplitl [Hx]; · iexact Hx
    iexact Hout
  isplitl [Hzb]; · iexact Hzb
  isplitl [Hzl]; · iexact Hzl
  iapply Hback $$ Ha

end Start

end Cert.KernelIdealProof

end
-- ==== Proof.PartsA.lean ====
/-
Parts 4 to 9 of the kernel's body: each takes a device from one phase to a later one.
-/
module

public import proofs.«01_k».proof.Proof.Phases

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

set_option maxRecDepth 100000
set_option maxHeartbeats 4000000

section Parts
variable (m : (ℓ : Loc nD τ sig) → Buf (Elt F) ℓ) (K : Dev nD × Cl → ℕ) (c : Dev nD)

theorem part4_wp (v2 v5 v19 : BitVec 32) {Kt : (PUnit) → sProp 𝕄} :
    Inv m K c (ph0 (zz c)) ⊢ iprop((Inv m K c (ph2 (zz c)) -∗ Kt ⟨⟩) -∗ wp frame (wpE (defs₀ (F := F)) 𝒱₀ (c : Thread nD τ) none) Set.univ
      (k0_part4 aM (Memref.isWhole_whole _) oM (Memref.isWhole_whole _) xM (Memref.isWhole_whole _) sM (Memref.isWhole_whole _) rM (Memref.isWhole_whole _) gM (Memref.isWhole_whole _) jM (Memref.isWhole_whole _) tM (Memref.isWhole_whole _) cc0_scratch6 cc0_scratch7 cc0_scratch8 cc0_scratch9 cc0_scratch10 cc0_scratch11 cc0_scratch12 c v2 v5 v19) Kt) := by
  rw [k0_part4_eq_skeleton]; unfold k0_part4_skel
  simp only [Prog.lift, Prog.bind_op, Prog.bind_ret, Prog.pure_eq_ret]
  iintro H Hk
  iapply (step_loadx m K c (ph0 (zz c)) (zz c) (off2_eq c)) $$ H; iintro H
  iapply (step_peek m K c (ph0 (zz c)) (.v 0) (ld1_f (zz c)) shapeCasts_S1x256x1024_S256x1024 shapeCasts_S256x1024_S1x256x1024 sl_v_0) $$ H; iintro %_ H
  iapply (step_store m K c (ph0 (zz c)) (.v 0) (.v 0) (ph0_f (zz c)).1 (ph0_f (zz c)).2 shapeCasts_S1x256x1024_S256x1024 rfl sl_v_0 (val_v0 m c)) $$ H; iintro H
  iapply (step_send m K c (ph1 (zz c)) (.rs 0) (ph1_f (zz c)).1 (ph1_f (zz c)).2 (dev5_eq c) sl_v_0.symm sl_rs_0.symm sS_rs_0 sR_rs_0) $$ H; iintro H
  rw [wp_ret]; imodintro
  iapply Hk $$ H

theorem part5_wp (v2 v5 v8 v19 : BitVec 32) {Kt : (PUnit) → sProp 𝕄} :
    Inv m K c (ph2 (zz c)) ⊢ iprop((Inv m K c (ph4 (zz c)) -∗ Kt ⟨⟩) -∗ wp frame (wpE (defs₀ (F := F)) 𝒱₀ (c : Thread nD τ) none) Set.univ
      (k0_part5 aM (Memref.isWhole_whole _) oM (Memref.isWhole_whole _) xM (Memref.isWhole_whole _) sM (Memref.isWhole_whole _) rM (Memref.isWhole_whole _) gM (Memref.isWhole_whole _) jM (Memref.isWhole_whole _) tM (Memref.isWhole_whole _) cc0_scratch6 cc0_scratch7 cc0_scratch8 cc0_scratch9 cc0_scratch10 cc0_scratch11 cc0_scratch12 c v2 v5 v8 v19) Kt) := by
  rw [k0_part5_eq_skeleton]; unfold k0_part5_skel
  simp only [Prog.lift, Prog.bind_op, Prog.bind_ret, Prog.pure_eq_ret]
  iintro H Hk
  iapply (step_recv m K c (ph2 (zz c)) (.rs 0) (ph2_f (zz c)).1 (ph2_f (zz c)).2.1 (ph2_f (zz c)).2.2 sR_rs_0 cr_rs_0_0_0) $$ H; iintro H
  iapply (step_loadx m K c (ph3 (zz c)) (zz c + 3 - (⟨0, by decide⟩ : Fin 4)) (off3_eq c 0)) $$ H; iintro H
  iapply (step_load m K c (ph3 (zz c)) (.dst (.rs 0)) (ld2_f (zz c)) shapeCasts_S1x256x1024_S256x1024 shapeCasts_S256x1024_S1x256x1024 sl_rs_0) $$ H; iintro H
  iapply (step_peek m K c (ph3 (zz c)) (.v 1) (ld3_f (zz c)) shapeCasts_S1x256x1024_S256x1024 shapeCasts_S256x1024_S1x256x1024 sl_v_1) $$ H; iintro %_ H
  iapply (step_store m K c (ph3 (zz c)) (.v 1) (.v 1) (ph3_f (zz c)).1 (ph3_f (zz c)).2 shapeCasts_S1x256x1024_S256x1024 rfl sl_v_1 (val_v1 m c)) $$ H; iintro H
  rw [wp_ret]; imodintro
  iapply Hk $$ H

theorem part6_wp (v2 v5 v8 v19 : BitVec 32) {Kt : (BitVec 32) → sProp 𝕄} :
    Inv m K c (ph4 (zz c)) ⊢ iprop((∀ r, Inv m K c (ph6 (zz c)) -∗ Kt r) -∗ wp frame (wpE (defs₀ (F := F)) 𝒱₀ (c : Thread nD τ) none) Set.univ
      (k0_part6 aM (Memref.isWhole_whole _) oM (Memref.isWhole_whole _) xM (Memref.isWhole_whole _) sM (Memref.isWhole_whole _) rM (Memref.isWhole_whole _) gM (Memref.isWhole_whole _) jM (Memref.isWhole_whole _) tM (Memref.isWhole_whole _) cc0_scratch6 cc0_scratch7 cc0_scratch8 cc0_scratch9 cc0_scratch10 cc0_scratch11 cc0_scratch12 c v2 v5 v8 v19) Kt) := by
  rw [k0_part6_eq_skeleton]; unfold k0_part6_skel
  simp only [Prog.lift, Prog.bind_op, Prog.bind_ret, Prog.pure_eq_ret]
  iintro H Hk
  iapply (step_send m K c (ph4 (zz c)) (.rs 1) (ph4_f (zz c)).1 (ph4_f (zz c)).2 (dev6_eq c) sl_v_1.symm sl_rs_1.symm sS_rs_1 sR_rs_1) $$ H; iintro H
  iapply (step_recv m K c (ph5 (zz c)) (.rs 1) (ph5_f (zz c)).1 (ph5_f (zz c)).2.1 (ph5_f (zz c)).2.2 sR_rs_1 cr_rs_1_0_0) $$ H; iintro H
  rw [wp_ret]; imodintro
  iapply Hk $$ %_ H

theorem part7_wp (v2 v5 v19 v192 : BitVec 32) {Kt : (PUnit) → sProp 𝕄} :
    Inv m K c (ph6 (zz c)) ⊢ iprop((Inv m K c (ph9 (zz c)) -∗ Kt ⟨⟩) -∗ wp frame (wpE (defs₀ (F := F)) 𝒱₀ (c : Thread nD τ) none) Set.univ
      (k0_part7 aM (Memref.isWhole_whole _) oM (Memref.isWhole_whole _) xM (Memref.isWhole_whole _) sM (Memref.isWhole_whole _) rM (Memref.isWhole_whole _) gM (Memref.isWhole_whole _) jM (Memref.isWhole_whole _) tM (Memref.isWhole_whole _) cc0_scratch6 cc0_scratch7 cc0_scratch8 cc0_scratch9 cc0_scratch10 cc0_scratch11 cc0_scratch12 c v2 v5 v19 v192) Kt) := by
  rw [k0_part7_eq_skeleton]; unfold k0_part7_skel
  simp only [Prog.lift, Prog.bind_op, Prog.bind_ret, Prog.pure_eq_ret]
  iintro H Hk
  iapply (step_swait m K c (ph6 (zz c)) (.rs 0) (ph6_f (zz c)).1 (ph6_f (zz c)).2 sS_rs_0 cr_b_0_0_0) $$ H; iintro H
  iapply (step_loadx m K c (ph7 (zz c)) (zz c + 3 - (⟨1, by decide⟩ : Fin 4)) (off3_eq c 1)) $$ H; iintro H
  iapply (step_load m K c (ph7 (zz c)) (.dst (.rs 1)) (ld4_f (zz c)) shapeCasts_S1x256x1024_S256x1024 shapeCasts_S256x1024_S1x256x1024 sl_rs_1) $$ H; iintro H
  iapply (step_peek m K c (ph7 (zz c)) (.v 0) (ld5_f (zz c)) shapeCasts_S1x256x1024_S256x1024 shapeCasts_S256x1024_S1x256x1024 sl_v_0) $$ H; iintro %_ H
  iapply (step_store m K c (ph7 (zz c)) (.v 0) (.v 2) (ph7_f (zz c)).1 (ph7_f (zz c)).2 shapeCasts_S1x256x1024_S256x1024 rfl sl_v_2 (val_v2 m c)) $$ H; iintro H
  iapply (step_send m K c (ph8 (zz c)) (.rs 2) (ph8_f (zz c)).1 (ph8_f (zz c)).2 (dev7_eq c) sl_v_2.symm sl_rs_2.symm sS_rs_2 sR_rs_2) $$ H; iintro H
  rw [wp_ret]; imodintro
  iapply Hk $$ H

theorem part8_wp (v2 v5 v8 v19 : BitVec 32) {Kt : (BitVec 32) → sProp 𝕄} :
    Inv m K c (ph9 (zz c)) ⊢ iprop((∀ r, Inv m K c (ph10 (zz c)) -∗ Kt r) -∗ wp frame (wpE (defs₀ (F := F)) 𝒱₀ (c : Thread nD τ) none) Set.univ
      (k0_part8 aM (Memref.isWhole_whole _) oM (Memref.isWhole_whole _) xM (Memref.isWhole_whole _) sM (Memref.isWhole_whole _) rM (Memref.isWhole_whole _) gM (Memref.isWhole_whole _) jM (Memref.isWhole_whole _) tM (Memref.isWhole_whole _) cc0_scratch6 cc0_scratch7 cc0_scratch8 cc0_scratch9 cc0_scratch10 cc0_scratch11 cc0_scratch12 v2 v5 v8 v19) Kt) := by
  rw [k0_part8_eq_skeleton]; unfold k0_part8_skel
  simp only [Prog.lift, Prog.bind_op, Prog.bind_ret, Prog.pure_eq_ret]
  iintro H Hk
  iapply (step_recv m K c (ph9 (zz c)) (.rs 2) (ph9_f (zz c)).1 (ph9_f (zz c)).2.1 (ph9_f (zz c)).2.2 sR_rs_2 cr_rs_2_0_0) $$ H; iintro H
  rw [wp_ret]; imodintro
  iapply Hk $$ %_ H

theorem part9_wp (v2 v5 v8 v19 v247 : BitVec 32) {Kt : (Σ' (v280 : BitVec 32) (v281 : BitVec 32) (v282 : BitVec 1) (v283 : BitVec 1), BitVec 32) → sProp 𝕄} :
    Inv m K c (ph10 (zz c)) ⊢ iprop((∀ r, Inv m K c (ph13 (zz c)) -∗ Kt r) -∗ wp frame (wpE (defs₀ (F := F)) 𝒱₀ (c : Thread nD τ) none) Set.univ
      (k0_part9 aM (Memref.isWhole_whole _) oM (Memref.isWhole_whole _) xM (Memref.isWhole_whole _) sM (Memref.isWhole_whole _) rM (Memref.isWhole_whole _) gM (Memref.isWhole_whole _) jM (Memref.isWhole_whole _) tM (Memref.isWhole_whole _) cc0_scratch6 cc0_scratch7 cc0_scratch8 cc0_scratch9 cc0_scratch10 cc0_scratch11 cc0_scratch12 c v2 v5 v8 v19 v247) Kt) := by
  rw [k0_part9_eq_skeleton]; unfold k0_part9_skel
  simp only [Prog.lift, Prog.bind_op, Prog.bind_ret, Prog.pure_eq_ret]
  iintro H Hk
  iapply (step_swait m K c (ph10 (zz c)) (.rs 1) (ph10_f (zz c)).1 (ph10_f (zz c)).2 sS_rs_1 cr_b_1_0_0) $$ H; iintro H
  iapply (step_loadx m K c (ph11 (zz c)) (zz c + 3 - (⟨2, by decide⟩ : Fin 4)) (off3_eq c 2)) $$ H; iintro H
  iapply (step_load m K c (ph11 (zz c)) (.dst (.rs 2)) (ld6_f (zz c)) shapeCasts_S1x256x1024_S256x1024 shapeCasts_S256x1024_S1x256x1024 sl_rs_2) $$ H; iintro H
  iapply (step_peek m K c (ph11 (zz c)) (.v 1) (ld7_f (zz c)) shapeCasts_S1x256x1024_S256x1024 shapeCasts_S256x1024_S1x256x1024 sl_v_1) $$ H; iintro %_ H
  iapply (step_store m K c (ph11 (zz c)) (.v 1) (.v 3) (ph11_f (zz c)).1 (ph11_f (zz c)).2 shapeCasts_S1x256x1024_S256x1024 rfl sl_v_3 (val_v3 m c)) $$ H; iintro H
  iapply (step_send m K c (ph12 (zz c)) (.ag 0) (ph12_f (zz c)).1 (ph12_f (zz c)).2 (dev8_eq c) sl_v_3.symm sl_ag_0.symm sS_ag_0 sR_ag_0) $$ H; iintro H
  rw [wp_ret]; imodintro
  iapply Hk $$ %_ H

end Parts

end Cert.KernelIdealProof

end
-- ==== Proof.PartsB.lean ====
/-
Parts 10 to 10 of the kernel's body: each takes a device from one phase to a later one.
-/
module

public import proofs.«01_k».proof.Proof.Phases

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

set_option maxRecDepth 100000
set_option maxHeartbeats 4000000

section Parts
variable (m : (ℓ : Loc nD τ sig) → Buf (Elt F) ℓ) (K : Dev nD × Cl → ℕ) (c : Dev nD)

theorem part10_wp (v2 : BitVec 32) (v5 : BitVec 32) (v8 : BitVec 32) (v19 : BitVec 32) (v37 : BitVec 32) (v50 : BitVec 32) (v53 : BitVec 32) (v67 : BitVec 32) (v70 : BitVec 32) (v280 : BitVec 32) (v281 : BitVec 32) (v282 : BitVec 1) (v283 : BitVec 1) (c0_i32_221 : BitVec 32) {Kt : (PUnit) → sProp 𝕄} :
    Inv m K c (ph13 (zz c)) ⊢ iprop((Inv m K c (ph18 (zz c)) -∗ Kt ⟨⟩) -∗ wp frame (wpE (defs₀ (F := F)) 𝒱₀ (c : Thread nD τ) none) Set.univ
      (k0_part10 aM (Memref.isWhole_whole _) oM (Memref.isWhole_whole _) xM (Memref.isWhole_whole _) sM (Memref.isWhole_whole _) rM (Memref.isWhole_whole _) gM (Memref.isWhole_whole _) jM (Memref.isWhole_whole _) tM (Memref.isWhole_whole _) cc0_scratch6 cc0_scratch7 cc0_scratch8 cc0_scratch9 cc0_scratch10 cc0_scratch11 cc0_scratch12 c v2 v5 v8 v19 v37 v50 v53 v67 v70 v280 v281 v282 v283 c0_i32_221) Kt) := by
  rw [k0_part10_eq_skeleton]; unfold k0_part10_skel
  simp only [Prog.lift, Prog.bind_op, Prog.bind_ret, Prog.pure_eq_ret]
  iintro H Hk
  iapply (step_load m K c (ph13 (zz c)) (.v 3) (ld8_f (zz c)) shapeCasts_S1x256x1024_S256x1024 shapeCasts_S256x1024_S1x256x1024 sl_v_3) $$ H; iintro H
  iapply (step_peeko m K c (ph13 (zz c))) $$ H; iintro %_ H
  iapply (step_out m K c (ph13 (zz c)) (.v 3) rfl (off4_eq c) (pay5_eq _ _)) $$ H; iintro H
  iapply (step_inject m K c (ph14 (zz c)) 0 0 (ph14_f (zz c)) (cond1_iff c) shapeCasts_S1x256x1024_S256x1024 shapeCasts_S256x1024_S1x256x1024 sl_v_3 shapeCasts_S1x256x1024_S256x1024 shapeCasts_S256x1024_S1x256x1024 sl_inj_0 (pay6_eq _ _ _) (dev9_eq c) (fun _ => sl_inj_0.symm) (fun _ => sl_st_0_0.symm) (fun _ => sS_st_0_0) (fun _ => sR_st_0_0)) $$ H; iintro H
  iapply (step_inject m K c (ph15 (zz c)) 0 1 (ph15_f (zz c)) (cond2_iff c) shapeCasts_S1x256x1024_S256x1024 shapeCasts_S256x1024_S1x256x1024 sl_v_3 shapeCasts_S1x256x1024_S256x1024 shapeCasts_S256x1024_S1x256x1024 sl_inj_1 (pay7_eq _ _ _) (dev10_eq c) (fun _ => sl_inj_1.symm) (fun _ => sl_st_1_0.symm) (fun _ => sS_st_1_0) (fun _ => sR_st_1_0)) $$ H; iintro H
  iapply (step_inject m K c (ph16 (zz c)) 0 2 (ph16_f (zz c)) (cond3_iff c) shapeCasts_S1x256x1024_S256x1024 shapeCasts_S256x1024_S1x256x1024 sl_v_3 shapeCasts_S1x256x1024_S256x1024 shapeCasts_S256x1024_S1x256x1024 sl_inj_2 (pay8_eq _ _ _) (dev11_eq c) (fun _ => sl_inj_2.symm) (fun _ => sl_st_2_0.symm) (fun _ => sS_st_2_0) (fun _ => sR_st_2_0)) $$ H; iintro H
  iapply (step_inject m K c (ph17 (zz c)) 0 3 (ph17_f (zz c)) (cond4_iff c) shapeCasts_S1x256x1024_S256x1024 shapeCasts_S256x1024_S1x256x1024 sl_v_3 shapeCasts_S1x256x1024_S256x1024 shapeCasts_S256x1024_S1x256x1024 sl_inj_3 (pay9_eq _ _ _) (dev12_eq c) (fun _ => sl_inj_3.symm) (fun _ => sl_st_3_0.symm) (fun _ => sS_st_3_0) (fun _ => sR_st_3_0)) $$ H; iintro H
  rw [wp_ret]; imodintro
  iapply Hk $$ H

end Parts

end Cert.KernelIdealProof

end
-- ==== Proof.PartsC.lean ====
/-
Parts 11 to 12 of the kernel's body: each takes a device from one phase to a later one.
-/
module

public import proofs.«01_k».proof.Proof.Phases

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

set_option maxRecDepth 100000
set_option maxHeartbeats 4000000

section Parts
variable (m : (ℓ : Loc nD τ sig) → Buf (Elt F) ℓ) (K : Dev nD × Cl → ℕ) (c : Dev nD)

theorem part11_wp (v2 v5 v8 v19 : BitVec 32) {Kt : (BitVec 32) → sProp 𝕄} :
    Inv m K c (ph18 (zz c)) ⊢ iprop((∀ r, Inv m K c (ph20 (zz c)) -∗ Kt r) -∗ wp frame (wpE (defs₀ (F := F)) 𝒱₀ (c : Thread nD τ) none) Set.univ
      (k0_part11 aM (Memref.isWhole_whole _) oM (Memref.isWhole_whole _) xM (Memref.isWhole_whole _) sM (Memref.isWhole_whole _) rM (Memref.isWhole_whole _) gM (Memref.isWhole_whole _) jM (Memref.isWhole_whole _) tM (Memref.isWhole_whole _) cc0_scratch6 cc0_scratch7 cc0_scratch8 cc0_scratch9 cc0_scratch10 cc0_scratch11 cc0_scratch12 c v2 v5 v8 v19) Kt) := by
  rw [k0_part11_eq_skeleton]; unfold k0_part11_skel
  simp only [Prog.lift, Prog.bind_op, Prog.bind_ret, Prog.pure_eq_ret]
  iintro H Hk
  iapply (step_recv m K c (ph18 (zz c)) (.ag 0) (ph18_f (zz c)).1 (ph18_f (zz c)).2.1 (ph18_f (zz c)).2.2 sR_ag_0 cr_ag_0_0_0) $$ H; iintro H
  iapply (step_send m K c (ph19 (zz c)) (.ag 1) (ph19_f (zz c)).1 (ph19_f (zz c)).2 (dev13_eq c) sl_ag_0.symm sl_ag_1.symm sS_ag_1 sR_ag_1) $$ H; iintro H
  rw [wp_ret]; imodintro
  iapply Hk $$ %_ H

theorem part12_wp (v2 v5 v8 v19 v37 v50 v53 v67 v70 v344 : BitVec 32) {Kt : (PUnit) → sProp 𝕄} :
    Inv m K c (ph20 (zz c)) ⊢ iprop((Inv m K c (ph25 (zz c)) -∗ Kt ⟨⟩) -∗ wp frame (wpE (defs₀ (F := F)) 𝒱₀ (c : Thread nD τ) none) Set.univ
      (k0_part12 aM (Memref.isWhole_whole _) oM (Memref.isWhole_whole _) xM (Memref.isWhole_whole _) sM (Memref.isWhole_whole _) rM (Memref.isWhole_whole _) gM (Memref.isWhole_whole _) jM (Memref.isWhole_whole _) tM (Memref.isWhole_whole _) cc0_scratch6 cc0_scratch7 cc0_scratch8 cc0_scratch9 cc0_scratch10 cc0_scratch11 cc0_scratch12 c v2 v5 v8 v19 v37 v50 v53 v67 v70 v344) Kt) := by
  rw [k0_part12_eq_skeleton]; unfold k0_part12_skel
  simp only [Prog.lift, Prog.bind_op, Prog.bind_ret, Prog.pure_eq_ret]
  iintro H Hk
  iapply (step_load m K c (ph20 (zz c)) (.dst (.ag 0)) (ld9_f (zz c)) shapeCasts_S1x256x1024_S256x1024 shapeCasts_S256x1024_S1x256x1024 sl_ag_0) $$ H; iintro H
  iapply (step_peeko m K c (ph20 (zz c))) $$ H; iintro %_ H
  iapply (step_out m K c (ph20 (zz c)) (.dst (.ag 0)) rfl (off5_eq c 0) (pay10_eq _ _)) $$ H; iintro H
  iapply (step_inject m K c (ph21 (zz c)) 1 0 (ph21_f (zz c)) (cond5_iff c) shapeCasts_S1x256x1024_S256x1024 shapeCasts_S256x1024_S1x256x1024 sl_ag_0 shapeCasts_S1x256x1024_S256x1024 shapeCasts_S256x1024_S1x256x1024 sl_inj_0 (pay11_eq _ _ _) (dev14_eq c) (fun _ => sl_inj_0.symm) (fun _ => sl_st_0_0.symm) (fun _ => sS_st_0_0) (fun _ => sR_st_0_0)) $$ H; iintro H
  iapply (step_inject m K c (ph22 (zz c)) 1 1 (ph22_f (zz c)) (cond6_iff c) shapeCasts_S1x256x1024_S256x1024 shapeCasts_S256x1024_S1x256x1024 sl_ag_0 shapeCasts_S1x256x1024_S256x1024 shapeCasts_S256x1024_S1x256x1024 sl_inj_1 (pay12_eq _ _ _) (dev15_eq c) (fun _ => sl_inj_1.symm) (fun _ => sl_st_1_0.symm) (fun _ => sS_st_1_0) (fun _ => sR_st_1_0)) $$ H; iintro H
  iapply (step_inject m K c (ph23 (zz c)) 1 2 (ph23_f (zz c)) (cond7_iff c) shapeCasts_S1x256x1024_S256x1024 shapeCasts_S256x1024_S1x256x1024 sl_ag_0 shapeCasts_S1x256x1024_S256x1024 shapeCasts_S256x1024_S1x256x1024 sl_inj_2 (pay13_eq _ _ _) (dev16_eq c) (fun _ => sl_inj_2.symm) (fun _ => sl_st_2_0.symm) (fun _ => sS_st_2_0) (fun _ => sR_st_2_0)) $$ H; iintro H
  iapply (step_inject m K c (ph24 (zz c)) 1 3 (ph24_f (zz c)) (cond8_iff c) shapeCasts_S1x256x1024_S256x1024 shapeCasts_S256x1024_S1x256x1024 sl_ag_0 shapeCasts_S1x256x1024_S256x1024 shapeCasts_S256x1024_S1x256x1024 sl_inj_3 (pay14_eq _ _ _) (dev17_eq c) (fun _ => sl_inj_3.symm) (fun _ => sl_st_3_0.symm) (fun _ => sS_st_3_0) (fun _ => sR_st_3_0)) $$ H; iintro H
  rw [wp_ret]; imodintro
  iapply Hk $$ H

end Parts

end Cert.KernelIdealProof

end
-- ==== Proof.PartsD.lean ====
/-
Parts 13 to 14 of the kernel's body: each takes a device from one phase to a later one.
-/
module

public import proofs.«01_k».proof.Proof.Phases

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

set_option maxRecDepth 100000
set_option maxHeartbeats 4000000

section Parts
variable (m : (ℓ : Loc nD τ sig) → Buf (Elt F) ℓ) (K : Dev nD × Cl → ℕ) (c : Dev nD)

theorem part13_wp (v2 v5 v8 v19 v37 : BitVec 32) {Kt : (Σ' (v400 : BitVec 32), FVec F S256x1024 .bf16) → sProp 𝕄} :
    Inv m K c (ph25 (zz c)) ⊢ iprop((∀ (a0 : BitVec 32), Inv m K c (ph27 (zz c)) -∗ Kt ⟨a0, cv m (.dst (.ag 1)) c⟩) -∗ wp frame (wpE (defs₀ (F := F)) 𝒱₀ (c : Thread nD τ) none) Set.univ
      (k0_part13 aM (Memref.isWhole_whole _) oM (Memref.isWhole_whole _) xM (Memref.isWhole_whole _) sM (Memref.isWhole_whole _) rM (Memref.isWhole_whole _) gM (Memref.isWhole_whole _) jM (Memref.isWhole_whole _) tM (Memref.isWhole_whole _) cc0_scratch6 cc0_scratch7 cc0_scratch8 cc0_scratch9 cc0_scratch10 cc0_scratch11 cc0_scratch12 c v2 v5 v8 v19 v37) Kt) := by
  rw [k0_part13_eq_skeleton]; unfold k0_part13_skel
  simp only [Prog.lift, Prog.bind_op, Prog.bind_ret, Prog.pure_eq_ret]
  iintro H Hk
  iapply (step_recv m K c (ph25 (zz c)) (.ag 1) (ph25_f (zz c)).1 (ph25_f (zz c)).2.1 (ph25_f (zz c)).2.2 sR_ag_1 cr_ag_1_0_0) $$ H; iintro H
  iapply (step_send m K c (ph26 (zz c)) (.ag 2) (ph26_f (zz c)).1 (ph26_f (zz c)).2 (dev18_eq c) sl_ag_1.symm sl_ag_2.symm sS_ag_2 sR_ag_2) $$ H; iintro H
  iapply (step_load m K c (ph27 (zz c)) (.dst (.ag 1)) (ld10_f (zz c)) shapeCasts_S1x256x1024_S256x1024 shapeCasts_S256x1024_S1x256x1024 sl_ag_1) $$ H; iintro H
  iapply (step_peeko m K c (ph27 (zz c))) $$ H; iintro %_ H
  erw [pay15_eq (cv m (.dst (.ag 1)) c) shapeCasts_S256x1024_S1x256x1024]
  rw [wp_ret]; imodintro
  iapply Hk $$ %_ H

theorem part14_wp (v2 v5 v8 v19 v50 v53 v67 v70 v400 : BitVec 32) {Kt : (Σ' (v432 : BitVec 32) (c4_i32_350 : BitVec 32), BitVec 32) → sProp 𝕄} :
    Inv m K c (ph27 (zz c)) ⊢ iprop((∀ r, Inv m K c (ph33 (zz c)) -∗ Kt r) -∗ wp frame (wpE (defs₀ (F := F)) 𝒱₀ (c : Thread nD τ) none) Set.univ
      (k0_part14 aM (Memref.isWhole_whole _) oM (Memref.isWhole_whole _) xM (Memref.isWhole_whole _) sM (Memref.isWhole_whole _) rM (Memref.isWhole_whole _) gM (Memref.isWhole_whole _) jM (Memref.isWhole_whole _) tM (Memref.isWhole_whole _) cc0_scratch6 cc0_scratch7 cc0_scratch8 cc0_scratch9 cc0_scratch10 cc0_scratch11 cc0_scratch12 c v2 v5 v8 v19 v50 v53 v67 v70 v400 (cv m (.dst (.ag 1)) c)) Kt) := by
  rw [k0_part14_eq_skeleton]; unfold k0_part14_skel
  simp only [Prog.lift, Prog.bind_op, Prog.bind_ret, Prog.pure_eq_ret]
  iintro H Hk
  iapply (step_out m K c (ph27 (zz c)) (.dst (.ag 1)) rfl (off5_eq c 1) rfl) $$ H; iintro H
  iapply (step_inject m K c (ph28 (zz c)) 2 0 (ph28_f (zz c)) (cond9_iff c) shapeCasts_S1x256x1024_S256x1024 shapeCasts_S256x1024_S1x256x1024 sl_ag_1 shapeCasts_S1x256x1024_S256x1024 shapeCasts_S256x1024_S1x256x1024 sl_inj_0 (pay16_eq _ _ _) (dev19_eq c) (fun _ => sl_inj_0.symm) (fun _ => sl_st_0_0.symm) (fun _ => sS_st_0_0) (fun _ => sR_st_0_0)) $$ H; iintro H
  iapply (step_inject m K c (ph29 (zz c)) 2 1 (ph29_f (zz c)) (cond10_iff c) shapeCasts_S1x256x1024_S256x1024 shapeCasts_S256x1024_S1x256x1024 sl_ag_1 shapeCasts_S1x256x1024_S256x1024 shapeCasts_S256x1024_S1x256x1024 sl_inj_1 (pay17_eq _ _ _) (dev20_eq c) (fun _ => sl_inj_1.symm) (fun _ => sl_st_1_0.symm) (fun _ => sS_st_1_0) (fun _ => sR_st_1_0)) $$ H; iintro H
  iapply (step_inject m K c (ph30 (zz c)) 2 2 (ph30_f (zz c)) (cond11_iff c) shapeCasts_S1x256x1024_S256x1024 shapeCasts_S256x1024_S1x256x1024 sl_ag_1 shapeCasts_S1x256x1024_S256x1024 shapeCasts_S256x1024_S1x256x1024 sl_inj_2 (pay18_eq _ _ _) (dev21_eq c) (fun _ => sl_inj_2.symm) (fun _ => sl_st_2_0.symm) (fun _ => sS_st_2_0) (fun _ => sR_st_2_0)) $$ H; iintro H
  iapply (step_inject m K c (ph31 (zz c)) 2 3 (ph31_f (zz c)) (cond12_iff c) shapeCasts_S1x256x1024_S256x1024 shapeCasts_S256x1024_S1x256x1024 sl_ag_1 shapeCasts_S1x256x1024_S256x1024 shapeCasts_S256x1024_S1x256x1024 sl_inj_3 (pay19_eq _ _ _) (dev22_eq c) (fun _ => sl_inj_3.symm) (fun _ => sl_st_3_0.symm) (fun _ => sS_st_3_0) (fun _ => sR_st_3_0)) $$ H; iintro H
  iapply (step_recv m K c (ph32 (zz c)) (.ag 2) (ph32_f (zz c)).1 (ph32_f (zz c)).2.1 (ph32_f (zz c)).2.2 sR_ag_2 cr_ag_2_0_0) $$ H; iintro H
  rw [wp_ret]; imodintro
  iapply Hk $$ %_ H

end Parts

end Cert.KernelIdealProof

end
-- ==== Proof.PartsE.lean ====
/-
Parts 15 to 15 of the kernel's body: each takes a device from one phase to a later one.
-/
module

public import proofs.«01_k».proof.Proof.Phases

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

set_option maxRecDepth 100000
set_option maxHeartbeats 4000000

section Parts
variable (m : (ℓ : Loc nD τ sig) → Buf (Elt F) ℓ) (K : Dev nD × Cl → ℕ) (c : Dev nD)

theorem part15_wp (v8 v37 v50 v53 v67 v70 v432 c4_i32_350 c0_i32_351 : BitVec 32) {Kt : (PUnit) → sProp 𝕄} :
    Inv m K c (ph33 (zz c)) ⊢ iprop((Inv m K c (ph38 (zz c)) -∗ Kt ⟨⟩) -∗ wp frame (wpE (defs₀ (F := F)) 𝒱₀ (c : Thread nD τ) none) Set.univ
      (k0_part15 aM (Memref.isWhole_whole _) oM (Memref.isWhole_whole _) xM (Memref.isWhole_whole _) sM (Memref.isWhole_whole _) rM (Memref.isWhole_whole _) gM (Memref.isWhole_whole _) jM (Memref.isWhole_whole _) tM (Memref.isWhole_whole _) cc0_scratch6 cc0_scratch7 cc0_scratch8 cc0_scratch9 cc0_scratch10 cc0_scratch11 cc0_scratch12 c v8 v37 v50 v53 v67 v70 v432 c4_i32_350 c0_i32_351) Kt) := by
  rw [k0_part15_eq_skeleton]; unfold k0_part15_skel
  simp only [Prog.lift, Prog.bind_op, Prog.bind_ret, Prog.pure_eq_ret]
  iintro H Hk
  iapply (step_load m K c (ph33 (zz c)) (.dst (.ag 2)) (ld11_f (zz c)) shapeCasts_S1x256x1024_S256x1024 shapeCasts_S256x1024_S1x256x1024 sl_ag_2) $$ H; iintro H
  iapply (step_peeko m K c (ph33 (zz c))) $$ H; iintro %_ H
  iapply (step_out m K c (ph33 (zz c)) (.dst (.ag 2)) rfl (off5_eq c 2) (pay20_eq _ _)) $$ H; iintro H
  iapply (step_inject m K c (ph34 (zz c)) 3 0 (ph34_f (zz c)) (cond13_iff c) shapeCasts_S1x256x1024_S256x1024 shapeCasts_S256x1024_S1x256x1024 sl_ag_2 shapeCasts_S1x256x1024_S256x1024 shapeCasts_S256x1024_S1x256x1024 sl_inj_0 (pay21_eq _ _ _) (dev23_eq c) (fun _ => sl_inj_0.symm) (fun _ => sl_st_0_0.symm) (fun _ => sS_st_0_0) (fun _ => sR_st_0_0)) $$ H; iintro H
  iapply (step_inject m K c (ph35 (zz c)) 3 1 (ph35_f (zz c)) (cond14_iff c) shapeCasts_S1x256x1024_S256x1024 shapeCasts_S256x1024_S1x256x1024 sl_ag_2 shapeCasts_S1x256x1024_S256x1024 shapeCasts_S256x1024_S1x256x1024 sl_inj_1 (pay22_eq _ _ _) (dev24_eq c) (fun _ => sl_inj_1.symm) (fun _ => sl_st_1_0.symm) (fun _ => sS_st_1_0) (fun _ => sR_st_1_0)) $$ H; iintro H
  iapply (step_inject m K c (ph36 (zz c)) 3 2 (ph36_f (zz c)) (cond15_iff c) shapeCasts_S1x256x1024_S256x1024 shapeCasts_S256x1024_S1x256x1024 sl_ag_2 shapeCasts_S1x256x1024_S256x1024 shapeCasts_S256x1024_S1x256x1024 sl_inj_2 (pay23_eq _ _ _) (dev25_eq c) (fun _ => sl_inj_2.symm) (fun _ => sl_st_2_0.symm) (fun _ => sS_st_2_0) (fun _ => sR_st_2_0)) $$ H; iintro H
  iapply (step_inject m K c (ph37 (zz c)) 3 3 (ph37_f (zz c)) (cond16_iff c) shapeCasts_S1x256x1024_S256x1024 shapeCasts_S256x1024_S1x256x1024 sl_ag_2 shapeCasts_S1x256x1024_S256x1024 shapeCasts_S256x1024_S1x256x1024 sl_inj_3 (pay24_eq _ _ _) (dev26_eq c) (fun _ => sl_inj_3.symm) (fun _ => sl_st_3_0.symm) (fun _ => sS_st_3_0) (fun _ => sR_st_3_0)) $$ H; iintro H
  rw [wp_ret]; imodintro
  iapply Hk $$ H

end Parts

end Cert.KernelIdealProof

end
-- ==== Proof.PartsF.lean ====
/-
Parts 16 to 22 of the kernel's body: each takes a device from one phase to a later one.
-/
module

public import proofs.«01_k».proof.Proof.Phases

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

set_option maxRecDepth 100000
set_option maxHeartbeats 4000000

section Parts
variable (m : (ℓ : Loc nD τ sig) → Buf (Elt F) ℓ) (K : Dev nD × Cl → ℕ) (c : Dev nD)

theorem part16_wp (v8 v50 v53 : BitVec 32) {Kt : (PUnit) → sProp 𝕄} :
    Inv m K c (ph38 (zz c)) ⊢ iprop((Inv m K c (ph40 (zz c)) -∗ Kt ⟨⟩) -∗ wp frame (wpE (defs₀ (F := F)) 𝒱₀ (c : Thread nD τ) none) Set.univ
      (k0_part16 aM (Memref.isWhole_whole _) oM (Memref.isWhole_whole _) xM (Memref.isWhole_whole _) sM (Memref.isWhole_whole _) rM (Memref.isWhole_whole _) gM (Memref.isWhole_whole _) jM (Memref.isWhole_whole _) tM (Memref.isWhole_whole _) cc0_scratch6 cc0_scratch7 cc0_scratch8 cc0_scratch9 cc0_scratch10 cc0_scratch11 cc0_scratch12 c v8 v50 v53) Kt) := by
  rw [k0_part16_eq_skeleton]; unfold k0_part16_skel
  simp only [Prog.lift, Prog.bind_op, Prog.bind_ret, Prog.pure_eq_ret]
  iintro H Hk
  iapply (step_recv m K c (ph38 (zz c)) (.st 0 0) (ph38_f (zz c)).1 (ph38_f (zz c)).2.1 (ph38_f (zz c)).2.2 sR_st_0_0 cr_st_0_0_0_0) $$ H; iintro H
  iapply (step_send m K c (ph39 (zz c)) (.st 0 1) (ph39_f (zz c)).1 (ph39_f (zz c)).2 (dev27_eq c) sl_st_0_0.symm sl_st_0_1.symm sS_st_0_1 sR_st_0_1) $$ H; iintro H
  rw [wp_ret]; imodintro
  iapply Hk $$ H

theorem part17_wp (v8 v50 v53 : BitVec 32) {Kt : (BitVec 32) → sProp 𝕄} :
    Inv m K c (ph40 (zz c)) ⊢ iprop((∀ r, Inv m K c (ph42 (zz c)) -∗ Kt r) -∗ wp frame (wpE (defs₀ (F := F)) 𝒱₀ (c : Thread nD τ) none) Set.univ
      (k0_part17 aM (Memref.isWhole_whole _) oM (Memref.isWhole_whole _) xM (Memref.isWhole_whole _) sM (Memref.isWhole_whole _) rM (Memref.isWhole_whole _) gM (Memref.isWhole_whole _) jM (Memref.isWhole_whole _) tM (Memref.isWhole_whole _) cc0_scratch6 cc0_scratch7 cc0_scratch8 cc0_scratch9 cc0_scratch10 cc0_scratch11 cc0_scratch12 c v8 v50 v53) Kt) := by
  rw [k0_part17_eq_skeleton]; unfold k0_part17_skel
  simp only [Prog.lift, Prog.bind_op, Prog.bind_ret, Prog.pure_eq_ret]
  iintro H Hk
  iapply (step_recv m K c (ph40 (zz c)) (.st 1 0) (ph40_f (zz c)).1 (ph40_f (zz c)).2.1 (ph40_f (zz c)).2.2 sR_st_1_0 cr_st_1_0_0_0) $$ H; iintro H
  iapply (step_send m K c (ph41 (zz c)) (.st 1 1) (ph41_f (zz c)).1 (ph41_f (zz c)).2 (dev28_eq c) sl_st_1_0.symm sl_st_1_1.symm sS_st_1_1 sR_st_1_1) $$ H; iintro H
  rw [wp_ret]; imodintro
  iapply Hk $$ %_ H

theorem part18_wp (v8 v67 v70 c16_i32_442 : BitVec 32) {Kt : (BitVec 32) → sProp 𝕄} :
    Inv m K c (ph42 (zz c)) ⊢ iprop((∀ r, Inv m K c (ph44 (zz c)) -∗ Kt r) -∗ wp frame (wpE (defs₀ (F := F)) 𝒱₀ (c : Thread nD τ) none) Set.univ
      (k0_part18 aM (Memref.isWhole_whole _) oM (Memref.isWhole_whole _) xM (Memref.isWhole_whole _) sM (Memref.isWhole_whole _) rM (Memref.isWhole_whole _) gM (Memref.isWhole_whole _) jM (Memref.isWhole_whole _) tM (Memref.isWhole_whole _) cc0_scratch6 cc0_scratch7 cc0_scratch8 cc0_scratch9 cc0_scratch10 cc0_scratch11 cc0_scratch12 c v8 v67 v70 c16_i32_442) Kt) := by
  rw [k0_part18_eq_skeleton]; unfold k0_part18_skel
  simp only [Prog.lift, Prog.bind_op, Prog.bind_ret, Prog.pure_eq_ret]
  iintro H Hk
  iapply (step_recv m K c (ph42 (zz c)) (.st 2 0) (ph42_f (zz c)).1 (ph42_f (zz c)).2.1 (ph42_f (zz c)).2.2 sR_st_2_0 cr_st_2_0_0_0) $$ H; iintro H
  iapply (step_send m K c (ph43 (zz c)) (.st 2 1) (ph43_f (zz c)).1 (ph43_f (zz c)).2 (dev29_eq c) sl_st_2_0.symm sl_st_2_1.symm sS_st_2_1 sR_st_2_1) $$ H; iintro H
  rw [wp_ret]; imodintro
  iapply Hk $$ %_ H

theorem part19_wp (v8 v36 v67 v70 v539 : BitVec 32) {Kt : (Σ' (v567 : BitVec 32) (c8_i32_500 : BitVec 32) (v568 : BitVec 1), BitVec 32) → sProp 𝕄} :
    Inv m K c (ph44 (zz c)) ⊢ iprop((∀ r, Inv m K c (ph46 (zz c)) -∗ Kt r) -∗ wp frame (wpE (defs₀ (F := F)) 𝒱₀ (c : Thread nD τ) none) Set.univ
      (k0_part19 aM (Memref.isWhole_whole _) oM (Memref.isWhole_whole _) xM (Memref.isWhole_whole _) sM (Memref.isWhole_whole _) rM (Memref.isWhole_whole _) gM (Memref.isWhole_whole _) jM (Memref.isWhole_whole _) tM (Memref.isWhole_whole _) cc0_scratch6 cc0_scratch7 cc0_scratch8 cc0_scratch9 cc0_scratch10 cc0_scratch11 cc0_scratch12 c v8 v36 v67 v70 v539) Kt) := by
  rw [k0_part19_eq_skeleton]; unfold k0_part19_skel
  simp only [Prog.lift, Prog.bind_op, Prog.bind_ret, Prog.pure_eq_ret]
  iintro H Hk
  iapply (step_recv m K c (ph44 (zz c)) (.st 3 0) (ph44_f (zz c)).1 (ph44_f (zz c)).2.1 (ph44_f (zz c)).2.2 sR_st_3_0 cr_st_3_0_0_0) $$ H; iintro H
  iapply (step_send m K c (ph45 (zz c)) (.st 3 1) (ph45_f (zz c)).1 (ph45_f (zz c)).2 (dev30_eq c) sl_st_3_0.symm sl_st_3_1.symm sS_st_3_1 sR_st_3_1) $$ H; iintro H
  rw [wp_ret]; imodintro
  iapply Hk $$ %_ H

theorem part20_wp (v36 : BitVec 32) (v567 : BitVec 32) (c8_i32_500 : BitVec 32) (v568 : BitVec 1) (c1_i32_502 : BitVec 32) {Kt : (Σ' (v603 : BitVec 32), BitVec 32) → sProp 𝕄} :
    Inv m K c (ph46 (zz c)) ⊢ iprop((∀ r, Inv m K c (ph47 (zz c)) -∗ Kt r) -∗ wp frame (wpE (defs₀ (F := F)) 𝒱₀ (c : Thread nD τ) none) Set.univ
      (k0_part20 aM (Memref.isWhole_whole _) oM (Memref.isWhole_whole _) xM (Memref.isWhole_whole _) sM (Memref.isWhole_whole _) rM (Memref.isWhole_whole _) gM (Memref.isWhole_whole _) jM (Memref.isWhole_whole _) tM (Memref.isWhole_whole _) cc0_scratch6 cc0_scratch7 cc0_scratch8 cc0_scratch9 cc0_scratch10 cc0_scratch11 cc0_scratch12 c v36 v567 c8_i32_500 v568 c1_i32_502) Kt) := by
  rw [k0_part20_eq_skeleton]; unfold k0_part20_skel
  simp only [Prog.lift, Prog.bind_op, Prog.bind_ret, Prog.pure_eq_ret]
  iintro H Hk
  iapply (step_load m K c (ph46 (zz c)) (.dst (.st 0 0)) (ld12_f (zz c)) shapeCasts_S1x1x256x1024_S256x1024 castsBack sl_st_0_0) $$ H; iintro H
  iapply (step_peeko m K c (ph46 (zz c))) $$ H; iintro %_ H
  iapply (step_out m K c (ph46 (zz c)) (.dst (.st 0 0)) rfl (off6_eq c 0 0) (pay25_eq _ _)) $$ H; iintro H
  rw [wp_ret]; imodintro
  iapply Hk $$ %_ H

theorem part21_wp (v36 v603 c4_i32_526 : BitVec 32) {Kt : (Σ' (v633 : BitVec 32) (v635 : FVec F S256x1024 .bf16), BitVec 32) → sProp 𝕄} :
    Inv m K c (ph47 (zz c)) ⊢ iprop((∀ (a0 : BitVec 32) (a2 : BitVec 32), Inv m K c (ph48 (zz c)) -∗ Kt ⟨a0, cv m (.dst (.st 2 0)) c, a2⟩) -∗ wp frame (wpE (defs₀ (F := F)) 𝒱₀ (c : Thread nD τ) none) Set.univ
      (k0_part21 aM (Memref.isWhole_whole _) oM (Memref.isWhole_whole _) xM (Memref.isWhole_whole _) sM (Memref.isWhole_whole _) rM (Memref.isWhole_whole _) gM (Memref.isWhole_whole _) jM (Memref.isWhole_whole _) tM (Memref.isWhole_whole _) cc0_scratch6 cc0_scratch7 cc0_scratch8 cc0_scratch9 cc0_scratch10 cc0_scratch11 cc0_scratch12 c v36 v603 c4_i32_526) Kt) := by
  rw [k0_part21_eq_skeleton]; unfold k0_part21_skel
  simp only [Prog.lift, Prog.bind_op, Prog.bind_ret, Prog.pure_eq_ret]
  iintro H Hk
  iapply (step_load m K c (ph47 (zz c)) (.dst (.st 1 0)) (ld13_f (zz c)) shapeCasts_S1x1x256x1024_S256x1024 castsBack sl_st_1_0) $$ H; iintro H
  iapply (step_peeko m K c (ph47 (zz c))) $$ H; iintro %_ H
  iapply (step_out m K c (ph47 (zz c)) (.dst (.st 1 0)) rfl (off6_eq c 0 1) (pay26_eq _ _)) $$ H; iintro H
  iapply (step_load m K c (ph48 (zz c)) (.dst (.st 2 0)) (ld14_f (zz c)) shapeCasts_S1x1x256x1024_S256x1024 castsBack sl_st_2_0) $$ H; iintro H
  erw [pay27_eq (cv m (.dst (.st 2 0)) c) castsBack]
  rw [wp_ret]; imodintro
  iapply Hk $$ %_ %_ H

theorem part22_wp (v36 v633 v636 : BitVec 32) {Kt : (PUnit) → sProp 𝕄} :
    Inv m K c (ph48 (zz c)) ⊢ iprop((Inv m K c (ph50 (zz c)) -∗ Kt ⟨⟩) -∗ wp frame (wpE (defs₀ (F := F)) 𝒱₀ (c : Thread nD τ) none) Set.univ
      (k0_part22 aM (Memref.isWhole_whole _) oM (Memref.isWhole_whole _) xM (Memref.isWhole_whole _) sM (Memref.isWhole_whole _) rM (Memref.isWhole_whole _) gM (Memref.isWhole_whole _) jM (Memref.isWhole_whole _) tM (Memref.isWhole_whole _) cc0_scratch6 cc0_scratch7 cc0_scratch8 cc0_scratch9 cc0_scratch10 cc0_scratch11 cc0_scratch12 c v36 v633 (cv m (.dst (.st 2 0)) c) v636) Kt) := by
  rw [k0_part22_eq_skeleton]; unfold k0_part22_skel
  simp only [Prog.lift, Prog.bind_op, Prog.bind_ret, Prog.pure_eq_ret]
  iintro H Hk
  iapply (step_peeko m K c (ph48 (zz c))) $$ H; iintro %_ H
  iapply (step_out m K c (ph48 (zz c)) (.dst (.st 2 0)) rfl (off7_eq c 0 0) rfl) $$ H; iintro H
  iapply (step_load m K c (ph49 (zz c)) (.dst (.st 3 0)) (ld15_f (zz c)) shapeCasts_S1x1x256x1024_S256x1024 castsBack sl_st_3_0) $$ H; iintro H
  iapply (step_peeko m K c (ph49 (zz c))) $$ H; iintro %_ H
  iapply (step_out m K c (ph49 (zz c)) (.dst (.st 3 0)) rfl (off7_eq c 0 1) (pay28_eq _ _)) $$ H; iintro H
  rw [wp_ret]; imodintro
  iapply Hk $$ H

end Parts

end Cert.KernelIdealProof

end
-- ==== Proof.PartsG.lean ====
/-
Parts 23 to 29 of the kernel's body: each takes a device from one phase to a later one.
-/
module

public import proofs.«01_k».proof.Proof.Phases

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

set_option maxRecDepth 100000
set_option maxHeartbeats 4000000

section Parts
variable (m : (ℓ : Loc nD τ sig) → Buf (Elt F) ℓ) (K : Dev nD × Cl → ℕ) (c : Dev nD)

theorem part23_wp (v8 v50 v53 : BitVec 32) {Kt : (PUnit) → sProp 𝕄} :
    Inv m K c (ph50 (zz c)) ⊢ iprop((Inv m K c (ph52 (zz c)) -∗ Kt ⟨⟩) -∗ wp frame (wpE (defs₀ (F := F)) 𝒱₀ (c : Thread nD τ) none) Set.univ
      (k0_part23 aM (Memref.isWhole_whole _) oM (Memref.isWhole_whole _) xM (Memref.isWhole_whole _) sM (Memref.isWhole_whole _) rM (Memref.isWhole_whole _) gM (Memref.isWhole_whole _) jM (Memref.isWhole_whole _) tM (Memref.isWhole_whole _) cc0_scratch6 cc0_scratch7 cc0_scratch8 cc0_scratch9 cc0_scratch10 cc0_scratch11 cc0_scratch12 c v8 v50 v53) Kt) := by
  rw [k0_part23_eq_skeleton]; unfold k0_part23_skel
  simp only [Prog.lift, Prog.bind_op, Prog.bind_ret, Prog.pure_eq_ret]
  iintro H Hk
  iapply (step_recv m K c (ph50 (zz c)) (.st 0 1) (ph50_f (zz c)).1 (ph50_f (zz c)).2.1 (ph50_f (zz c)).2.2 sR_st_0_1 cr_st_0_1_0_0) $$ H; iintro H
  iapply (step_send m K c (ph51 (zz c)) (.st 0 2) (ph51_f (zz c)).1 (ph51_f (zz c)).2 (dev31_eq c) sl_st_0_1.symm sl_st_0_2.symm sS_st_0_2 sR_st_0_2) $$ H; iintro H
  rw [wp_ret]; imodintro
  iapply Hk $$ H

theorem part24_wp (v8 v50 v53 : BitVec 32) {Kt : (PUnit) → sProp 𝕄} :
    Inv m K c (ph52 (zz c)) ⊢ iprop((Inv m K c (ph54 (zz c)) -∗ Kt ⟨⟩) -∗ wp frame (wpE (defs₀ (F := F)) 𝒱₀ (c : Thread nD τ) none) Set.univ
      (k0_part24 aM (Memref.isWhole_whole _) oM (Memref.isWhole_whole _) xM (Memref.isWhole_whole _) sM (Memref.isWhole_whole _) rM (Memref.isWhole_whole _) gM (Memref.isWhole_whole _) jM (Memref.isWhole_whole _) tM (Memref.isWhole_whole _) cc0_scratch6 cc0_scratch7 cc0_scratch8 cc0_scratch9 cc0_scratch10 cc0_scratch11 cc0_scratch12 c v8 v50 v53) Kt) := by
  rw [k0_part24_eq_skeleton]; unfold k0_part24_skel
  simp only [Prog.lift, Prog.bind_op, Prog.bind_ret, Prog.pure_eq_ret]
  iintro H Hk
  iapply (step_recv m K c (ph52 (zz c)) (.st 1 1) (ph52_f (zz c)).1 (ph52_f (zz c)).2.1 (ph52_f (zz c)).2.2 sR_st_1_1 cr_st_1_1_0_0) $$ H; iintro H
  iapply (step_send m K c (ph53 (zz c)) (.st 1 2) (ph53_f (zz c)).1 (ph53_f (zz c)).2 (dev32_eq c) sl_st_1_1.symm sl_st_1_2.symm sS_st_1_2 sR_st_1_2) $$ H; iintro H
  rw [wp_ret]; imodintro
  iapply Hk $$ H

theorem part25_wp (v8 v67 v70 : BitVec 32) {Kt : (PUnit) → sProp 𝕄} :
    Inv m K c (ph54 (zz c)) ⊢ iprop((Inv m K c (ph56 (zz c)) -∗ Kt ⟨⟩) -∗ wp frame (wpE (defs₀ (F := F)) 𝒱₀ (c : Thread nD τ) none) Set.univ
      (k0_part25 aM (Memref.isWhole_whole _) oM (Memref.isWhole_whole _) xM (Memref.isWhole_whole _) sM (Memref.isWhole_whole _) rM (Memref.isWhole_whole _) gM (Memref.isWhole_whole _) jM (Memref.isWhole_whole _) tM (Memref.isWhole_whole _) cc0_scratch6 cc0_scratch7 cc0_scratch8 cc0_scratch9 cc0_scratch10 cc0_scratch11 cc0_scratch12 c v8 v67 v70) Kt) := by
  rw [k0_part25_eq_skeleton]; unfold k0_part25_skel
  simp only [Prog.lift, Prog.bind_op, Prog.bind_ret, Prog.pure_eq_ret]
  iintro H Hk
  iapply (step_recv m K c (ph54 (zz c)) (.st 2 1) (ph54_f (zz c)).1 (ph54_f (zz c)).2.1 (ph54_f (zz c)).2.2 sR_st_2_1 cr_st_2_1_0_0) $$ H; iintro H
  iapply (step_send m K c (ph55 (zz c)) (.st 2 2) (ph55_f (zz c)).1 (ph55_f (zz c)).2 (dev33_eq c) sl_st_2_1.symm sl_st_2_2.symm sS_st_2_2 sR_st_2_2) $$ H; iintro H
  rw [wp_ret]; imodintro
  iapply Hk $$ H

theorem part26_wp (v8 v36 v67 v70 : BitVec 32) {Kt : (BitVec 32) → sProp 𝕄} :
    Inv m K c (ph56 (zz c)) ⊢ iprop((∀ r, Inv m K c (ph58 (zz c)) -∗ Kt r) -∗ wp frame (wpE (defs₀ (F := F)) 𝒱₀ (c : Thread nD τ) none) Set.univ
      (k0_part26 aM (Memref.isWhole_whole _) oM (Memref.isWhole_whole _) xM (Memref.isWhole_whole _) sM (Memref.isWhole_whole _) rM (Memref.isWhole_whole _) gM (Memref.isWhole_whole _) jM (Memref.isWhole_whole _) tM (Memref.isWhole_whole _) cc0_scratch6 cc0_scratch7 cc0_scratch8 cc0_scratch9 cc0_scratch10 cc0_scratch11 cc0_scratch12 c v8 v36 v67 v70) Kt) := by
  rw [k0_part26_eq_skeleton]; unfold k0_part26_skel
  simp only [Prog.lift, Prog.bind_op, Prog.bind_ret, Prog.pure_eq_ret]
  iintro H Hk
  iapply (step_recv m K c (ph56 (zz c)) (.st 3 1) (ph56_f (zz c)).1 (ph56_f (zz c)).2.1 (ph56_f (zz c)).2.2 sR_st_3_1 cr_st_3_1_0_0) $$ H; iintro H
  iapply (step_send m K c (ph57 (zz c)) (.st 3 2) (ph57_f (zz c)).1 (ph57_f (zz c)).2 (dev34_eq c) sl_st_3_1.symm sl_st_3_2.symm sS_st_3_2 sR_st_3_2) $$ H; iintro H
  rw [wp_ret]; imodintro
  iapply Hk $$ %_ H

theorem part27_wp (v36 v773 : BitVec 32) {Kt : (Σ' (v801 : BitVec 32) (v802 : BitVec 32) (v803 : BitVec 1), BitVec 1) → sProp 𝕄} :
    Inv m K c (ph58 (zz c)) ⊢ iprop((∀ r, Inv m K c (ph59 (zz c)) -∗ Kt r) -∗ wp frame (wpE (defs₀ (F := F)) 𝒱₀ (c : Thread nD τ) none) Set.univ
      (k0_part27 aM (Memref.isWhole_whole _) oM (Memref.isWhole_whole _) xM (Memref.isWhole_whole _) sM (Memref.isWhole_whole _) rM (Memref.isWhole_whole _) gM (Memref.isWhole_whole _) jM (Memref.isWhole_whole _) tM (Memref.isWhole_whole _) cc0_scratch6 cc0_scratch7 cc0_scratch8 cc0_scratch9 cc0_scratch10 cc0_scratch11 cc0_scratch12 c v36 v773) Kt) := by
  rw [k0_part27_eq_skeleton]; unfold k0_part27_skel
  simp only [Prog.lift, Prog.bind_op, Prog.bind_ret, Prog.pure_eq_ret]
  iintro H Hk
  iapply (step_load m K c (ph58 (zz c)) (.dst (.st 0 1)) (ld16_f (zz c)) shapeCasts_S1x1x256x1024_S256x1024 castsBack sl_st_0_1) $$ H; iintro H
  iapply (step_peeko m K c (ph58 (zz c))) $$ H; iintro %_ H
  iapply (step_out m K c (ph58 (zz c)) (.dst (.st 0 1)) rfl (off6_eq c 1 0) (pay29_eq _ _)) $$ H; iintro H
  rw [wp_ret]; imodintro
  iapply Hk $$ %_ H

theorem part28_wp (v36 : BitVec 32) (v801 : BitVec 32) (v802 : BitVec 32) (v803 : BitVec 1) (v806 : BitVec 1) {Kt : (Σ' (v836 : BitVec 32), BitVec 32) → sProp 𝕄} :
    Inv m K c (ph59 (zz c)) ⊢ iprop((∀ r, Inv m K c (ph60 (zz c)) -∗ Kt r) -∗ wp frame (wpE (defs₀ (F := F)) 𝒱₀ (c : Thread nD τ) none) Set.univ
      (k0_part28 aM (Memref.isWhole_whole _) oM (Memref.isWhole_whole _) xM (Memref.isWhole_whole _) sM (Memref.isWhole_whole _) rM (Memref.isWhole_whole _) gM (Memref.isWhole_whole _) jM (Memref.isWhole_whole _) tM (Memref.isWhole_whole _) cc0_scratch6 cc0_scratch7 cc0_scratch8 cc0_scratch9 cc0_scratch10 cc0_scratch11 cc0_scratch12 c v36 v801 v802 v803 v806) Kt) := by
  rw [k0_part28_eq_skeleton]; unfold k0_part28_skel
  simp only [Prog.lift, Prog.bind_op, Prog.bind_ret, Prog.pure_eq_ret]
  iintro H Hk
  iapply (step_load m K c (ph59 (zz c)) (.dst (.st 1 1)) (ld17_f (zz c)) shapeCasts_S1x1x256x1024_S256x1024 castsBack sl_st_1_1) $$ H; iintro H
  iapply (step_peeko m K c (ph59 (zz c))) $$ H; iintro %_ H
  iapply (step_out m K c (ph59 (zz c)) (.dst (.st 1 1)) rfl (off6_eq c 1 1) (pay30_eq _ _)) $$ H; iintro H
  rw [wp_ret]; imodintro
  iapply Hk $$ %_ H

theorem part29_wp (v36 v836 v839 : BitVec 32) {Kt : (PUnit) → sProp 𝕄} :
    Inv m K c (ph60 (zz c)) ⊢ iprop((Inv m K c (ph62 (zz c)) -∗ Kt ⟨⟩) -∗ wp frame (wpE (defs₀ (F := F)) 𝒱₀ (c : Thread nD τ) none) Set.univ
      (k0_part29 aM (Memref.isWhole_whole _) oM (Memref.isWhole_whole _) xM (Memref.isWhole_whole _) sM (Memref.isWhole_whole _) rM (Memref.isWhole_whole _) gM (Memref.isWhole_whole _) jM (Memref.isWhole_whole _) tM (Memref.isWhole_whole _) cc0_scratch6 cc0_scratch7 cc0_scratch8 cc0_scratch9 cc0_scratch10 cc0_scratch11 cc0_scratch12 c v36 v836 v839) Kt) := by
  rw [k0_part29_eq_skeleton]; unfold k0_part29_skel
  simp only [Prog.lift, Prog.bind_op, Prog.bind_ret, Prog.pure_eq_ret]
  iintro H Hk
  iapply (step_load m K c (ph60 (zz c)) (.dst (.st 2 1)) (ld18_f (zz c)) shapeCasts_S1x1x256x1024_S256x1024 castsBack sl_st_2_1) $$ H; iintro H
  iapply (step_peeko m K c (ph60 (zz c))) $$ H; iintro %_ H
  iapply (step_out m K c (ph60 (zz c)) (.dst (.st 2 1)) rfl (off7_eq c 1 0) (pay31_eq _ _)) $$ H; iintro H
  iapply (step_load m K c (ph61 (zz c)) (.dst (.st 3 1)) (ld19_f (zz c)) shapeCasts_S1x1x256x1024_S256x1024 castsBack sl_st_3_1) $$ H; iintro H
  iapply (step_peeko m K c (ph61 (zz c))) $$ H; iintro %_ H
  iapply (step_out m K c (ph61 (zz c)) (.dst (.st 3 1)) rfl (off7_eq c 1 1) (pay32_eq _ _)) $$ H; iintro H
  rw [wp_ret]; imodintro
  iapply Hk $$ H

end Parts

end Cert.KernelIdealProof

end
-- ==== Proof.PartsH.lean ====
/-
Parts 30 to 36 of the kernel's body: each takes a device from one phase to a later one.
-/
module

public import proofs.«01_k».proof.Proof.Phases

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

set_option maxRecDepth 100000
set_option maxHeartbeats 4000000

section Parts
variable (m : (ℓ : Loc nD τ sig) → Buf (Elt F) ℓ) (K : Dev nD × Cl → ℕ) (c : Dev nD)

theorem part30_wp (v8 v50 v53 : BitVec 32) {Kt : (PUnit) → sProp 𝕄} :
    Inv m K c (ph62 (zz c)) ⊢ iprop((Inv m K c (ph64 (zz c)) -∗ Kt ⟨⟩) -∗ wp frame (wpE (defs₀ (F := F)) 𝒱₀ (c : Thread nD τ) none) Set.univ
      (k0_part30 aM (Memref.isWhole_whole _) oM (Memref.isWhole_whole _) xM (Memref.isWhole_whole _) sM (Memref.isWhole_whole _) rM (Memref.isWhole_whole _) gM (Memref.isWhole_whole _) jM (Memref.isWhole_whole _) tM (Memref.isWhole_whole _) cc0_scratch6 cc0_scratch7 cc0_scratch8 cc0_scratch9 cc0_scratch10 cc0_scratch11 cc0_scratch12 c v8 v50 v53) Kt) := by
  rw [k0_part30_eq_skeleton]; unfold k0_part30_skel
  simp only [Prog.lift, Prog.bind_op, Prog.bind_ret, Prog.pure_eq_ret]
  iintro H Hk
  iapply (step_recv m K c (ph62 (zz c)) (.st 0 2) (ph62_f (zz c)).1 (ph62_f (zz c)).2.1 (ph62_f (zz c)).2.2 sR_st_0_2 cr_st_0_2_0_0) $$ H; iintro H
  iapply (step_send m K c (ph63 (zz c)) (.st 0 3) (ph63_f (zz c)).1 (ph63_f (zz c)).2 (dev35_eq c) sl_st_0_2.symm sl_st_0_3.symm sS_st_0_3 sR_st_0_3) $$ H; iintro H
  rw [wp_ret]; imodintro
  iapply Hk $$ H

theorem part31_wp (v8 v50 v53 : BitVec 32) {Kt : (PUnit) → sProp 𝕄} :
    Inv m K c (ph64 (zz c)) ⊢ iprop((Inv m K c (ph66 (zz c)) -∗ Kt ⟨⟩) -∗ wp frame (wpE (defs₀ (F := F)) 𝒱₀ (c : Thread nD τ) none) Set.univ
      (k0_part31 aM (Memref.isWhole_whole _) oM (Memref.isWhole_whole _) xM (Memref.isWhole_whole _) sM (Memref.isWhole_whole _) rM (Memref.isWhole_whole _) gM (Memref.isWhole_whole _) jM (Memref.isWhole_whole _) tM (Memref.isWhole_whole _) cc0_scratch6 cc0_scratch7 cc0_scratch8 cc0_scratch9 cc0_scratch10 cc0_scratch11 cc0_scratch12 c v8 v50 v53) Kt) := by
  rw [k0_part31_eq_skeleton]; unfold k0_part31_skel
  simp only [Prog.lift, Prog.bind_op, Prog.bind_ret, Prog.pure_eq_ret]
  iintro H Hk
  iapply (step_recv m K c (ph64 (zz c)) (.st 1 2) (ph64_f (zz c)).1 (ph64_f (zz c)).2.1 (ph64_f (zz c)).2.2 sR_st_1_2 cr_st_1_2_0_0) $$ H; iintro H
  iapply (step_send m K c (ph65 (zz c)) (.st 1 3) (ph65_f (zz c)).1 (ph65_f (zz c)).2 (dev36_eq c) sl_st_1_2.symm sl_st_1_3.symm sS_st_1_3 sR_st_1_3) $$ H; iintro H
  rw [wp_ret]; imodintro
  iapply Hk $$ H

theorem part32_wp (v8 v67 v70 : BitVec 32) {Kt : (PUnit) → sProp 𝕄} :
    Inv m K c (ph66 (zz c)) ⊢ iprop((Inv m K c (ph68 (zz c)) -∗ Kt ⟨⟩) -∗ wp frame (wpE (defs₀ (F := F)) 𝒱₀ (c : Thread nD τ) none) Set.univ
      (k0_part32 aM (Memref.isWhole_whole _) oM (Memref.isWhole_whole _) xM (Memref.isWhole_whole _) sM (Memref.isWhole_whole _) rM (Memref.isWhole_whole _) gM (Memref.isWhole_whole _) jM (Memref.isWhole_whole _) tM (Memref.isWhole_whole _) cc0_scratch6 cc0_scratch7 cc0_scratch8 cc0_scratch9 cc0_scratch10 cc0_scratch11 cc0_scratch12 c v8 v67 v70) Kt) := by
  rw [k0_part32_eq_skeleton]; unfold k0_part32_skel
  simp only [Prog.lift, Prog.bind_op, Prog.bind_ret, Prog.pure_eq_ret]
  iintro H Hk
  iapply (step_recv m K c (ph66 (zz c)) (.st 2 2) (ph66_f (zz c)).1 (ph66_f (zz c)).2.1 (ph66_f (zz c)).2.2 sR_st_2_2 cr_st_2_2_0_0) $$ H; iintro H
  iapply (step_send m K c (ph67 (zz c)) (.st 2 3) (ph67_f (zz c)).1 (ph67_f (zz c)).2 (dev37_eq c) sl_st_2_2.symm sl_st_2_3.symm sS_st_2_3 sR_st_2_3) $$ H; iintro H
  rw [wp_ret]; imodintro
  iapply Hk $$ H

theorem part33_wp (v8 v36 v67 v70 : BitVec 32) {Kt : (BitVec 32) → sProp 𝕄} :
    Inv m K c (ph68 (zz c)) ⊢ iprop((∀ r, Inv m K c (ph70 (zz c)) -∗ Kt r) -∗ wp frame (wpE (defs₀ (F := F)) 𝒱₀ (c : Thread nD τ) none) Set.univ
      (k0_part33 aM (Memref.isWhole_whole _) oM (Memref.isWhole_whole _) xM (Memref.isWhole_whole _) sM (Memref.isWhole_whole _) rM (Memref.isWhole_whole _) gM (Memref.isWhole_whole _) jM (Memref.isWhole_whole _) tM (Memref.isWhole_whole _) cc0_scratch6 cc0_scratch7 cc0_scratch8 cc0_scratch9 cc0_scratch10 cc0_scratch11 cc0_scratch12 c v8 v36 v67 v70) Kt) := by
  rw [k0_part33_eq_skeleton]; unfold k0_part33_skel
  simp only [Prog.lift, Prog.bind_op, Prog.bind_ret, Prog.pure_eq_ret]
  iintro H Hk
  iapply (step_recv m K c (ph68 (zz c)) (.st 3 2) (ph68_f (zz c)).1 (ph68_f (zz c)).2.1 (ph68_f (zz c)).2.2 sR_st_3_2 cr_st_3_2_0_0) $$ H; iintro H
  iapply (step_send m K c (ph69 (zz c)) (.st 3 3) (ph69_f (zz c)).1 (ph69_f (zz c)).2 (dev38_eq c) sl_st_3_2.symm sl_st_3_3.symm sS_st_3_3 sR_st_3_3) $$ H; iintro H
  rw [wp_ret]; imodintro
  iapply Hk $$ %_ H

theorem part34_wp (v36 v977 : BitVec 32) {Kt : (Σ' (v1007 : BitVec 32) (v1008 : BitVec 32) (v1009 : BitVec 1), BitVec 32) → sProp 𝕄} :
    Inv m K c (ph70 (zz c)) ⊢ iprop((∀ r, Inv m K c (ph71 (zz c)) -∗ Kt r) -∗ wp frame (wpE (defs₀ (F := F)) 𝒱₀ (c : Thread nD τ) none) Set.univ
      (k0_part34 aM (Memref.isWhole_whole _) oM (Memref.isWhole_whole _) xM (Memref.isWhole_whole _) sM (Memref.isWhole_whole _) rM (Memref.isWhole_whole _) gM (Memref.isWhole_whole _) jM (Memref.isWhole_whole _) tM (Memref.isWhole_whole _) cc0_scratch6 cc0_scratch7 cc0_scratch8 cc0_scratch9 cc0_scratch10 cc0_scratch11 cc0_scratch12 c v36 v977) Kt) := by
  rw [k0_part34_eq_skeleton]; unfold k0_part34_skel
  simp only [Prog.lift, Prog.bind_op, Prog.bind_ret, Prog.pure_eq_ret]
  iintro H Hk
  iapply (step_load m K c (ph70 (zz c)) (.dst (.st 0 2)) (ld20_f (zz c)) shapeCasts_S1x1x256x1024_S256x1024 castsBack sl_st_0_2) $$ H; iintro H
  iapply (step_peeko m K c (ph70 (zz c))) $$ H; iintro %_ H
  iapply (step_out m K c (ph70 (zz c)) (.dst (.st 0 2)) rfl (off6_eq c 2 0) (pay33_eq _ _)) $$ H; iintro H
  rw [wp_ret]; imodintro
  iapply Hk $$ %_ H

theorem part35_wp (v36 : BitVec 32) (v1007 : BitVec 32) (v1008 : BitVec 32) (v1009 : BitVec 1) (c0_i32_933 : BitVec 32) {Kt : (Σ' (v1042 : BitVec 32), BitVec 32) → sProp 𝕄} :
    Inv m K c (ph71 (zz c)) ⊢ iprop((∀ r, Inv m K c (ph72 (zz c)) -∗ Kt r) -∗ wp frame (wpE (defs₀ (F := F)) 𝒱₀ (c : Thread nD τ) none) Set.univ
      (k0_part35 aM (Memref.isWhole_whole _) oM (Memref.isWhole_whole _) xM (Memref.isWhole_whole _) sM (Memref.isWhole_whole _) rM (Memref.isWhole_whole _) gM (Memref.isWhole_whole _) jM (Memref.isWhole_whole _) tM (Memref.isWhole_whole _) cc0_scratch6 cc0_scratch7 cc0_scratch8 cc0_scratch9 cc0_scratch10 cc0_scratch11 cc0_scratch12 c v36 v1007 v1008 v1009 c0_i32_933) Kt) := by
  rw [k0_part35_eq_skeleton]; unfold k0_part35_skel
  simp only [Prog.lift, Prog.bind_op, Prog.bind_ret, Prog.pure_eq_ret]
  iintro H Hk
  iapply (step_load m K c (ph71 (zz c)) (.dst (.st 1 2)) (ld21_f (zz c)) shapeCasts_S1x1x256x1024_S256x1024 castsBack sl_st_1_2) $$ H; iintro H
  iapply (step_peeko m K c (ph71 (zz c))) $$ H; iintro %_ H
  iapply (step_out m K c (ph71 (zz c)) (.dst (.st 1 2)) rfl (off6_eq c 2 1) (pay34_eq _ _)) $$ H; iintro H
  rw [wp_ret]; imodintro
  iapply Hk $$ %_ H

theorem part36_wp (v36 v1042 v1045 : BitVec 32) {Kt : (FVec F S256x1024 .bf16) → sProp 𝕄} :
    Inv m K c (ph72 (zz c)) ⊢ iprop((Inv m K c (ph73 (zz c)) -∗ Kt (cv m (.dst (.st 3 2)) c)) -∗ wp frame (wpE (defs₀ (F := F)) 𝒱₀ (c : Thread nD τ) none) Set.univ
      (k0_part36 aM (Memref.isWhole_whole _) oM (Memref.isWhole_whole _) xM (Memref.isWhole_whole _) sM (Memref.isWhole_whole _) rM (Memref.isWhole_whole _) gM (Memref.isWhole_whole _) jM (Memref.isWhole_whole _) tM (Memref.isWhole_whole _) cc0_scratch6 cc0_scratch7 cc0_scratch8 cc0_scratch9 cc0_scratch10 cc0_scratch11 cc0_scratch12 c v36 v1042 v1045) Kt) := by
  rw [k0_part36_eq_skeleton]; unfold k0_part36_skel
  simp only [Prog.lift, Prog.bind_op, Prog.bind_ret, Prog.pure_eq_ret]
  iintro H Hk
  iapply (step_load m K c (ph72 (zz c)) (.dst (.st 2 2)) (ld22_f (zz c)) shapeCasts_S1x1x256x1024_S256x1024 castsBack sl_st_2_2) $$ H; iintro H
  iapply (step_peeko m K c (ph72 (zz c))) $$ H; iintro %_ H
  iapply (step_out m K c (ph72 (zz c)) (.dst (.st 2 2)) rfl (off7_eq c 2 0) (pay35_eq _ _)) $$ H; iintro H
  iapply (step_load m K c (ph73 (zz c)) (.dst (.st 3 2)) (ld23_f (zz c)) shapeCasts_S1x1x256x1024_S256x1024 castsBack sl_st_3_2) $$ H; iintro H
  erw [pay36_eq (cv m (.dst (.st 3 2)) c) castsBack]
  rw [wp_ret]; imodintro
  iapply Hk $$ H

end Parts

end Cert.KernelIdealProof

end
-- ==== Proof.PartsI.lean ====
/-
Parts 37 to 43 of the kernel's body: each takes a device from one phase to a later one.
-/
module

public import proofs.«01_k».proof.Proof.Phases

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

set_option maxRecDepth 100000
set_option maxHeartbeats 4000000

section Parts
variable (m : (ℓ : Loc nD τ sig) → Buf (Elt F) ℓ) (K : Dev nD × Cl → ℕ) (c : Dev nD)

theorem part37_wp (v8 v50 v53 : BitVec 32) {Kt : (PUnit) → sProp 𝕄} :
    Inv m K c (ph73 (zz c)) ⊢ iprop((Inv m K c (ph75 (zz c)) -∗ Kt ⟨⟩) -∗ wp frame (wpE (defs₀ (F := F)) 𝒱₀ (c : Thread nD τ) none) Set.univ
      (k0_part37 aM (Memref.isWhole_whole _) oM (Memref.isWhole_whole _) xM (Memref.isWhole_whole _) sM (Memref.isWhole_whole _) rM (Memref.isWhole_whole _) gM (Memref.isWhole_whole _) jM (Memref.isWhole_whole _) tM (Memref.isWhole_whole _) cc0_scratch6 cc0_scratch7 cc0_scratch8 cc0_scratch9 cc0_scratch10 cc0_scratch11 cc0_scratch12 c v8 v50 v53 (cv m (.dst (.st 3 2)) c)) Kt) := by
  rw [k0_part37_eq_skeleton]; unfold k0_part37_skel
  simp only [Prog.lift, Prog.bind_op, Prog.bind_ret, Prog.pure_eq_ret]
  iintro H Hk
  iapply (step_peeko m K c (ph73 (zz c))) $$ H; iintro %_ H
  iapply (step_out m K c (ph73 (zz c)) (.dst (.st 3 2)) rfl (off7_eq c 2 1) rfl) $$ H; iintro H
  iapply (step_recv m K c (ph74 (zz c)) (.st 0 3) (ph74_f (zz c)).1 (ph74_f (zz c)).2.1 (ph74_f (zz c)).2.2 sR_st_0_3 cr_st_0_3_0_0) $$ H; iintro H
  rw [wp_ret]; imodintro
  iapply Hk $$ H

theorem part38_wp (v8 v50 v53 : BitVec 32) {Kt : (PUnit) → sProp 𝕄} :
    Inv m K c (ph75 (zz c)) ⊢ iprop((Inv m K c (ph77 (zz c)) -∗ Kt ⟨⟩) -∗ wp frame (wpE (defs₀ (F := F)) 𝒱₀ (c : Thread nD τ) none) Set.univ
      (k0_part38 aM (Memref.isWhole_whole _) oM (Memref.isWhole_whole _) xM (Memref.isWhole_whole _) sM (Memref.isWhole_whole _) rM (Memref.isWhole_whole _) gM (Memref.isWhole_whole _) jM (Memref.isWhole_whole _) tM (Memref.isWhole_whole _) cc0_scratch6 cc0_scratch7 cc0_scratch8 cc0_scratch9 cc0_scratch10 cc0_scratch11 cc0_scratch12 c v8 v50 v53) Kt) := by
  rw [k0_part38_eq_skeleton]; unfold k0_part38_skel
  simp only [Prog.lift, Prog.bind_op, Prog.bind_ret, Prog.pure_eq_ret]
  iintro H Hk
  iapply (step_send m K c (ph75 (zz c)) (.st 0 4) (ph75_f (zz c)).1 (ph75_f (zz c)).2 (dev39_eq c) sl_st_0_3.symm sl_st_0_4.symm sS_st_0_4 sR_st_0_4) $$ H; iintro H
  iapply (step_recv m K c (ph76 (zz c)) (.st 1 3) (ph76_f (zz c)).1 (ph76_f (zz c)).2.1 (ph76_f (zz c)).2.2 sR_st_1_3 cr_st_1_3_0_0) $$ H; iintro H
  rw [wp_ret]; imodintro
  iapply Hk $$ H

theorem part39_wp (v8 v67 v70 : BitVec 32) {Kt : (PUnit) → sProp 𝕄} :
    Inv m K c (ph77 (zz c)) ⊢ iprop((Inv m K c (ph79 (zz c)) -∗ Kt ⟨⟩) -∗ wp frame (wpE (defs₀ (F := F)) 𝒱₀ (c : Thread nD τ) none) Set.univ
      (k0_part39 aM (Memref.isWhole_whole _) oM (Memref.isWhole_whole _) xM (Memref.isWhole_whole _) sM (Memref.isWhole_whole _) rM (Memref.isWhole_whole _) gM (Memref.isWhole_whole _) jM (Memref.isWhole_whole _) tM (Memref.isWhole_whole _) cc0_scratch6 cc0_scratch7 cc0_scratch8 cc0_scratch9 cc0_scratch10 cc0_scratch11 cc0_scratch12 c v8 v67 v70) Kt) := by
  rw [k0_part39_eq_skeleton]; unfold k0_part39_skel
  simp only [Prog.lift, Prog.bind_op, Prog.bind_ret, Prog.pure_eq_ret]
  iintro H Hk
  iapply (step_send m K c (ph77 (zz c)) (.st 1 4) (ph77_f (zz c)).1 (ph77_f (zz c)).2 (dev40_eq c) sl_st_1_3.symm sl_st_1_4.symm sS_st_1_4 sR_st_1_4) $$ H; iintro H
  iapply (step_recv m K c (ph78 (zz c)) (.st 2 3) (ph78_f (zz c)).1 (ph78_f (zz c)).2.1 (ph78_f (zz c)).2.2 sR_st_2_3 cr_st_2_3_0_0) $$ H; iintro H
  rw [wp_ret]; imodintro
  iapply Hk $$ H

theorem part40_wp (v8 v67 v70 : BitVec 32) {Kt : (PUnit) → sProp 𝕄} :
    Inv m K c (ph79 (zz c)) ⊢ iprop((Inv m K c (ph81 (zz c)) -∗ Kt ⟨⟩) -∗ wp frame (wpE (defs₀ (F := F)) 𝒱₀ (c : Thread nD τ) none) Set.univ
      (k0_part40 aM (Memref.isWhole_whole _) oM (Memref.isWhole_whole _) xM (Memref.isWhole_whole _) sM (Memref.isWhole_whole _) rM (Memref.isWhole_whole _) gM (Memref.isWhole_whole _) jM (Memref.isWhole_whole _) tM (Memref.isWhole_whole _) cc0_scratch6 cc0_scratch7 cc0_scratch8 cc0_scratch9 cc0_scratch10 cc0_scratch11 cc0_scratch12 c v8 v67 v70) Kt) := by
  rw [k0_part40_eq_skeleton]; unfold k0_part40_skel
  simp only [Prog.lift, Prog.bind_op, Prog.bind_ret, Prog.pure_eq_ret]
  iintro H Hk
  iapply (step_send m K c (ph79 (zz c)) (.st 2 4) (ph79_f (zz c)).1 (ph79_f (zz c)).2 (dev41_eq c) sl_st_2_3.symm sl_st_2_4.symm sS_st_2_4 sR_st_2_4) $$ H; iintro H
  iapply (step_recv m K c (ph80 (zz c)) (.st 3 3) (ph80_f (zz c)).1 (ph80_f (zz c)).2.1 (ph80_f (zz c)).2.2 sR_st_3_3 cr_st_3_3_0_0) $$ H; iintro H
  rw [wp_ret]; imodintro
  iapply Hk $$ H

theorem part41_wp (v36 : BitVec 32) {Kt : (Σ' (v1211 : BitVec 32), BitVec 32) → sProp 𝕄} :
    Inv m K c (ph81 (zz c)) ⊢ iprop((∀ r, Inv m K c (ph83 (zz c)) -∗ Kt r) -∗ wp frame (wpE (defs₀ (F := F)) 𝒱₀ (c : Thread nD τ) none) Set.univ
      (k0_part41 aM (Memref.isWhole_whole _) oM (Memref.isWhole_whole _) xM (Memref.isWhole_whole _) sM (Memref.isWhole_whole _) rM (Memref.isWhole_whole _) gM (Memref.isWhole_whole _) jM (Memref.isWhole_whole _) tM (Memref.isWhole_whole _) cc0_scratch6 cc0_scratch7 cc0_scratch8 cc0_scratch9 cc0_scratch10 cc0_scratch11 cc0_scratch12 c v36) Kt) := by
  rw [k0_part41_eq_skeleton]; unfold k0_part41_skel
  simp only [Prog.lift, Prog.bind_op, Prog.bind_ret, Prog.pure_eq_ret]
  iintro H Hk
  iapply (step_send m K c (ph81 (zz c)) (.st 3 4) (ph81_f (zz c)).1 (ph81_f (zz c)).2 (dev42_eq c) sl_st_3_3.symm sl_st_3_4.symm sS_st_3_4 sR_st_3_4) $$ H; iintro H
  iapply (step_load m K c (ph82 (zz c)) (.dst (.st 0 3)) (ld24_f (zz c)) shapeCasts_S1x1x256x1024_S256x1024 castsBack sl_st_0_3) $$ H; iintro H
  iapply (step_peeko m K c (ph82 (zz c))) $$ H; iintro %_ H
  iapply (step_out m K c (ph82 (zz c)) (.dst (.st 0 3)) rfl (off6_eq c 3 0) (pay37_eq _ _)) $$ H; iintro H
  rw [wp_ret]; imodintro
  iapply Hk $$ %_ H

theorem part42_wp (v36 v1211 v1213 : BitVec 32) {Kt : (Σ' (v1246 : BitVec 32) (v1248 : BitVec 32), BitVec 32) → sProp 𝕄} :
    Inv m K c (ph83 (zz c)) ⊢ iprop((∀ r, Inv m K c (ph84 (zz c)) -∗ Kt r) -∗ wp frame (wpE (defs₀ (F := F)) 𝒱₀ (c : Thread nD τ) none) Set.univ
      (k0_part42 aM (Memref.isWhole_whole _) oM (Memref.isWhole_whole _) xM (Memref.isWhole_whole _) sM (Memref.isWhole_whole _) rM (Memref.isWhole_whole _) gM (Memref.isWhole_whole _) jM (Memref.isWhole_whole _) tM (Memref.isWhole_whole _) cc0_scratch6 cc0_scratch7 cc0_scratch8 cc0_scratch9 cc0_scratch10 cc0_scratch11 cc0_scratch12 c v36 v1211 v1213) Kt) := by
  rw [k0_part42_eq_skeleton]; unfold k0_part42_skel
  simp only [Prog.lift, Prog.bind_op, Prog.bind_ret, Prog.pure_eq_ret]
  iintro H Hk
  iapply (step_load m K c (ph83 (zz c)) (.dst (.st 1 3)) (ld25_f (zz c)) shapeCasts_S1x1x256x1024_S256x1024 castsBack sl_st_1_3) $$ H; iintro H
  iapply (step_peeko m K c (ph83 (zz c))) $$ H; iintro %_ H
  iapply (step_out m K c (ph83 (zz c)) (.dst (.st 1 3)) rfl (off6_eq c 3 1) (pay38_eq _ _)) $$ H; iintro H
  rw [wp_ret]; imodintro
  iapply Hk $$ %_ H

theorem part43_wp (v36 v1246 v1248 c4_i32_1161 : BitVec 32) {Kt : (Σ' (v1278 : FVec F S256x1024 .bf16), BitVec 32) → sProp 𝕄} :
    Inv m K c (ph84 (zz c)) ⊢ iprop((∀ (a1 : BitVec 32), Inv m K c (ph85 (zz c)) -∗ Kt ⟨cv m (.dst (.st 3 3)) c, a1⟩) -∗ wp frame (wpE (defs₀ (F := F)) 𝒱₀ (c : Thread nD τ) none) Set.univ
      (k0_part43 aM (Memref.isWhole_whole _) oM (Memref.isWhole_whole _) xM (Memref.isWhole_whole _) sM (Memref.isWhole_whole _) rM (Memref.isWhole_whole _) gM (Memref.isWhole_whole _) jM (Memref.isWhole_whole _) tM (Memref.isWhole_whole _) cc0_scratch6 cc0_scratch7 cc0_scratch8 cc0_scratch9 cc0_scratch10 cc0_scratch11 cc0_scratch12 c v36 v1246 v1248 c4_i32_1161) Kt) := by
  rw [k0_part43_eq_skeleton]; unfold k0_part43_skel
  simp only [Prog.lift, Prog.bind_op, Prog.bind_ret, Prog.pure_eq_ret]
  iintro H Hk
  iapply (step_load m K c (ph84 (zz c)) (.dst (.st 2 3)) (ld26_f (zz c)) shapeCasts_S1x1x256x1024_S256x1024 castsBack sl_st_2_3) $$ H; iintro H
  iapply (step_peeko m K c (ph84 (zz c))) $$ H; iintro %_ H
  iapply (step_out m K c (ph84 (zz c)) (.dst (.st 2 3)) rfl (off7_eq c 3 0) (pay39_eq _ _)) $$ H; iintro H
  iapply (step_load m K c (ph85 (zz c)) (.dst (.st 3 3)) (ld27_f (zz c)) shapeCasts_S1x1x256x1024_S256x1024 castsBack sl_st_3_3) $$ H; iintro H
  erw [pay40_eq (cv m (.dst (.st 3 3)) c) castsBack]
  rw [wp_ret]; imodintro
  iapply Hk $$ %_ H

end Parts

end Cert.KernelIdealProof

end
-- ==== Proof.PartsJ.lean ====
/-
Parts 44 to 50 of the kernel's body: each takes a device from one phase to a later one.
-/
module

public import proofs.«01_k».proof.Proof.Phases

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

set_option maxRecDepth 100000
set_option maxHeartbeats 4000000

section Parts
variable (m : (ℓ : Loc nD τ sig) → Buf (Elt F) ℓ) (K : Dev nD × Cl → ℕ) (c : Dev nD)

theorem part44_wp (v8 v50 v53 v1281 : BitVec 32) {Kt : (PUnit) → sProp 𝕄} :
    Inv m K c (ph85 (zz c)) ⊢ iprop((Inv m K c (ph87 (zz c)) -∗ Kt ⟨⟩) -∗ wp frame (wpE (defs₀ (F := F)) 𝒱₀ (c : Thread nD τ) none) Set.univ
      (k0_part44 aM (Memref.isWhole_whole _) oM (Memref.isWhole_whole _) xM (Memref.isWhole_whole _) sM (Memref.isWhole_whole _) rM (Memref.isWhole_whole _) gM (Memref.isWhole_whole _) jM (Memref.isWhole_whole _) tM (Memref.isWhole_whole _) cc0_scratch6 cc0_scratch7 cc0_scratch8 cc0_scratch9 cc0_scratch10 cc0_scratch11 cc0_scratch12 c v8 v50 v53 (cv m (.dst (.st 3 3)) c) v1281) Kt) := by
  rw [k0_part44_eq_skeleton]; unfold k0_part44_skel
  simp only [Prog.lift, Prog.bind_op, Prog.bind_ret, Prog.pure_eq_ret]
  iintro H Hk
  iapply (step_peeko m K c (ph85 (zz c))) $$ H; iintro %_ H
  iapply (step_out m K c (ph85 (zz c)) (.dst (.st 3 3)) rfl (off7_eq c 3 1) rfl) $$ H; iintro H
  iapply (step_recv m K c (ph86 (zz c)) (.st 0 4) (ph86_f (zz c)).1 (ph86_f (zz c)).2.1 (ph86_f (zz c)).2.2 sR_st_0_4 cr_st_0_4_0_0) $$ H; iintro H
  rw [wp_ret]; imodintro
  iapply Hk $$ H

theorem part45_wp (v8 v50 v53 : BitVec 32) {Kt : (PUnit) → sProp 𝕄} :
    Inv m K c (ph87 (zz c)) ⊢ iprop((Inv m K c (ph89 (zz c)) -∗ Kt ⟨⟩) -∗ wp frame (wpE (defs₀ (F := F)) 𝒱₀ (c : Thread nD τ) none) Set.univ
      (k0_part45 aM (Memref.isWhole_whole _) oM (Memref.isWhole_whole _) xM (Memref.isWhole_whole _) sM (Memref.isWhole_whole _) rM (Memref.isWhole_whole _) gM (Memref.isWhole_whole _) jM (Memref.isWhole_whole _) tM (Memref.isWhole_whole _) cc0_scratch6 cc0_scratch7 cc0_scratch8 cc0_scratch9 cc0_scratch10 cc0_scratch11 cc0_scratch12 c v8 v50 v53) Kt) := by
  rw [k0_part45_eq_skeleton]; unfold k0_part45_skel
  simp only [Prog.lift, Prog.bind_op, Prog.bind_ret, Prog.pure_eq_ret]
  iintro H Hk
  iapply (step_send m K c (ph87 (zz c)) (.st 0 5) (ph87_f (zz c)).1 (ph87_f (zz c)).2 (dev43_eq c) sl_st_0_4.symm sl_st_0_5.symm sS_st_0_5 sR_st_0_5) $$ H; iintro H
  iapply (step_recv m K c (ph88 (zz c)) (.st 1 4) (ph88_f (zz c)).1 (ph88_f (zz c)).2.1 (ph88_f (zz c)).2.2 sR_st_1_4 cr_st_1_4_0_0) $$ H; iintro H
  rw [wp_ret]; imodintro
  iapply Hk $$ H

theorem part46_wp (v8 v67 v70 : BitVec 32) {Kt : (PUnit) → sProp 𝕄} :
    Inv m K c (ph89 (zz c)) ⊢ iprop((Inv m K c (ph91 (zz c)) -∗ Kt ⟨⟩) -∗ wp frame (wpE (defs₀ (F := F)) 𝒱₀ (c : Thread nD τ) none) Set.univ
      (k0_part46 aM (Memref.isWhole_whole _) oM (Memref.isWhole_whole _) xM (Memref.isWhole_whole _) sM (Memref.isWhole_whole _) rM (Memref.isWhole_whole _) gM (Memref.isWhole_whole _) jM (Memref.isWhole_whole _) tM (Memref.isWhole_whole _) cc0_scratch6 cc0_scratch7 cc0_scratch8 cc0_scratch9 cc0_scratch10 cc0_scratch11 cc0_scratch12 c v8 v67 v70) Kt) := by
  rw [k0_part46_eq_skeleton]; unfold k0_part46_skel
  simp only [Prog.lift, Prog.bind_op, Prog.bind_ret, Prog.pure_eq_ret]
  iintro H Hk
  iapply (step_send m K c (ph89 (zz c)) (.st 1 5) (ph89_f (zz c)).1 (ph89_f (zz c)).2 (dev44_eq c) sl_st_1_4.symm sl_st_1_5.symm sS_st_1_5 sR_st_1_5) $$ H; iintro H
  iapply (step_recv m K c (ph90 (zz c)) (.st 2 4) (ph90_f (zz c)).1 (ph90_f (zz c)).2.1 (ph90_f (zz c)).2.2 sR_st_2_4 cr_st_2_4_0_0) $$ H; iintro H
  rw [wp_ret]; imodintro
  iapply Hk $$ H

theorem part47_wp (v8 v67 v70 : BitVec 32) {Kt : (PUnit) → sProp 𝕄} :
    Inv m K c (ph91 (zz c)) ⊢ iprop((Inv m K c (ph93 (zz c)) -∗ Kt ⟨⟩) -∗ wp frame (wpE (defs₀ (F := F)) 𝒱₀ (c : Thread nD τ) none) Set.univ
      (k0_part47 aM (Memref.isWhole_whole _) oM (Memref.isWhole_whole _) xM (Memref.isWhole_whole _) sM (Memref.isWhole_whole _) rM (Memref.isWhole_whole _) gM (Memref.isWhole_whole _) jM (Memref.isWhole_whole _) tM (Memref.isWhole_whole _) cc0_scratch6 cc0_scratch7 cc0_scratch8 cc0_scratch9 cc0_scratch10 cc0_scratch11 cc0_scratch12 c v8 v67 v70) Kt) := by
  rw [k0_part47_eq_skeleton]; unfold k0_part47_skel
  simp only [Prog.lift, Prog.bind_op, Prog.bind_ret, Prog.pure_eq_ret]
  iintro H Hk
  iapply (step_send m K c (ph91 (zz c)) (.st 2 5) (ph91_f (zz c)).1 (ph91_f (zz c)).2 (dev45_eq c) sl_st_2_4.symm sl_st_2_5.symm sS_st_2_5 sR_st_2_5) $$ H; iintro H
  iapply (step_recv m K c (ph92 (zz c)) (.st 3 4) (ph92_f (zz c)).1 (ph92_f (zz c)).2.1 (ph92_f (zz c)).2.2 sR_st_3_4 cr_st_3_4_0_0) $$ H; iintro H
  rw [wp_ret]; imodintro
  iapply Hk $$ H

theorem part48_wp (v36 : BitVec 32) {Kt : (Σ' (v1417 : BitVec 32), BitVec 32) → sProp 𝕄} :
    Inv m K c (ph93 (zz c)) ⊢ iprop((∀ r, Inv m K c (ph95 (zz c)) -∗ Kt r) -∗ wp frame (wpE (defs₀ (F := F)) 𝒱₀ (c : Thread nD τ) none) Set.univ
      (k0_part48 aM (Memref.isWhole_whole _) oM (Memref.isWhole_whole _) xM (Memref.isWhole_whole _) sM (Memref.isWhole_whole _) rM (Memref.isWhole_whole _) gM (Memref.isWhole_whole _) jM (Memref.isWhole_whole _) tM (Memref.isWhole_whole _) cc0_scratch6 cc0_scratch7 cc0_scratch8 cc0_scratch9 cc0_scratch10 cc0_scratch11 cc0_scratch12 c v36) Kt) := by
  rw [k0_part48_eq_skeleton]; unfold k0_part48_skel
  simp only [Prog.lift, Prog.bind_op, Prog.bind_ret, Prog.pure_eq_ret]
  iintro H Hk
  iapply (step_send m K c (ph93 (zz c)) (.st 3 5) (ph93_f (zz c)).1 (ph93_f (zz c)).2 (dev46_eq c) sl_st_3_4.symm sl_st_3_5.symm sS_st_3_5 sR_st_3_5) $$ H; iintro H
  iapply (step_load m K c (ph94 (zz c)) (.dst (.st 0 4)) (ld28_f (zz c)) shapeCasts_S1x1x256x1024_S256x1024 castsBack sl_st_0_4) $$ H; iintro H
  iapply (step_peeko m K c (ph94 (zz c))) $$ H; iintro %_ H
  iapply (step_out m K c (ph94 (zz c)) (.dst (.st 0 4)) rfl (off6_eq c 4 0) (pay41_eq _ _)) $$ H; iintro H
  rw [wp_ret]; imodintro
  iapply Hk $$ %_ H

theorem part49_wp (v36 v1417 c8_i32_1339 : BitVec 32) {Kt : (BitVec 32) → sProp 𝕄} :
    Inv m K c (ph95 (zz c)) ⊢ iprop((∀ r, Inv m K c (ph96 (zz c)) -∗ Kt r) -∗ wp frame (wpE (defs₀ (F := F)) 𝒱₀ (c : Thread nD τ) none) Set.univ
      (k0_part49 aM (Memref.isWhole_whole _) oM (Memref.isWhole_whole _) xM (Memref.isWhole_whole _) sM (Memref.isWhole_whole _) rM (Memref.isWhole_whole _) gM (Memref.isWhole_whole _) jM (Memref.isWhole_whole _) tM (Memref.isWhole_whole _) cc0_scratch6 cc0_scratch7 cc0_scratch8 cc0_scratch9 cc0_scratch10 cc0_scratch11 cc0_scratch12 c v36 v1417 c8_i32_1339) Kt) := by
  rw [k0_part49_eq_skeleton]; unfold k0_part49_skel
  simp only [Prog.lift, Prog.bind_op, Prog.bind_ret, Prog.pure_eq_ret]
  iintro H Hk
  iapply (step_load m K c (ph95 (zz c)) (.dst (.st 1 4)) (ld29_f (zz c)) shapeCasts_S1x1x256x1024_S256x1024 castsBack sl_st_1_4) $$ H; iintro H
  iapply (step_peeko m K c (ph95 (zz c))) $$ H; iintro %_ H
  iapply (step_out m K c (ph95 (zz c)) (.dst (.st 1 4)) rfl (off6_eq c 4 1) (pay42_eq _ _)) $$ H; iintro H
  rw [wp_ret]; imodintro
  iapply Hk $$ %_ H

theorem part50_wp (v36 v1452 : BitVec 32) {Kt : (Σ' (v1479 : BitVec 32) (v1482 : BitVec 32) (v1484 : FVec F S256x1024 .bf16), BitVec 32) → sProp 𝕄} :
    Inv m K c (ph96 (zz c)) ⊢ iprop((∀ (a0 : BitVec 32) (a1 : BitVec 32) (a3 : BitVec 32), Inv m K c (ph97 (zz c)) -∗ Kt ⟨a0, a1, cv m (.dst (.st 3 4)) c, a3⟩) -∗ wp frame (wpE (defs₀ (F := F)) 𝒱₀ (c : Thread nD τ) none) Set.univ
      (k0_part50 aM (Memref.isWhole_whole _) oM (Memref.isWhole_whole _) xM (Memref.isWhole_whole _) sM (Memref.isWhole_whole _) rM (Memref.isWhole_whole _) gM (Memref.isWhole_whole _) jM (Memref.isWhole_whole _) tM (Memref.isWhole_whole _) cc0_scratch6 cc0_scratch7 cc0_scratch8 cc0_scratch9 cc0_scratch10 cc0_scratch11 cc0_scratch12 c v36 v1452) Kt) := by
  rw [k0_part50_eq_skeleton]; unfold k0_part50_skel
  simp only [Prog.lift, Prog.bind_op, Prog.bind_ret, Prog.pure_eq_ret]
  iintro H Hk
  iapply (step_load m K c (ph96 (zz c)) (.dst (.st 2 4)) (ld30_f (zz c)) shapeCasts_S1x1x256x1024_S256x1024 castsBack sl_st_2_4) $$ H; iintro H
  iapply (step_peeko m K c (ph96 (zz c))) $$ H; iintro %_ H
  iapply (step_out m K c (ph96 (zz c)) (.dst (.st 2 4)) rfl (off7_eq c 4 0) (pay43_eq _ _)) $$ H; iintro H
  iapply (step_load m K c (ph97 (zz c)) (.dst (.st 3 4)) (ld31_f (zz c)) shapeCasts_S1x1x256x1024_S256x1024 castsBack sl_st_3_4) $$ H; iintro H
  erw [pay44_eq (cv m (.dst (.st 3 4)) c) castsBack]
  rw [wp_ret]; imodintro
  iapply Hk $$ %_ %_ %_ H

end Parts

end Cert.KernelIdealProof

end
-- ==== Proof.PartsK.lean ====
/-
Parts 51 to 57 of the kernel's body: each takes a device from one phase to a later one.
-/
module

public import proofs.«01_k».proof.Proof.Phases

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

set_option maxRecDepth 100000
set_option maxHeartbeats 4000000

section Parts
variable (m : (ℓ : Loc nD τ sig) → Buf (Elt F) ℓ) (K : Dev nD × Cl → ℕ) (c : Dev nD)

theorem part51_wp (v8 v50 v53 v1479 v1482 c4_i32_1390 : BitVec 32) {Kt : (PUnit) → sProp 𝕄} :
    Inv m K c (ph97 (zz c)) ⊢ iprop((Inv m K c (ph99 (zz c)) -∗ Kt ⟨⟩) -∗ wp frame (wpE (defs₀ (F := F)) 𝒱₀ (c : Thread nD τ) none) Set.univ
      (k0_part51 aM (Memref.isWhole_whole _) oM (Memref.isWhole_whole _) xM (Memref.isWhole_whole _) sM (Memref.isWhole_whole _) rM (Memref.isWhole_whole _) gM (Memref.isWhole_whole _) jM (Memref.isWhole_whole _) tM (Memref.isWhole_whole _) cc0_scratch6 cc0_scratch7 cc0_scratch8 cc0_scratch9 cc0_scratch10 cc0_scratch11 cc0_scratch12 c v8 v50 v53 v1479 v1482 (cv m (.dst (.st 3 4)) c) c4_i32_1390) Kt) := by
  rw [k0_part51_eq_skeleton]; unfold k0_part51_skel
  simp only [Prog.lift, Prog.bind_op, Prog.bind_ret, Prog.pure_eq_ret]
  iintro H Hk
  iapply (step_peeko m K c (ph97 (zz c))) $$ H; iintro %_ H
  iapply (step_out m K c (ph97 (zz c)) (.dst (.st 3 4)) rfl (off7_eq c 4 1) rfl) $$ H; iintro H
  iapply (step_recv m K c (ph98 (zz c)) (.st 0 5) (ph98_f (zz c)).1 (ph98_f (zz c)).2.1 (ph98_f (zz c)).2.2 sR_st_0_5 cr_st_0_5_0_0) $$ H; iintro H
  rw [wp_ret]; imodintro
  iapply Hk $$ H

theorem part52_wp (v8 v50 v53 : BitVec 32) {Kt : (PUnit) → sProp 𝕄} :
    Inv m K c (ph99 (zz c)) ⊢ iprop((Inv m K c (ph101 (zz c)) -∗ Kt ⟨⟩) -∗ wp frame (wpE (defs₀ (F := F)) 𝒱₀ (c : Thread nD τ) none) Set.univ
      (k0_part52 aM (Memref.isWhole_whole _) oM (Memref.isWhole_whole _) xM (Memref.isWhole_whole _) sM (Memref.isWhole_whole _) rM (Memref.isWhole_whole _) gM (Memref.isWhole_whole _) jM (Memref.isWhole_whole _) tM (Memref.isWhole_whole _) cc0_scratch6 cc0_scratch7 cc0_scratch8 cc0_scratch9 cc0_scratch10 cc0_scratch11 cc0_scratch12 c v8 v50 v53) Kt) := by
  rw [k0_part52_eq_skeleton]; unfold k0_part52_skel
  simp only [Prog.lift, Prog.bind_op, Prog.bind_ret, Prog.pure_eq_ret]
  iintro H Hk
  iapply (step_send m K c (ph99 (zz c)) (.st 0 6) (ph99_f (zz c)).1 (ph99_f (zz c)).2 (dev47_eq c) sl_st_0_5.symm sl_st_0_6.symm sS_st_0_6 sR_st_0_6) $$ H; iintro H
  iapply (step_recv m K c (ph100 (zz c)) (.st 1 5) (ph100_f (zz c)).1 (ph100_f (zz c)).2.1 (ph100_f (zz c)).2.2 sR_st_1_5 cr_st_1_5_0_0) $$ H; iintro H
  rw [wp_ret]; imodintro
  iapply Hk $$ H

theorem part53_wp (v8 v67 v70 : BitVec 32) {Kt : (PUnit) → sProp 𝕄} :
    Inv m K c (ph101 (zz c)) ⊢ iprop((Inv m K c (ph103 (zz c)) -∗ Kt ⟨⟩) -∗ wp frame (wpE (defs₀ (F := F)) 𝒱₀ (c : Thread nD τ) none) Set.univ
      (k0_part53 aM (Memref.isWhole_whole _) oM (Memref.isWhole_whole _) xM (Memref.isWhole_whole _) sM (Memref.isWhole_whole _) rM (Memref.isWhole_whole _) gM (Memref.isWhole_whole _) jM (Memref.isWhole_whole _) tM (Memref.isWhole_whole _) cc0_scratch6 cc0_scratch7 cc0_scratch8 cc0_scratch9 cc0_scratch10 cc0_scratch11 cc0_scratch12 c v8 v67 v70) Kt) := by
  rw [k0_part53_eq_skeleton]; unfold k0_part53_skel
  simp only [Prog.lift, Prog.bind_op, Prog.bind_ret, Prog.pure_eq_ret]
  iintro H Hk
  iapply (step_send m K c (ph101 (zz c)) (.st 1 6) (ph101_f (zz c)).1 (ph101_f (zz c)).2 (dev48_eq c) sl_st_1_5.symm sl_st_1_6.symm sS_st_1_6 sR_st_1_6) $$ H; iintro H
  iapply (step_recv m K c (ph102 (zz c)) (.st 2 5) (ph102_f (zz c)).1 (ph102_f (zz c)).2.1 (ph102_f (zz c)).2.2 sR_st_2_5 cr_st_2_5_0_0) $$ H; iintro H
  rw [wp_ret]; imodintro
  iapply Hk $$ H

theorem part54_wp (v8 v67 v70 : BitVec 32) {Kt : (PUnit) → sProp 𝕄} :
    Inv m K c (ph103 (zz c)) ⊢ iprop((Inv m K c (ph105 (zz c)) -∗ Kt ⟨⟩) -∗ wp frame (wpE (defs₀ (F := F)) 𝒱₀ (c : Thread nD τ) none) Set.univ
      (k0_part54 aM (Memref.isWhole_whole _) oM (Memref.isWhole_whole _) xM (Memref.isWhole_whole _) sM (Memref.isWhole_whole _) rM (Memref.isWhole_whole _) gM (Memref.isWhole_whole _) jM (Memref.isWhole_whole _) tM (Memref.isWhole_whole _) cc0_scratch6 cc0_scratch7 cc0_scratch8 cc0_scratch9 cc0_scratch10 cc0_scratch11 cc0_scratch12 c v8 v67 v70) Kt) := by
  rw [k0_part54_eq_skeleton]; unfold k0_part54_skel
  simp only [Prog.lift, Prog.bind_op, Prog.bind_ret, Prog.pure_eq_ret]
  iintro H Hk
  iapply (step_send m K c (ph103 (zz c)) (.st 2 6) (ph103_f (zz c)).1 (ph103_f (zz c)).2 (dev49_eq c) sl_st_2_5.symm sl_st_2_6.symm sS_st_2_6 sR_st_2_6) $$ H; iintro H
  iapply (step_recv m K c (ph104 (zz c)) (.st 3 5) (ph104_f (zz c)).1 (ph104_f (zz c)).2.1 (ph104_f (zz c)).2.2 sR_st_3_5 cr_st_3_5_0_0) $$ H; iintro H
  rw [wp_ret]; imodintro
  iapply Hk $$ H

theorem part55_wp (v36 : BitVec 32) {Kt : (Σ' (v1621 : BitVec 32), BitVec 32) → sProp 𝕄} :
    Inv m K c (ph105 (zz c)) ⊢ iprop((∀ r, Inv m K c (ph107 (zz c)) -∗ Kt r) -∗ wp frame (wpE (defs₀ (F := F)) 𝒱₀ (c : Thread nD τ) none) Set.univ
      (k0_part55 aM (Memref.isWhole_whole _) oM (Memref.isWhole_whole _) xM (Memref.isWhole_whole _) sM (Memref.isWhole_whole _) rM (Memref.isWhole_whole _) gM (Memref.isWhole_whole _) jM (Memref.isWhole_whole _) tM (Memref.isWhole_whole _) cc0_scratch6 cc0_scratch7 cc0_scratch8 cc0_scratch9 cc0_scratch10 cc0_scratch11 cc0_scratch12 c v36) Kt) := by
  rw [k0_part55_eq_skeleton]; unfold k0_part55_skel
  simp only [Prog.lift, Prog.bind_op, Prog.bind_ret, Prog.pure_eq_ret]
  iintro H Hk
  iapply (step_send m K c (ph105 (zz c)) (.st 3 6) (ph105_f (zz c)).1 (ph105_f (zz c)).2 (dev50_eq c) sl_st_3_5.symm sl_st_3_6.symm sS_st_3_6 sR_st_3_6) $$ H; iintro H
  iapply (step_load m K c (ph106 (zz c)) (.dst (.st 0 5)) (ld32_f (zz c)) shapeCasts_S1x1x256x1024_S256x1024 castsBack sl_st_0_5) $$ H; iintro H
  iapply (step_peeko m K c (ph106 (zz c))) $$ H; iintro %_ H
  iapply (step_out m K c (ph106 (zz c)) (.dst (.st 0 5)) rfl (off6_eq c 5 0) (pay45_eq _ _)) $$ H; iintro H
  rw [wp_ret]; imodintro
  iapply Hk $$ %_ H

theorem part56_wp (v36 v1621 c1_i32_1541 : BitVec 32) {Kt : (Σ' (v1650 : BitVec 32) (v1651 : BitVec 32) (v1652 : BitVec 1) (v1653 : BitVec 1), BitVec 1) → sProp 𝕄} :
    Inv m K c (ph107 (zz c)) ⊢ iprop((∀ r, Inv m K c (ph108 (zz c)) -∗ Kt r) -∗ wp frame (wpE (defs₀ (F := F)) 𝒱₀ (c : Thread nD τ) none) Set.univ
      (k0_part56 aM (Memref.isWhole_whole _) oM (Memref.isWhole_whole _) xM (Memref.isWhole_whole _) sM (Memref.isWhole_whole _) rM (Memref.isWhole_whole _) gM (Memref.isWhole_whole _) jM (Memref.isWhole_whole _) tM (Memref.isWhole_whole _) cc0_scratch6 cc0_scratch7 cc0_scratch8 cc0_scratch9 cc0_scratch10 cc0_scratch11 cc0_scratch12 c v36 v1621 c1_i32_1541) Kt) := by
  rw [k0_part56_eq_skeleton]; unfold k0_part56_skel
  simp only [Prog.lift, Prog.bind_op, Prog.bind_ret, Prog.pure_eq_ret]
  iintro H Hk
  iapply (step_load m K c (ph107 (zz c)) (.dst (.st 1 5)) (ld33_f (zz c)) shapeCasts_S1x1x256x1024_S256x1024 castsBack sl_st_1_5) $$ H; iintro H
  iapply (step_peeko m K c (ph107 (zz c))) $$ H; iintro %_ H
  iapply (step_out m K c (ph107 (zz c)) (.dst (.st 1 5)) rfl (off6_eq c 5 1) (pay46_eq _ _)) $$ H; iintro H
  rw [wp_ret]; imodintro
  iapply Hk $$ %_ H

theorem part57_wp (v36 : BitVec 32) (v1650 : BitVec 32) (v1651 : BitVec 32) (v1652 : BitVec 1) (v1653 : BitVec 1) (v1654 : BitVec 1) {Kt : (Σ' (v1685 : BitVec 32), BitVec 32) → sProp 𝕄} :
    Inv m K c (ph108 (zz c)) ⊢ iprop((∀ r, Inv m K c (ph109 (zz c)) -∗ Kt r) -∗ wp frame (wpE (defs₀ (F := F)) 𝒱₀ (c : Thread nD τ) none) Set.univ
      (k0_part57 aM (Memref.isWhole_whole _) oM (Memref.isWhole_whole _) xM (Memref.isWhole_whole _) sM (Memref.isWhole_whole _) rM (Memref.isWhole_whole _) gM (Memref.isWhole_whole _) jM (Memref.isWhole_whole _) tM (Memref.isWhole_whole _) cc0_scratch6 cc0_scratch7 cc0_scratch8 cc0_scratch9 cc0_scratch10 cc0_scratch11 cc0_scratch12 c v36 v1650 v1651 v1652 v1653 v1654) Kt) := by
  rw [k0_part57_eq_skeleton]; unfold k0_part57_skel
  simp only [Prog.lift, Prog.bind_op, Prog.bind_ret, Prog.pure_eq_ret]
  iintro H Hk
  iapply (step_load m K c (ph108 (zz c)) (.dst (.st 2 5)) (ld34_f (zz c)) shapeCasts_S1x1x256x1024_S256x1024 castsBack sl_st_2_5) $$ H; iintro H
  iapply (step_peeko m K c (ph108 (zz c))) $$ H; iintro %_ H
  iapply (step_out m K c (ph108 (zz c)) (.dst (.st 2 5)) rfl (off7_eq c 5 0) (pay47_eq _ _)) $$ H; iintro H
  rw [wp_ret]; imodintro
  iapply Hk $$ %_ H

end Parts

end Cert.KernelIdealProof

end
-- ==== Proof.PartsL.lean ====
/-
Parts 58 to 64 of the kernel's body: each takes a device from one phase to a later one.
-/
module

public import proofs.«01_k».proof.Proof.Phases

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

set_option maxRecDepth 100000
set_option maxHeartbeats 4000000

section Parts
variable (m : (ℓ : Loc nD τ sig) → Buf (Elt F) ℓ) (K : Dev nD × Cl → ℕ) (c : Dev nD)

theorem part58_wp (v8 v36 v50 v53 v1685 v1688 : BitVec 32) {Kt : (Σ' (v1713 : BitVec 32) (v1714 : BitVec 32) (v1715 : BitVec 1) (v1716 : BitVec 1), BitVec 32) → sProp 𝕄} :
    Inv m K c (ph109 (zz c)) ⊢ iprop((∀ r, Inv m K c (ph111 (zz c)) -∗ Kt r) -∗ wp frame (wpE (defs₀ (F := F)) 𝒱₀ (c : Thread nD τ) none) Set.univ
      (k0_part58 aM (Memref.isWhole_whole _) oM (Memref.isWhole_whole _) xM (Memref.isWhole_whole _) sM (Memref.isWhole_whole _) rM (Memref.isWhole_whole _) gM (Memref.isWhole_whole _) jM (Memref.isWhole_whole _) tM (Memref.isWhole_whole _) cc0_scratch6 cc0_scratch7 cc0_scratch8 cc0_scratch9 cc0_scratch10 cc0_scratch11 cc0_scratch12 c v8 v36 v50 v53 v1685 v1688) Kt) := by
  rw [k0_part58_eq_skeleton]; unfold k0_part58_skel
  simp only [Prog.lift, Prog.bind_op, Prog.bind_ret, Prog.pure_eq_ret]
  iintro H Hk
  iapply (step_load m K c (ph109 (zz c)) (.dst (.st 3 5)) (ld35_f (zz c)) shapeCasts_S1x1x256x1024_S256x1024 castsBack sl_st_3_5) $$ H; iintro H
  iapply (step_peeko m K c (ph109 (zz c))) $$ H; iintro %_ H
  iapply (step_out m K c (ph109 (zz c)) (.dst (.st 3 5)) rfl (off7_eq c 5 1) (pay48_eq _ _)) $$ H; iintro H
  iapply (step_recv m K c (ph110 (zz c)) (.st 0 6) (ph110_f (zz c)).1 (ph110_f (zz c)).2.1 (ph110_f (zz c)).2.2 sR_st_0_6 cr_st_0_6_0_0) $$ H; iintro H
  rw [wp_ret]; imodintro
  iapply Hk $$ %_ H

theorem part59_wp (v8 : BitVec 32) (v50 : BitVec 32) (v53 : BitVec 32) (v1713 : BitVec 32) (v1714 : BitVec 32) (v1715 : BitVec 1) (v1716 : BitVec 1) (c0_i32_1622 : BitVec 32) {Kt : (BitVec 32) → sProp 𝕄} :
    Inv m K c (ph111 (zz c)) ⊢ iprop((∀ r, Inv m K c (ph113 (zz c)) -∗ Kt r) -∗ wp frame (wpE (defs₀ (F := F)) 𝒱₀ (c : Thread nD τ) none) Set.univ
      (k0_part59 aM (Memref.isWhole_whole _) oM (Memref.isWhole_whole _) xM (Memref.isWhole_whole _) sM (Memref.isWhole_whole _) rM (Memref.isWhole_whole _) gM (Memref.isWhole_whole _) jM (Memref.isWhole_whole _) tM (Memref.isWhole_whole _) cc0_scratch6 cc0_scratch7 cc0_scratch8 cc0_scratch9 cc0_scratch10 cc0_scratch11 cc0_scratch12 c v8 v50 v53 v1713 v1714 v1715 v1716 c0_i32_1622) Kt) := by
  rw [k0_part59_eq_skeleton]; unfold k0_part59_skel
  simp only [Prog.lift, Prog.bind_op, Prog.bind_ret, Prog.pure_eq_ret]
  iintro H Hk
  iapply (step_load m K c (ph111 (zz c)) (.dst (.st 0 6)) (ld36_f (zz c)) shapeCasts_S1x1x256x1024_S256x1024 castsBack sl_st_0_6) $$ H; iintro H
  iapply (step_peeko m K c (ph111 (zz c))) $$ H; iintro %_ H
  iapply (step_out m K c (ph111 (zz c)) (.dst (.st 0 6)) rfl (off6_eq c 6 0) (pay49_eq _ _)) $$ H; iintro H
  iapply (step_recv m K c (ph112 (zz c)) (.st 1 6) (ph112_f (zz c)).1 (ph112_f (zz c)).2.1 (ph112_f (zz c)).2.2 sR_st_1_6 cr_st_1_6_0_0) $$ H; iintro H
  rw [wp_ret]; imodintro
  iapply Hk $$ %_ H

theorem part60_wp (v36 v67 v70 c8_i32_1649 : BitVec 32) {Kt : (Σ' (v1774 : BitVec 32), BitVec 32) → sProp 𝕄} :
    Inv m K c (ph113 (zz c)) ⊢ iprop((∀ r, Inv m K c (ph114 (zz c)) -∗ Kt r) -∗ wp frame (wpE (defs₀ (F := F)) 𝒱₀ (c : Thread nD τ) none) Set.univ
      (k0_part60 aM (Memref.isWhole_whole _) oM (Memref.isWhole_whole _) xM (Memref.isWhole_whole _) sM (Memref.isWhole_whole _) rM (Memref.isWhole_whole _) gM (Memref.isWhole_whole _) jM (Memref.isWhole_whole _) tM (Memref.isWhole_whole _) cc0_scratch6 cc0_scratch7 cc0_scratch8 cc0_scratch9 cc0_scratch10 cc0_scratch11 cc0_scratch12 c v36 v67 v70 c8_i32_1649) Kt) := by
  rw [k0_part60_eq_skeleton]; unfold k0_part60_skel
  simp only [Prog.lift, Prog.bind_op, Prog.bind_ret, Prog.pure_eq_ret]
  iintro H Hk
  iapply (step_load m K c (ph113 (zz c)) (.dst (.st 1 6)) (ld37_f (zz c)) shapeCasts_S1x1x256x1024_S256x1024 castsBack sl_st_1_6) $$ H; iintro H
  iapply (step_peeko m K c (ph113 (zz c))) $$ H; iintro %_ H
  iapply (step_out m K c (ph113 (zz c)) (.dst (.st 1 6)) rfl (off6_eq c 6 1) (pay50_eq _ _)) $$ H; iintro H
  rw [wp_ret]; imodintro
  iapply Hk $$ %_ H

theorem part61_wp (v8 v36 v1774 v1775 : BitVec 32) {Kt : (PUnit) → sProp 𝕄} :
    Inv m K c (ph114 (zz c)) ⊢ iprop((Inv m K c (ph116 (zz c)) -∗ Kt ⟨⟩) -∗ wp frame (wpE (defs₀ (F := F)) 𝒱₀ (c : Thread nD τ) none) Set.univ
      (k0_part61 aM (Memref.isWhole_whole _) oM (Memref.isWhole_whole _) xM (Memref.isWhole_whole _) sM (Memref.isWhole_whole _) rM (Memref.isWhole_whole _) gM (Memref.isWhole_whole _) jM (Memref.isWhole_whole _) tM (Memref.isWhole_whole _) cc0_scratch6 cc0_scratch7 cc0_scratch8 cc0_scratch9 cc0_scratch10 cc0_scratch11 cc0_scratch12 c v8 v36 v1774 v1775) Kt) := by
  rw [k0_part61_eq_skeleton]; unfold k0_part61_skel
  simp only [Prog.lift, Prog.bind_op, Prog.bind_ret, Prog.pure_eq_ret]
  iintro H Hk
  iapply (step_recv m K c (ph114 (zz c)) (.st 2 6) (ph114_f (zz c)).1 (ph114_f (zz c)).2.1 (ph114_f (zz c)).2.2 sR_st_2_6 cr_st_2_6_0_0) $$ H; iintro H
  iapply (step_load m K c (ph115 (zz c)) (.dst (.st 2 6)) (ld38_f (zz c)) shapeCasts_S1x1x256x1024_S256x1024 castsBack sl_st_2_6) $$ H; iintro H
  iapply (step_peeko m K c (ph115 (zz c))) $$ H; iintro %_ H
  iapply (step_out m K c (ph115 (zz c)) (.dst (.st 2 6)) rfl (off7_eq c 6 0) (pay51_eq _ _)) $$ H; iintro H
  rw [wp_ret]; imodintro
  iapply Hk $$ H

theorem part62_wp (v8 v36 v67 v70 : BitVec 32) {Kt : (Σ' (v1835 : BitVec 32), BitVec 32) → sProp 𝕄} :
    Inv m K c (ph116 (zz c)) ⊢ iprop((∀ r, Inv m K c (ph117 (zz c)) -∗ Kt r) -∗ wp frame (wpE (defs₀ (F := F)) 𝒱₀ (c : Thread nD τ) none) Set.univ
      (k0_part62 aM (Memref.isWhole_whole _) oM (Memref.isWhole_whole _) xM (Memref.isWhole_whole _) sM (Memref.isWhole_whole _) rM (Memref.isWhole_whole _) gM (Memref.isWhole_whole _) jM (Memref.isWhole_whole _) tM (Memref.isWhole_whole _) cc0_scratch6 cc0_scratch7 cc0_scratch8 cc0_scratch9 cc0_scratch10 cc0_scratch11 cc0_scratch12 v8 v36 v67 v70) Kt) := by
  rw [k0_part62_eq_skeleton]; unfold k0_part62_skel
  simp only [Prog.lift, Prog.bind_op, Prog.bind_ret, Prog.pure_eq_ret]
  iintro H Hk
  iapply (step_recv m K c (ph116 (zz c)) (.st 3 6) (ph116_f (zz c)).1 (ph116_f (zz c)).2.1 (ph116_f (zz c)).2.2 sR_st_3_6 cr_st_3_6_0_0) $$ H; iintro H
  rw [wp_ret]; imodintro
  iapply Hk $$ %_ H

theorem part63_wp (v1835 v1838 : BitVec 32) {Kt : (PUnit) → sProp 𝕄} :
    Inv m K c (ph117 (zz c)) ⊢ iprop((Inv m K c (ph120 (zz c)) -∗ Kt ⟨⟩) -∗ wp frame (wpE (defs₀ (F := F)) 𝒱₀ (c : Thread nD τ) none) Set.univ
      (k0_part63 aM (Memref.isWhole_whole _) oM (Memref.isWhole_whole _) xM (Memref.isWhole_whole _) sM (Memref.isWhole_whole _) rM (Memref.isWhole_whole _) gM (Memref.isWhole_whole _) jM (Memref.isWhole_whole _) tM (Memref.isWhole_whole _) cc0_scratch6 cc0_scratch7 cc0_scratch8 cc0_scratch9 cc0_scratch10 cc0_scratch11 cc0_scratch12 c v1835 v1838) Kt) := by
  rw [k0_part63_eq_skeleton]; unfold k0_part63_skel
  simp only [Prog.lift, Prog.bind_op, Prog.bind_ret, Prog.pure_eq_ret]
  iintro H Hk
  iapply (step_load m K c (ph117 (zz c)) (.dst (.st 3 6)) (ld39_f (zz c)) shapeCasts_S1x1x256x1024_S256x1024 castsBack sl_st_3_6) $$ H; iintro H
  iapply (step_peeko m K c (ph117 (zz c))) $$ H; iintro %_ H
  iapply (step_out m K c (ph117 (zz c)) (.dst (.st 3 6)) rfl (off7_eq c 6 1) (pay52_eq _ _)) $$ H; iintro H
  iapply (step_swait m K c (ph118 (zz c)) (.rs 2) (ph118_f (zz c)).1 (ph118_f (zz c)).2 sS_rs_2 cr_b_0_0_0) $$ H; iintro H
  iapply (step_swait m K c (ph119 (zz c)) (.ag 0) (ph119_f (zz c)).1 (ph119_f (zz c)).2 sS_ag_0 cr_b_1_0_0) $$ H; iintro H
  rw [wp_ret]; imodintro
  iapply Hk $$ H

theorem part64_wp {Kt : (PUnit) → sProp 𝕄} :
    Inv m K c (ph120 (zz c)) ⊢ iprop((Inv m K c (ph124 (zz c)) -∗ Kt ⟨⟩) -∗ wp frame (wpE (defs₀ (F := F)) 𝒱₀ (c : Thread nD τ) none) Set.univ
      (k0_part64 aM (Memref.isWhole_whole _) oM (Memref.isWhole_whole _) xM (Memref.isWhole_whole _) sM (Memref.isWhole_whole _) rM (Memref.isWhole_whole _) gM (Memref.isWhole_whole _) jM (Memref.isWhole_whole _) tM (Memref.isWhole_whole _) cc0_scratch6 cc0_scratch7 cc0_scratch8 cc0_scratch9 cc0_scratch10 cc0_scratch11 cc0_scratch12) Kt) := by
  rw [k0_part64_eq_skeleton]; unfold k0_part64_skel
  simp only [Prog.lift, Prog.bind_op, Prog.bind_ret, Prog.pure_eq_ret]
  iintro H Hk
  iapply (step_swait m K c (ph120 (zz c)) (.ag 1) (ph120_f (zz c)).1 (ph120_f (zz c)).2 sS_ag_1 cr_ag_0_0_0) $$ H; iintro H
  iapply (step_swait m K c (ph121 (zz c)) (.ag 2) (ph121_f (zz c)).1 (ph121_f (zz c)).2 sS_ag_2 cr_ag_1_0_0) $$ H; iintro H
  iapply (step_swait m K c (ph122 (zz c)) (.st 0 0) (ph122_f (zz c)).1 (ph122_f (zz c)).2 sS_st_0_0 cr_inj_0_0_0) $$ H; iintro H
  iapply (step_swait m K c (ph123 (zz c)) (.st 0 1) (ph123_f (zz c)).1 (ph123_f (zz c)).2 sS_st_0_1 cr_st_0_0_0_0) $$ H; iintro H
  rw [wp_ret]; imodintro
  iapply Hk $$ H

end Parts

end Cert.KernelIdealProof

end
-- ==== Proof.PartsM.lean ====
/-
Parts 65 to 72 of the kernel's body: each takes a device from one phase to a later one.
-/
module

public import proofs.«01_k».proof.Proof.Phases

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

set_option maxRecDepth 100000
set_option maxHeartbeats 4000000

section Parts
variable (m : (ℓ : Loc nD τ sig) → Buf (Elt F) ℓ) (K : Dev nD × Cl → ℕ) (c : Dev nD)

theorem part65_wp {Kt : (PUnit) → sProp 𝕄} :
    Inv m K c (ph124 (zz c)) ⊢ iprop((Inv m K c (ph127 (zz c)) -∗ Kt ⟨⟩) -∗ wp frame (wpE (defs₀ (F := F)) 𝒱₀ (c : Thread nD τ) none) Set.univ
      (k0_part65 aM (Memref.isWhole_whole _) oM (Memref.isWhole_whole _) xM (Memref.isWhole_whole _) sM (Memref.isWhole_whole _) rM (Memref.isWhole_whole _) gM (Memref.isWhole_whole _) jM (Memref.isWhole_whole _) tM (Memref.isWhole_whole _) cc0_scratch6 cc0_scratch7 cc0_scratch8 cc0_scratch9 cc0_scratch10 cc0_scratch11 cc0_scratch12) Kt) := by
  rw [k0_part65_eq_skeleton]; unfold k0_part65_skel
  simp only [Prog.lift, Prog.bind_op, Prog.bind_ret, Prog.pure_eq_ret]
  iintro H Hk
  iapply (step_swait m K c (ph124 (zz c)) (.st 0 2) (ph124_f (zz c)).1 (ph124_f (zz c)).2 sS_st_0_2 cr_st_0_1_0_0) $$ H; iintro H
  iapply (step_swait m K c (ph125 (zz c)) (.st 0 3) (ph125_f (zz c)).1 (ph125_f (zz c)).2 sS_st_0_3 cr_st_0_2_0_0) $$ H; iintro H
  iapply (step_swait m K c (ph126 (zz c)) (.st 0 4) (ph126_f (zz c)).1 (ph126_f (zz c)).2 sS_st_0_4 cr_st_0_3_0_0) $$ H; iintro H
  rw [wp_ret]; imodintro
  iapply Hk $$ H

theorem part66_wp {Kt : (PUnit) → sProp 𝕄} :
    Inv m K c (ph127 (zz c)) ⊢ iprop((Inv m K c (ph130 (zz c)) -∗ Kt ⟨⟩) -∗ wp frame (wpE (defs₀ (F := F)) 𝒱₀ (c : Thread nD τ) none) Set.univ
      (k0_part66 aM (Memref.isWhole_whole _) oM (Memref.isWhole_whole _) xM (Memref.isWhole_whole _) sM (Memref.isWhole_whole _) rM (Memref.isWhole_whole _) gM (Memref.isWhole_whole _) jM (Memref.isWhole_whole _) tM (Memref.isWhole_whole _) cc0_scratch6 cc0_scratch7 cc0_scratch8 cc0_scratch9 cc0_scratch10 cc0_scratch11 cc0_scratch12) Kt) := by
  rw [k0_part66_eq_skeleton]; unfold k0_part66_skel
  simp only [Prog.lift, Prog.bind_op, Prog.bind_ret, Prog.pure_eq_ret]
  iintro H Hk
  iapply (step_swait m K c (ph127 (zz c)) (.st 0 5) (ph127_f (zz c)).1 (ph127_f (zz c)).2 sS_st_0_5 cr_st_0_4_0_0) $$ H; iintro H
  iapply (step_swait m K c (ph128 (zz c)) (.st 0 6) (ph128_f (zz c)).1 (ph128_f (zz c)).2 sS_st_0_6 cr_st_0_5_0_0) $$ H; iintro H
  iapply (step_swait m K c (ph129 (zz c)) (.st 1 0) (ph129_f (zz c)).1 (ph129_f (zz c)).2 sS_st_1_0 cr_inj_1_0_0) $$ H; iintro H
  rw [wp_ret]; imodintro
  iapply Hk $$ H

theorem part67_wp {Kt : (PUnit) → sProp 𝕄} :
    Inv m K c (ph130 (zz c)) ⊢ iprop((Inv m K c (ph133 (zz c)) -∗ Kt ⟨⟩) -∗ wp frame (wpE (defs₀ (F := F)) 𝒱₀ (c : Thread nD τ) none) Set.univ
      (k0_part67 aM (Memref.isWhole_whole _) oM (Memref.isWhole_whole _) xM (Memref.isWhole_whole _) sM (Memref.isWhole_whole _) rM (Memref.isWhole_whole _) gM (Memref.isWhole_whole _) jM (Memref.isWhole_whole _) tM (Memref.isWhole_whole _) cc0_scratch6 cc0_scratch7 cc0_scratch8 cc0_scratch9 cc0_scratch10 cc0_scratch11 cc0_scratch12) Kt) := by
  rw [k0_part67_eq_skeleton]; unfold k0_part67_skel
  simp only [Prog.lift, Prog.bind_op, Prog.bind_ret, Prog.pure_eq_ret]
  iintro H Hk
  iapply (step_swait m K c (ph130 (zz c)) (.st 1 1) (ph130_f (zz c)).1 (ph130_f (zz c)).2 sS_st_1_1 cr_st_1_0_0_0) $$ H; iintro H
  iapply (step_swait m K c (ph131 (zz c)) (.st 1 2) (ph131_f (zz c)).1 (ph131_f (zz c)).2 sS_st_1_2 cr_st_1_1_0_0) $$ H; iintro H
  iapply (step_swait m K c (ph132 (zz c)) (.st 1 3) (ph132_f (zz c)).1 (ph132_f (zz c)).2 sS_st_1_3 cr_st_1_2_0_0) $$ H; iintro H
  rw [wp_ret]; imodintro
  iapply Hk $$ H

theorem part68_wp {Kt : (PUnit) → sProp 𝕄} :
    Inv m K c (ph133 (zz c)) ⊢ iprop((Inv m K c (ph136 (zz c)) -∗ Kt ⟨⟩) -∗ wp frame (wpE (defs₀ (F := F)) 𝒱₀ (c : Thread nD τ) none) Set.univ
      (k0_part68 aM (Memref.isWhole_whole _) oM (Memref.isWhole_whole _) xM (Memref.isWhole_whole _) sM (Memref.isWhole_whole _) rM (Memref.isWhole_whole _) gM (Memref.isWhole_whole _) jM (Memref.isWhole_whole _) tM (Memref.isWhole_whole _) cc0_scratch6 cc0_scratch7 cc0_scratch8 cc0_scratch9 cc0_scratch10 cc0_scratch11 cc0_scratch12) Kt) := by
  rw [k0_part68_eq_skeleton]; unfold k0_part68_skel
  simp only [Prog.lift, Prog.bind_op, Prog.bind_ret, Prog.pure_eq_ret]
  iintro H Hk
  iapply (step_swait m K c (ph133 (zz c)) (.st 1 4) (ph133_f (zz c)).1 (ph133_f (zz c)).2 sS_st_1_4 cr_st_1_3_0_0) $$ H; iintro H
  iapply (step_swait m K c (ph134 (zz c)) (.st 1 5) (ph134_f (zz c)).1 (ph134_f (zz c)).2 sS_st_1_5 cr_st_1_4_0_0) $$ H; iintro H
  iapply (step_swait m K c (ph135 (zz c)) (.st 1 6) (ph135_f (zz c)).1 (ph135_f (zz c)).2 sS_st_1_6 cr_st_1_5_0_0) $$ H; iintro H
  rw [wp_ret]; imodintro
  iapply Hk $$ H

theorem part69_wp {Kt : (PUnit) → sProp 𝕄} :
    Inv m K c (ph136 (zz c)) ⊢ iprop((Inv m K c (ph139 (zz c)) -∗ Kt ⟨⟩) -∗ wp frame (wpE (defs₀ (F := F)) 𝒱₀ (c : Thread nD τ) none) Set.univ
      (k0_part69 aM (Memref.isWhole_whole _) oM (Memref.isWhole_whole _) xM (Memref.isWhole_whole _) sM (Memref.isWhole_whole _) rM (Memref.isWhole_whole _) gM (Memref.isWhole_whole _) jM (Memref.isWhole_whole _) tM (Memref.isWhole_whole _) cc0_scratch6 cc0_scratch7 cc0_scratch8 cc0_scratch9 cc0_scratch10 cc0_scratch11 cc0_scratch12) Kt) := by
  rw [k0_part69_eq_skeleton]; unfold k0_part69_skel
  simp only [Prog.lift, Prog.bind_op, Prog.bind_ret, Prog.pure_eq_ret]
  iintro H Hk
  iapply (step_swait m K c (ph136 (zz c)) (.st 2 0) (ph136_f (zz c)).1 (ph136_f (zz c)).2 sS_st_2_0 cr_inj_2_0_0) $$ H; iintro H
  iapply (step_swait m K c (ph137 (zz c)) (.st 2 1) (ph137_f (zz c)).1 (ph137_f (zz c)).2 sS_st_2_1 cr_st_2_0_0_0) $$ H; iintro H
  iapply (step_swait m K c (ph138 (zz c)) (.st 2 2) (ph138_f (zz c)).1 (ph138_f (zz c)).2 sS_st_2_2 cr_st_2_1_0_0) $$ H; iintro H
  rw [wp_ret]; imodintro
  iapply Hk $$ H

theorem part70_wp {Kt : (PUnit) → sProp 𝕄} :
    Inv m K c (ph139 (zz c)) ⊢ iprop((Inv m K c (ph142 (zz c)) -∗ Kt ⟨⟩) -∗ wp frame (wpE (defs₀ (F := F)) 𝒱₀ (c : Thread nD τ) none) Set.univ
      (k0_part70 aM (Memref.isWhole_whole _) oM (Memref.isWhole_whole _) xM (Memref.isWhole_whole _) sM (Memref.isWhole_whole _) rM (Memref.isWhole_whole _) gM (Memref.isWhole_whole _) jM (Memref.isWhole_whole _) tM (Memref.isWhole_whole _) cc0_scratch6 cc0_scratch7 cc0_scratch8 cc0_scratch9 cc0_scratch10 cc0_scratch11 cc0_scratch12) Kt) := by
  rw [k0_part70_eq_skeleton]; unfold k0_part70_skel
  simp only [Prog.lift, Prog.bind_op, Prog.bind_ret, Prog.pure_eq_ret]
  iintro H Hk
  iapply (step_swait m K c (ph139 (zz c)) (.st 2 3) (ph139_f (zz c)).1 (ph139_f (zz c)).2 sS_st_2_3 cr_st_2_2_0_0) $$ H; iintro H
  iapply (step_swait m K c (ph140 (zz c)) (.st 2 4) (ph140_f (zz c)).1 (ph140_f (zz c)).2 sS_st_2_4 cr_st_2_3_0_0) $$ H; iintro H
  iapply (step_swait m K c (ph141 (zz c)) (.st 2 5) (ph141_f (zz c)).1 (ph141_f (zz c)).2 sS_st_2_5 cr_st_2_4_0_0) $$ H; iintro H
  rw [wp_ret]; imodintro
  iapply Hk $$ H

theorem part71_wp {Kt : (PUnit) → sProp 𝕄} :
    Inv m K c (ph142 (zz c)) ⊢ iprop((Inv m K c (ph145 (zz c)) -∗ Kt ⟨⟩) -∗ wp frame (wpE (defs₀ (F := F)) 𝒱₀ (c : Thread nD τ) none) Set.univ
      (k0_part71 aM (Memref.isWhole_whole _) oM (Memref.isWhole_whole _) xM (Memref.isWhole_whole _) sM (Memref.isWhole_whole _) rM (Memref.isWhole_whole _) gM (Memref.isWhole_whole _) jM (Memref.isWhole_whole _) tM (Memref.isWhole_whole _) cc0_scratch6 cc0_scratch7 cc0_scratch8 cc0_scratch9 cc0_scratch10 cc0_scratch11 cc0_scratch12) Kt) := by
  rw [k0_part71_eq_skeleton]; unfold k0_part71_skel
  simp only [Prog.lift, Prog.bind_op, Prog.bind_ret, Prog.pure_eq_ret]
  iintro H Hk
  iapply (step_swait m K c (ph142 (zz c)) (.st 2 6) (ph142_f (zz c)).1 (ph142_f (zz c)).2 sS_st_2_6 cr_st_2_5_0_0) $$ H; iintro H
  iapply (step_swait m K c (ph143 (zz c)) (.st 3 0) (ph143_f (zz c)).1 (ph143_f (zz c)).2 sS_st_3_0 cr_inj_3_0_0) $$ H; iintro H
  iapply (step_swait m K c (ph144 (zz c)) (.st 3 1) (ph144_f (zz c)).1 (ph144_f (zz c)).2 sS_st_3_1 cr_st_3_0_0_0) $$ H; iintro H
  rw [wp_ret]; imodintro
  iapply Hk $$ H

theorem part72_wp {Kt : (PUnit) → sProp 𝕄} :
    Inv m K c (ph145 (zz c)) ⊢ iprop((Inv m K c (ph148 (zz c)) -∗ Kt ⟨⟩) -∗ wp frame (wpE (defs₀ (F := F)) 𝒱₀ (c : Thread nD τ) none) Set.univ
      (k0_part72 aM (Memref.isWhole_whole _) oM (Memref.isWhole_whole _) xM (Memref.isWhole_whole _) sM (Memref.isWhole_whole _) rM (Memref.isWhole_whole _) gM (Memref.isWhole_whole _) jM (Memref.isWhole_whole _) tM (Memref.isWhole_whole _) cc0_scratch6 cc0_scratch7 cc0_scratch8 cc0_scratch9 cc0_scratch10 cc0_scratch11 cc0_scratch12) Kt) := by
  rw [k0_part72_eq_skeleton]; unfold k0_part72_skel
  simp only [Prog.lift, Prog.bind_op, Prog.bind_ret, Prog.pure_eq_ret]
  iintro H Hk
  iapply (step_swait m K c (ph145 (zz c)) (.st 3 2) (ph145_f (zz c)).1 (ph145_f (zz c)).2 sS_st_3_2 cr_st_3_1_0_0) $$ H; iintro H
  iapply (step_swait m K c (ph146 (zz c)) (.st 3 3) (ph146_f (zz c)).1 (ph146_f (zz c)).2 sS_st_3_3 cr_st_3_2_0_0) $$ H; iintro H
  iapply (step_swait m K c (ph147 (zz c)) (.st 3 4) (ph147_f (zz c)).1 (ph147_f (zz c)).2 sS_st_3_4 cr_st_3_3_0_0) $$ H; iintro H
  rw [wp_ret]; imodintro
  iapply Hk $$ H

end Parts

end Cert.KernelIdealProof

end
-- ==== Proof.Body.lean ====
/-
The kernel's body, part after part.
-/
module

public import proofs.«01_k».proof.Proof.Start
public import proofs.«01_k».proof.Proof.PartsA
public import proofs.«01_k».proof.Proof.PartsB
public import proofs.«01_k».proof.Proof.PartsC
public import proofs.«01_k».proof.Proof.PartsD
public import proofs.«01_k».proof.Proof.PartsE
public import proofs.«01_k».proof.Proof.PartsF
public import proofs.«01_k».proof.Proof.PartsG
public import proofs.«01_k».proof.Proof.PartsH
public import proofs.«01_k».proof.Proof.PartsI
public import proofs.«01_k».proof.Proof.PartsJ
public import proofs.«01_k».proof.Proof.PartsK
public import proofs.«01_k».proof.Proof.PartsL
public import proofs.«01_k».proof.Proof.PartsM

@[expose] public section

set_option maxRecDepth 100000
set_option maxHeartbeats 8000000

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Body
variable (m : (ℓ : Loc nD τ sig) → Buf (Elt F) ℓ) (K : Dev nD × Cl → ℕ) (c : Dev nD)

theorem part1_wp {Kt : (Σ' (d0 : Dev nD) (v2 : BitVec 32) (v5 : BitVec 32) (v8 : BitVec 32) (v19 : BitVec 32) (v31 : BitVec 32) (v33 : BitVec 32) (v34 : BitVec 1), BitVec 32) → sProp 𝕄} :
    (iprop(∀ (a1 : BitVec 32) (a2 : BitVec 32) (a3 : BitVec 32) (a4 : BitVec 32) (a5 : BitVec 32) (a6 : BitVec 32) (a7 : BitVec 1) (a8 : BitVec 32), Kt ⟨c, a1, a2, a3, a4, a5, a6, a7, a8⟩) : sProp 𝕄) ⊢ wp frame (wpE (defs₀ (F := F)) 𝒱₀ (c : Thread nD τ) none) Set.univ
      (k0_part1 aM (Memref.isWhole_whole _) oM (Memref.isWhole_whole _) xM (Memref.isWhole_whole _) sM (Memref.isWhole_whole _) rM (Memref.isWhole_whole _) gM (Memref.isWhole_whole _) jM (Memref.isWhole_whole _) tM (Memref.isWhole_whole _) cc0_scratch6 cc0_scratch7 cc0_scratch8 cc0_scratch9 cc0_scratch10 cc0_scratch11 cc0_scratch12) Kt := by
  rw [k0_part1_eq_skeleton]; unfold k0_part1_skel
  simp only [Prog.lift, Prog.bind_op, Prog.bind_ret, Prog.pure_eq_ret, wp_deviceId]
  iintro Hk
  rw [wp_ret]; imodintro
  iapply Hk

theorem part2_wp (v5 : BitVec 32) (v33 : BitVec 32) (v34 : BitVec 1) (c7_i32 : BitVec 32) {Kt : (Σ' (v36 : BitVec 32) (v37 : BitVec 32) (v50 : BitVec 32) (v53 : BitVec 32) (v67 : BitVec 32), BitVec 32) → sProp 𝕄} :
    (iprop(∀ r, Kt r) : sProp 𝕄) ⊢ wp frame (wpE (defs₀ (F := F)) 𝒱₀ (c : Thread nD τ) none) Set.univ
      (k0_part2 aM (Memref.isWhole_whole _) oM (Memref.isWhole_whole _) xM (Memref.isWhole_whole _) sM (Memref.isWhole_whole _) rM (Memref.isWhole_whole _) gM (Memref.isWhole_whole _) jM (Memref.isWhole_whole _) tM (Memref.isWhole_whole _) cc0_scratch6 cc0_scratch7 cc0_scratch8 cc0_scratch9 cc0_scratch10 cc0_scratch11 cc0_scratch12 c v5 v33 v34 c7_i32) Kt := by
  rw [k0_part2_eq_skeleton]; unfold k0_part2_skel
  simp only [Prog.lift, Prog.bind_op, Prog.bind_ret, Prog.pure_eq_ret]
  iintro Hk
  rw [wp_ret]; imodintro
  iapply Hk

theorem part73_wp {Kt : (Σ' (d0 : Dev nD) (v8 : BitVec 32) (v36 : BitVec 32) (v67 : BitVec 32) (v70 : BitVec 32) (v1774 : BitVec 32), BitVec 32) → sProp 𝕄} :
    startRes m K c ⊢ iprop((∀ (a1 : BitVec 32) (a2 : BitVec 32) (a3 : BitVec 32) (a4 : BitVec 32) (a5 : BitVec 32) (a6 : BitVec 32), (Inv m K c (ph114 (zz c)) ∗ sideRes m c) -∗ Kt ⟨c, a1, a2, a3, a4, a5, a6⟩)
      -∗ wp frame (wpE (defs₀ (F := F)) 𝒱₀ (c : Thread nD τ) none) Set.univ (k0_part73 aM (Memref.isWhole_whole _) oM (Memref.isWhole_whole _) xM (Memref.isWhole_whole _) sM (Memref.isWhole_whole _) rM (Memref.isWhole_whole _) gM (Memref.isWhole_whole _) jM (Memref.isWhole_whole _) tM (Memref.isWhole_whole _) cc0_scratch6 cc0_scratch7 cc0_scratch8 cc0_scratch9 cc0_scratch10 cc0_scratch11 cc0_scratch12) Kt) := by
  rw [k0_part73_eq_skeleton]; unfold k0_part73_skel
  iintro H Hk
  rw [wp_bind]; iapply (part1_wp c)
  iintro %wa1 %wa2 %wa3 %wa4 %wa5 %wa6 %wa7 %wa8; try dsimp only
  rw [wp_bind]; iapply (part2_wp c _ _ _ _)
  iintro %r; obtain ⟨q0, q1, q2, q3, q4, q5⟩ := r; try dsimp only
  rw [wp_bind]; iapply (part3_wp m K c _ _ _ _ _ _ _ _ _) $$ H
  iintro ⟨H, Hside⟩; try dsimp only
  rw [wp_bind]; iapply (part4_wp m K c _ _ _) $$ H
  iintro H; try dsimp only
  rw [wp_bind]; iapply (part5_wp m K c _ _ _ _) $$ H
  iintro H; try dsimp only
  rw [wp_bind]; iapply (part6_wp m K c _ _ _ _) $$ H
  iintro %r H; try dsimp only
  rw [wp_bind]; iapply (part7_wp m K c _ _ _ _) $$ H
  iintro H; try dsimp only
  rw [wp_bind]; iapply (part8_wp m K c _ _ _ _) $$ H
  iintro %r H; try dsimp only
  rw [wp_bind]; iapply (part9_wp m K c _ _ _ _ _) $$ H
  iintro %r H; obtain ⟨r0, r1, r2, r3, r4⟩ := r; try dsimp only
  rw [wp_bind]; iapply (part10_wp m K c _ _ _ _ _ _ _ _ _ _ _ _ _ _) $$ H
  iintro H; try dsimp only
  rw [wp_bind]; iapply (part11_wp m K c _ _ _ _) $$ H
  iintro %r H; try dsimp only
  rw [wp_bind]; iapply (part12_wp m K c _ _ _ _ _ _ _ _ _ _) $$ H
  iintro H; try dsimp only
  rw [wp_bind]; iapply (part13_wp m K c _ _ _ _ _) $$ H
  iintro %b0 H; try dsimp only
  rw [wp_bind]; iapply (part14_wp m K c _ _ _ _ _ _ _ _ _) $$ H
  iintro %r H; obtain ⟨r0, r1, r2⟩ := r; try dsimp only
  rw [wp_bind]; iapply (part15_wp m K c _ _ _ _ _ _ _ _ _) $$ H
  iintro H; try dsimp only
  rw [wp_bind]; iapply (part16_wp m K c _ _ _) $$ H
  iintro H; try dsimp only
  rw [wp_bind]; iapply (part17_wp m K c _ _ _) $$ H
  iintro %r H; try dsimp only
  rw [wp_bind]; iapply (part18_wp m K c _ _ _ _) $$ H
  iintro %r H; try dsimp only
  rw [wp_bind]; iapply (part19_wp m K c _ _ _ _ _) $$ H
  iintro %r H; obtain ⟨r0, r1, r2, r3⟩ := r; try dsimp only
  rw [wp_bind]; iapply (part20_wp m K c _ _ _ _ _) $$ H
  iintro %r H; obtain ⟨r0, r1⟩ := r; try dsimp only
  rw [wp_bind]; iapply (part21_wp m K c _ _ _) $$ H
  iintro %b0 %b2 H; try dsimp only
  rw [wp_bind]; iapply (part22_wp m K c _ _ _) $$ H
  iintro H; try dsimp only
  rw [wp_bind]; iapply (part23_wp m K c _ _ _) $$ H
  iintro H; try dsimp only
  rw [wp_bind]; iapply (part24_wp m K c _ _ _) $$ H
  iintro H; try dsimp only
  rw [wp_bind]; iapply (part25_wp m K c _ _ _) $$ H
  iintro H; try dsimp only
  rw [wp_bind]; iapply (part26_wp m K c _ _ _ _) $$ H
  iintro %r H; try dsimp only
  rw [wp_bind]; iapply (part27_wp m K c _ _) $$ H
  iintro %r H; obtain ⟨r0, r1, r2, r3⟩ := r; try dsimp only
  rw [wp_bind]; iapply (part28_wp m K c _ _ _ _ _) $$ H
  iintro %r H; obtain ⟨r0, r1⟩ := r; try dsimp only
  rw [wp_bind]; iapply (part29_wp m K c _ _ _) $$ H
  iintro H; try dsimp only
  rw [wp_bind]; iapply (part30_wp m K c _ _ _) $$ H
  iintro H; try dsimp only
  rw [wp_bind]; iapply (part31_wp m K c _ _ _) $$ H
  iintro H; try dsimp only
  rw [wp_bind]; iapply (part32_wp m K c _ _ _) $$ H
  iintro H; try dsimp only
  rw [wp_bind]; iapply (part33_wp m K c _ _ _ _) $$ H
  iintro %r H; try dsimp only
  rw [wp_bind]; iapply (part34_wp m K c _ _) $$ H
  iintro %r H; obtain ⟨r0, r1, r2, r3⟩ := r; try dsimp only
  rw [wp_bind]; iapply (part35_wp m K c _ _ _ _ _) $$ H
  iintro %r H; obtain ⟨r0, r1⟩ := r; try dsimp only
  rw [wp_bind]; iapply (part36_wp m K c _ _ _) $$ H
  iintro H; try dsimp only
  rw [wp_bind]; iapply (part37_wp m K c _ _ _) $$ H
  iintro H; try dsimp only
  rw [wp_bind]; iapply (part38_wp m K c _ _ _) $$ H
  iintro H; try dsimp only
  rw [wp_bind]; iapply (part39_wp m K c _ _ _) $$ H
  iintro H; try dsimp only
  rw [wp_bind]; iapply (part40_wp m K c _ _ _) $$ H
  iintro H; try dsimp only
  rw [wp_bind]; iapply (part41_wp m K c _) $$ H
  iintro %r H; obtain ⟨r0, r1⟩ := r; try dsimp only
  rw [wp_bind]; iapply (part42_wp m K c _ _ _) $$ H
  iintro %r H; obtain ⟨r0, r1, r2⟩ := r; try dsimp only
  rw [wp_bind]; iapply (part43_wp m K c _ _ _ _) $$ H
  iintro %b1 H; try dsimp only
  rw [wp_bind]; iapply (part44_wp m K c _ _ _ _) $$ H
  iintro H; try dsimp only
  rw [wp_bind]; iapply (part45_wp m K c _ _ _) $$ H
  iintro H; try dsimp only
  rw [wp_bind]; iapply (part46_wp m K c _ _ _) $$ H
  iintro H; try dsimp only
  rw [wp_bind]; iapply (part47_wp m K c _ _ _) $$ H
  iintro H; try dsimp only
  rw [wp_bind]; iapply (part48_wp m K c _) $$ H
  iintro %r H; obtain ⟨r0, r1⟩ := r; try dsimp only
  rw [wp_bind]; iapply (part49_wp m K c _ _ _) $$ H
  iintro %r H; try dsimp only
  rw [wp_bind]; iapply (part50_wp m K c _ _) $$ H
  iintro %b0 %b1 %b3 H; try dsimp only
  rw [wp_bind]; iapply (part51_wp m K c _ _ _ _ _ _) $$ H
  iintro H; try dsimp only
  rw [wp_bind]; iapply (part52_wp m K c _ _ _) $$ H
  iintro H; try dsimp only
  rw [wp_bind]; iapply (part53_wp m K c _ _ _) $$ H
  iintro H; try dsimp only
  rw [wp_bind]; iapply (part54_wp m K c _ _ _) $$ H
  iintro H; try dsimp only
  rw [wp_bind]; iapply (part55_wp m K c _) $$ H
  iintro %r H; obtain ⟨r0, r1⟩ := r; try dsimp only
  rw [wp_bind]; iapply (part56_wp m K c _ _ _) $$ H
  iintro %r H; obtain ⟨r0, r1, r2, r3, r4⟩ := r; try dsimp only
  rw [wp_bind]; iapply (part57_wp m K c _ _ _ _ _ _) $$ H
  iintro %r H; obtain ⟨r0, r1⟩ := r; try dsimp only
  rw [wp_bind]; iapply (part58_wp m K c _ _ _ _ _ _) $$ H
  iintro %r H; obtain ⟨r0, r1, r2, r3, r4⟩ := r; try dsimp only
  rw [wp_bind]; iapply (part59_wp m K c _ _ _ _ _ _ _ _) $$ H
  iintro %r H; try dsimp only
  rw [wp_bind]; iapply (part60_wp m K c _ _ _ _) $$ H
  iintro %r H; obtain ⟨r0, r1⟩ := r; try dsimp only
  simp only [Prog.pure_eq_ret]; rw [wp_ret]; imodintro
  iapply Hk
  isplitl [H]; · iexact H
  iexact Hside

/-- The kernel's body, from a device's resources at the start to those at the end. -/
theorem body_wp {Kt : PUnit → sProp 𝕄} :
    startRes m K c ⊢ iprop(((Inv m K c (ph150 (zz c)) ∗ sideRes m c) -∗ Kt ⟨⟩)
      -∗ wp frame (wpE (defs₀ (F := F)) 𝒱₀ (c : Thread nD τ) none) Set.univ (cc0_body aM (Memref.isWhole_whole _) oM (Memref.isWhole_whole _) xM (Memref.isWhole_whole _) sM (Memref.isWhole_whole _) rM (Memref.isWhole_whole _) gM (Memref.isWhole_whole _) jM (Memref.isWhole_whole _) tM (Memref.isWhole_whole _) cc0_scratch6 cc0_scratch7 cc0_scratch8 cc0_scratch9 cc0_scratch10 cc0_scratch11 cc0_scratch12) Kt) := by
  rw [cc0_body_eq_skeleton]; unfold cc0_body_skel
  iintro H Hk
  rw [wp_bind]; iapply (part73_wp m K c) $$ H
  iintro %wa1 %wa2 %wa3 %wa4 %wa5 %wa6 ⟨H, Hside⟩; try dsimp only
  rw [wp_bind]; iapply (part61_wp m K c _ _ _ _) $$ H
  iintro H; try dsimp only
  rw [wp_bind]; iapply (part62_wp m K c _ _ _ _) $$ H
  iintro %r H; obtain ⟨r0, r1⟩ := r; try dsimp only
  rw [wp_bind]; iapply (part63_wp m K c _ _) $$ H
  iintro H; try dsimp only
  rw [wp_bind]; iapply (part64_wp m K c) $$ H
  iintro H; try dsimp only
  rw [wp_bind]; iapply (part65_wp m K c) $$ H
  iintro H; try dsimp only
  rw [wp_bind]; iapply (part66_wp m K c) $$ H
  iintro H; try dsimp only
  rw [wp_bind]; iapply (part67_wp m K c) $$ H
  iintro H; try dsimp only
  rw [wp_bind]; iapply (part68_wp m K c) $$ H
  iintro H; try dsimp only
  rw [wp_bind]; iapply (part69_wp m K c) $$ H
  iintro H; try dsimp only
  rw [wp_bind]; iapply (part70_wp m K c) $$ H
  iintro H; try dsimp only
  rw [wp_bind]; iapply (part71_wp m K c) $$ H
  iintro H; try dsimp only
  rw [wp_bind]; iapply (part72_wp m K c) $$ H
  iintro H; try dsimp only
  simp only [Prog.lift, Prog.bind_op, Prog.bind_ret, Prog.pure_eq_ret]
  iapply (step_swait m K c (ph148 (zz c)) (.st 3 5) (ph148_f (zz c)).1 (ph148_f (zz c)).2 sS_st_3_5 cr_st_3_4_0_0) $$ H; iintro H
  iapply (step_swait m K c (ph149 (zz c)) (.st 3 6) (ph149_f (zz c)).1 (ph149_f (zz c)).2 sS_st_3_6 cr_st_3_5_0_0) $$ H; iintro H
  rw [wp_ret]; imodintro
  iapply Hk
  isplitl [H]; · iexact H
  iexact Hside

end Body

end Cert.KernelIdealProof

end
-- ==== Proof.Bufs.lean ====
/-
The scratch buffers and the slabs they are made of, at the start and at the end of the kernel, and the result.
-/
module

public import proofs.«01_k».proof.Proof.Phases

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Sums over the index types -/

def itEq : (Fin 4 ⊕ Fin 4 ⊕ Ch) ≃ It where
  toFun := fun | .inl s => .v s | .inr (.inl k) => .inj k | .inr (.inr j) => .dst j
  invFun := fun | .v s => .inl s | .inj k => .inr (.inl k) | .dst j => .inr (.inr j)
  left_inv := fun x => by rcases x with s | k | j <;> rfl
  right_inv := fun x => by cases x <;> rfl
def chEq : (Fin 3 ⊕ Fin 3 ⊕ Fin 4 × Fin 7) ≃ Ch where
  toFun := fun | .inl s => .rs s | .inr (.inl t) => .ag t | .inr (.inr p) => .st p.1 p.2
  invFun := fun | .rs s => .inl s | .ag t => .inr (.inl t) | .st k h => .inr (.inr (k, h))
  left_inv := fun x => by rcases x with s | t | ⟨k, h⟩ <;> rfl
  right_inv := fun x => by cases x <;> rfl
def clEq : (Unit ⊕ Unit ⊕ Ch ⊕ Ch) ≃ Cl where
  toFun := fun | .inl _ => .bar | .inr (.inl _) => .ld | .inr (.inr (.inl j)) => .snd j | .inr (.inr (.inr j)) => .rcv j
  invFun := fun | .bar => .inl () | .ld => .inr (.inl ()) | .snd j => .inr (.inr (.inl j)) | .rcv j => .inr (.inr (.inr j))
  left_inv := fun x => by rcases x with _ | _ | j | j <;> rfl
  right_inv := fun x => by cases x <;> rfl

omit [FloatOps F] in
theorem sumIt (Φ : It → sProp 𝕄) : bigSep Finset.univ Φ
    = iprop((bigSep Finset.univ fun s => Φ (.v s)) ∗ (bigSep Finset.univ fun k => Φ (.inj k)) ∗ (bigSep Finset.univ fun j => Φ (.dst j))) := by
  rw [bigSep_univ_equiv itEq Φ, bigSep_univ_sum, bigSep_univ_sum]; rfl
omit [FloatOps F] in
theorem sumCh (Φ : Ch → sProp 𝕄) : bigSep Finset.univ Φ
    = iprop((bigSep Finset.univ fun s => Φ (.rs s)) ∗ (bigSep Finset.univ fun t => Φ (.ag t)) ∗ (bigSep Finset.univ fun p : Fin 4 × Fin 7 => Φ (.st p.1 p.2))) := by
  rw [bigSep_univ_equiv chEq Φ, bigSep_univ_sum, bigSep_univ_sum]; rfl
omit [FloatOps F] in
theorem sumU (Φ : Unit → sProp 𝕄) : bigSep Finset.univ Φ = Φ () :=
  bigSep_univ_eq_bigSepL [()] (by decide) (by decide) Φ
omit [FloatOps F] in
theorem sumCl (Φ : Cl → sProp 𝕄) : bigSep Finset.univ Φ
    = iprop(Φ .bar ∗ Φ .ld ∗ (bigSep Finset.univ fun j => Φ (.snd j)) ∗ (bigSep Finset.univ fun j => Φ (.rcv j))) := by
  rw [bigSep_univ_equiv clEq Φ, bigSep_univ_sum, bigSep_univ_sum, bigSep_univ_sum, sumU, sumU]; rfl
omit [FloatOps F] in
theorem sum4 (Φ : Fin 4 → sProp 𝕄) : bigSep Finset.univ Φ = iprop(Φ 0 ∗ Φ 1 ∗ Φ 2 ∗ Φ 3) :=
  bigSep_univ_eq_bigSepL [0, 1, 2, 3] (by decide) (by decide) Φ
omit [FloatOps F] in
theorem sum2 (Φ : Fin 2 → sProp 𝕄) : bigSep Finset.univ Φ = iprop(Φ 0 ∗ Φ 1) :=
  bigSep_univ_eq_bigSepL [0, 1] (by decide) (by decide) Φ

omit [FloatOps F] in
theorem mono' {I : Type} (S : Finset I) {Φ Ψ : I → sProp 𝕄} (h : ∀ i, Φ i ⊢ Ψ i) : bigSep S Φ ⊢ bigSep S Ψ := bigSep_mono fun i _ => h i

/-! ## A buffer and its slabs -/

section Slabs
variable (c : Dev nD) {sh : Shape} (M : Memref sig .tc .vmem sh .bf16) (hM : M.view.set = Finset.univ) {T : Type} [Fintype T] [DecidableEq T]
  (r : T → Rect sh) (hr : ∀ t a, (r t).stride a = 1) (hq : ∀ t, (r t).shape.Squeezes S256x1024)
  (hd : ∀ t t', t ≠ t' → Disjoint (r t).set (r t').set) (hc : ∀ i : sh.Idx, ∃ t, i ∈ (r t).set)

abbrev slab (t : T) : Memref sig .tc .vmem S256x1024 .bf16 := (M.slice (r t) (hr t)).squeeze S256x1024 (hq t)

omit [Fintype T] [DecidableEq T] in
theorem slab_set (t : T) : (slab M r hr hq t).view.set = M.view.setOn (r t).set :=
  (View.set_reshape (v := (M.slice (r t) (hr t)).view) ((hq t).numel_eq)).trans (View.set_slice (v := M.view) (r t))

include hd in
omit [Fintype T] [DecidableEq T] in
theorem slabs_disj (S : Finset T) : ∀ t ∈ S, ∀ t' ∈ S, t ≠ t' → Disjoint (M.view.setOn (r t).set) (M.view.setOn (r t').set) :=
  fun t _ t' _ h => View.disjoint_setOn M.view (hd t t' h)
include hc hM in
omit [DecidableEq T] in
theorem slabs_cover [DecidableEq M.view.ty.Idx] : (Finset.univ.biUnion fun t => M.view.setOn (r t).set) = (Finset.univ : Finset M.view.ty.Idx) := by
  ext i
  simp only [Finset.mem_biUnion, Finset.mem_univ, true_and, iff_true]
  have hi : i ∈ M.view.set := by rw [hM]; exact Finset.mem_univ i
  obtain ⟨x, -, rfl⟩ := Finset.mem_map.mp hi
  obtain ⟨t, ht⟩ := hc x
  exact ⟨t, M.view.mem_setOn.mpr ht⟩

include hd hc hM in
omit [FloatOps F] in
/-- A whole buffer is its slabs. -/
theorem slabs_split : iprop(∃ f : Buf (Elt F) (M.view.loc (c : Thread nD τ)), M.view.loc (c : Thread nD τ) ↦{fullShare} f)
    ⊢ (bigSep Finset.univ fun t => iprop(∃ X, owns (c : Thread nD τ) (slab M r hr hq t) fullShare X) : sProp 𝕄) := by
  classical
  iintro ⟨%f, H⟩
  have h0 : (M.view.loc (c : Thread nD τ) ↦{fullShare} f : sProp 𝕄)
      = bigSep Finset.univ fun t => M.view.loc (c : Thread nD τ) ↦[M.view.setOn (r t).set]{fullShare} f :=
    (congrArg (fun S => (M.view.loc (c : Thread nD τ) ↦[S]{fullShare} f : sProp 𝕄)) (slabs_cover M hM r hc).symm).trans
      (pointsTo_biUnion (ℓ := M.view.loc (c : Thread nD τ)) (q := fullShare) (f := f) Finset.univ (fun t => M.view.setOn (r t).set) (slabs_disj M r hd _))
  ihave H := (Entails.of_eq h0) $$ H
  have h1 : ∀ t, (M.view.loc (c : Thread nD τ) ↦[M.view.setOn (r t).set]{fullShare} f : sProp 𝕄)
      ⊢ iprop(∃ X, owns (c : Thread nD τ) (slab M r hr hq t) fullShare X) := fun t => by
    rw [← slab_set M r hr hq t]
    iintro H
    iexists _
    iapply (owns_intro (c : Thread nD τ) (slab M r hr hq t) fullShare f); iexact H
  iapply (mono' Finset.univ h1)
  iexact H

include hd hc hM in
omit [FloatOps F] in
/-- And its slabs, each at any contents, are the whole buffer. -/
theorem slabs_join (f₀ : Buf (Elt F) (M.view.loc (c : Thread nD τ))) :
    (bigSep Finset.univ fun t => iprop(∃ X, owns (c : Thread nD τ) (slab M r hr hq t) fullShare X) : sProp 𝕄)
      ⊢ iprop(∃ f : Buf (Elt F) (M.view.loc (c : Thread nD τ)), M.view.loc (c : Thread nD τ) ↦{fullShare} f) := by
  classical
  have h1 : (bigSep Finset.univ fun t => iprop(∃ X, owns (c : Thread nD τ) (slab M r hr hq t) fullShare X) : sProp 𝕄)
      ⊢ bigSep Finset.univ fun t => iprop(∃ f : Buf (Elt F) (M.view.loc (c : Thread nD τ)), M.view.loc (c : Thread nD τ) ↦[M.view.setOn (r t).set]{fullShare} f) :=
    mono' Finset.univ fun t => by
      unfold owns
      iintro ⟨%X, %f, %hf, H⟩
      iexists f
      rw [← slab_set M r hr hq t]; iexact H
  have : Nonempty (Buf (Elt F) (M.view.loc (c : Thread nD τ))) := ⟨f₀⟩
  refine h1.trans ((bigSep_exists_pi Finset.univ (fun t (f : Buf (Elt F) (M.view.loc (c : Thread nD τ))) =>
    (M.view.loc (c : Thread nD τ) ↦[M.view.setOn (r t).set]{fullShare} f : sProp 𝕄))).trans ?_)
  iintro ⟨%fs, H⟩
  ihave H := (pointsTo_biUnion_join Finset.univ (fun t => M.view.setOn (r t).set) fs f₀ (slabs_disj M r hd _)) $$ H
  icases H with ⟨%g, -, H⟩
  iexists g
  have h2 : (M.view.loc (c : Thread nD τ) ↦[Finset.univ.biUnion fun t => M.view.setOn (r t).set]{fullShare} g : sProp 𝕄) = (M.view.loc (c : Thread nD τ) ↦{fullShare} g) :=
    congrArg (fun S => (M.view.loc (c : Thread nD τ) ↦[S]{fullShare} g : sProp 𝕄)) (slabs_cover M hM r hc)
  ihave H := (Entails.of_eq h2) $$ H
  iexact H

end Slabs

/-! ## The rectangles -/

theorem rect2_disj (o : Fin 2 → Fin 4) (ho : ∀ t, (o t).val % 2 = t.val) : ∀ t t', t ≠ t' → Disjoint (rect2 (o t)).set (rect2 (o t')).set := by
  intro t t' h
  refine Finset.disjoint_left.mpr fun i hi hi' => h (Fin.ext ?_)
  have h1 := Rect.mem_set_unit.mp hi 0
  have h2 := Rect.mem_set_unit.mp hi' 0
  have e1 := ho t; have e2 := ho t'
  simp [S1x256x1024] at h1 h2
  omega
theorem rect2_cover (o : Fin 2 → Fin 4) (ho : ∀ t, (o t).val % 2 = t.val) (i : S2x256x1024.Idx) : ∃ t, i ∈ (rect2 (o t)).set := by
  refine ⟨⟨(i 0).val, (i 0).isLt⟩, Rect.mem_set_unit.mpr fun a => ?_⟩
  have e := ho ⟨(i 0).val, (i 0).isLt⟩
  have hb := (i a).isLt
  fin_cases a <;> simp [S1x256x1024, S2x256x1024] at e hb ⊢ <;> omega
theorem rect3_disj : ∀ t t', t ≠ t' → Disjoint (rect3 t).set (rect3 t').set := by
  intro t t' h
  refine Finset.disjoint_left.mpr fun i hi hi' => h (Fin.ext ?_)
  have h1 := Rect.mem_set_unit.mp hi 0
  have h2 := Rect.mem_set_unit.mp hi' 0
  simp [S1x256x1024] at h1 h2
  omega
theorem rect3_cover (i : S3x256x1024.Idx) : ∃ t, i ∈ (rect3 t).set := by
  refine ⟨⟨(i 0).val, (i 0).isLt⟩, Rect.mem_set_unit.mpr fun a => ?_⟩
  have hb := (i a).isLt
  fin_cases a <;> simp [S1x256x1024, S3x256x1024] at hb ⊢ <;> omega
theorem rect4_disj : ∀ t t', t ≠ t' → Disjoint (rect4 t).set (rect4 t').set := by
  intro t t' h
  refine Finset.disjoint_left.mpr fun i hi hi' => h (Fin.ext ?_)
  have h1 := Rect.mem_set_unit.mp hi 0
  have h2 := Rect.mem_set_unit.mp hi' 0
  simp [S1x256x1024] at h1 h2
  omega
theorem rect4_cover (i : S4x256x1024.Idx) : ∃ t, i ∈ (rect4 t).set := by
  refine ⟨⟨(i 0).val, (i 0).isLt⟩, Rect.mem_set_unit.mpr fun a => ?_⟩
  have hb := (i a).isLt
  fin_cases a <;> simp [S1x256x1024, S4x256x1024] at hb ⊢ <;> omega
theorem rect47_disj : ∀ t t' : Fin 4 × Fin 7, t ≠ t' → Disjoint (rect47 t.1 t.2).set (rect47 t'.1 t'.2).set := by
  intro t t' h
  refine Finset.disjoint_left.mpr fun i hi hi' => h (Prod.ext (Fin.ext ?_) (Fin.ext ?_))
  · have h1 := Rect.mem_set_unit.mp hi 0
    have h2 := Rect.mem_set_unit.mp hi' 0
    simp [S1x1x256x1024] at h1 h2
    omega
  · have h1 := Rect.mem_set_unit.mp hi 1
    have h2 := Rect.mem_set_unit.mp hi' 1
    simp [S1x1x256x1024] at h1 h2
    omega
theorem rect47_cover (i : S4x7x256x1024.Idx) : ∃ t : Fin 4 × Fin 7, i ∈ (rect47 t.1 t.2).set := by
  refine ⟨(⟨(i 0).val, (i 0).isLt⟩, ⟨(i 1).val, (i 1).isLt⟩), Rect.mem_set_unit.mpr fun a => ?_⟩
  have hb := (i a).isLt
  fin_cases a <;> simp [S1x1x256x1024, S4x7x256x1024] at hb ⊢ <;> omega

/-! ## The scratch buffers -/

section Scratch
variable (c : Dev nD)

abbrev some' (b : Ref sig .tc) : sProp 𝕄 := iprop(∃ f : Buf (Elt F) ((c : Thread nD τ).loc b), (c : Thread nD τ).loc b ↦{fullShare} f)
abbrev any (i : It) : sProp 𝕄 := iprop(∃ X : FVec F S256x1024 .bf16, owns (c : Thread nD τ) (itM i) fullShare X)

def lo2 (t : Fin 2) : Fin 4 := ⟨t.val, by have := t.isLt; omega⟩
def hi2 (t : Fin 2) : Fin 4 := ⟨t.val + 2, by have := t.isLt; omega⟩
theorem lo2_mod : ∀ t, (lo2 t).val % 2 = t.val := by decide
theorem hi2_mod : ∀ t, (hi2 t).val % 2 = t.val := by decide

omit [FloatOps F] in
theorem split1 : some' (F := F) c cc0_scratch1 ⊢ iprop(any (F := F) c (.v 0) ∗ any (F := F) c (.v 1)) :=
  (slabs_split c sM (View.set_whole _) (fun t => rect2 (lo2 t)) (fun _ _ => rfl) (fun _ => squeezes_S1x256x1024_S256x1024) (rect2_disj lo2 lo2_mod) (rect2_cover lo2 lo2_mod)).trans
    (Entails.of_eq (sum2 _))
omit [FloatOps F] in
theorem split2 : some' (F := F) c cc0_scratch2 ⊢ bigSep Finset.univ fun s => any (F := F) c (.dst (.rs s)) :=
  slabs_split c rM (View.set_whole _) rect3 (fun _ _ => rfl) (fun _ => squeezes_S1x256x1024_S256x1024) rect3_disj rect3_cover
omit [FloatOps F] in
theorem split3 : some' (F := F) c cc0_scratch3 ⊢ bigSep Finset.univ fun t => any (F := F) c (.dst (.ag t)) :=
  slabs_split c gM (View.set_whole _) rect3 (fun _ _ => rfl) (fun _ => squeezes_S1x256x1024_S256x1024) rect3_disj rect3_cover
omit [FloatOps F] in
theorem split4 : some' (F := F) c cc0_scratch4 ⊢ bigSep Finset.univ fun k => any (F := F) c (.inj k) :=
  slabs_split c jM (View.set_whole _) rect4 (fun _ _ => rfl) (fun _ => squeezes_S1x256x1024_S256x1024) rect4_disj rect4_cover
omit [FloatOps F] in
theorem split5 : some' (F := F) c cc0_scratch5 ⊢ bigSep Finset.univ fun p : Fin 4 × Fin 7 => any (F := F) c (.dst (.st p.1 p.2)) :=
  slabs_split c tM (View.set_whole _) (fun p : Fin 4 × Fin 7 => rect47 p.1 p.2) (fun _ _ => rfl) (fun _ => squeezes_S1x1x256x1024_S256x1024) rect47_disj rect47_cover

variable (f₀ : (b : Ref sig .tc) → Buf (Elt F) ((c : Thread nD τ).loc b))

omit [FloatOps F] in
include f₀ in
theorem join1 : iprop(any (F := F) c (.v 2) ∗ any (F := F) c (.v 3)) ⊢ some' (F := F) c cc0_scratch1 :=
  (Entails.of_eq (sum2 (fun t => any (F := F) c (.v (hi2 t)))).symm).trans
    (slabs_join c sM (View.set_whole _) (fun t => rect2 (hi2 t)) (fun _ _ => rfl) (fun _ => squeezes_S1x256x1024_S256x1024) (rect2_disj hi2 hi2_mod) (rect2_cover hi2 hi2_mod) (f₀ cc0_scratch1))
omit [FloatOps F] in
include f₀ in
theorem join2 : (bigSep Finset.univ fun s => any (F := F) c (.dst (.rs s))) ⊢ some' (F := F) c cc0_scratch2 :=
  slabs_join c rM (View.set_whole _) rect3 (fun _ _ => rfl) (fun _ => squeezes_S1x256x1024_S256x1024) rect3_disj rect3_cover (f₀ cc0_scratch2)
omit [FloatOps F] in
include f₀ in
theorem join3 : (bigSep Finset.univ fun t => any (F := F) c (.dst (.ag t))) ⊢ some' (F := F) c cc0_scratch3 :=
  slabs_join c gM (View.set_whole _) rect3 (fun _ _ => rfl) (fun _ => squeezes_S1x256x1024_S256x1024) rect3_disj rect3_cover (f₀ cc0_scratch3)
omit [FloatOps F] in
include f₀ in
theorem join4 : (bigSep Finset.univ fun k => any (F := F) c (.inj k)) ⊢ some' (F := F) c cc0_scratch4 :=
  slabs_join c jM (View.set_whole _) rect4 (fun _ _ => rfl) (fun _ => squeezes_S1x256x1024_S256x1024) rect4_disj rect4_cover (f₀ cc0_scratch4)
omit [FloatOps F] in
include f₀ in
theorem join5 : (bigSep Finset.univ fun p : Fin 4 × Fin 7 => any (F := F) c (.dst (.st p.1 p.2))) ⊢ some' (F := F) c cc0_scratch5 :=
  slabs_join c tM (View.set_whole _) (fun p : Fin 4 × Fin 7 => rect47 p.1 p.2) (fun _ _ => rfl) (fun _ => squeezes_S1x1x256x1024_S256x1024) rect47_disj rect47_cover (f₀ cc0_scratch5)

variable (m : (ℓ : Loc nD τ sig) → Buf (Elt F) ℓ)

theorem start_v0 : itRes m c (.v 0) ((ph0 (zz c)).own (.v 0)) = any (F := F) c (.v 0) := rfl
theorem start_v1 : itRes m c (.v 1) ((ph0 (zz c)).own (.v 1)) = any (F := F) c (.v 1) := rfl
theorem start_v2 : itRes m c (.v 2) ((ph0 (zz c)).own (.v 2)) = iprop(emp) := rfl
theorem start_v3 : itRes m c (.v 3) ((ph0 (zz c)).own (.v 3)) = iprop(emp) := rfl
theorem no_res : (iprop(emp) : sProp 𝕄) ⊢ bigSep (Finset.univ : Finset Ch) fun j => itRes m c (.dst j) ((ph0 (zz c)).own (.dst j)) :=
  Entails.of_eq (bigSep_emp_const (Finset.univ : Finset Ch)).symm

/-- The slabs at the start. -/
theorem slabs_start : iprop(some' (F := F) c cc0_scratch1 ∗ some' (F := F) c cc0_scratch2 ∗ some' (F := F) c cc0_scratch3 ∗ some' (F := F) c cc0_scratch4 ∗ some' (F := F) c cc0_scratch5)
    ⊢ iprop((bigSep Finset.univ fun i => itRes m c i ((ph0 (zz c)).own i)) ∗ (bigSep Finset.univ fun j : Ch => any (F := F) c (.dst j))) := by
  rw [sumIt, sum4, start_v0, start_v1, start_v2, start_v3, sumCh (fun j => any (F := F) c (.dst j))]
  iintro ⟨H1, H2, H3, H4, H5⟩
  ihave H1 := (split1 c) $$ H1
  icases H1 with ⟨Ha, Hb⟩
  ihave H2 := (split2 c) $$ H2
  ihave H3 := (split3 c) $$ H3
  ihave H4 := (split4 c) $$ H4
  ihave H5 := (split5 c) $$ H5
  isplitl [Ha Hb H4]
  · isplitl [Ha Hb]
    · isplitl [Ha]; · iexact Ha
      isplitl [Hb]; · iexact Hb
      isplitl []; · iempintro
      iempintro
    isplitl [H4]; · iexact H4
    iapply (no_res c m); iempintro
  isplitl [H2]; · iexact H2
  isplitl [H3]; · iexact H3
  iexact H5

/-! ## The last phase -/

theorem last_snd : ∀ z j, (ph150 z).snd j = 2 := by decide +kernel
theorem last_rcv : ∀ z j, (ph150 z).rcv j = true := by decide +kernel
theorem last_v : ∀ z, (ph150 z).own (.v 0) = 0 ∧ (ph150 z).own (.v 1) = 0 ∧ (ph150 z).own (.v 2) = 2 ∧ (ph150 z).own (.v 3) = 2 := by decide +kernel
theorem last_inj : ∀ z k, (ph150 z).own (.inj k) = 2 := by decide +kernel
theorem last_dst : ∀ z j, (ph150 z).own (.dst j) = 2 := by decide +kernel
theorem last_st : ∀ z i, fin' i = true → (ph150 z).st i = true := by decide +kernel

theorem held_any (i : It) (s : Fin 4) (h : s = 2) : itRes m c i s ⊢ any (F := F) c i := by
  subst h; rw [itRes_2]; iintro H; iexists _; iexact H

include f₀ in
/-- The slabs at the end. -/
theorem slabs_end : (bigSep Finset.univ fun i => itRes m c i ((ph150 (zz c)).own i))
    ⊢ iprop(some' (F := F) c cc0_scratch1 ∗ some' (F := F) c cc0_scratch2 ∗ some' (F := F) c cc0_scratch3 ∗ some' (F := F) c cc0_scratch4 ∗ some' (F := F) c cc0_scratch5) := by
  rw [sumIt, sum4]
  iintro ⟨⟨-, -, Ha, Hb⟩, H4, Hd⟩
  ihave Ha := (held_any c m _ _ (last_v (zz c)).2.2.1) $$ Ha
  ihave Hb := (held_any c m _ _ (last_v (zz c)).2.2.2) $$ Hb
  ihave H4 := (mono' (Finset.univ : Finset (Fin 4)) fun k => held_any c m (.inj k) _ (last_inj (zz c) k)) $$ H4
  ihave Hd := (mono' (Finset.univ : Finset Ch) fun j => held_any c m (.dst j) _ (last_dst (zz c) j)) $$ Hd
  ihave Hd := (Entails.of_eq (sumCh fun j => any (F := F) c (.dst j))) $$ Hd
  icases Hd with ⟨H2, H3, H5⟩
  isplitl [Ha Hb]
  · iapply (join1 c f₀); isplitl [Ha] <;> iassumption
  isplitl [H2]; · iapply (join2 c f₀); iexact H2
  isplitl [H3]; · iapply (join3 c f₀); iexact H3
  isplitl [H4]; · iapply (join4 c f₀); iexact H4
  iapply (join5 c f₀); iexact H5

theorem owed_last : owed c (ph150 (zz c)).snd = 0 := by
  unfold owed
  rw [Finset.filter_false_of_mem fun j _ => by rw [last_snd]; decide, Finset.sum_empty]

/-! ## The result -/

/-- An element's place in its block of 256 rows. -/
def inBlk (i : S8192x1024.Idx) : S256x1024.Idx := fun a => match a with
  | ⟨0, _⟩ => ⟨(i 0).val % 256, Nat.mod_lt _ (by decide)⟩
  | ⟨1, _⟩ => ⟨(i 1).val, (i 1).isLt⟩
/-- The result on every device: block `b` of 256 rows is the last sum of device `bDev b`. -/
def outAt : (cc0_stg0_0 : Ref sig .tc).ty.Contents (Elt F) := fun i =>
  vv m 3 (bDev ⟨(i 0).val / 256, by have h : (i 0).val < 8192 := (i 0).isLt; omega⟩)
    (inBlk i)

theorem outOk_last (f : (cc0_stg0_0 : Ref sig .tc).ty.Contents (Elt F)) (h : OutOk m c (ph150 (zz c)).st f) : f = outAt m := by
  funext i
  have hlt : (i 0).val < 8192 := (i 0).isLt
  obtain ⟨t, ht, hb⟩ := bIdx_cover c ⟨(i 0).val / 256, by omega⟩
  have e := h t (last_st (zz c) t ht)
  rw [hb] at e
  have e' := congrFun e (inBlk i)
  unfold outAt
  rw [← e']
  show f i = f _
  congr 1
  funext a
  apply Fin.ext
  fin_cases a
  · show (i 0).val = (i 0).val / 256 * 256 + 1 * ((i 0).val % 256)
    omega
  · show (i 1).val = 0 + 1 * (i 1).val
    omega

end Scratch

end Cert.KernelIdealProof

end
-- ==== Proof.Launch.lean ====
/-
The launch of the kernel on the 32 devices: what each device is dealt, how the tokens go round, and the whole run.
-/
module

public import proofs.«01_k».proof.Proof.Body
public import proofs.«01_k».proof.Proof.Bufs
public import Idealize.ShloMosaic.Lib.Pipeline.CollectiveSegs

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## What a device starts and ends with -/

section Data
variable (m : (ℓ : Loc nD τ sig) → Buf (Elt F) ℓ) (ρ : Dev nD → PrngReg)

/-- The positions and the tokens of the duties that device `c` pays. -/
def linear (c : Dev nD) : sProp 𝕄 :=
  iprop((atPos ER (kcell (c, .bar)) 0 ∅ 0 ∗ atPos ER (kcell (c, .ld)) 0 ∅ 0
      ∗ (bigSep Finset.univ fun j : Ch => atPos ER (kcell (c, .snd j)) 0 ∅ 0) ∗ (bigSep Finset.univ fun j : Ch => atPos ER (kcell (c, .rcv j)) 0 ∅ 0))
    ∗ (bigSep Finset.univ fun d : Fin 4 => dutyTok ER (kcell (sg d c, .bar)) 0 d) ∗ dutyTok ER (kcell (c, .ld)) 0 0
    ∗ (bigSep Finset.univ fun j : Ch => dutyTok ER (kcell (c, .snd j)) 0 0)
    ∗ (bigSep Finset.univ fun j : Ch => dutyTok ER (kcell (tgt j c, .rcv j)) 0 0))
def G' (c : Dev nD) : sProp 𝕄 := iprop(∃ K, records m K ∗ linear c)

def start (c : Dev nD) : sProp 𝕄 :=
  iprop(G' m c ∗ levAts L lv ∗ cred (tallyAt (kcell (c, .bar)) () 4) ∗ (bigSep Finset.univ fun j : Ch => cred (tallyAt (kcell (c, .rcv j)) () N))
    ∗ ((c : Thread nD τ).loc main_arg0 ↦{fullShare} argAt m c))
abbrev scratch (c : Dev nD) : sProp 𝕄 :=
  iprop(some' (F := F) c cc0_scratch0 ∗ some' (F := F) c cc0_scratch1 ∗ some' (F := F) c cc0_scratch2 ∗ some' (F := F) c cc0_scratch3 ∗ some' (F := F) c cc0_scratch4 ∗ some' (F := F) c cc0_scratch5)
def Φ₀ (c : Dev nD) : sProp 𝕄 := iprop(start m c ∗ scratch (F := F) c)
def Φ₁ (c : Dev nD) : sProp 𝕄 :=
  iprop((bigSep Finset.univ fun k : Cl => semVal (kcell (c, k)) 0) ∗ ((c : Thread nD τ).loc main_arg0 ↦{fullShare} argAt m c) ∗ scratch (F := F) c)

abbrev s₀ : MemSt nD τ sig (Elt F) := ⟨m, fun _ => 0, ρ⟩

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outAt m
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-! ## The body -/

def bodyPre (c : Dev nD) : sProp 𝕄 :=
  iprop(Φ₀ m c ∗ (dats m ρ 0 c).owesAt () t0_0.castSucc ∗ (∃ d, stg c cc0_stg0_0 ((dats m ρ 0 c).before (0 : Fin 1) t0_0 d)))
def bodyPost (c : Dev nD) : sProp 𝕄 :=
  iprop(Φ₁ m c ∗ (dats m ρ 0 c).owesAt () t0_0.succ ∗ stg c cc0_stg0_0 (outAt m))

theorem outRes_none (c : Dev nD) (f : Buf (Elt F) ((c : Thread nD τ).loc cc0_stg0_0)) :
    ((c : Thread nD τ).loc cc0_stg0_0 ↦{fullShare} f : sProp 𝕄) ⊢ outRes m c (fun _ => false) := by
  unfold outRes
  iintro H; iexists f
  isplitr; · (ipureintro; intro i hi; exact absurd hi Bool.false_ne_true)
  iexact H

/-- What a device starts with is what its body asks for. -/
theorem startRes_intro (K : Dev nD × Cl → ℕ) (c : Dev nD) (W : Waits sig Unit) (f : Buf (Elt F) ((c : Thread nD τ).loc cc0_stg0_0)) :
    iprop((records m K ∗ linear c) ∗ (levAts L lv ∗ cred (tallyAt (kcell (c, .bar)) () 4) ∗ (bigSep Finset.univ fun j : Ch => cred (tallyAt (kcell (c, .rcv j)) () N))
        ∗ ((c : Thread nD τ).loc main_arg0 ↦{fullShare} argAt m c)) ∗ scratch (F := F) c ∗ owes (c : Thread nD τ) (O₀ c) W ∗ ((c : Thread nD τ).loc cc0_stg0_0 ↦{fullShare} f))
      ⊢ startRes m K c := by
  unfold linear startRes
  simp only [rcvRes_f]
  rw [bigSep_sep', bigSep_sep', bigSep_sep']
  iintro ⟨⟨HR, ⟨HaB, HaL, HaS, HaV⟩, HtB, HtL, HtS, HtV⟩, ⟨HL, HcB, HcV, Harg⟩, ⟨Hx, Hb⟩, HO, Hout⟩
  ihave Hb := (slabs_start c m) $$ Hb
  icases Hb with ⟨Hi, Hd⟩
  isplitl [HR]; · iexact HR
  isplitl [HL]; · iexact HL
  isplitl [HO]; · iexists W; iexact HO
  isplitl [HtS HtV HaS]
  · isplitl [HtS]; · iexact HtS
    isplitl [HtV] <;> iassumption
  isplitl [HcV HaV]
  · isplitl [HcV] <;> iassumption
  isplitl [HtB]; · iexact HtB
  isplitl [HcB HaB]
  · isplitl [HcB] <;> iassumption
  isplitl [HtL HaL]
  · isplitl [HtL] <;> iassumption
  isplitl [Harg]; · iexact Harg
  isplitl [Hx]; · iexact Hx
  isplitl [Hi]; · iexact Hi
  isplitl [Hd]; · iexact Hd
  iapply (outRes_none m c f); iexact Hout

theorem snd_closed (c : Dev nD) (j : Ch) : sndRes (F := F) c j ((ph150 (zz c)).snd j) ⊢ semVal (kcell (c, .snd j)) 0 := by
  rw [last_snd, sndRes_2]
theorem rcv_closed (c : Dev nD) (j : Ch) : rcvRes (F := F) c j ((ph150 (zz c)).rcv j) ⊢ semVal (kcell (c, .rcv j)) 0 := by
  rw [last_rcv, rcvRes_t]

/-- What the body leaves is what a device ends with. -/
theorem endRes (K : Dev nD × Cl → ℕ) (c : Dev nD) : iprop(Inv m K c (ph150 (zz c)) ∗ sideRes m c)
    ⊢ iprop(Φ₁ m c ∗ (∃ W, owes (c : Thread nD τ) (0 : CellTallies nD τ sig Unit) W) ∗ stg c cc0_stg0_0 (outAt m)) := by
  unfold Inv sideRes Φ₁ outRes
  rw [owed_last, sumCl]
  iintro ⟨⟨-, -, HO, Hs, Hr, Hi, Hx, ⟨%f, %hf, Hout⟩⟩, HB, HL, Harg⟩
  ihave Hs := (mono' (Finset.univ : Finset Ch) (snd_closed (F := F) c)) $$ Hs
  ihave Hr := (mono' (Finset.univ : Finset Ch) (rcv_closed (F := F) c)) $$ Hr
  ihave Hb := (slabs_end c (fun b => m ((c : Thread nD τ).loc b)) m) $$ Hi
  isplitr [HO Hout]
  · isplitl [HB HL Hs Hr]
    · isplitl [HB]; · iexact HB
      isplitl [HL]; · iexact HL
      isplitl [Hs] <;> iassumption
    isplitl [Harg]; · iexact Harg
    isplitl [Hx]; · iexists _; iexact Hx
    iexact Hb
  isplitl [HO]; · iexact HO
  iexists f
  isplitr; · (ipureintro; exact outOk_last c m f hf)
  iexact Hout

set_option maxRecDepth 4000 in
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ c none) Set.univ
    (cc0_body aM (Memref.isWhole_whole _) oM (Memref.isWhole_whole _) xM (Memref.isWhole_whole _) sM (Memref.isWhole_whole _) rM (Memref.isWhole_whole _) gM (Memref.isWhole_whole _) jM (Memref.isWhole_whole _) tM (Memref.isWhole_whole _) cc0_scratch6 cc0_scratch7 cc0_scratch8 cc0_scratch9 cc0_scratch10 cc0_scratch11 cc0_scratch12)
    (fun _ => bodyPost m ρ c)
  unfold bodyPre bodyPost Φ₀ start G' Dat.owesAt Pipeline.owesWithin
  rw [show (dats m ρ 0 c).owed t0_0.castSucc = O₀ c from rfl, show (dats m ρ 0 c).owed t0_0.succ = 0 from rfl]
  iintro ⟨⟨⟨⟨%K, HG⟩, Hrest⟩, Hscr⟩, ⟨%W, -, HO⟩, ⟨%d, %f, -, Hout⟩⟩
  ihave H := (startRes_intro m K c W f) $$ [HG Hrest Hscr HO Hout]
  · isplitl [HG]; · iexact HG
    isplitl [Hrest]; · iexact Hrest
    isplitl [Hscr]; · iexact Hscr
    isplitl [HO] <;> iassumption
  iapply (body_wp m K c) $$ H
  iintro H
  ihave H := (endRes m K c) $$ H
  icases H with ⟨H1, ⟨%W', HO⟩, Hout⟩
  isplitl [H1]; · iexact H1
  isplitl [HO]
  · iexists W'
    isplitr; · ipureintro; exact fun _ _ => Or.inl trivial
    iexact HO
  iexact Hout

end Data

/-! ## The launch -/

section Launch
variable (m : (ℓ : Loc nD τ sig) → Buf (Elt F) ℓ) (ρ : Dev nD → PrngReg)

/-- The kernel's own semaphores. -/
abbrev Own : Type := Unit ⊕ Ch ⊕ Ch
def ownCl : Own → Cl
  | .inl _ => .ld
  | .inr (.inl j) => .snd j
  | .inr (.inr j) => .rcv j
abbrev osem (x : Own) : SemLoc sig := csem (ownCl x)

theorem ownSemFacts : Pipeline.OwnSemFacts cfg0.spec osem where
  isScoped := (by decide +kernel : ∀ k : Own, (csem (ownCl k)).isScoped .tc = true)
  inj := fun a b h => by
    have h' := csem_inj _ _ h
    rcases a with _ | a | a <;> rcases b with _ | b | b <;> simp [ownCl] at h' ⊢ <;> assumption
  disj := (by decide +kernel : ∀ (k : Own) (w : Fin 1) (s : Fin (spec0 w).nbuf), csem (ownCl k) ≠ .dma ((spec0 w).sem s))

theorem share_eq (c : Dev nD) (w : Fin cfg0.W) : (dats m ρ 0 c).share w = fullShare := by unfold Dat.share; split <;> rfl

def kcells : Finset (GSem nD τ sig) := Finset.univ.map ⟨kcell, kcell_injective⟩

/-- The duties of a device's own cells. -/
abbrev Du : Type := Fin 4 ⊕ Unit ⊕ Ch ⊕ Ch
def duCl : Du → Cl × Fin 4
  | .inl d => (.bar, d)
  | .inr (.inl _) => (.ld, 0)
  | .inr (.inr (.inl j)) => (.snd j, 0)
  | .inr (.inr (.inr j)) => (.rcv j, 0)
theorem duCl_inj : ∀ a b : Du, duCl a = duCl b → a = b := by decide +kernel
def tokOf (x : Dev nD × Du) : GSem nD τ sig × ℕ × Fin 4 := (kcell (x.1, (duCl x.2).1), 0, (duCl x.2).2)
theorem tokOf_injective : Function.Injective tokOf := by
  rintro ⟨c, a⟩ ⟨c', b⟩ h
  have h1 := kcell_injective (congrArg Prod.fst h)
  have h2 : (duCl a).2 = (duCl b).2 := congrArg (fun x : GSem nD τ sig × ℕ × Fin 4 => x.2.2) h
  have h3 : c = c' := congrArg Prod.fst h1
  have h4 : a = b := duCl_inj a b (Prod.ext (congrArg Prod.snd h1) h2)
  rw [h3, h4]
def ktoks : Finset (GSem nD τ sig × ℕ × Fin 4) := Finset.univ.map ⟨tokOf, tokOf_injective⟩

def u₀ : UU :=
  (initOf (Pipeline.cells cfgs cellOf_inj) (Pipeline.launchToks cfgs cellOf_inj), initOf kcells ktoks)

/-- The tokens of the duties of device `c`'s own cells. -/
def toks (c : Dev nD) : sProp 𝕄 :=
  iprop((bigSep Finset.univ fun d : Fin 4 => dutyTok ER (kcell (c, .bar)) 0 d) ∗ dutyTok ER (kcell (c, .ld)) 0 0
    ∗ (bigSep Finset.univ fun j : Ch => dutyTok ER (kcell (c, .snd j)) 0 0) ∗ (bigSep Finset.univ fun j : Ch => dutyTok ER (kcell (c, .rcv j)) 0 0))

def G (c : Dev nD) : sProp 𝕄 :=
  iprop((bigSep Finset.univ fun k : Cl => roundState ER (Rd m) (kcell (c, k)) 0)
    ∗ (bigSep Finset.univ fun k : Cl => iprop(atPos ER (kcell (c, k)) 0 ∅ 0 ∗ reached ER (kcell (c, k)) 0)) ∗ toks c)

theorem fund_cells : BI.own (ER (initOf kcells ktoks)) ⊢ (|==> bigSep Finset.univ (G m) : sProp 𝕄) := by
  have hX (Φ : GSem nD τ sig → sProp 𝕄) : bigSep kcells Φ = bigSep Finset.univ fun c : Dev nD => bigSep Finset.univ fun k : Cl => Φ (kcell (c, k)) := by
    unfold kcells; rw [bigSep_map, bigSep_univ_prod]; rfl
  have hT : bigSep ktoks (fun x => (dutyTok ER x.1 x.2.1 x.2.2 : sProp 𝕄)) = bigSep Finset.univ fun c : Dev nD => toks c := by
    unfold ktoks; rw [bigSep_map, bigSep_univ_prod]
    exact bigSep_congr fun c _ => by unfold toks; rw [bigSep_univ_sum, bigSep_univ_sum, bigSep_univ_sum, sumU]; rfl
  iintro HX
  imod (Rounds.fund ER (Rd m) kcells ktoks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem unscopedSems0_eq (c : Dev nD) : (unscopedSems0 c : sProp 𝕄) = semVal (kcell (c, .bar)) 0 := by
  unfold unscopedSems0; rw [bigSep_eq_bigSepL_of_eq [SemLoc.reg barS] (by decide) (by decide)]; rfl

/-- The cells are the kernel's own semaphores and the runtime's barrier semaphore. -/
theorem sems_eq (c : Dev nD) :
    iprop(Pipeline.ownSems0 (Ix := Unit) (Name := ℕ) (U := UU) (Lvl := ℕ) (Val := Elt F) (τ := τ) osem c ∗ unscopedSems0 c)
      = (iprop((semVal (kcell (c, .ld)) 0 ∗ (bigSep Finset.univ fun j => semVal (kcell (c, .snd j)) 0) ∗ (bigSep Finset.univ fun j => semVal (kcell (c, .rcv j)) 0)) ∗ semVal (kcell (c, .bar)) 0) : sProp 𝕄) := by
  rw [unscopedSems0_eq]; unfold Pipeline.ownSems0
  rw [bigSep_univ_sum, bigSep_univ_sum, sumU]; rfl

theorem sems_in (c : Dev nD) :
    iprop(Pipeline.ownSems0 (Ix := Unit) (Name := ℕ) (U := UU) (Lvl := ℕ) (Val := Elt F) (τ := τ) osem c ∗ unscopedSems0 c)
      ⊢ (bigSep Finset.univ fun k : Cl => semVal (kcell (c, k)) 0 : sProp 𝕄) := by
  rw [sems_eq, sumCl]
  iintro ⟨⟨H1, H2, H3⟩, H0⟩
  isplitl [H0]; · iexact H0
  isplitl [H1]; · iexact H1
  isplitl [H2] <;> iassumption
theorem sems_out (c : Dev nD) : (bigSep Finset.univ fun k : Cl => semVal (kcell (c, k)) 0 : sProp 𝕄)
    ⊢ iprop(Pipeline.ownSems0 (Ix := Unit) (Name := ℕ) (U := UU) (Lvl := ℕ) (Val := Elt F) (τ := τ) osem c ∗ unscopedSems0 c) := by
  rw [sems_eq, sumCl]
  iintro ⟨H0, H1, H2, H3⟩
  isplitl [H1 H2 H3]
  · isplitl [H1]; · iexact H1
    isplitl [H2] <;> iassumption
  iexact H0

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k : Cl => iprop(atPos ER (kcell (c, k)) 0 ∅ 0 ∗ reached ER (kcell (c, k)) 0)) ∗ toks c) := by
  unfold G
  iintro ⟨Hos, Hus, Hst, Hat, Htok⟩
  ihave Hv := (sems_in (F := F) c) $$ [Hos Hus]
  · isplitl [Hos] <;> iassumption
  imod (show iprop((bigSep Finset.univ fun k : Cl => semVal (kcell (c, k)) 0) ∗ bigSep Finset.univ fun k : Cl => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What stays with a device as its positions, and the tokens it pays. -/
def payToks (c : Dev nD) : sProp 𝕄 :=
  iprop((bigSep Finset.univ fun d : Fin 4 => dutyTok ER (kcell (sg d c, .bar)) 0 d) ∗ dutyTok ER (kcell (c, .ld)) 0 0
    ∗ (bigSep Finset.univ fun j : Ch => dutyTok ER (kcell (c, .snd j)) 0 0) ∗ (bigSep Finset.univ fun j : Ch => dutyTok ER (kcell (tgt j c, .rcv j)) 0 0))

omit [FloatOps F] in
/-- A family over two indices may be gathered in either order. -/
theorem swapIx {I J : Type} (s : Finset I) (t : Finset J) (Φ : I → J → sProp 𝕄) :
    (bigSep t fun j => bigSep s fun i => Φ i j) = bigSep s fun i => bigSep t fun j => Φ i j := by
  classical
  refine Finset.induction_on s ?_ fun a s' ha h => ?_
  · simp
  · simp only [bigSep_insert ha]
    rw [← h, bigSep_sep]

/-- A family over devices and kinds, each kind's devices permuted. -/
theorem around {I : Type} [Fintype I] (e : I → Dev nD ≃ Dev nD) (Φ : I → Dev nD → sProp 𝕄) :
    (bigSep Finset.univ fun c : Dev nD => bigSep Finset.univ fun i : I => Φ i c) = bigSep Finset.univ fun c : Dev nD => bigSep Finset.univ fun i : I => Φ i (e i c) := by
  rw [swapIx, bigSep_congr (s := Finset.univ) (fun (i : I) _ => bigSep_univ_equiv (e i) (Φ i)), ← swapIx]

theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep',
    around sgE (fun (d : Fin 4) (c : Dev nD) => (dutyTok ER (kcell (c, .bar)) 0 d : sProp 𝕄)),
    around chE (fun (j : Ch) (c : Dev nD) => (dutyTok ER (kcell (c, .rcv j)) 0 0 : sProp 𝕄))]
  exact Entails.refl _

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem linear_intro (c : Dev nD) : iprop((bigSep Finset.univ fun k : Cl => atPos ER (kcell (c, k)) 0 ∅ 0) ∗ payToks c) ⊢ (linear c : sProp 𝕄) := by
  unfold payToks linear
  rw [sumCl]

theorem regroup :
    (bigSep Finset.univ fun c : Dev nD => iprop((bigSep Finset.univ fun k => iprop(∃ κ : ℕ, cellInv ER (Rd m) κ (kcell (c, k))))
          ∗ (bigSep Finset.univ fun k : Cl => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Cl => iprop(∃ κ : ℕ, cellInv ER (Rd m) κ (kcell ck))),
    bigSep_congr (s := Finset.univ) (fun (c : Dev nD) _ => bigSep_sep' Finset.univ (fun k : Cl => (atPos ER (kcell (c, k)) 0 ∅ 0 : sProp 𝕄)) (fun k => reached ER (kcell (c, k)) 0)),
    bigSep_sep', ← bigSep_univ_prod (fun ck : Dev nD × Cl => (reached ER (kcell ck) 0 : sProp 𝕄))]
  iintro ⟨HI, ⟨Hat, #HR⟩, Htok⟩
  ihave HK := (BI.bigSep_exists_pi Finset.univ (fun (ck : Dev nD × Cl) (κ : ℕ) => (cellInv ER (Rd m) κ (kcell ck) : sProp 𝕄))) $$ HI
  icases HK with ⟨%K, #HI⟩
  ihave Htk := (toks_around (F := F)) $$ Htok
  iapply (with_persistent (R := records m K) (Φ := fun c => (linear c : sProp 𝕄)) fun c _ => show iprop(records m K ∗ linear c) ⊢ G' m c from by
    unfold G'; iintro H; iexists K; iexact H)
  isplitr
  · unfold records; rw [bigSep_sep']
    isplitl; · iexact HI
    iexact HR
  · iapply ((Entails.of_eq (bigSep_sep' Finset.univ (fun c : Dev nD => bigSep Finset.univ fun k : Cl => (atPos ER (kcell (c, k)) 0 ∅ 0 : sProp 𝕄)) payToks).symm).trans
      (bigSep_mono fun c _ => linear_intro c))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

theorem kcell_ne {a b : Dev nD} {k k' : Cl} (h : k ≠ k') : kcell (a, k) ≠ kcell (b, k') :=
  fun e => h (congrArg Prod.snd (kcell_injective e))
theorem kcell_iff {a b : Dev nD} {k : Cl} : kcell (a, k) = kcell (b, k) ↔ a = b :=
  ⟨fun e => congrArg Prod.fst (kcell_injective e), fun e => e ▸ rfl⟩

theorem owed_bar (d c : Dev nD) : owed d (fun _ => 0) (kcell (c, .bar)) () = 0 := by
  by_contra h
  obtain ⟨j, -, hj⟩ := owed_pos d _ _ _ (Nat.pos_of_ne_zero h)
  exact kcell_ne (fun h => by cases h) hj
theorem sgT_bar (d c : Dev nD) (i : Fin 4) : sgT d i (kcell (c, .bar)) () = if d = sb i c then 1 else 0 := by
  rw [tallyAt_apply]
  refine if_congr ⟨fun h => ?_, fun h => ?_⟩ rfl rfl
  · rw [kcell_iff.mp h.1, sb_sg]
  · subst h; rw [sg_sb]; exact ⟨rfl, rfl⟩
theorem sgT_rcv (d c : Dev nD) (i : Fin 4) (j : Ch) : sgT d i (kcell (c, .rcv j)) () = 0 := by
  rw [tallyAt_apply, if_neg fun h => kcell_ne (fun h => by cases h) h.1]
theorem owed_rcv (d c : Dev nD) (j : Ch) : owed d (fun _ => 0) (kcell (c, .rcv j)) () = if d = bk j c then N else 0 := by
  unfold owed
  rw [Finset.sum_apply, Finsupp.finset_sum_apply, Finset.sum_eq_single j]
  · rw [tallyAt_apply]
    refine if_congr ⟨fun h => ?_, fun h => ?_⟩ rfl rfl
    · rw [kcell_iff.mp h.1, bk_tgt]
    · subst h; rw [tgt_bk]; exact ⟨rfl, rfl⟩
  · intro j' _ hj
    rw [tallyAt_apply, if_neg]
    exact fun h => kcell_ne (fun e => hj (by injection e with e; exact e.symm)) h.1
  · intro h; exact absurd (Finset.mem_filter.mpr (And.intro (Finset.mem_univ j) (show (0 : Fin 3) = 0 from rfl))) h

theorem O₀_bar (d c : Dev nD) : O₀ d (kcell (c, .bar)) ()
    = (if d = sb 3 c then 1 else 0) + (if d = sb 2 c then 1 else 0) + (if d = sb 1 c then 1 else 0) + (if d = sb 0 c then 1 else 0) := by
  unfold O₀
  simp only [Pi.add_apply, Finsupp.add_apply]
  rw [owed_bar, sgT_bar, sgT_bar, sgT_bar, sgT_bar, Nat.zero_add]
theorem O₀_rcv (d c : Dev nD) (j : Ch) : O₀ d (kcell (c, .rcv j)) () = if d = bk j c then N else 0 := by
  unfold O₀
  simp only [Pi.add_apply, Finsupp.add_apply]
  rw [owed_rcv, sgT_rcv, sgT_rcv, sgT_rcv, sgT_rcv]
  simp only [Nat.add_zero]

theorem launch_bar (c : Dev nD) :
    tallyOn (kcell (c, .bar)) (launchCredit (Pipeline.owing O₀) 0 (kcell (c, .bar))) = (tallyAt (kcell (c, .bar)) () 4 : CellTallies nD τ sig Unit) := by
  unfold tallyAt; refine congrArg _ (Finsupp.ext fun u => ?_); cases u
  rw [Pipeline.launchCredit_owing, Finsupp.single_eq_same, Finset.sum_congr rfl fun d _ => O₀_bar d c, Finset.sum_add_distrib, Finset.sum_add_distrib, Finset.sum_add_distrib,
    Finset.sum_ite_eq' Finset.univ (sb 0 c) fun _ => 1, Finset.sum_ite_eq' Finset.univ (sb 1 c) fun _ => 1, Finset.sum_ite_eq' Finset.univ (sb 2 c) fun _ => 1,
    Finset.sum_ite_eq' Finset.univ (sb 3 c) fun _ => 1, if_pos (Finset.mem_univ _), if_pos (Finset.mem_univ _), if_pos (Finset.mem_univ _), if_pos (Finset.mem_univ _)]
theorem launch_rcv (c : Dev nD) (j : Ch) :
    tallyOn (kcell (c, .rcv j)) (launchCredit (Pipeline.owing O₀) 0 (kcell (c, .rcv j))) = (tallyAt (kcell (c, .rcv j)) () N : CellTallies nD τ sig Unit) := by
  unfold tallyAt; refine congrArg _ (Finsupp.ext fun u => ?_); cases u
  rw [Pipeline.launchCredit_owing, Finsupp.single_eq_same, Finset.sum_congr rfl fun d _ => O₀_rcv d c j, Finset.sum_ite_eq' Finset.univ (bk j c) fun _ => N,
    if_pos (Finset.mem_univ _)]

theorem cells_of_all (Φ : SemLoc sig → sProp 𝕄) : bigSep Finset.univ Φ ⊢ bigSep Finset.univ fun k : Cl => Φ (csem k) := by
  have h := bigSep_map (M := 𝕄) ⟨csem, fun a b => csem_inj a b⟩ (s := Finset.univ) (Φ := Φ)
  exact (bigSep_subset (Finset.subset_univ _)).trans (Entails.of_eq h)

theorem creds (c : Dev nD) :
    (Pipeline.launchCred O₀ c : sProp 𝕄) ⊢ iprop(cred (tallyAt (kcell (c, .bar)) () 4) ∗ bigSep Finset.univ fun j : Ch => cred (tallyAt (kcell (c, .rcv j)) () N)) := by
  unfold Pipeline.launchCred
  refine (cells_of_all _).trans ?_
  rw [sumCl, ← launch_bar, bigSep_congr (s := Finset.univ) (fun (j : Ch) _ => congrArg (fun t => (cred t : sProp 𝕄)) (launch_rcv c j).symm)]
  iintro ⟨H0, -, -, H3⟩
  isplitl [H0]; · iexact H0
  iexact H3

/-! ### The theorem's side conditions -/

theorem lv_stage (w : Fin cfg0.W) (s : Fin (cfg0.win w).nbuf) (c : Dev nD) : lv ((c : Thread nD τ), .dma ((cfg0.win w).sem s)) () = 0 := by
  show lvC (dec _) = 0
  have hn : ¬ ∃ k, csem k = .dma ((cfg0.win w).sem s) := by
    have h0 : ∀ (k : Cl) (w : Fin 1) (s : Fin (spec0 w).nbuf), csem k ≠ .dma ((spec0 w).sem s) := by decide +kernel
    rintro ⟨k, hk⟩; exact h0 k w s hk
  unfold dec; rw [dif_neg hn]; rfl

theorem O₀_pos {c : Dev nD} {g : GSem nD τ sig} {u : Unit} (h : 0 < O₀ c g u) : ∃ (d : Dev nD) (k : Cl), g = kcell (d, k) ∧ 0 < lvC (some k) := by
  unfold O₀ at h
  simp only [Pi.add_apply, Finsupp.add_apply] at h
  have hs : ∀ i : Fin 4, 0 < sgT c i g u → ∃ (d : Dev nD) (k : Cl), g = kcell (d, k) ∧ 0 < lvC (some k) := fun i hi => by
    rw [tallyAt_apply] at hi
    by_cases hg : g = kcell (sg i c, .bar) ∧ u = ()
    · exact ⟨_, _, hg.1, by decide⟩
    · rw [if_neg hg] at hi; exact absurd hi (Nat.lt_irrefl 0)
  by_cases h0 : 0 < owed c (fun _ => 0) g u
  · obtain ⟨j, -, hj⟩ := owed_pos c _ g u h0
    exact ⟨_, _, hj, lv_rcv_pos j⟩
  by_cases h1 : 0 < sgT c 0 g u
  · exact hs 0 h1
  by_cases h2 : 0 < sgT c 1 g u
  · exact hs 1 h2
  by_cases h3 : 0 < sgT c 2 g u
  · exact hs 2 h3
  exact hs 3 (by omega)

theorem mayWait_stage (c : Dev nD) (w : Fin cfg0.W) (s : Fin (cfg0.win w).nbuf) (O : CellTallies nD τ sig Unit) (hO : O = O₀ c ∨ O = 0) :
    (levAts L lv : sProp 𝕄) ⊢ MayWait (c : Thread nD τ) (.dma ((cfg0.win w).sem s)) () O := by
  rcases hO with rfl | rfl
  · exact MayOwe.of_cut (L := L) (lev := lv) 0 (fun p hp => by rw [Finset.mem_singleton.mp hp, L_tc]; exact Finset.mem_singleton_self _)
      (fun g u hg => by obtain ⟨d, k, rfl, -⟩ := O₀_pos hg; rw [L_tc]; exact Finset.mem_singleton_self _)
      (fun p hp => by rw [Finset.mem_singleton.mp hp]; exact (lv_stage w s c).le)
      (fun g u hg => by obtain ⟨d, k, rfl, hk⟩ := O₀_pos hg; rw [lv_k]; exact hk)
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c w s _ (by
      rcases t with ⟨_ | _, ht⟩
      · exact Or.inl rfl
      · exact Or.inr rfl)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Harg, Hlev, Hcr, -, HG⟩
  ihave Hc := (creds (F := F) c) $$ Hcr
  icases Hc with ⟨H1, HN⟩
  imodintro
  unfold start
  isplitl
  · isplitl [HG]; · iexact HG
    isplitl [Hlev]; · iexact Hlev
    isplitl [H1]; · iexact H1
    isplitl [HN]; · iexact HN
    iexact Harg
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs]; · iexact Hs
  iexact Hr

/-- What a device hands back beside its buffers. -/
def kept (c : Dev nD) : sProp 𝕄 := iprop(((c : Thread nD τ).loc main_arg0 ↦{fullShare} argAt m c) ∗ unscopedSems0 c)

theorem phi1_exit (c : Dev nD) :
    (dats m ρ 0 c).Φ (Fin.last cfg0.N) ⊢ iprop(kept m c ∗ Pipeline.ownSems0 osem c ∗ Pipeline.scopedRest cfg0.spec c) := by
  rw [show (dats m ρ 0 c).Φ (Fin.last cfg0.N) = Φ₁ m c from rfl, scopedRest0_eq]
  unfold Φ₁ kept
  iintro ⟨Hz, Harg, Hr⟩
  ihave Hz := (sems_out (F := F) c) $$ Hz
  icases Hz with ⟨Ho, Hu⟩
  isplitl [Harg Hu]
  · isplitl [Harg] <;> iassumption
  isplitl [Ho]; · iexact Ho
  iexact Hr

/-- What is read off at the end. -/
def QK (c : Dev nD) (s : MemSt nD τ sig (Elt F)) : Prop :=
  s.mem ((c : Thread nD τ).loc main_arg0) = argAt m c ∧ ∀ sm : SemLoc sig, sm.isScoped .tc = false → s.sem ((c.tc : Thread nD τ), sm) = 0

theorem kept_read (c : Dev nD) (s' : Phys nD τ sig (Elt F)) : iprop(kept m c ∗ emp ∗ SI s') ⊢ |={Set.univ}=> iprop(⌜QK m c s'.mem⌝ ∗ SI s' : sProp 𝕄) := by
  unfold kept QK
  iintro ⟨⟨Harg, Hu⟩, -, HSI⟩
  icombine HSI Harg gives %h
  imod (Pipeline.unscopedSems0_read (X := unscopedSems0 c) (c := c) fupd_intro s') $$ [Hu HSI] with ⟨%h2, HSI⟩
  · isplitl [Hu] <;> iassumption
  imodintro
  isplitr
  · ipureintro; exact ⟨Buf.eq_of_forall_mem_univ h, h2⟩
  iexact HSI

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, (∀ w : Fin cfg0.W, r.2.mem ((cfg0.win w).arr.view.loc (c : Thread nD τ)) = finalA m ρ c w) ∧ r.2.mem ((c : Thread nD τ).loc main_arg0) = argAt m c

set_option maxRecDepth 8000 in
/-- From any memory with zero counters every execution of the 32 kernels ends, with each device's result array at its
    computed contents, its argument unchanged and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w; exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := kept m) (Z := fun _ => iprop(emp))
    (hX := start_intro m ρ) (hin := phi0_intro m ρ) (hout := phi1_exit m ρ)
    (QY := QK m) (hY := kept_read m)
    (hQ := fun _ h hs => ⟨fun c => ⟨fun w => (h c).1 w, (h c).2.2.1⟩, sem_eq_zero hs fun c => (h c).2.2.2⟩)

end Launch

end Cert.KernelIdealProof

end
-- ==== Proof.Same.lean ====
/-
The program read at bit vectors and the program read at extended reals are printed from one text, with nothing rewritten:
at any one reading of the floats they are the same terms.
-/
module

public import proofs.«01_k».proof.Proof.Gen.KernelIdeal
public import proofs.«01_k».proof.Proof.Gen.Kernel

@[expose] public section

noncomputable section

namespace Cert.KernelIdealProof
open Idealize.ShloMosaic

variable {F : FTy → Type} [FloatOps F]

set_option maxRecDepth 100000 in
set_option maxHeartbeats 0 in
theorem body_same : (@Cert.Kernel.cc0_body F _ _) = @Cert.KernelIdeal.cc0_body F _ _ := rfl

set_option maxRecDepth 100000 in
set_option maxHeartbeats 0 in
theorem defs₀_same : (Cert.Kernel.defs₀ (F := F)) = Cert.KernelIdeal.defs₀ (F := F) := by
  unfold Cert.Kernel.defs₀ Cert.KernelIdeal.defs₀
  refine congrArg _ (funext fun l => ?_)
  match l with
  | ⟨0, _⟩ => rfl

set_option maxRecDepth 100000 in
set_option maxHeartbeats 0 in
theorem defs_same : (Cert.Kernel.defs (F := F)) = Cert.KernelIdeal.defs (F := F) := by
  unfold Cert.Kernel.defs Cert.KernelIdeal.defs
  exact congrArg _ defs₀_same

set_option maxRecDepth 100000 in
theorem main_same : (Cert.Kernel.main (F := F)) = Cert.KernelIdeal.main (F := F) := rfl

end Cert.KernelIdealProof

end
-- ==== Proof.Result.lean ====
/-
The result array after a run.
-/
module

public import proofs.«01_k».proof.Proof.Launch
public import proofs.«01_k».proof.Proof.Same
public import Idealize.ShloMosaic.Lib.Pipeline.ValueKit

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The result array -/

section Result
variable (m : (ℓ : Loc nD τ sig) → Buf (Elt F) ℓ) (ρ : Dev nD → PrngReg)

theorem flushed_out (c : Dev nD) (t : Fin cfg0.N) :
    (dats m ρ 0 c).flushed 0 t = ((cfg0.win 0).blk t).view.read (Elt F) (outAt m) := by
  obtain rfl := fin_N0 t
  have ha : (dats m ρ 0 c).after 0 t0_0 = outAt m := by dsimp only [dats]
  unfold Pipeline.Dat.flushed
  rw [ha]
  generalize outAt m = X
  funext y
  have e : ∀ a, win0_0.kind.off (win0_0.index t0_0 a) (win0_0.size a) = 0 := by decide +kernel
  show X _ = X (((cfg0.win 0).blk t0_0).view.emb y)
  congr 1
  funext a
  apply Fin.ext
  show (y a).val = win0_0.kind.off (win0_0.index t0_0 a) (win0_0.size a) + 1 * (y a).val
  rw [show win0_0.kind.off (win0_0.index t0_0 a) (win0_0.size a) = 0 from e a]
  omega

theorem covers_out (i : S8192x1024.Idx) : ∃ t : Fin cfg0.N, (cfg0.win 0).flush t = true ∧ i ∈ ((cfg0.win 0).blk t).view.set := by
  refine ⟨t0_0, flush0_0 _, ?_⟩
  show i ∈ ((View.whole main_v1).slice (win0_0.rect t0_0)).set
  rw [View.set_slice_whole, Rect.mem_set_unit]
  intro a
  have e : ∀ a, win0_0.kind.off (win0_0.index t0_0 a) (win0_0.size a) = 0 ∧ win0_0.xsize (grid0.coords t0_0) a = S8192x1024.size a := by decide +kernel
  have h := (i a).isLt
  rw [show win0_0.kind.off (win0_0.index t0_0 a) (win0_0.size a) = 0 from (e a).1, show win0_0.xsize (grid0.coords t0_0) a = S8192x1024.size a from (e a).2]
  exact ⟨Nat.zero_le _, (Nat.zero_add _).symm ▸ h⟩

/-- The result array of every device ends at the same contents. -/
theorem finalA_out (c : Dev nD) : finalA m ρ c 0 = outAt m :=
  (dats m ρ 0 c).arrAt_eq_of_cover 0 (outAt m) (fun t _ => flushed_out m ρ c t) covers_out

/-- Every run ends with the result at those contents on every device, the argument unchanged and every counter at zero. -/
theorem run_result (g : Dev nD → PrngReg) : θ_run defs (onTc (τ := τ) (main (F := F))) ⟨m, fun _ => 0, g⟩ (fun r =>
    (∀ c : Dev nD, r.2.mem ((c : Thread nD τ).loc main_v1) = outAt m ∧ r.2.mem ((c : Thread nD τ).loc main_arg0) = m ((c : Thread nD τ).loc main_arg0))
      ∧ r.2.sem = fun _ => 0) :=
  θ_run_mono (run_main m g) fun r h => ⟨fun c => ⟨((h.1 c).1 0).trans (finalA_out m g c), (h.1 c).2⟩, h.2⟩

end Result

end Cert.KernelIdealProof

end
-- ==== Proof.Value.lean ====
/-
The value: over the extended reals the result of every device is the reference's sum of the four depths' blocks.
-/
module

public import proofs.«01_k».proof.Proof.Result
public import proofs.«01_k».proof.Proof.Gen.ReferenceIdeal.Run
public import Idealize.ShloMosaic.PureOps.Ideal.Laws
public import Idealize.ShloMosaic.Lib.Layout

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The four terms of a finished sum -/

section Terms
variable (m : (ℓ : Loc nD τ sig) → Buf (Elt F) ℓ)

/-- The chunk a block of 256 rows is, and the device `k` places further on along the ring of its column. -/
def chIx (b : Fin 32) : Fin 4 := ⟨b.val % 4, Nat.mod_lt _ (by decide)⟩
def dv (b : Fin 32) (k : Fin 4) : Dev nD := at' ⟨b.val / 4, by have := b.isLt; omega⟩ (chIx b + k)

theorem dv_three : ∀ b : Fin 32, bDev b = dv b 3 := by decide +kernel
theorem zp_dv : ∀ (b : Fin 32), zp (dv b 3) = dv b 2 ∧ zp (dv b 2) = dv b 1 ∧ zp (dv b 1) = dv b 0 := by decide +kernel
theorem ix_dv : ∀ (b : Fin 32), zz (dv b 3) + 3 - Fin.ofNat 4 2 = chIx b ∧ zz (dv b 2) + 3 - Fin.ofNat 4 1 = chIx b
    ∧ zz (dv b 1) + 3 - Fin.ofNat 4 0 = chIx b ∧ zz (dv b 0) = chIx b := by decide +kernel
theorem pl_dv : ∀ (b : Fin 32) (k : Fin 4), (pl (dv b k)).val = b.val / 4 := by decide +kernel
theorem zz_dv : ∀ (b : Fin 32) (k : Fin 4), zz (dv b k) = chIx b + k := by decide +kernel

/-- The last sum of block `b`: the four depths' chunks, the block's own depth innermost. -/
theorem vv_last (b : Fin 32) : vv m 3 (bDev b) = addf (chunk m (dv b 3) (chIx b)) (addf (chunk m (dv b 2) (chIx b))
    (addf (chunk m (dv b 1) (chIx b)) (chunk m (dv b 0) (chIx b)))) := by
  obtain ⟨z1, z2, z3⟩ := zp_dv b
  obtain ⟨i1, i2, i3, i4⟩ := ix_dv b
  rw [dv_three]
  simp only [vv]
  rw [z1, z2, z3, i1, i2, i3, i4]

end Terms

/-! ## Where each term is read -/

/-- Row `q * 1024 + i * 256 + j` of a device's argument. -/
def rowIx (q : Fin 8) (i : Fin 4) (j : S256x1024.Idx) : S8192x1024.Idx := fun a => match a with
  | ⟨0, _⟩ => ⟨q.val * 1024 + i.val * 256 + (j 0).val, by
      have h : (j 0).val < 256 := (j 0).isLt
      have := q.isLt; have := i.isLt
      show _ < 8192; omega⟩
  | ⟨1, _⟩ => ⟨(j 1).val, (j 1).isLt⟩

theorem chunk_read (m : (ℓ : Loc nD τ sig) → Buf (Elt Ideal) ℓ) (c : Dev nD) (i : Fin 4) (j : S256x1024.Idx) :
    chunk m c i j = (argAt m c : S8192x1024.Idx → EReal) (rowIx (pl c) i j) := by
  show (argAt m c : S8192x1024.Idx → EReal) _ = (argAt m c : S8192x1024.Idx → EReal) _
  congr 1
  funext a
  apply Fin.ext
  fin_cases a
  · show (pl c).val * 1024 + 1 * (i.val * 256 + 1 * (j 0).val) = (pl c).val * 1024 + i.val * 256 + (j 0).val
    omega
  · show 0 + 1 * (0 + 1 * (j 1).val) = (j 1).val
    omega

/-- An index of a result, at depth `z` of the whole argument. -/
def deepIx (z : Fin 4) (i : S8192x1024.Idx) : Cert.ReferenceIdeal.S32768x1024.Idx := fun a => match a with
  | ⟨0, _⟩ => ⟨z.val * 8192 + (i 0).val, by
      have h : (i 0).val < 8192 := (i 0).isLt
      have := z.isLt
      show _ < 32768; omega⟩
  | ⟨1, _⟩ => ⟨(i 1).val, (i 1).isLt⟩

theorem block_z : ∀ c : Dev nD, ((Layout.meshBlock (r := 2) (n := nD) [2, 4, 4] ![[2], []] c) 0).val = (zz c).val := by decide +kernel

theorem block_read (X : Cert.ReferenceIdeal.S32768x1024.Idx → EReal) (c : Dev nD) (i : S8192x1024.Idx) :
    Layout.blockN ⟨2, ![8192, 1024]⟩ ⟨2, ![32768, 1024]⟩ (Layout.meshBlock [2, 4, 4] ![[2], []] c) X (by decide) i = X (deepIx (zz c) i) := by
  rw [Layout.blockN_apply]
  congr 1
  funext a
  apply Fin.ext
  fin_cases a
  · exact congrArg (fun n => n * 8192 + (i 0).val) (block_z c)
  · show 0 * 1024 + (i 1).val = (i 1).val
    omega

/-- The result over the extended reals, as a sum over the depths. -/
theorem out_sum (m : (ℓ : Loc nD τ sig) → Buf (Elt Ideal) ℓ) (X : Cert.ReferenceIdeal.S32768x1024.Idx → EReal)
    (h : ∀ (c : Dev nD) (i : S8192x1024.Idx), (argAt m c : S8192x1024.Idx → EReal) i = X (deepIx (zz c) i)) (i : S8192x1024.Idx) :
    (outAt m : S8192x1024.Idx → EReal) i = ∑ z : Fin 4, X (deepIx z i) := by
  have hlt : (i 0).val < 8192 := (i 0).isLt
  obtain ⟨b, hb⟩ : ∃ b : Fin 32, b.val = (i 0).val / 256 := ⟨⟨(i 0).val / 256, by omega⟩, rfl⟩
  have he : (outAt m : S8192x1024.Idx → EReal) i = vv m 3 (bDev b) (inBlk i) := by
    unfold outAt
    rw [show (⟨(i 0).val / 256, by omega⟩ : Fin 32) = b from Fin.ext hb.symm]
  have hrow : ∀ k : Fin 4, rowIx (pl (dv b k)) (chIx b) (inBlk i) = i := fun k => by
    funext a
    apply Fin.ext
    fin_cases a
    · show (pl (dv b k)).val * 1024 + b.val % 4 * 256 + (i 0).val % 256 = (i 0).val
      rw [pl_dv, hb]; omega
    · rfl
  have hterm : ∀ k : Fin 4, (chunk m (dv b k) (chIx b) (inBlk i) : EReal) = X (deepIx (chIx b + k) i) := fun k => by
    rw [chunk_read, hrow, h, zz_dv]
  rw [he, vv_last]
  show (chunk m (dv b 3) (chIx b) (inBlk i) : EReal) + ((chunk m (dv b 2) (chIx b) (inBlk i) : EReal)
    + ((chunk m (dv b 1) (chIx b) (inBlk i) : EReal) + (chunk m (dv b 0) (chIx b) (inBlk i) : EReal))) = _
  rw [hterm, hterm, hterm, hterm, ← Equiv.sum_comp (Equiv.addLeft (chIx b)) fun z => X (deepIx z i), Fin.sum_univ_four]
  simp only [Equiv.coe_addLeft]
  ac_rfl

/-! ## The reference -/

section Reference
open Cert.ReferenceIdeal (S32768x1024 S4x8192x1024)

theorem red0 : Shape.Reduces S4x8192x1024 [0] S8192x1024 := by decide

/-- The reference's term. -/
abbrev refTerm (X : FVec Ideal S32768x1024 .f32) : FVec Ideal Cert.ReferenceIdeal.S8192x1024 .bf16 :=
  truncf .bf16 (Host.reduceAdd (shapeCast _ X Cert.ReferenceIdeal.Gen.shapeCasts_S32768x1024_S4x8192x1024)
    (constant Cert.ReferenceIdeal.S_ .f32 0x00000000#32) Cert.ReferenceIdeal.Gen.reducesTo_S4x8192x1024_S8192x1024_d0 Cert.ReferenceIdeal.Gen.h_S_)
    Cert.ReferenceIdeal.Gen.bitsLt_bf16_f32

/-- At an index it is the same sum. -/
theorem ref_sum (X : FVec Ideal S32768x1024 .f32) (i : S8192x1024.Idx) : (refTerm X i : EReal) = ∑ z : Fin 4, (X (deepIx z i) : EReal) := by
  have h0 : Ideal.ofBits .f32 0x00000000#32 = 0 := by simp
  have e : (refTerm X i : EReal) = Ideal.hostReduceAdd Cert.ReferenceIdeal.Gen.reducesTo_S4x8192x1024_S8192x1024_d0
      (shapeCast S4x8192x1024 X Cert.ReferenceIdeal.Gen.shapeCasts_S32768x1024_S4x8192x1024) (Ideal.ofBits .f32 0x00000000#32) i := by
    unfold refTerm
    generalize shapeCast S4x8192x1024 X Cert.ReferenceIdeal.Gen.shapeCasts_S32768x1024_S4x8192x1024 = Y
    rfl
  rw [e, Ideal.hostReduceAdd_single _ red0, h0, zero_add]
  refine Finset.sum_congr rfl fun z _ => ?_
  refine congrArg X ?_
  apply Shape.reshapeEquiv_eq_of_rowMajor
  show (Shape.rowMajorPi S32768x1024.size (deepIx z i)).val = (Shape.rowMajorPi S4x8192x1024.size (red0.lift i z)).val
  have c0 : (red0.lift i z 0).val = z.val := rfl
  have c1 : (red0.lift i z 1).val = (i 0).val := rfl
  have c2 : (red0.lift i z 2).val = (i 1).val := rfl
  have d0 : (deepIx z i 0).val = z.val * 8192 + (i 0).val := rfl
  have d1 : (deepIx z i 1).val = (i 1).val := rfl
  rw [Shape.rowMajorPi_succ_val, Shape.rowMajorPi_succ_val, Shape.rowMajorPi_succ_val, Shape.rowMajorPi_succ_val,
    Shape.rowMajorPi_succ_val]
  simp [Fin.prod_univ_succ, Shape.rowMajorPi_zero, c0, c1, c2, d0, d1]
  omega

end Reference

end Cert.KernelIdealProof

end
-- ==== Proof.lean ====
/-
The proof of `Cert.Claim`. The run of the kernel on the 32 devices is `run_result` (Proof/Result.lean), for floats read
either way; the two readings of the kernel are one program (Proof/Same.lean); the value is Proof/Value.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import proofs.«01_k».proof.Proof.Same
public import Idealize.ShloMosaic.Adequacy
public import Idealize.ShloMosaic.Init

@[expose] public section

noncomputable section

namespace Cert.Proof

open Idealize.ShloMosaic Idealize.SL.Sem

/-- The kernel at bit vectors: it ends, its argument unchanged and every counter at zero. -/
theorem kernel_frame : Cert.quiescent_Kernel (hKernel := Cert.Kernel.Gen.facts) := fun m g _ =>
  (congrArg₂ (fun D M => θ_run D (onTc (τ := Cert.KernelIdeal.τ) M) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)) (Cert.KernelIdealProof.defs_same (F := Bits)) (Cert.KernelIdealProof.main_same (F := Bits))).mpr
    (θ_run_mono (Cert.KernelIdealProof.run_result (F := Bits) m g) fun r h => ⟨fun c => (h.1 c).2, h.2⟩)

/-- The kernel at extended reals, likewise. -/
theorem ideal_frame : Cert.quiescent_KernelIdeal (hKernelIdeal := Cert.KernelIdeal.Gen.facts) := fun m g _ =>
  θ_run_mono (Cert.KernelIdealProof.run_result (F := Ideal) m g) fun r h => ⟨fun c => (h.1 c).2, h.2⟩

/-- The reference has no semaphore, so its counters need no argument. -/
theorem reference_frame : Cert.quiescent_ReferenceIdeal (hReferenceIdeal := Cert.ReferenceIdeal.Gen.facts) := fun m g _ =>
  θ_run_mono (Cert.ReferenceIdeal.Value.run (F := Ideal) m g) fun r h => ⟨fun c => (h c).2, funext fun x => by
    obtain ⟨_, s⟩ := x
    cases s with
    | reg s => exact s.elim0
    | dma s => exact s.elim0⟩

/-- Every device's result is the whole of the reference's. -/
theorem values : Cert.algebraic_KernelIdeal_ReferenceIdeal (hKernelIdeal := Cert.KernelIdeal.Gen.facts) (hReferenceIdeal := Cert.ReferenceIdeal.Gen.facts) :=
  fun m g m' g' _ hm =>
    have hX : ∀ (c : Dev Cert.KernelIdeal.nD) (i : Cert.KernelIdeal.S8192x1024.Idx),
        (Cert.KernelIdealProof.argAt m c : Cert.KernelIdeal.S8192x1024.Idx → EReal) i
          = (m' (((0 : Dev Cert.ReferenceIdeal.nD).tc : Thread Cert.ReferenceIdeal.nD Cert.ReferenceIdeal.τ).loc Cert.ReferenceIdeal.main_arg0)
              : Cert.ReferenceIdeal.S32768x1024.Idx → EReal) (Cert.KernelIdealProof.deepIx (Cert.KernelIdealProof.zz c) i) :=
      fun c i => (congrFun (hm c) i).trans (Cert.KernelIdealProof.block_read _ c i)
    have hv : (Cert.KernelIdealProof.refTerm (m' (((0 : Dev Cert.ReferenceIdeal.nD).tc : Thread Cert.ReferenceIdeal.nD Cert.ReferenceIdeal.τ).loc Cert.ReferenceIdeal.main_arg0))
        : Cert.KernelIdeal.S8192x1024.Idx → EReal) = Cert.KernelIdealProof.outAt m :=
      funext fun i => (Cert.KernelIdealProof.ref_sum _ i).trans (Cert.KernelIdealProof.out_sum m _ hX i).symm
    ⟨Cert.KernelIdealProof.outAt m, θ_run_mono (Cert.KernelIdealProof.run_result (F := Ideal) m g) fun r h c => h.1 c,
      θ_run_mono (Cert.ReferenceIdeal.Value.run (F := Ideal) m' g') fun r h => ⟨(h 0).1.trans hv, (h 0).2⟩⟩

theorem claim : Cert.Claim := ⟨Cert.Kernel.Gen.facts, Cert.KernelIdeal.Gen.facts, Cert.ReferenceIdeal.Gen.facts,
  kernel_frame, ideal_frame, reference_frame, trivial, values⟩

end Cert.Proof

end
